-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reorder [hPre_places : Cert.Pre_places.Facts] (m : (ℓ : Loc Cert.Reorder.nD Cert.Reorder.τ Cert.Reorder.sig) → Buf (Elt Bits) ℓ) : Prop :=
  ∀ c : Dev Cert.Reorder.nD,
    (Cert.Pre_places.fn (F := Bits) (m ((c.tc : Thread Cert.Reorder.nD Cert.Reorder.τ).loc Cert.Reorder.main_arg0)) (m ((c.tc : Thread Cert.Reorder.nD Cert.Reorder.τ).loc Cert.Reorder.main_arg1)) (m ((c.tc : Thread Cert.Reorder.nD Cert.Reorder.τ).loc Cert.Reorder.main_arg2)) (m ((c.tc : Thread Cert.Reorder.nD Cert.Reorder.τ).loc Cert.Reorder.main_arg3)) (m ((c.tc : Thread Cert.Reorder.nD Cert.Reorder.τ).loc Cert.Reorder.main_arg4))) = (fun _ => 1#1)

def Pre_ReorderIdeal [hPre_places : Cert.Pre_places.Facts] (m : (ℓ : Loc Cert.ReorderIdeal.nD Cert.ReorderIdeal.τ Cert.ReorderIdeal.sig) → Buf (Elt Ideal) ℓ) : Prop :=
  ∀ c : Dev Cert.ReorderIdeal.nD,
    (Cert.Pre_places.fn (F := Ideal) (m ((c.tc : Thread Cert.ReorderIdeal.nD Cert.ReorderIdeal.τ).loc Cert.ReorderIdeal.main_arg0)) (m ((c.tc : Thread Cert.ReorderIdeal.nD Cert.ReorderIdeal.τ).loc Cert.ReorderIdeal.main_arg1)) (m ((c.tc : Thread Cert.ReorderIdeal.nD Cert.ReorderIdeal.τ).loc Cert.ReorderIdeal.main_arg2)) (m ((c.tc : Thread Cert.ReorderIdeal.nD Cert.ReorderIdeal.τ).loc Cert.ReorderIdeal.main_arg3)) (m ((c.tc : Thread Cert.ReorderIdeal.nD Cert.ReorderIdeal.τ).loc Cert.ReorderIdeal.main_arg4))) = (fun _ => 1#1)

def Pre_ReorderReferenceIdeal (m : (ℓ : Loc Cert.ReorderReferenceIdeal.nD Cert.ReorderReferenceIdeal.τ Cert.ReorderReferenceIdeal.sig) → Buf (Elt Ideal) ℓ) : Prop :=
  True

def Pre_ReorderReferenceIdeal_places [hPre_places : Cert.Pre_places.Facts] (m : (ℓ : Loc Cert.ReorderReferenceIdeal.nD Cert.ReorderReferenceIdeal.τ Cert.ReorderReferenceIdeal.sig) → Buf (Elt Ideal) ℓ) : Prop :=
  ∀ c : Dev Cert.ReorderReferenceIdeal.nD,
    (Cert.Pre_places.fn (F := Ideal) (m ((c.tc : Thread Cert.ReorderReferenceIdeal.nD Cert.ReorderReferenceIdeal.τ).loc Cert.ReorderReferenceIdeal.main_arg0)) (m ((c.tc : Thread Cert.ReorderReferenceIdeal.nD Cert.ReorderReferenceIdeal.τ).loc Cert.ReorderReferenceIdeal.main_arg1)) (m ((c.tc : Thread Cert.ReorderReferenceIdeal.nD Cert.ReorderReferenceIdeal.τ).loc Cert.ReorderReferenceIdeal.main_arg2)) (m ((c.tc : Thread Cert.ReorderReferenceIdeal.nD Cert.ReorderReferenceIdeal.τ).loc Cert.ReorderReferenceIdeal.main_arg3)) (m ((c.tc : Thread Cert.ReorderReferenceIdeal.nD Cert.ReorderReferenceIdeal.τ).loc Cert.ReorderReferenceIdeal.main_arg4))) = (fun _ => 1#1)

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_packs [hPre_packs : Cert.Pre_packs.Facts] (m : (ℓ : Loc Cert.AttendIdeal.nD Cert.AttendIdeal.τ Cert.AttendIdeal.sig) → Buf (Elt Ideal) ℓ) : Prop :=
  ∀ c : Dev Cert.AttendIdeal.nD,
    (Cert.Pre_packs.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_packs [hPre_packs : Cert.Pre_packs.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_packs.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reorder [hReorder : Cert.Reorder.Facts] [hPre_places : Cert.Pre_places.Facts] : Prop :=
  ∀ (m : (ℓ : Loc Cert.Reorder.nD Cert.Reorder.τ Cert.Reorder.sig) → Buf (Elt Bits) ℓ) (g : Dev Cert.Reorder.nD → PrngReg), Pre_Reorder m →
    θ_run (Cert.Reorder.defs (F := Bits)) (Cert.Reorder.threads (F := Bits)) ⟨m, fun _ => 0, g⟩ (fun r => (∀ c : Dev Cert.Reorder.nD,
      r.2.mem ((c.tc : Thread Cert.Reorder.nD Cert.Reorder.τ).loc Cert.Reorder.main_arg0) = m ((c.tc : Thread Cert.Reorder.nD Cert.Reorder.τ).loc Cert.Reorder.main_arg0)
      ∧ r.2.mem ((c.tc : Thread Cert.Reorder.nD Cert.Reorder.τ).loc Cert.Reorder.main_arg1) = m ((c.tc : Thread Cert.Reorder.nD Cert.Reorder.τ).loc Cert.Reorder.main_arg1)
      ∧ r.2.mem ((c.tc : Thread Cert.Reorder.nD Cert.Reorder.τ).loc Cert.Reorder.main_arg2) = m ((c.tc : Thread Cert.Reorder.nD Cert.Reorder.τ).loc Cert.Reorder.main_arg2)
      ∧ r.2.mem ((c.tc : Thread Cert.Reorder.nD Cert.Reorder.τ).loc Cert.Reorder.main_arg3) = m ((c.tc : Thread Cert.Reorder.nD Cert.Reorder.τ).loc Cert.Reorder.main_arg3)
      ∧ r.2.mem ((c.tc : Thread Cert.Reorder.nD Cert.Reorder.τ).loc Cert.Reorder.main_arg4) = m ((c.tc : Thread Cert.Reorder.nD Cert.Reorder.τ).loc Cert.Reorder.main_arg4))
      ∧ r.2.sem = fun _ => 0)

def quiescent_ReorderIdeal [hReorderIdeal : Cert.ReorderIdeal.Facts] [hPre_places : Cert.Pre_places.Facts] : Prop :=
  ∀ (m : (ℓ : Loc Cert.ReorderIdeal.nD Cert.ReorderIdeal.τ Cert.ReorderIdeal.sig) → Buf (Elt Ideal) ℓ) (g : Dev Cert.ReorderIdeal.nD → PrngReg), Pre_ReorderIdeal m →
    θ_run (Cert.ReorderIdeal.defs (F := Ideal)) (Cert.ReorderIdeal.threads (F := Ideal)) ⟨m, fun _ => 0, g⟩ (fun r => (∀ c : Dev Cert.ReorderIdeal.nD,
      r.2.mem ((c.tc : Thread Cert.ReorderIdeal.nD Cert.ReorderIdeal.τ).loc Cert.ReorderIdeal.main_arg0) = m ((c.tc : Thread Cert.ReorderIdeal.nD Cert.ReorderIdeal.τ).loc Cert.ReorderIdeal.main_arg0)
      ∧ r.2.mem ((c.tc : Thread Cert.ReorderIdeal.nD Cert.ReorderIdeal.τ).loc Cert.ReorderIdeal.main_arg1) = m ((c.tc : Thread Cert.ReorderIdeal.nD Cert.ReorderIdeal.τ).loc Cert.ReorderIdeal.main_arg1)
      ∧ r.2.mem ((c.tc : Thread Cert.ReorderIdeal.nD Cert.ReorderIdeal.τ).loc Cert.ReorderIdeal.main_arg2) = m ((c.tc : Thread Cert.ReorderIdeal.nD Cert.ReorderIdeal.τ).loc Cert.ReorderIdeal.main_arg2)
      ∧ r.2.mem ((c.tc : Thread Cert.ReorderIdeal.nD Cert.ReorderIdeal.τ).loc Cert.ReorderIdeal.main_arg3) = m ((c.tc : Thread Cert.ReorderIdeal.nD Cert.ReorderIdeal.τ).loc Cert.ReorderIdeal.main_arg3)
      ∧ r.2.mem ((c.tc : Thread Cert.ReorderIdeal.nD Cert.ReorderIdeal.τ).loc Cert.ReorderIdeal.main_arg4) = m ((c.tc : Thread Cert.ReorderIdeal.nD Cert.ReorderIdeal.τ).loc Cert.ReorderIdeal.main_arg4))
      ∧ r.2.sem = fun _ => 0)

def quiescent_ReorderReferenceIdeal [hReorderReferenceIdeal : Cert.ReorderReferenceIdeal.Facts] : Prop :=
  ∀ (m : (ℓ : Loc Cert.ReorderReferenceIdeal.nD Cert.ReorderReferenceIdeal.τ Cert.ReorderReferenceIdeal.sig) → Buf (Elt Ideal) ℓ) (g : Dev Cert.ReorderReferenceIdeal.nD → PrngReg), Pre_ReorderReferenceIdeal m →
    θ_run (Cert.ReorderReferenceIdeal.defs (F := Ideal)) (onTc (τ := Cert.ReorderReferenceIdeal.τ) (Cert.ReorderReferenceIdeal.main (F := Ideal))) ⟨m, fun _ => 0, g⟩ (fun r => (∀ c : Dev Cert.ReorderReferenceIdeal.nD,
      r.2.mem ((c.tc : Thread Cert.ReorderReferenceIdeal.nD Cert.ReorderReferenceIdeal.τ).loc Cert.ReorderReferenceIdeal.main_arg0) = m ((c.tc : Thread Cert.ReorderReferenceIdeal.nD Cert.ReorderReferenceIdeal.τ).loc Cert.ReorderReferenceIdeal.main_arg0)
      ∧ r.2.mem ((c.tc : Thread Cert.ReorderReferenceIdeal.nD Cert.ReorderReferenceIdeal.τ).loc Cert.ReorderReferenceIdeal.main_arg1) = m ((c.tc : Thread Cert.ReorderReferenceIdeal.nD Cert.ReorderReferenceIdeal.τ).loc Cert.ReorderReferenceIdeal.main_arg1)
      ∧ r.2.mem ((c.tc : Thread Cert.ReorderReferenceIdeal.nD Cert.ReorderReferenceIdeal.τ).loc Cert.ReorderReferenceIdeal.main_arg2) = m ((c.tc : Thread Cert.ReorderReferenceIdeal.nD Cert.ReorderReferenceIdeal.τ).loc Cert.ReorderReferenceIdeal.main_arg2)
      ∧ r.2.mem ((c.tc : Thread Cert.ReorderReferenceIdeal.nD Cert.ReorderReferenceIdeal.τ).loc Cert.ReorderReferenceIdeal.main_arg3) = m ((c.tc : Thread Cert.ReorderReferenceIdeal.nD Cert.ReorderReferenceIdeal.τ).loc Cert.ReorderReferenceIdeal.main_arg3)
      ∧ r.2.mem ((c.tc : Thread Cert.ReorderReferenceIdeal.nD Cert.ReorderReferenceIdeal.τ).loc Cert.ReorderReferenceIdeal.main_arg4) = m ((c.tc : Thread Cert.ReorderReferenceIdeal.nD Cert.ReorderReferenceIdeal.τ).loc Cert.ReorderReferenceIdeal.main_arg4))
      ∧ r.2.sem = fun _ => 0)

def quiescent_ReorderReferenceIdeal_pre_places [hReorderReferenceIdeal : Cert.ReorderReferenceIdeal.Facts] [hPre_places : Cert.Pre_places.Facts] : Prop :=
  ∀ (m : (ℓ : Loc Cert.ReorderReferenceIdeal.nD Cert.ReorderReferenceIdeal.τ Cert.ReorderReferenceIdeal.sig) → Buf (Elt Ideal) ℓ) (g : Dev Cert.ReorderReferenceIdeal.nD → PrngReg), Pre_ReorderReferenceIdeal_places m →
    θ_run (Cert.ReorderReferenceIdeal.defs (F := Ideal)) (onTc (τ := Cert.ReorderReferenceIdeal.τ) (Cert.ReorderReferenceIdeal.main (F := Ideal))) ⟨m, fun _ => 0, g⟩ (fun r => (∀ c : Dev Cert.ReorderReferenceIdeal.nD,
      r.2.mem ((c.tc : Thread Cert.ReorderReferenceIdeal.nD Cert.ReorderReferenceIdeal.τ).loc Cert.ReorderReferenceIdeal.main_arg0) = m ((c.tc : Thread Cert.ReorderReferenceIdeal.nD Cert.ReorderReferenceIdeal.τ).loc Cert.ReorderReferenceIdeal.main_arg0)
      ∧ r.2.mem ((c.tc : Thread Cert.ReorderReferenceIdeal.nD Cert.ReorderReferenceIdeal.τ).loc Cert.ReorderReferenceIdeal.main_arg1) = m ((c.tc : Thread Cert.ReorderReferenceIdeal.nD Cert.ReorderReferenceIdeal.τ).loc Cert.ReorderReferenceIdeal.main_arg1)
      ∧ r.2.mem ((c.tc : Thread Cert.ReorderReferenceIdeal.nD Cert.ReorderReferenceIdeal.τ).loc Cert.ReorderReferenceIdeal.main_arg2) = m ((c.tc : Thread Cert.ReorderReferenceIdeal.nD Cert.ReorderReferenceIdeal.τ).loc Cert.ReorderReferenceIdeal.main_arg2)
      ∧ r.2.mem ((c.tc : Thread Cert.ReorderReferenceIdeal.nD Cert.ReorderReferenceIdeal.τ).loc Cert.ReorderReferenceIdeal.main_arg3) = m ((c.tc : Thread Cert.ReorderReferenceIdeal.nD Cert.ReorderReferenceIdeal.τ).loc Cert.ReorderReferenceIdeal.main_arg3)
      ∧ r.2.mem ((c.tc : Thread Cert.ReorderReferenceIdeal.nD Cert.ReorderReferenceIdeal.τ).loc Cert.ReorderReferenceIdeal.main_arg4) = m ((c.tc : Thread Cert.ReorderReferenceIdeal.nD Cert.ReorderReferenceIdeal.τ).loc Cert.ReorderReferenceIdeal.main_arg4))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendIdeal_pre_packs [hAttendIdeal : Cert.AttendIdeal.Facts] [hPre_packs : Cert.Pre_packs.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_packs m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def quiescent_AttendReferenceIdeal_pre_packs [hAttendReferenceIdeal : Cert.AttendReferenceIdeal.Facts] [hPre_packs : Cert.Pre_packs.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_packs m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Reorder_ReorderIdeal : Prop :=
  True

def algebraic_ReorderIdeal_ReorderReferenceIdeal [hReorderIdeal : Cert.ReorderIdeal.Facts] [hReorderReferenceIdeal : Cert.ReorderReferenceIdeal.Facts] [hPre_places : Cert.Pre_places.Facts] : Prop :=
  ∀ (m : (ℓ : Loc Cert.ReorderIdeal.nD Cert.ReorderIdeal.τ Cert.ReorderIdeal.sig) → Buf (Elt Ideal) ℓ) (g : Dev Cert.ReorderIdeal.nD → PrngReg)
    (m' : (ℓ : Loc Cert.ReorderReferenceIdeal.nD Cert.ReorderReferenceIdeal.τ Cert.ReorderReferenceIdeal.sig) → Buf (Elt Ideal) ℓ) (g' : Dev Cert.ReorderReferenceIdeal.nD → PrngReg), Pre_ReorderIdeal m →
    (∀ c : Dev Cert.ReorderIdeal.nD,
      m' ((c.tc : Thread Cert.ReorderReferenceIdeal.nD Cert.ReorderReferenceIdeal.τ).loc Cert.ReorderReferenceIdeal.main_arg0) = m ((c.tc : Thread Cert.ReorderIdeal.nD Cert.ReorderIdeal.τ).loc Cert.ReorderIdeal.main_arg0)
      ∧ m' ((c.tc : Thread Cert.ReorderReferenceIdeal.nD Cert.ReorderReferenceIdeal.τ).loc Cert.ReorderReferenceIdeal.main_arg1) = m ((c.tc : Thread Cert.ReorderIdeal.nD Cert.ReorderIdeal.τ).loc Cert.ReorderIdeal.main_arg1)
      ∧ m' ((c.tc : Thread Cert.ReorderReferenceIdeal.nD Cert.ReorderReferenceIdeal.τ).loc Cert.ReorderReferenceIdeal.main_arg2) = m ((c.tc : Thread Cert.ReorderIdeal.nD Cert.ReorderIdeal.τ).loc Cert.ReorderIdeal.main_arg2)
      ∧ m' ((c.tc : Thread Cert.ReorderReferenceIdeal.nD Cert.ReorderReferenceIdeal.τ).loc Cert.ReorderReferenceIdeal.main_arg3) = m ((c.tc : Thread Cert.ReorderIdeal.nD Cert.ReorderIdeal.τ).loc Cert.ReorderIdeal.main_arg3)
      ∧ m' ((c.tc : Thread Cert.ReorderReferenceIdeal.nD Cert.ReorderReferenceIdeal.τ).loc Cert.ReorderReferenceIdeal.main_arg4) = m ((c.tc : Thread Cert.ReorderIdeal.nD Cert.ReorderIdeal.τ).loc Cert.ReorderIdeal.main_arg4)) →
    ∃ (v0 : (c : Dev Cert.ReorderIdeal.nD) → Buf (Elt Ideal) ((c.tc : Thread Cert.ReorderIdeal.nD Cert.ReorderIdeal.τ).loc Cert.ReorderIdeal.main_v5)) (v1 : (c : Dev Cert.ReorderIdeal.nD) → Buf (Elt Ideal) ((c.tc : Thread Cert.ReorderIdeal.nD Cert.ReorderIdeal.τ).loc Cert.ReorderIdeal.main_v4_1)) (v2 : (c : Dev Cert.ReorderIdeal.nD) → Buf (Elt Ideal) ((c.tc : Thread Cert.ReorderIdeal.nD Cert.ReorderIdeal.τ).loc Cert.ReorderIdeal.main_v4_2)),
      θ_run (Cert.ReorderIdeal.defs (F := Ideal)) (Cert.ReorderIdeal.threads (F := Ideal)) ⟨m, fun _ => 0, g⟩ (fun r => ∀ c : Dev Cert.ReorderIdeal.nD,
          r.2.mem ((c.tc : Thread Cert.ReorderIdeal.nD Cert.ReorderIdeal.τ).loc Cert.ReorderIdeal.main_v5) = v0 c
          ∧ r.2.mem ((c.tc : Thread Cert.ReorderIdeal.nD Cert.ReorderIdeal.τ).loc Cert.ReorderIdeal.main_v4_1) = v1 c
          ∧ r.2.mem ((c.tc : Thread Cert.ReorderIdeal.nD Cert.ReorderIdeal.τ).loc Cert.ReorderIdeal.main_v4_2) = v2 c
          ∧ r.2.mem ((c.tc : Thread Cert.ReorderIdeal.nD Cert.ReorderIdeal.τ).loc Cert.ReorderIdeal.main_arg0) = m ((c.tc : Thread Cert.ReorderIdeal.nD Cert.ReorderIdeal.τ).loc Cert.ReorderIdeal.main_arg0)
          ∧ r.2.mem ((c.tc : Thread Cert.ReorderIdeal.nD Cert.ReorderIdeal.τ).loc Cert.ReorderIdeal.main_arg1) = m ((c.tc : Thread Cert.ReorderIdeal.nD Cert.ReorderIdeal.τ).loc Cert.ReorderIdeal.main_arg1)
          ∧ r.2.mem ((c.tc : Thread Cert.ReorderIdeal.nD Cert.ReorderIdeal.τ).loc Cert.ReorderIdeal.main_arg2) = m ((c.tc : Thread Cert.ReorderIdeal.nD Cert.ReorderIdeal.τ).loc Cert.ReorderIdeal.main_arg2)
          ∧ r.2.mem ((c.tc : Thread Cert.ReorderIdeal.nD Cert.ReorderIdeal.τ).loc Cert.ReorderIdeal.main_arg3) = m ((c.tc : Thread Cert.ReorderIdeal.nD Cert.ReorderIdeal.τ).loc Cert.ReorderIdeal.main_arg3)
          ∧ r.2.mem ((c.tc : Thread Cert.ReorderIdeal.nD Cert.ReorderIdeal.τ).loc Cert.ReorderIdeal.main_arg4) = m ((c.tc : Thread Cert.ReorderIdeal.nD Cert.ReorderIdeal.τ).loc Cert.ReorderIdeal.main_arg4))
      ∧ θ_run (Cert.ReorderReferenceIdeal.defs (F := Ideal)) (onTc (τ := Cert.ReorderReferenceIdeal.τ) (Cert.ReorderReferenceIdeal.main (F := Ideal))) ⟨m', fun _ => 0, g'⟩ (fun r => ∀ c : Dev Cert.ReorderReferenceIdeal.nD,
          r.2.mem ((c.tc : Thread Cert.ReorderReferenceIdeal.nD Cert.ReorderReferenceIdeal.τ).loc Cert.ReorderReferenceIdeal.main_v16) = v0 c
          ∧ r.2.mem ((c.tc : Thread Cert.ReorderReferenceIdeal.nD Cert.ReorderReferenceIdeal.τ).loc Cert.ReorderReferenceIdeal.main_v1) = v1 c
          ∧ r.2.mem ((c.tc : Thread Cert.ReorderReferenceIdeal.nD Cert.ReorderReferenceIdeal.τ).loc Cert.ReorderReferenceIdeal.main_v24) = v2 c
          ∧ r.2.mem ((c.tc : Thread Cert.ReorderReferenceIdeal.nD Cert.ReorderReferenceIdeal.τ).loc Cert.ReorderReferenceIdeal.main_arg0) = m' ((c.tc : Thread Cert.ReorderReferenceIdeal.nD Cert.ReorderReferenceIdeal.τ).loc Cert.ReorderReferenceIdeal.main_arg0)
          ∧ r.2.mem ((c.tc : Thread Cert.ReorderReferenceIdeal.nD Cert.ReorderReferenceIdeal.τ).loc Cert.ReorderReferenceIdeal.main_arg1) = m' ((c.tc : Thread Cert.ReorderReferenceIdeal.nD Cert.ReorderReferenceIdeal.τ).loc Cert.ReorderReferenceIdeal.main_arg1)
          ∧ r.2.mem ((c.tc : Thread Cert.ReorderReferenceIdeal.nD Cert.ReorderReferenceIdeal.τ).loc Cert.ReorderReferenceIdeal.main_arg2) = m' ((c.tc : Thread Cert.ReorderReferenceIdeal.nD Cert.ReorderReferenceIdeal.τ).loc Cert.ReorderReferenceIdeal.main_arg2)
          ∧ r.2.mem ((c.tc : Thread Cert.ReorderReferenceIdeal.nD Cert.ReorderReferenceIdeal.τ).loc Cert.ReorderReferenceIdeal.main_arg3) = m' ((c.tc : Thread Cert.ReorderReferenceIdeal.nD Cert.ReorderReferenceIdeal.τ).loc Cert.ReorderReferenceIdeal.main_arg3)
          ∧ r.2.mem ((c.tc : Thread Cert.ReorderReferenceIdeal.nD Cert.ReorderReferenceIdeal.τ).loc Cert.ReorderReferenceIdeal.main_arg4) = m' ((c.tc : Thread Cert.ReorderReferenceIdeal.nD Cert.ReorderReferenceIdeal.τ).loc Cert.ReorderReferenceIdeal.main_arg4))

def preserves_Attend_AttendIdeal : Prop :=
  True

def algebraic_AttendIdeal_AttendReferenceIdeal_pre_packs [hAttendIdeal : Cert.AttendIdeal.Facts] [hAttendReferenceIdeal : Cert.AttendReferenceIdeal.Facts] [hPre_packs : Cert.Pre_packs.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_packs m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)) →
    ∃ (v0 : (c : Dev Cert.AttendIdeal.nD) → Buf (Elt Ideal) ((c.tc : Thread Cert.AttendIdeal.nD Cert.AttendIdeal.τ).loc Cert.AttendIdeal.main_v5)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v5) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v218) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3))

def Claim : Prop :=
  ∃ (hKernel : Cert.Kernel.Facts) (hKernelIdeal : Cert.KernelIdeal.Facts) (hReferenceIdeal : Cert.ReferenceIdeal.Facts) (hReorder : Cert.Reorder.Facts) (hReorderIdeal : Cert.ReorderIdeal.Facts) (hReorderReferenceIdeal : Cert.ReorderReferenceIdeal.Facts) (hAttend : Cert.Attend.Facts) (hAttendIdeal : Cert.AttendIdeal.Facts) (hAttendReferenceIdeal : Cert.AttendReferenceIdeal.Facts) (hPre_in_range : Cert.Pre_in_range.Facts) (hPre_places : Cert.Pre_places.Facts) (hPre_packs : Cert.Pre_packs.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reorder (hReorder := hReorder) (hPre_places := hPre_places)
    ∧ quiescent_ReorderIdeal (hReorderIdeal := hReorderIdeal) (hPre_places := hPre_places)
    ∧ quiescent_ReorderReferenceIdeal (hReorderReferenceIdeal := hReorderReferenceIdeal)
    ∧ quiescent_ReorderReferenceIdeal_pre_places (hReorderReferenceIdeal := hReorderReferenceIdeal) (hPre_places := hPre_places)
    ∧ quiescent_Attend (hAttend := hAttend)
    ∧ quiescent_AttendIdeal (hAttendIdeal := hAttendIdeal)
    ∧ quiescent_AttendIdeal_pre_packs (hAttendIdeal := hAttendIdeal) (hPre_packs := hPre_packs)
    ∧ quiescent_AttendReferenceIdeal (hAttendReferenceIdeal := hAttendReferenceIdeal)
    ∧ quiescent_AttendReferenceIdeal_pre_packs (hAttendReferenceIdeal := hAttendReferenceIdeal) (hPre_packs := hPre_packs)
    ∧ preserves_Kernel_KernelIdeal
    ∧ algebraic_KernelIdeal_ReferenceIdeal (hKernelIdeal := hKernelIdeal) (hReferenceIdeal := hReferenceIdeal) (hPre_in_range := hPre_in_range)
    ∧ preserves_Reorder_ReorderIdeal
    ∧ algebraic_ReorderIdeal_ReorderReferenceIdeal (hReorderIdeal := hReorderIdeal) (hReorderReferenceIdeal := hReorderReferenceIdeal) (hPre_places := hPre_places)
    ∧ preserves_Attend_AttendIdeal
    ∧ algebraic_AttendIdeal_AttendReferenceIdeal_pre_packs (hAttendIdeal := hAttendIdeal) (hAttendReferenceIdeal := hAttendReferenceIdeal) (hPre_packs := hPre_packs)
-- ==== Pre_in_range.lean ====
abbrev S32x4x4096x128 : Shape := ⟨4, ![32, 4, 4096, 128]⟩
abbrev S32x4x4096x1 : Shape := ⟨4, ![32, 4, 4096, 1]⟩
abbrev S_ : Shape := ⟨0, ![]⟩

class Facts : Prop where
  bcast_S_S32x4x4096x1 : S_.BroadcastsInDim S32x4x4096x1 (![] : Fin 0 → Fin S32x4x4096x1.rank)
  reducesTo_S32x4x4096x1_S_d0_1_2_3 : S32x4x4096x1.ReducesTo [0, 1, 2, 3] S_
  h_S_ : 0 < S_.numel

variable [Facts]

def fn {F : FTy → Type} [FloatOps F] (main_arg0 : FVec F S32x4x4096x128 .f32) (main_arg1 : IVec S32x4x4096x1 32) : IVec S_ 1 :=
  let main_c : IVec S_ 32 := constantI S_ 32 0#32
  let main_v0 : IVec S32x4x4096x1 32 := broadcastInDim S32x4x4096x1 ![] bcast_S_S32x4x4096x1 main_c
  let main_v1 : IVec S32x4x4096x1 1 := cmpi .sge main_arg1 main_v0
  let main_c_0 : IVec S_ 32 := constantI S_ 32 524288#32
  let main_v2 : IVec S32x4x4096x1 32 := broadcastInDim S32x4x4096x1 ![] bcast_S_S32x4x4096x1 main_c_0
  let main_v3 : IVec S32x4x4096x1 1 := cmpi .slt main_arg1 main_v2
  let main_v4 : IVec S32x4x4096x1 1 := andi main_v1 main_v3
  let main_c_1 : IVec S_ 1 := constantI S_ 1 1#1
  let main_v5 : IVec S_ 1 := (fun x v => Host.reduce IntOp.andi x v reducesTo_S32x4x4096x1_S_d0_1_2_3 h_S_) main_v4 main_c_1
  main_v5
-- ==== Pre_packs.lean ====
abbrev S32x4x4096x128 : Shape := ⟨4, ![32, 4, 4096, 128]⟩
abbrev S32x4x4096 : Shape := ⟨3, ![32, 4, 4096]⟩
abbrev S32x4x4096x1 : Shape := ⟨4, ![32, 4, 4096, 1]⟩
abbrev S_ : Shape := ⟨0, ![]⟩
abbrev S32x1x4096 : Shape := ⟨3, ![32, 1, 4096]⟩
abbrev S32x4096 : Shape := ⟨2, ![32, 4096]⟩
abbrev S4096 : Shape := ⟨1, ![4096]⟩
abbrev S1x1x4096 : Shape := ⟨3, ![1, 1, 4096]⟩

class Facts : Prop where
  bcast_S_S32x4x4096 : S_.BroadcastsInDim S32x4x4096 (![] : Fin 0 → Fin S32x4x4096.rank)
  slices_S32x4x4096_S32x1x4096_0_0_0 : S32x4x4096.Slices ![0, 0, 0] S32x1x4096
  shapeCasts_S32x1x4096_S32x4096 : S32x1x4096.ShapeCasts S32x4096
  slices_S32x4x4096_S32x1x4096_0_1_0 : S32x4x4096.Slices ![0, 1, 0] S32x1x4096
  bcast_S_S32x4096 : S_.BroadcastsInDim S32x4096 (![] : Fin 0 → Fin S32x4096.rank)
  slices_S32x4x4096_S32x1x4096_0_2_0 : S32x4x4096.Slices ![0, 2, 0] S32x1x4096
  slices_S32x4x4096_S32x1x4096_0_3_0 : S32x4x4096.Slices ![0, 3, 0] S32x1x4096
  bcast_S4096_S1x1x4096_2 : S4096.BroadcastsInDim S1x1x4096 (![2] : Fin 1 → Fin S1x1x4096.rank)
  bcast_S1x1x4096_S32x4x4096_0_1_2 : S1x1x4096.BroadcastsInDim S32x4x4096 (![0, 1, 2] : Fin 3 → Fin S32x4x4096.rank)
  bcast_S32x4x4096_S32x4x4096x1_0_1_2 : S32x4x4096.BroadcastsInDim S32x4x4096x1 (![0, 1, 2] : Fin 3 → Fin S32x4x4096x1.rank)
  reducesTo_S32x4x4096_S_d0_1_2 : S32x4x4096.ReducesTo [0, 1, 2] S_
  h_S_ : 0 < S_.numel
  gather_S32x4096_S32x4x4096x1_S32x4x4096_n_1_0_0_1_3_11_wf : GatherDims.WF S32x4096 S32x4x4096x1 S32x4x4096 [] [1] [0] [1] [0] 3 ![1, 1]

variable [Facts]

def comparator_i32_i32_d2 : BitVec 32 × BitVec 32 → BitVec 32 × BitVec 32 → BitVec 1 :=
  fun l r =>
    let v2 := IntOp.cmpi .slt l.1 r.1
    v2
def comparator_i32_d2 : BitVec 32 → BitVec 32 → BitVec 1 :=
  fun l r =>
    let v1 := IntOp.cmpi .slt l r
    v1
def gather_S32x4096_S32x4x4096x1_S32x4x4096_n_1_0_0_1_3_11 : GatherDims S32x4096 S32x4x4096x1 S32x4x4096 where
  offsetDims := []
  collapsedSliceDims := [1]
  operandBatchingDims := [0]
  startIndicesBatchingDims := [0]
  startIndexMap := [1]
  indexVectorDim := 3
  sliceSizes := ![1, 1]
  wf := gather_S32x4096_S32x4x4096x1_S32x4x4096_n_1_0_0_1_3_11_wf
def fn_argsort {F : FTy → Type} [FloatOps F] (arg0 : IVec S32x4x4096 32) : IVec S32x4x4096 32 :=
  let v0 : IVec S32x4x4096 32 := iotaInDim S32x4x4096 32 2
  let v1_0 : IVec S32x4x4096 32 := (fun x y => (Host.sort2 S32x4x4096 2 comparator_i32_i32_d2 x y).1) arg0 v0
  let v1_1 : IVec S32x4x4096 32 := (fun x y => (Host.sort2 S32x4x4096 2 comparator_i32_i32_d2 x y).2) arg0 v0
  v1_1

def fn_where {F : FTy → Type} [FloatOps F] (arg0 : IVec S32x4x4096 1) (arg1 : IVec S32x4x4096 32) (arg2 : IVec S32x4x4096 32) : IVec S32x4x4096 32 :=
  let v0 : IVec S32x4x4096 32 := select arg0 arg1 arg2
  v0

def fn_floor_divide {F : FTy → Type} [FloatOps F] (arg0 : IVec S32x4x4096 32) (arg1 : IVec S_ 32) : IVec S32x4x4096 32 :=
  let v0 : IVec S_ 32 := id arg1
  let v1 : IVec S32x4x4096 32 := broadcastInDim S32x4x4096 ![] bcast_S_S32x4x4096 v0
  let v2 : IVec S32x4x4096 32 := Host.divsi arg0 v1
  let v3 : IVec S32x4x4096 32 := signi arg0
  let v4 : IVec S_ 32 := signi v0
  let v5 : IVec S32x4x4096 32 := broadcastInDim S32x4x4096 ![] bcast_S_S32x4x4096 v4
  let v6 : IVec S32x4x4096 1 := cmpi .ne v3 v5
  let v7 : IVec S32x4x4096 32 := broadcastInDim S32x4x4096 ![] bcast_S_S32x4x4096 v0
  let v8 : IVec S32x4x4096 32 := Host.remsi arg0 v7
  let c : IVec S_ 32 := constantI S_ 32 0#32
  let v9 : IVec S32x4x4096 32 := broadcastInDim S32x4x4096 ![] bcast_S_S32x4x4096 c
  let v10 : IVec S32x4x4096 1 := cmpi .ne v8 v9
  let v11 : IVec S32x4x4096 1 := andi v6 v10
  let c_0 : IVec S_ 32 := constantI S_ 32 1#32
  let v12 : IVec S32x4x4096 32 := broadcastInDim S32x4x4096 ![] bcast_S_S32x4x4096 c_0
  let v13 : IVec S32x4x4096 32 := subi v2 v12
  let v14 : IVec S32x4x4096 32 := fn_where (F := F) v11 v13 v2
  v14

def fn_sort {F : FTy → Type} [FloatOps F] (arg0 : IVec S32x4x4096 32) : IVec S32x4x4096 32 :=
  let v0 : IVec S32x4x4096 32 := (fun x => Host.sort S32x4x4096 2 comparator_i32_d2 x) arg0
  v0

def fn_part1 {F : FTy → Type} [FloatOps F] (main_arg1 : IVec S32x4x4096 32) (main_arg3 : IVec S32x4x4096 32) (main_v18 : IVec S32x4096 32) (main_v19 : IVec S32x4x4096 32) : IVec S_ 1 :=
  let main_v20 : IVec S4096 32 := iotaInDim S4096 32 0
  let main_v21 : IVec S1x1x4096 32 := broadcastInDim S1x1x4096 ![2] bcast_S4096_S1x1x4096_2 main_v20
  let main_v22 : IVec S32x4x4096 32 := broadcastInDim S32x4x4096 ![0, 1, 2] bcast_S1x1x4096_S32x4x4096_0_1_2 main_v21
  let main_v23 : IVec S32x4x4096 1 := cmpi .eq main_v19 main_v22
  let main_c_3 : IVec S_ 32 := constantI S_ 32 0#32
  let main_v24 : IVec S32x4x4096 32 := broadcastInDim S32x4x4096 ![] bcast_S_S32x4x4096 main_c_3
  let main_v25 : IVec S32x4x4096 1 := cmpi .slt main_arg1 main_v24
  let main_c_4 : IVec S_ 32 := constantI S_ 32 4096#32
  let main_v26 : IVec S32x4x4096 32 := broadcastInDim S32x4x4096 ![] bcast_S_S32x4x4096 main_c_4
  let main_v27 : IVec S32x4x4096 32 := addi main_arg1 main_v26
  let main_v28 : IVec S32x4x4096 32 := select main_v25 main_v27 main_arg1
  let main_v29 : IVec S32x4x4096x1 32 := broadcastInDim S32x4x4096x1 ![0, 1, 2] bcast_S32x4x4096_S32x4x4096x1_0_1_2 main_v28
  let main_v30 : IVec S32x4x4096 32 := (fun x i => Host.gather gather_S32x4096_S32x4x4096x1_S32x4x4096_n_1_0_0_1_3_11 x i) main_v18 main_v29
  let main_v31 : IVec S32x4x4096 1 := cmpi .eq main_arg3 main_v30
  let main_v32 : IVec S32x4x4096 1 := andi main_v23 main_v31
  let main_c_5 : IVec S_ 1 := constantI S_ 1 1#1
  let main_v33 : IVec S_ 1 := (fun x v => Host.reduce IntOp.andi x v reducesTo_S32x4x4096_S_d0_1_2 h_S_) main_v32 main_c_5
  main_v33

def fn {F : FTy → Type} [FloatOps F] (main_arg0 : FVec F S32x4x4096x128 .f32) (main_arg1 : IVec S32x4x4096 32) (main_arg2 : IVec S32x4x4096x1 32) (main_arg3 : IVec S32x4x4096 32) : IVec S_ 1 :=
  let main_v0 : IVec S32x4x4096 32 := fn_argsort (F := F) main_arg1
  let main_c : IVec S_ 32 := constantI S_ 32 64#32
  let main_v1 : IVec S32x4x4096 32 := fn_floor_divide (F := F) main_v0 main_c
  let main_v2 : IVec S32x1x4096 32 := (extractStridedSlice S32x1x4096 ![0, 0, 0] · slices_S32x4x4096_S32x1x4096_0_0_0) main_v1
  let main_v3 : IVec S32x4096 32 := shapeCast S32x4096 main_v2 shapeCasts_S32x1x4096_S32x4096
  let main_v4 : IVec S32x1x4096 32 := (extractStridedSlice S32x1x4096 ![0, 1, 0] · slices_S32x4x4096_S32x1x4096_0_1_0) main_v1
  let main_v5 : IVec S32x4096 32 := shapeCast S32x4096 main_v4 shapeCasts_S32x1x4096_S32x4096
  let main_c_0 : IVec S_ 32 := constantI S_ 32 256#32
  let main_v6 : IVec S32x4096 32 := broadcastInDim S32x4096 ![] bcast_S_S32x4096 main_c_0
  let main_v7 : IVec S32x4096 32 := muli main_v6 main_v5
  let main_v8 : IVec S32x4096 32 := addi main_v3 main_v7
  let main_v9 : IVec S32x1x4096 32 := (extractStridedSlice S32x1x4096 ![0, 2, 0] · slices_S32x4x4096_S32x1x4096_0_2_0) main_v1
  let main_v10 : IVec S32x4096 32 := shapeCast S32x4096 main_v9 shapeCasts_S32x1x4096_S32x4096
  let main_c_1 : IVec S_ 32 := constantI S_ 32 65536#32
  let main_v11 : IVec S32x4096 32 := broadcastInDim S32x4096 ![] bcast_S_S32x4096 main_c_1
  let main_v12 : IVec S32x4096 32 := muli main_v11 main_v10
  let main_v13 : IVec S32x4096 32 := addi main_v8 main_v12
  let main_v14 : IVec S32x1x4096 32 := (extractStridedSlice S32x1x4096 ![0, 3, 0] · slices_S32x4x4096_S32x1x4096_0_3_0) main_v1
  let main_v15 : IVec S32x4096 32 := shapeCast S32x4096 main_v14 shapeCasts_S32x1x4096_S32x4096
  let main_c_2 : IVec S_ 32 := constantI S_ 32 16777216#32
  let main_v16 : IVec S32x4096 32 := broadcastInDim S32x4096 ![] bcast_S_S32x4096 main_c_2
  let main_v17 : IVec S32x4096 32 := muli main_v16 main_v15
  let main_v18 : IVec S32x4096 32 := addi main_v13 main_v17
  let main_v19 : IVec S32x4x4096 32 := fn_sort (F := F) main_arg1
  fn_part1 (F := F) main_arg1 main_arg3 main_v18 main_v19
-- ==== Pre_places.lean ====
abbrev S32x4096x64 : Shape := ⟨3, ![32, 4096, 64]⟩
abbrev S32x4x4096x1 : Shape := ⟨4, ![32, 4, 4096, 1]⟩
abbrev S32x4096x1 : Shape := ⟨3, ![32, 4096, 1]⟩
abbrev S32x4x4096 : Shape := ⟨3, ![32, 4, 4096]⟩
abbrev S128 : Shape := ⟨1, ![128]⟩
abbrev S32x4x1 : Shape := ⟨3, ![32, 4, 1]⟩
abbrev S_ : Shape := ⟨0, ![]⟩
abbrev S4096 : Shape := ⟨1, ![4096]⟩
abbrev S1x1x4096 : Shape := ⟨3, ![1, 1, 4096]⟩

class Facts : Prop where
  shapeCasts_S32x4x4096x1_S32x4x4096 : S32x4x4096x1.ShapeCasts S32x4x4096
  shapeCasts_S128_S32x4x1 : S128.ShapeCasts S32x4x1
  bcast_S_S32x4x1 : S_.BroadcastsInDim S32x4x1 (![] : Fin 0 → Fin S32x4x1.rank)
  bcast_S4096_S1x1x4096_2 : S4096.BroadcastsInDim S1x1x4096 (![2] : Fin 1 → Fin S1x1x4096.rank)
  bcast_S1x1x4096_S32x4x4096_0_1_2 : S1x1x4096.BroadcastsInDim S32x4x4096 (![0, 1, 2] : Fin 3 → Fin S32x4x4096.rank)
  bcast_S32x4x1_S32x4x4096_0_1_2 : S32x4x1.BroadcastsInDim S32x4x4096 (![0, 1, 2] : Fin 3 → Fin S32x4x4096.rank)
  reducesTo_S32x4x4096_S_d0_1_2 : S32x4x4096.ReducesTo [0, 1, 2] S_
  h_S_ : 0 < S_.numel

variable [Facts]

def comparator_i32_d2 : BitVec 32 → BitVec 32 → BitVec 1 :=
  fun l r =>
    let v1 := IntOp.cmpi .slt l r
    v1
def fn_sort {F : FTy → Type} [FloatOps F] (arg0 : IVec S32x4x4096 32) : IVec S32x4x4096 32 :=
  let v0 : IVec S32x4x4096 32 := (fun x => Host.sort S32x4x4096 2 comparator_i32_d2 x) arg0
  v0

def fn {F : FTy → Type} [FloatOps F] (main_arg0 : FVec F S32x4096x64 .f32) (main_arg1 : FVec F S32x4096x64 .f32) (main_arg2 : IVec S32x4x4096x1 32) (main_arg3 : IVec S32x4x4096x1 32) (main_arg4 : IVec S32x4096x1 32) : IVec S_ 1 :=
  let main_v0 : IVec S32x4x4096 32 := shapeCast S32x4x4096 main_arg2 shapeCasts_S32x4x4096x1_S32x4x4096
  let main_v1 : IVec S128 32 := iotaInDim S128 32 0
  let main_v2 : IVec S32x4x1 32 := shapeCast S32x4x1 main_v1 shapeCasts_S128_S32x4x1
  let main_c : IVec S_ 32 := constantI S_ 32 4096#32
  let main_v3 : IVec S32x4x1 32 := broadcastInDim S32x4x1 ![] bcast_S_S32x4x1 main_c
  let main_v4 : IVec S32x4x1 32 := muli main_v3 main_v2
  let main_v5 : IVec S32x4x4096 32 := fn_sort (F := F) main_v0
  let main_v6 : IVec S4096 32 := iotaInDim S4096 32 0
  let main_v7 : IVec S1x1x4096 32 := broadcastInDim S1x1x4096 ![2] bcast_S4096_S1x1x4096_2 main_v6
  let main_v8 : IVec S32x4x4096 32 := broadcastInDim S32x4x4096 ![0, 1, 2] bcast_S1x1x4096_S32x4x4096_0_1_2 main_v7
  let main_v9 : IVec S32x4x4096 1 := cmpi .eq main_v5 main_v8
  let main_v10 : IVec S32x4x4096 32 := shapeCast S32x4x4096 main_arg3 shapeCasts_S32x4x4096x1_S32x4x4096
  let main_v11 : IVec S32x4x4096 32 := broadcastInDim S32x4x4096 ![0, 1, 2] bcast_S32x4x1_S32x4x4096_0_1_2 main_v4
  let main_v12 : IVec S32x4x4096 32 := addi main_v0 main_v11
  let main_v13 : IVec S32x4x4096 1 := cmpi .eq main_v10 main_v12
  let main_v14 : IVec S32x4x4096 1 := andi main_v9 main_v13
  let main_c_0 : IVec S_ 1 := constantI S_ 1 1#1
  let main_v15 : IVec S_ 1 := (fun x v => Host.reduce IntOp.andi x v reducesTo_S32x4x4096_S_d0_1_2 h_S_) main_v14 main_c_0
  main_v15
-- ==== Kernel.lean ====
abbrev S32x4x4096x128 : Shape := ⟨4, ![32, 4, 4096, 128]⟩
abbrev S32x4x4096x1 : Shape := ⟨4, ![32, 4, 4096, 1]⟩
abbrev S524288x128 : Shape := ⟨2, ![524288, 128]⟩
abbrev S32x4x32x128 : Shape := ⟨4, ![32, 4, 32, 128]⟩
abbrev S4x128 : Shape := ⟨2, ![4, 128]⟩
abbrev S512x128 : Shape := ⟨2, ![512, 128]⟩
abbrev S_ : Shape := ⟨0, ![]⟩
abbrev S1x1x4x128 : Shape := ⟨4, ![1, 1, 4, 128]⟩
abbrev S128x128 : Shape := ⟨2, ![128, 128]⟩
abbrev S1x128 : Shape := ⟨2, ![1, 128]⟩
abbrev S128 : Shape := ⟨1, ![128]⟩
abbrev S1x1x512x128 : Shape := ⟨4, ![1, 1, 512, 128]⟩
abbrev S32x4096x64 : Shape := ⟨3, ![32, 4096, 64]⟩
abbrev S1x4x4096x128 : Shape := ⟨4, ![1, 4, 4096, 128]⟩
abbrev S1x4096x64 : Shape := ⟨3, ![1, 4096, 64]⟩
abbrev S4x4096x128 : Shape := ⟨3, ![4, 4096, 128]⟩
abbrev S1x4096x1 : Shape := ⟨3, ![1, 4096, 1]⟩
abbrev S4096x1 : Shape := ⟨2, ![4096, 1]⟩
abbrev S1 : Shape := ⟨1, ![1]⟩
abbrev S1x1x1 : Shape := ⟨3, ![1, 1, 1]⟩
abbrev S4096x64 : Shape := ⟨2, ![4096, 64]⟩

abbrev nBuf : Table → Nat
  | .hbm => 6
  | .local .tc .vmem => 4
  | .local .scVector .vmem => 2
  | _ => 0

abbrev bufTy : (tb : Table) → Fin (nBuf tb) → BufTy
  | .hbm, ⟨0, _⟩ => ⟨S32x4x4096x128, .f32⟩
  | .hbm, ⟨1, _⟩ => ⟨S32x4x4096x1, .i32⟩
  | .hbm, ⟨2, _⟩ => ⟨S524288x128, .f32⟩
  | .hbm, ⟨3, _⟩ => ⟨S32x4x32x128, .i32⟩
  | .hbm, ⟨4, _⟩ => ⟨S32x4x4096x128, .f32⟩
  | .hbm, ⟨5, _⟩ => ⟨S32x4096x64, .f32⟩
  | .local .tc .vmem, ⟨0, _⟩ => ⟨S1x4x4096x128, .f32⟩
  | .local .tc .vmem, ⟨1, _⟩ => ⟨S1x4x4096x128, .f32⟩
  | .local .tc .vmem, ⟨2, _⟩ => ⟨S1x4096x64, .f32⟩
  | .local .tc .vmem, ⟨3, _⟩ => ⟨S1x4096x64, .f32⟩
  | .local .scVector .vmem, ⟨0, _⟩ => ⟨S4x128, .i32⟩
  | .local .scVector .vmem, ⟨1, _⟩ => ⟨S512x128, .f32⟩
  | _, _ => ⟨S32x4x4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 69 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => true
  | ⟨66, _⟩ => true
  | ⟨67, _⟩ => true
  | ⟨68, _⟩ => true
  | _ => false

abbrev sig : RefSig :=
  ofTables nBuf rfl bufTy 4 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 65
abbrev cc1_sem0_1 : DmaSem sig := 66
abbrev cc1_sem1_0 : DmaSem sig := 67
abbrev cc1_sem1_1 : DmaSem sig := 68
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_1594_r0 : BitVec 32 := 0#32
  let c0_i32_1595_r0 : BitVec 32 := 0#32
  ![v1.toNat, 0, 0, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_43 : BitVec 32 := 0#32
  let c0_i32_1594_r1 : BitVec 32 := 0#32
  let c0_i32_1595_r1 : BitVec 32 := 0#32
  ![v1.toNat, 0, 0, 0]
def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_44 : BitVec 32 := 0#32
  let c4_i32_r2 : BitVec 32 := 4#32
  let c0_i32_1594_r2 : BitVec 32 := 0#32
  ![v1.toNat, 0, 4, 0]
def k0_off4 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_93 : BitVec 32 := 0#32
  let c512_i32_r3 : BitVec 32 := 512#32
  let c0_i32_1594_r3 : BitVec 32 := 0#32
  ![v1.toNat, 0, 512, 0]
def k0_off5 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_94 : BitVec 32 := 0#32
  let c8_i32_r4 : BitVec 32 := 8#32
  let c0_i32_1594_r4 : BitVec 32 := 0#32
  ![v1.toNat, 0, 8, 0]
def k0_off6 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_143 : BitVec 32 := 0#32
  let c1024_i32_r5 : BitVec 32 := 1024#32
  let c0_i32_1594_r5 : BitVec 32 := 0#32
  ![v1.toNat, 0, 1024, 0]
def k0_off7 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_144 : BitVec 32 := 0#32
  let c12_i32_r6 : BitVec 32 := 12#32
  let c0_i32_1594_r6 : BitVec 32 := 0#32
  ![v1.toNat, 0, 12, 0]
def k0_off8 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_193 : BitVec 32 := 0#32
  let c1536_i32_r7 : BitVec 32 := 1536#32
  let c0_i32_1594_r7 : BitVec 32 := 0#32
  ![v1.toNat, 0, 1536, 0]
def k0_off9 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_194 : BitVec 32 := 0#32
  let c16_i32_r8 : BitVec 32 := 16#32
  let c0_i32_1594_r8 : BitVec 32 := 0#32
  ![v1.toNat, 0, 16, 0]
def k0_off10 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_243 : BitVec 32 := 0#32
  let c2048_i32_r9 : BitVec 32 := 2048#32
  let c0_i32_1594_r9 : BitVec 32 := 0#32
  ![v1.toNat, 0, 2048, 0]
def k0_off11 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_244 : BitVec 32 := 0#32
  let c20_i32_r10 : BitVec 32 := 20#32
  let c0_i32_1594_r10 : BitVec 32 := 0#32
  ![v1.toNat, 0, 20, 0]
def k0_off12 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_293 : BitVec 32 := 0#32
  let c2560_i32_r11 : BitVec 32 := 2560#32
  let c0_i32_1594_r11 : BitVec 32 := 0#32
  ![v1.toNat, 0, 2560, 0]
def k0_off13 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_294 : BitVec 32 := 0#32
  let c24_i32_r12 : BitVec 32 := 24#32
  let c0_i32_1594_r12 : BitVec 32 := 0#32
  ![v1.toNat, 0, 24, 0]
def k0_off14 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_343 : BitVec 32 := 0#32
  let c3072_i32_r13 : BitVec 32 := 3072#32
  let c0_i32_1594_r13 : BitVec 32 := 0#32
  ![v1.toNat, 0, 3072, 0]
def k0_off15 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_344 : BitVec 32 := 0#32
  let c28_i32_r14 : BitVec 32 := 28#32
  let c0_i32_1594_r14 : BitVec 32 := 0#32
  ![v1.toNat, 0, 28, 0]
def k0_off16 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_393 : BitVec 32 := 0#32
  let c3584_i32_r15 : BitVec 32 := 3584#32
  let c0_i32_1594_r15 : BitVec 32 := 0#32
  ![v1.toNat, 0, 3584, 0]
def k0_off17 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_394 : BitVec 32 := 1#32
  let c0_i32_1594_r16 : BitVec 32 := 0#32
  let c0_i32_1595_r16 : BitVec 32 := 0#32
  ![v1.toNat, 1, 0, 0]
def k0_off18 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_443 : BitVec 32 := 1#32
  let c0_i32_1594_r17 : BitVec 32 := 0#32
  let c0_i32_1595_r17 : BitVec 32 := 0#32
  ![v1.toNat, 1, 0, 0]
def k0_off19 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_444 : BitVec 32 := 1#32
  let c4_i32_r18 : BitVec 32 := 4#32
  let c0_i32_1594_r18 : BitVec 32 := 0#32
  ![v1.toNat, 1, 4, 0]
def k0_off20 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_493 : BitVec 32 := 1#32
  let c512_i32_r19 : BitVec 32 := 512#32
  let c0_i32_1594_r19 : BitVec 32 := 0#32
  ![v1.toNat, 1, 512, 0]
def k0_off21 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_494 : BitVec 32 := 1#32
  let c8_i32_r20 : BitVec 32 := 8#32
  let c0_i32_1594_r20 : BitVec 32 := 0#32
  ![v1.toNat, 1, 8, 0]
def k0_off22 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_543 : BitVec 32 := 1#32
  let c1024_i32_r21 : BitVec 32 := 1024#32
  let c0_i32_1594_r21 : BitVec 32 := 0#32
  ![v1.toNat, 1, 1024, 0]
def k0_off23 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_544 : BitVec 32 := 1#32
  let c12_i32_r22 : BitVec 32 := 12#32
  let c0_i32_1594_r22 : BitVec 32 := 0#32
  ![v1.toNat, 1, 12, 0]
def k0_off24 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_593 : BitVec 32 := 1#32
  let c1536_i32_r23 : BitVec 32 := 1536#32
  let c0_i32_1594_r23 : BitVec 32 := 0#32
  ![v1.toNat, 1, 1536, 0]
def k0_off25 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_594 : BitVec 32 := 1#32
  let c16_i32_r24 : BitVec 32 := 16#32
  let c0_i32_1594_r24 : BitVec 32 := 0#32
  ![v1.toNat, 1, 16, 0]
def k0_off26 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_643 : BitVec 32 := 1#32
  let c2048_i32_r25 : BitVec 32 := 2048#32
  let c0_i32_1594_r25 : BitVec 32 := 0#32
  ![v1.toNat, 1, 2048, 0]
def k0_off27 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_644 : BitVec 32 := 1#32
  let c20_i32_r26 : BitVec 32 := 20#32
  let c0_i32_1594_r26 : BitVec 32 := 0#32
  ![v1.toNat, 1, 20, 0]
def k0_off28 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_693 : BitVec 32 := 1#32
  let c2560_i32_r27 : BitVec 32 := 2560#32
  let c0_i32_1594_r27 : BitVec 32 := 0#32
  ![v1.toNat, 1, 2560, 0]
def k0_off29 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_694 : BitVec 32 := 1#32
  let c24_i32_r28 : BitVec 32 := 24#32
  let c0_i32_1594_r28 : BitVec 32 := 0#32
  ![v1.toNat, 1, 24, 0]
def k0_off30 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_743 : BitVec 32 := 1#32
  let c3072_i32_r29 : BitVec 32 := 3072#32
  let c0_i32_1594_r29 : BitVec 32 := 0#32
  ![v1.toNat, 1, 3072, 0]
def k0_off31 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_744 : BitVec 32 := 1#32
  let c28_i32_r30 : BitVec 32 := 28#32
  let c0_i32_1594_r30 : BitVec 32 := 0#32
  ![v1.toNat, 1, 28, 0]
def k0_off32 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_793 : BitVec 32 := 1#32
  let c3584_i32_r31 : BitVec 32 := 3584#32
  let c0_i32_1594_r31 : BitVec 32 := 0#32
  ![v1.toNat, 1, 3584, 0]
def k0_off33 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_794 : BitVec 32 := 2#32
  let c0_i32_1594_r32 : BitVec 32 := 0#32
  let c0_i32_1595_r32 : BitVec 32 := 0#32
  ![v1.toNat, 2, 0, 0]
def k0_off34 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_843 : BitVec 32 := 2#32
  let c0_i32_1594_r33 : BitVec 32 := 0#32
  let c0_i32_1595_r33 : BitVec 32 := 0#32
  ![v1.toNat, 2, 0, 0]
def k0_off35 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_844 : BitVec 32 := 2#32
  let c4_i32_r34 : BitVec 32 := 4#32
  let c0_i32_1594_r34 : BitVec 32 := 0#32
  ![v1.toNat, 2, 4, 0]
def k0_off36 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_893 : BitVec 32 := 2#32
  let c512_i32_r35 : BitVec 32 := 512#32
  let c0_i32_1594_r35 : BitVec 32 := 0#32
  ![v1.toNat, 2, 512, 0]
def k0_off37 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_894 : BitVec 32 := 2#32
  let c8_i32_r36 : BitVec 32 := 8#32
  let c0_i32_1594_r36 : BitVec 32 := 0#32
  ![v1.toNat, 2, 8, 0]
def k0_off38 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_943 : BitVec 32 := 2#32
  let c1024_i32_r37 : BitVec 32 := 1024#32
  let c0_i32_1594_r37 : BitVec 32 := 0#32
  ![v1.toNat, 2, 1024, 0]
def k0_off39 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_944 : BitVec 32 := 2#32
  let c12_i32_r38 : BitVec 32 := 12#32
  let c0_i32_1594_r38 : BitVec 32 := 0#32
  ![v1.toNat, 2, 12, 0]
def k0_off40 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_993 : BitVec 32 := 2#32
  let c1536_i32_r39 : BitVec 32 := 1536#32
  let c0_i32_1594_r39 : BitVec 32 := 0#32
  ![v1.toNat, 2, 1536, 0]
def k0_off41 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_994 : BitVec 32 := 2#32
  let c16_i32_r40 : BitVec 32 := 16#32
  let c0_i32_1594_r40 : BitVec 32 := 0#32
  ![v1.toNat, 2, 16, 0]
def k0_off42 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1043 : BitVec 32 := 2#32
  let c2048_i32_r41 : BitVec 32 := 2048#32
  let c0_i32_1594_r41 : BitVec 32 := 0#32
  ![v1.toNat, 2, 2048, 0]
def k0_off43 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1044 : BitVec 32 := 2#32
  let c20_i32_r42 : BitVec 32 := 20#32
  let c0_i32_1594_r42 : BitVec 32 := 0#32
  ![v1.toNat, 2, 20, 0]
def k0_off44 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1093 : BitVec 32 := 2#32
  let c2560_i32_r43 : BitVec 32 := 2560#32
  let c0_i32_1594_r43 : BitVec 32 := 0#32
  ![v1.toNat, 2, 2560, 0]
def k0_off45 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1094 : BitVec 32 := 2#32
  let c24_i32_r44 : BitVec 32 := 24#32
  let c0_i32_1594_r44 : BitVec 32 := 0#32
  ![v1.toNat, 2, 24, 0]
def k0_off46 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1143 : BitVec 32 := 2#32
  let c3072_i32_r45 : BitVec 32 := 3072#32
  let c0_i32_1594_r45 : BitVec 32 := 0#32
  ![v1.toNat, 2, 3072, 0]
def k0_off47 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1144 : BitVec 32 := 2#32
  let c28_i32_r46 : BitVec 32 := 28#32
  let c0_i32_1594_r46 : BitVec 32 := 0#32
  ![v1.toNat, 2, 28, 0]
def k0_off48 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1193 : BitVec 32 := 2#32
  let c3584_i32_r47 : BitVec 32 := 3584#32
  let c0_i32_1594_r47 : BitVec 32 := 0#32
  ![v1.toNat, 2, 3584, 0]
def k0_off49 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1194 : BitVec 32 := 3#32
  let c0_i32_1594_r48 : BitVec 32 := 0#32
  let c0_i32_1595_r48 : BitVec 32 := 0#32
  ![v1.toNat, 3, 0, 0]
def k0_off50 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1243 : BitVec 32 := 3#32
  let c0_i32_1594_r49 : BitVec 32 := 0#32
  let c0_i32_1595_r49 : BitVec 32 := 0#32
  ![v1.toNat, 3, 0, 0]
def k0_off51 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1244 : BitVec 32 := 3#32
  let c4_i32_r50 : BitVec 32 := 4#32
  let c0_i32_1594_r50 : BitVec 32 := 0#32
  ![v1.toNat, 3, 4, 0]
def k0_off52 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1293 : BitVec 32 := 3#32
  let c512_i32_r51 : BitVec 32 := 512#32
  let c0_i32_1594_r51 : BitVec 32 := 0#32
  ![v1.toNat, 3, 512, 0]
def k0_off53 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1294 : BitVec 32 := 3#32
  let c8_i32_r52 : BitVec 32 := 8#32
  let c0_i32_1594_r52 : BitVec 32 := 0#32
  ![v1.toNat, 3, 8, 0]
def k0_off54 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1343 : BitVec 32 := 3#32
  let c1024_i32_r53 : BitVec 32 := 1024#32
  let c0_i32_1594_r53 : BitVec 32 := 0#32
  ![v1.toNat, 3, 1024, 0]
def k0_off55 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1344 : BitVec 32 := 3#32
  let c12_i32_r54 : BitVec 32 := 12#32
  let c0_i32_1594_r54 : BitVec 32 := 0#32
  ![v1.toNat, 3, 12, 0]
def k0_off56 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1393 : BitVec 32 := 3#32
  let c1536_i32_r55 : BitVec 32 := 1536#32
  let c0_i32_1594_r55 : BitVec 32 := 0#32
  ![v1.toNat, 3, 1536, 0]
def k0_off57 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1394 : BitVec 32 := 3#32
  let c16_i32_r56 : BitVec 32 := 16#32
  let c0_i32_1594_r56 : BitVec 32 := 0#32
  ![v1.toNat, 3, 16, 0]
def k0_off58 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1443 : BitVec 32 := 3#32
  let c2048_i32_r57 : BitVec 32 := 2048#32
  let c0_i32_1594_r57 : BitVec 32 := 0#32
  ![v1.toNat, 3, 2048, 0]
def k0_off59 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1444 : BitVec 32 := 3#32
  let c20_i32_r58 : BitVec 32 := 20#32
  let c0_i32_1594_r58 : BitVec 32 := 0#32
  ![v1.toNat, 3, 20, 0]
def k0_off60 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1493 : BitVec 32 := 3#32
  let c2560_i32_r59 : BitVec 32 := 2560#32
  let c0_i32_1594_r59 : BitVec 32 := 0#32
  ![v1.toNat, 3, 2560, 0]
def k0_off61 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1494 : BitVec 32 := 3#32
  let c24_i32_r60 : BitVec 32 := 24#32
  let c0_i32_1594_r60 : BitVec 32 := 0#32
  ![v1.toNat, 3, 24, 0]
def k0_off62 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1543 : BitVec 32 := 3#32
  let c3072_i32_r61 : BitVec 32 := 3072#32
  let c0_i32_1594_r61 : BitVec 32 := 0#32
  ![v1.toNat, 3, 3072, 0]
def k0_off63 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1544 : BitVec 32 := 3#32
  let c28_i32_r62 : BitVec 32 := 28#32
  let c0_i32_1594_r62 : BitVec 32 := 0#32
  ![v1.toNat, 3, 28, 0]
def k0_off64 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1593 : BitVec 32 := 3#32
  let c3584_i32_r63 : BitVec 32 := 3584#32
  let c0_i32_1594_r63 : BitVec 32 := 0#32
  ![v1.toNat, 3, 3584, 0]
abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x4x4096x128 : Shape := ⟨4, ![32, 4, 4096, 128]⟩
abbrev S32x4x4096x1 : Shape := ⟨4, ![32, 4, 4096, 1]⟩
abbrev S524288x128 : Shape := ⟨2, ![524288, 128]⟩
abbrev S32x4x4096 : Shape := ⟨3, ![32, 4, 4096]⟩
abbrev S_ : Shape := ⟨0, ![]⟩
abbrev S32x4 : Shape := ⟨2, ![32, 4]⟩
abbrev S32x4x1 : Shape := ⟨3, ![32, 4, 1]⟩
abbrev S32x4x4096x64 : Shape := ⟨4, ![32, 4, 4096, 64]⟩
abbrev S32x4096x64 : Shape := ⟨3, ![32, 4096, 64]⟩

abbrev nBuf : Space → Nat
  | .hbm => 35
  | .vmem => 0
  | .smem => 0
  | _ => 0

abbrev bufTy : (tb : Table) → Fin (tcTables nBuf tb) → BufTy
  | .hbm, ⟨0, _⟩ => ⟨S32x4x4096x128, .f32⟩
  | .hbm, ⟨1, _⟩ => ⟨S32x4x4096x1, .i32⟩
  | .hbm, ⟨2, _⟩ => ⟨S524288x128, .f32⟩
  | .hbm, ⟨3, _⟩ => ⟨S32x4x4096, .i32⟩
  | .hbm, ⟨4, _⟩ => ⟨S_, .i32⟩
  | .hbm, ⟨5, _⟩ => ⟨S32x4x4096, .i32⟩
  | .hbm, ⟨6, _⟩ => ⟨S32x4x4096, .i1⟩
  | .hbm, ⟨7, _⟩ => ⟨S_, .i32⟩
  | .hbm, ⟨8, _⟩ => ⟨S32x4x4096, .i32⟩
  | .hbm, ⟨9, _⟩ => ⟨S32x4x4096, .i32⟩
  | .hbm, ⟨10, _⟩ => ⟨S32x4x4096, .i32⟩
  | .hbm, ⟨11, _⟩ => ⟨S32x4x4096x1, .i32⟩
  | .hbm, ⟨12, _⟩ => ⟨S32x4x4096x128, .f32⟩
  | .hbm, ⟨13, _⟩ => ⟨S32x4x4096x1, .f32⟩
  | .hbm, ⟨14, _⟩ => ⟨S32x4x4096, .f32⟩
  | .hbm, ⟨15, _⟩ => ⟨S_, .f32⟩
  | .hbm, ⟨16, _⟩ => ⟨S32x4, .f32⟩
  | .hbm, ⟨17, _⟩ => ⟨S_, .f32⟩
  | .hbm, ⟨18, _⟩ => ⟨S32x4, .f32⟩
  | .hbm, ⟨19, _⟩ => ⟨S32x4, .f32⟩
  | .hbm, ⟨20, _⟩ => ⟨S32x4x1, .f32⟩
  | .hbm, ⟨21, _⟩ => ⟨S32x4x4096, .f32⟩
  | .hbm, ⟨22, _⟩ => ⟨S32x4x4096, .f32⟩
  | .hbm, ⟨23, _⟩ => ⟨S32x4x4096, .f32⟩
  | .hbm, ⟨24, _⟩ => ⟨S_, .f32⟩
  | .hbm, ⟨25, _⟩ => ⟨S32x4, .f32⟩
  | .hbm, ⟨26, _⟩ => ⟨S32x4x1, .f32⟩
  | .hbm, ⟨27, _⟩ => ⟨S32x4x4096, .f32⟩
  | .hbm, ⟨28, _⟩ => ⟨S32x4x4096, .f32⟩
  | .hbm, ⟨29, _⟩ => ⟨S32x4x4096x64, .f32⟩
  | .hbm, ⟨30, _⟩ => ⟨S32x4x4096x1, .f32⟩
  | .hbm, ⟨31, _⟩ => ⟨S32x4x4096x64, .f32⟩
  | .hbm, ⟨32, _⟩ => ⟨S32x4x4096x64, .f32⟩
  | .hbm, ⟨33, _⟩ => ⟨S_, .f32⟩
  | .hbm, ⟨34, _⟩ => ⟨S32x4096x64, .f32⟩
  | _, _ => ⟨S32x4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Reorder.lean ====
abbrev S32x4096x64 : Shape := ⟨3, ![32, 4096, 64]⟩
abbrev S32x4x4096x1 : Shape := ⟨4, ![32, 4, 4096, 1]⟩
abbrev S32x4096x1 : Shape := ⟨3, ![32, 4096, 1]⟩
abbrev S32x4x4096 : Shape := ⟨3, ![32, 4, 4096]⟩
abbrev S32x4096 : Shape := ⟨2, ![32, 4096]⟩
abbrev S32x4096x128 : Shape := ⟨3, ![32, 4096, 128]⟩
abbrev S32x4x32x128 : Shape := ⟨4, ![32, 4, 32, 128]⟩
abbrev S524288x128 : Shape := ⟨2, ![524288, 128]⟩
abbrev S4096 : Shape := ⟨1, ![4096]⟩
abbrev S4x128 : Shape := ⟨2, ![4, 128]⟩
abbrev S512x128 : Shape := ⟨2, ![512, 128]⟩
abbrev S_ : Shape := ⟨0, ![]⟩
abbrev S1x4096 : Shape := ⟨2, ![1, 4096]⟩
abbrev S1x1x4096 : Shape := ⟨3, ![1, 1, 4096]⟩
abbrev S16 : Shape := ⟨1, ![16]⟩
abbrev S1x512x128 : Shape := ⟨3, ![1, 512, 128]⟩
abbrev S1x1x4x128 : Shape := ⟨4, ![1, 1, 4, 128]⟩
abbrev S128x128 : Shape := ⟨2, ![128, 128]⟩
abbrev S1x128 : Shape := ⟨2, ![1, 128]⟩
abbrev S128 : Shape := ⟨1, ![128]⟩
abbrev S32x4x4096x128 : Shape := ⟨4, ![32, 4, 4096, 128]⟩

abbrev nBuf : Table → Nat
  | .hbm => 13
  | .local .scVector .vmem => 6
  | _ => 0

abbrev bufTy : (tb : Table) → Fin (nBuf tb) → BufTy
  | .hbm, ⟨0, _⟩ => ⟨S32x4096x64, .f32⟩
  | .hbm, ⟨1, _⟩ => ⟨S32x4096x64, .f32⟩
  | .hbm, ⟨2, _⟩ => ⟨S32x4x4096x1, .i32⟩
  | .hbm, ⟨3, _⟩ => ⟨S32x4x4096x1, .i32⟩
  | .hbm, ⟨4, _⟩ => ⟨S32x4096x1, .i32⟩
  | .hbm, ⟨5, _⟩ => ⟨S32x4x4096, .i32⟩
  | .hbm, ⟨6, _⟩ => ⟨S32x4096, .i32⟩
  | .hbm, ⟨7, _⟩ => ⟨S32x4096x128, .f32⟩
  | .hbm, ⟨8, _⟩ => ⟨S32x4x32x128, .i32⟩
  | .hbm, ⟨9, _⟩ => ⟨S524288x128, .f32⟩
  | .hbm, ⟨10, _⟩ => ⟨S32x4x4096, .i32⟩
  | .hbm, ⟨11, _⟩ => ⟨S32x4x4096, .i32⟩
  | .hbm, ⟨12, _⟩ => ⟨S32x4x4096x128, .f32⟩
  | .local .scVector .vmem, ⟨0, _⟩ => ⟨S4096, .i32⟩
  | .local .scVector .vmem, ⟨1, _⟩ => ⟨S4x128, .i32⟩
  | .local .scVector .vmem, ⟨2, _⟩ => ⟨S512x128, .f32⟩
  | .local .scVector .vmem, ⟨3, _⟩ => ⟨S4096, .i32⟩
  | .local .scVector .vmem, ⟨4, _⟩ => ⟨S4096, .i32⟩
  | .local .scVector .vmem, ⟨5, _⟩ => ⟨S4096, .i32⟩
  | _, _ => ⟨S32x4096x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 54 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | _ => false

abbrev sig : RefSig :=
  ofTables nBuf rfl bufTy 4 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v2_scv : Ref sig .scVector := ⟨.hbm, 7, rfl⟩
abbrev main_v0_scv : Ref sig .scVector := ⟨.hbm, 5, rfl⟩
abbrev main_v3_scv : Ref sig .scVector := ⟨.hbm, 8, rfl⟩
abbrev main_v1_scv : Ref sig .scVector := ⟨.hbm, 6, rfl⟩
abbrev main_v4_0_scv : Ref sig .scVector := ⟨.hbm, 9, rfl⟩
abbrev main_v4_1_scv : Ref sig .scVector := ⟨.hbm, 10, rfl⟩
abbrev main_v4_2_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1594_r0 : BitVec 32 := 0#32
  ![v1.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_1594_r1 : BitVec 32 := 0#32
  ![v1.toNat, 0, 0]
@[reducible] def k0_t1_loop : Scf.Loop 32 :=
  let c0_i32_1 : BitVec 32 := 0#32
  let c256_i32 : BitVec 32 := 256#32
  let v2 : BitVec 32 := Scalar.addi c0_i32_1 c256_i32
  let c1_i32 : BitVec 32 := 1#32
  ⟨c0_i32_1, v2, c1_i32⟩
def k0_off3 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c16_i32 : BitVec 32 := 16#32
  let v1030 : BitVec 32 := Scalar.muli arg16 c16_i32
  let v1031 : Index := Scalar.indexCast v1030
  ![v1031.toNat]
def k0_off4 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c16_i32 : BitVec 32 := 16#32
  let v1030 : BitVec 32 := Scalar.muli arg16 c16_i32
  let v1037 : Index := Scalar.indexCast v1030
  ![v1037.toNat]

def k0_chk1 (v1032 : IVec S16 32) : Prop :=
  (∀ a x, ((![v1032] : Fin 1 → IVec S16 32) a x).toNat < S4096.size a) ∧
  (∀ a x, ((![v1032] : Fin 1 → IVec S16 32) a x).toNat < S4096.size a)
theorem k0_idx1_inb : ∀ (v1032 : IVec S16 32) (k0_hw1 : k0_chk1 v1032), ∀ a x, ((![v1032] : Fin 1 → IVec S16 32) a x).toNat < S4096.size a := fun v1032 k0_hw1 => k0_hw1.1
theorem k0_idx2_inb : ∀ (v1032 : IVec S16 32) (k0_hw1 : k0_chk1 v1032), ∀ a x, ((![v1032] : Fin 1 → IVec S16 32) a x).toNat < S4096.size a := fun v1032 k0_hw1 => k0_hw1.2
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_5 : BitVec 32 := 1#32
  let c0_i32_1594_r4 : BitVec 32 := 0#32
  ![v1.toNat, 1, 0]
@[reducible] def k0_t2_loop : Scf.Loop 32 :=
  let c0_i32_7 : BitVec 32 := 0#32
  let c256_i32_8 : BitVec 32 := 256#32
  let v3 : BitVec 32 := Scalar.addi c0_i32_7 c256_i32_8
  let c1_i32_9 : BitVec 32 := 1#32
  ⟨c0_i32_7, v3, c1_i32_9⟩
def k0_off6 (k0_t2 : Fin k0_t2_loop.trips) : Fin 1 → Nat :=
  let c0_i32_7 : BitVec 32 := 0#32
  let c1_i32_9 : BitVec 32 := 1#32
  let arg16 : BitVec 32 := Scf.iv c0_i32_7 c1_i32_9 k0_t2
  let c16_i32 : BitVec 32 := 16#32
  let v1030 : BitVec 32 := Scalar.muli arg16 c16_i32
  let v1031 : Index := Scalar.indexCast v1030
  ![v1031.toNat]
def k0_off7 (k0_t2 : Fin k0_t2_loop.trips) : Fin 1 → Nat :=
  let c0_i32_7 : BitVec 32 := 0#32
  let c1_i32_9 : BitVec 32 := 1#32
  let arg16 : BitVec 32 := Scf.iv c0_i32_7 c1_i32_9 k0_t2
  let c16_i32 : BitVec 32 := 16#32
  let v1030 : BitVec 32 := Scalar.muli arg16 c16_i32
  let v1037 : Index := Scalar.indexCast v1030
  ![v1037.toNat]

def k0_chk2 (v1032 : IVec S16 32) : Prop :=
  (∀ a x, ((![v1032] : Fin 1 → IVec S16 32) a x).toNat < S4096.size a) ∧
  (∀ a x, ((![v1032] : Fin 1 → IVec S16 32) a x).toNat < S4096.size a)
theorem k0_idx3_inb : ∀ (v1032 : IVec S16 32) (k0_hw2 : k0_chk2 v1032), ∀ a x, ((![v1032] : Fin 1 → IVec S16 32) a x).toNat < S4096.size a := fun v1032 k0_hw2 => k0_hw2.1
theorem k0_idx4_inb : ∀ (v1032 : IVec S16 32) (k0_hw2 : k0_chk2 v1032), ∀ a x, ((![v1032] : Fin 1 → IVec S16 32) a x).toNat < S4096.size a := fun v1032 k0_hw2 => k0_hw2.2
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_13 : BitVec 32 := 2#32
  let c0_i32_1594_r7 : BitVec 32 := 0#32
  ![v1.toNat, 2, 0]
@[reducible] def k0_t3_loop : Scf.Loop 32 :=
  let c0_i32_15 : BitVec 32 := 0#32
  let c256_i32_16 : BitVec 32 := 256#32
  let v4 : BitVec 32 := Scalar.addi c0_i32_15 c256_i32_16
  let c1_i32_17 : BitVec 32 := 1#32
  ⟨c0_i32_15, v4, c1_i32_17⟩
def k0_off9 (k0_t3 : Fin k0_t3_loop.trips) : Fin 1 → Nat :=
  let c0_i32_15 : BitVec 32 := 0#32
  let c1_i32_17 : BitVec 32 := 1#32
  let arg16 : BitVec 32 := Scf.iv c0_i32_15 c1_i32_17 k0_t3
  let c16_i32 : BitVec 32 := 16#32
  let v1030 : BitVec 32 := Scalar.muli arg16 c16_i32
  let v1031 : Index := Scalar.indexCast v1030
  ![v1031.toNat]
def k0_off10 (k0_t3 : Fin k0_t3_loop.trips) : Fin 1 → Nat :=
  let c0_i32_15 : BitVec 32 := 0#32
  let c1_i32_17 : BitVec 32 := 1#32
  let arg16 : BitVec 32 := Scf.iv c0_i32_15 c1_i32_17 k0_t3
  let c16_i32 : BitVec 32 := 16#32
  let v1030 : BitVec 32 := Scalar.muli arg16 c16_i32
  let v1037 : Index := Scalar.indexCast v1030
  ![v1037.toNat]

def k0_chk3 (v1032 : IVec S16 32) : Prop :=
  (∀ a x, ((![v1032] : Fin 1 → IVec S16 32) a x).toNat < S4096.size a) ∧
  (∀ a x, ((![v1032] : Fin 1 → IVec S16 32) a x).toNat < S4096.size a)
theorem k0_idx5_inb : ∀ (v1032 : IVec S16 32) (k0_hw3 : k0_chk3 v1032), ∀ a x, ((![v1032] : Fin 1 → IVec S16 32) a x).toNat < S4096.size a := fun v1032 k0_hw3 => k0_hw3.1
theorem k0_idx6_inb : ∀ (v1032 : IVec S16 32) (k0_hw3 : k0_chk3 v1032), ∀ a x, ((![v1032] : Fin 1 → IVec S16 32) a x).toNat < S4096.size a := fun v1032 k0_hw3 => k0_hw3.2
def k0_off11 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let c0_i32_1594_r10 : BitVec 32 := 0#32
  ![v1.toNat, 3, 0]
@[reducible] def k0_t4_loop : Scf.Loop 32 :=
  let c0_i32_22 : BitVec 32 := 0#32
  let c256_i32_23 : BitVec 32 := 256#32
  let v5 : BitVec 32 := Scalar.addi c0_i32_22 c256_i32_23
  let c1_i32_24 : BitVec 32 := 1#32
  ⟨c0_i32_22, v5, c1_i32_24⟩
def k0_off12 (k0_t4 : Fin k0_t4_loop.trips) : Fin 1 → Nat :=
  let c0_i32_22 : BitVec 32 := 0#32
  let c1_i32_24 : BitVec 32 := 1#32
  let arg16 : BitVec 32 := Scf.iv c0_i32_22 c1_i32_24 k0_t4
  let c16_i32 : BitVec 32 := 16#32
  let v1030 : BitVec 32 := Scalar.muli arg16 c16_i32
  let v1031 : Index := Scalar.indexCast v1030
  ![v1031.toNat]
def k0_off13 (k0_t4 : Fin k0_t4_loop.trips) : Fin 1 → Nat :=
  let c0_i32_22 : BitVec 32 := 0#32
  let c1_i32_24 : BitVec 32 := 1#32
  let arg16 : BitVec 32 := Scf.iv c0_i32_22 c1_i32_24 k0_t4
  let c16_i32 : BitVec 32 := 16#32
  let v1030 : BitVec 32 := Scalar.muli arg16 c16_i32
  let v1037 : Index := Scalar.indexCast v1030
  ![v1037.toNat]

def k0_chk4 (v1032 : IVec S16 32) : Prop :=
  (∀ a x, ((![v1032] : Fin 1 → IVec S16 32) a x).toNat < S4096.size a) ∧
  (∀ a x, ((![v1032] : Fin 1 → IVec S16 32) a x).toNat < S4096.size a)
theorem k0_idx7_inb : ∀ (v1032 : IVec S16 32) (k0_hw4 : k0_chk4 v1032), ∀ a x, ((![v1032] : Fin 1 → IVec S16 32) a x).toNat < S4096.size a := fun v1032 k0_hw4 => k0_hw4.1
theorem k0_idx8_inb : ∀ (v1032 : IVec S16 32) (k0_hw4 : k0_chk4 v1032), ∀ a x, ((![v1032] : Fin 1 → IVec S16 32) a x).toNat < S4096.size a := fun v1032 k0_hw4 => k0_hw4.2
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1594_r13 : BitVec 32 := 0#32
  let c0_i32_1595_r13 : BitVec 32 := 0#32
  ![v1.toNat, 0, 0]
def k0_off15 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28 : BitVec 32 := 0#32
  let c0_i32_1594_r14 : BitVec 32 := 0#32
  let c0_i32_1595_r14 : BitVec 32 := 0#32
  ![v1.toNat, 0, 0, 0]
def k0_off16 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_75 : BitVec 32 := 1#32
  let c0_i32_1594_r15 : BitVec 32 := 0#32
  let c0_i32_1595_r15 : BitVec 32 := 0#32
  ![v1.toNat, 1, 0, 0]
def k0_off17 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_124 : BitVec 32 := 2#32
  let c0_i32_1594_r16 : BitVec 32 := 0#32
  let c0_i32_1595_r16 : BitVec 32 := 0#32
  ![v1.toNat, 2, 0, 0]
def k0_off18 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_173 : BitVec 32 := 3#32
  let c0_i32_1594_r17 : BitVec 32 := 0#32
  let c0_i32_1595_r17 : BitVec 32 := 0#32
  ![v1.toNat, 3, 0, 0]
def k0_off19 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_r18 : BitVec 32 := 512#32
  let c0_i32_1594_r18 : BitVec 32 := 0#32
  ![v1.toNat, 512, 0]
def k0_off20 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_222 : BitVec 32 := 0#32
  let c4_i32_r19 : BitVec 32 := 4#32
  let c0_i32_1594_r19 : BitVec 32 := 0#32
  ![v1.toNat, 0, 4, 0]
def k0_off21 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_271 : BitVec 32 := 1#32
  let c4_i32_r20 : BitVec 32 := 4#32
  let c0_i32_1594_r20 : BitVec 32 := 0#32
  ![v1.toNat, 1, 4, 0]
def k0_off22 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_320 : BitVec 32 := 2#32
  let c4_i32_r21 : BitVec 32 := 4#32
  let c0_i32_1594_r21 : BitVec 32 := 0#32
  ![v1.toNat, 2, 4, 0]
def k0_off23 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_369 : BitVec 32 := 3#32
  let c4_i32_r22 : BitVec 32 := 4#32
  let c0_i32_1594_r22 : BitVec 32 := 0#32
  ![v1.toNat, 3, 4, 0]
def k0_off24 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_r23 : BitVec 32 := 1024#32
  let c0_i32_1594_r23 : BitVec 32 := 0#32
  ![v1.toNat, 1024, 0]
def k0_off25 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_418 : BitVec 32 := 0#32
  let c8_i32_r24 : BitVec 32 := 8#32
  let c0_i32_1594_r24 : BitVec 32 := 0#32
  ![v1.toNat, 0, 8, 0]
def k0_off26 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_467 : BitVec 32 := 1#32
  let c8_i32_r25 : BitVec 32 := 8#32
  let c0_i32_1594_r25 : BitVec 32 := 0#32
  ![v1.toNat, 1, 8, 0]
def k0_off27 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_516 : BitVec 32 := 2#32
  let c8_i32_r26 : BitVec 32 := 8#32
  let c0_i32_1594_r26 : BitVec 32 := 0#32
  ![v1.toNat, 2, 8, 0]
def k0_off28 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_565 : BitVec 32 := 3#32
  let c8_i32_r27 : BitVec 32 := 8#32
  let c0_i32_1594_r27 : BitVec 32 := 0#32
  ![v1.toNat, 3, 8, 0]
def k0_off29 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32_r28 : BitVec 32 := 1536#32
  let c0_i32_1594_r28 : BitVec 32 := 0#32
  ![v1.toNat, 1536, 0]
def k0_off30 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_614 : BitVec 32 := 0#32
  let c12_i32_r29 : BitVec 32 := 12#32
  let c0_i32_1594_r29 : BitVec 32 := 0#32
  ![v1.toNat, 0, 12, 0]
def k0_off31 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_663 : BitVec 32 := 1#32
  let c12_i32_r30 : BitVec 32 := 12#32
  let c0_i32_1594_r30 : BitVec 32 := 0#32
  ![v1.toNat, 1, 12, 0]
def k0_off32 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_712 : BitVec 32 := 2#32
  let c12_i32_r31 : BitVec 32 := 12#32
  let c0_i32_1594_r31 : BitVec 32 := 0#32
  ![v1.toNat, 2, 12, 0]
def k0_off33 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_761 : BitVec 32 := 3#32
  let c12_i32_r32 : BitVec 32 := 12#32
  let c0_i32_1594_r32 : BitVec 32 := 0#32
  ![v1.toNat, 3, 12, 0]
def k0_off34 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32_r33 : BitVec 32 := 2048#32
  let c0_i32_1594_r33 : BitVec 32 := 0#32
  ![v1.toNat, 2048, 0]
def k0_off35 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_810 : BitVec 32 := 0#32
  let c16_i32_r34 : BitVec 32 := 16#32
  let c0_i32_1594_r34 : BitVec 32 := 0#32
  ![v1.toNat, 0, 16, 0]
def k0_off36 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_859 : BitVec 32 := 1#32
  let c16_i32_r35 : BitVec 32 := 16#32
  let c0_i32_1594_r35 : BitVec 32 := 0#32
  ![v1.toNat, 1, 16, 0]
def k0_off37 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_908 : BitVec 32 := 2#32
  let c16_i32_r36 : BitVec 32 := 16#32
  let c0_i32_1594_r36 : BitVec 32 := 0#32
  ![v1.toNat, 2, 16, 0]
def k0_off38 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_957 : BitVec 32 := 3#32
  let c16_i32_r37 : BitVec 32 := 16#32
  let c0_i32_1594_r37 : BitVec 32 := 0#32
  ![v1.toNat, 3, 16, 0]
def k0_off39 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32_r38 : BitVec 32 := 2560#32
  let c0_i32_1594_r38 : BitVec 32 := 0#32
  ![v1.toNat, 2560, 0]
def k0_off40 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1006 : BitVec 32 := 0#32
  let c20_i32_r39 : BitVec 32 := 20#32
  let c0_i32_1594_r39 : BitVec 32 := 0#32
  ![v1.toNat, 0, 20, 0]
def k0_off41 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_1055 : BitVec 32 := 1#32
  let c20_i32_r40 : BitVec 32 := 20#32
  let c0_i32_1594_r40 : BitVec 32 := 0#32
  ![v1.toNat, 1, 20, 0]
def k0_off42 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1104 : BitVec 32 := 2#32
  let c20_i32_r41 : BitVec 32 := 20#32
  let c0_i32_1594_r41 : BitVec 32 := 0#32
  ![v1.toNat, 2, 20, 0]
def k0_off43 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1153 : BitVec 32 := 3#32
  let c20_i32_r42 : BitVec 32 := 20#32
  let c0_i32_1594_r42 : BitVec 32 := 0#32
  ![v1.toNat, 3, 20, 0]
def k0_off44 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32_r43 : BitVec 32 := 3072#32
  let c0_i32_1594_r43 : BitVec 32 := 0#32
  ![v1.toNat, 3072, 0]
def k0_off45 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1202 : BitVec 32 := 0#32
  let c24_i32_r44 : BitVec 32 := 24#32
  let c0_i32_1594_r44 : BitVec 32 := 0#32
  ![v1.toNat, 0, 24, 0]
def k0_off46 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_1251 : BitVec 32 := 1#32
  let c24_i32_r45 : BitVec 32 := 24#32
  let c0_i32_1594_r45 : BitVec 32 := 0#32
  ![v1.toNat, 1, 24, 0]
def k0_off47 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1300 : BitVec 32 := 2#32
  let c24_i32_r46 : BitVec 32 := 24#32
  let c0_i32_1594_r46 : BitVec 32 := 0#32
  ![v1.toNat, 2, 24, 0]
def k0_off48 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1349 : BitVec 32 := 3#32
  let c24_i32_r47 : BitVec 32 := 24#32
  let c0_i32_1594_r47 : BitVec 32 := 0#32
  ![v1.toNat, 3, 24, 0]
def k0_off49 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3584_i32_r48 : BitVec 32 := 3584#32
  let c0_i32_1594_r48 : BitVec 32 := 0#32
  ![v1.toNat, 3584, 0]
def k0_off50 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1398 : BitVec 32 := 0#32
  let c28_i32_r49 : BitVec 32 := 28#32
  let c0_i32_1594_r49 : BitVec 32 := 0#32
  ![v1.toNat, 0, 28, 0]
def k0_off51 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_1447 : BitVec 32 := 1#32
  let c28_i32_r50 : BitVec 32 := 28#32
  let c0_i32_1594_r50 : BitVec 32 := 0#32
  ![v1.toNat, 1, 28, 0]
def k0_off52 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1496 : BitVec 32 := 2#32
  let c28_i32_r51 : BitVec 32 := 28#32
  let c0_i32_1594_r51 : BitVec 32 := 0#32
  ![v1.toNat, 2, 28, 0]
def k0_off53 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1545 : BitVec 32 := 3#32
  let c28_i32_r52 : BitVec 32 := 28#32
  let c0_i32_1594_r52 : BitVec 32 := 0#32
  ![v1.toNat, 3, 28, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReorderReferenceIdeal.lean ====
abbrev S32x4096x64 : Shape := ⟨3, ![32, 4096, 64]⟩
abbrev S32x4x4096x1 : Shape := ⟨4, ![32, 4, 4096, 1]⟩
abbrev S32x4096x1 : Shape := ⟨3, ![32, 4096, 1]⟩
abbrev S32x4x4096 : Shape := ⟨3, ![32, 4, 4096]⟩
abbrev S_ : Shape := ⟨0, ![]⟩
abbrev S32x4x4096x64 : Shape := ⟨4, ![32, 4, 4096, 64]⟩
abbrev S32x4x4096x128 : Shape := ⟨4, ![32, 4, 4096, 128]⟩
abbrev S32x4096 : Shape := ⟨2, ![32, 4096]⟩

abbrev nBuf : Space → Nat
  | .hbm => 38
  | .vmem => 0
  | .smem => 0
  | _ => 0

abbrev bufTy : (tb : Table) → Fin (tcTables nBuf tb) → BufTy
  | .hbm, ⟨0, _⟩ => ⟨S32x4096x64, .f32⟩
  | .hbm, ⟨1, _⟩ => ⟨S32x4096x64, .f32⟩
  | .hbm, ⟨2, _⟩ => ⟨S32x4x4096x1, .i32⟩
  | .hbm, ⟨3, _⟩ => ⟨S32x4x4096x1, .i32⟩
  | .hbm, ⟨4, _⟩ => ⟨S32x4096x1, .i32⟩
  | .hbm, ⟨5, _⟩ => ⟨S32x4x4096, .i32⟩
  | .hbm, ⟨6, _⟩ => ⟨S32x4x4096, .i32⟩
  | .hbm, ⟨7, _⟩ => ⟨S32x4x4096, .i32⟩
  | .hbm, ⟨8, _⟩ => ⟨S32x4x4096, .i32⟩
  | .hbm, ⟨9, _⟩ => ⟨S_, .i32⟩
  | .hbm, ⟨10, _⟩ => ⟨S32x4x4096, .i32⟩
  | .hbm, ⟨11, _⟩ => ⟨S32x4x4096, .i1⟩
  | .hbm, ⟨12, _⟩ => ⟨S_, .i32⟩
  | .hbm, ⟨13, _⟩ => ⟨S32x4x4096, .i32⟩
  | .hbm, ⟨14, _⟩ => ⟨S32x4x4096, .i32⟩
  | .hbm, ⟨15, _⟩ => ⟨S32x4x4096, .i32⟩
  | .hbm, ⟨16, _⟩ => ⟨S32x4x4096x1, .i32⟩
  | .hbm, ⟨17, _⟩ => ⟨S32x4x4096x64, .f32⟩
  | .hbm, ⟨18, _⟩ => ⟨S_, .i32⟩
  | .hbm, ⟨19, _⟩ => ⟨S32x4x4096, .i32⟩
  | .hbm, ⟨20, _⟩ => ⟨S32x4x4096, .i1⟩
  | .hbm, ⟨21, _⟩ => ⟨S_, .i32⟩
  | .hbm, ⟨22, _⟩ => ⟨S32x4x4096, .i32⟩
  | .hbm, ⟨23, _⟩ => ⟨S32x4x4096, .i32⟩
  | .hbm, ⟨24, _⟩ => ⟨S32x4x4096, .i32⟩
  | .hbm, ⟨25, _⟩ => ⟨S32x4x4096x1, .i32⟩
  | .hbm, ⟨26, _⟩ => ⟨S32x4x4096x64, .f32⟩
  | .hbm, ⟨27, _⟩ => ⟨S32x4x4096x128, .f32⟩
  | .hbm, ⟨28, _⟩ => ⟨S32x4096, .i32⟩
  | .hbm, ⟨29, _⟩ => ⟨S_, .i32⟩
  | .hbm, ⟨30, _⟩ => ⟨S32x4x4096, .i32⟩
  | .hbm, ⟨31, _⟩ => ⟨S32x4x4096, .i1⟩
  | .hbm, ⟨32, _⟩ => ⟨S_, .i32⟩
  | .hbm, ⟨33, _⟩ => ⟨S32x4x4096, .i32⟩
  | .hbm, ⟨34, _⟩ => ⟨S32x4x4096, .i32⟩
  | .hbm, ⟨35, _⟩ => ⟨S32x4x4096, .i32⟩
  | .hbm, ⟨36, _⟩ => ⟨S32x4x4096x1, .i32⟩
  | .hbm, ⟨37, _⟩ => ⟨S32x4x4096, .i32⟩
  | _, _ => ⟨S32x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Attend.lean ====
abbrev S32x4x4096x128 : Shape := ⟨4, ![32, 4, 4096, 128]⟩
abbrev S32x4x4096 : Shape := ⟨3, ![32, 4, 4096]⟩
abbrev S32x4x4096x1 : Shape := ⟨4, ![32, 4, 4096, 1]⟩
abbrev S32x4x64x1x64 : Shape := ⟨5, ![32, 4, 64, 1, 64]⟩
abbrev S1x1x512x128 : Shape := ⟨4, ![1, 1, 512, 128]⟩
abbrev S1x1x64x128 : Shape := ⟨4, ![1, 1, 64, 128]⟩
abbrev S1x1x8x1x64 : Shape := ⟨5, ![1, 1, 8, 1, 64]⟩
abbrev S1x1x1x1x64 : Shape := ⟨5, ![1, 1, 1, 1, 64]⟩
abbrev S1x1x512x1 : Shape := ⟨4, ![1, 1, 512, 1]⟩
abbrev S512x128 : Shape := ⟨2, ![512, 128]⟩
abbrev S64x128 : Shape := ⟨2, ![64, 128]⟩
abbrev S512x64 : Shape := ⟨2, ![512, 64]⟩
abbrev S64x64 : Shape := ⟨2, ![64, 64]⟩
abbrev S8x64 : Shape := ⟨2, ![8, 64]⟩
abbrev S1x64 : Shape := ⟨2, ![1, 64]⟩
abbrev S512x1 : Shape := ⟨2, ![512, 1]⟩
abbrev S128x64 : Shape := ⟨2, ![128, 64]⟩
abbrev S128 : Shape := ⟨1, ![128]⟩
abbrev S128x1 : Shape := ⟨2, ![128, 1]⟩
abbrev S64x1 : Shape := ⟨2, ![64, 1]⟩
abbrev S1x128 : Shape := ⟨2, ![1, 128]⟩
abbrev S64 : Shape := ⟨1, ![64]⟩
abbrev S64x63 : Shape := ⟨2, ![64, 63]⟩

abbrev nBuf : Space → Nat
  | .hbm => 10
  | .vmem => 24
  | .smem => 0
  | _ => 0

abbrev bufTy : (tb : Table) → Fin (tcTables nBuf tb) → BufTy
  | .hbm, ⟨0, _⟩ => ⟨S32x4x4096x128, .f32⟩
  | .hbm, ⟨1, _⟩ => ⟨S32x4x4096, .i32⟩
  | .hbm, ⟨2, _⟩ => ⟨S32x4x4096x1, .i32⟩
  | .hbm, ⟨3, _⟩ => ⟨S32x4x4096, .i32⟩
  | .hbm, ⟨4, _⟩ => ⟨S32x4x64x1x64, .i32⟩
  | .hbm, ⟨5, _⟩ => ⟨S32x4x64x1x64, .i32⟩
  | .hbm, ⟨6, _⟩ => ⟨S32x4x64x1x64, .i32⟩
  | .hbm, ⟨7, _⟩ => ⟨S32x4x4096x1, .i32⟩
  | .hbm, ⟨8, _⟩ => ⟨S32x4x4096x1, .i32⟩
  | .hbm, ⟨9, _⟩ => ⟨S32x4x4096x128, .f32⟩
  | .local _ .vmem, ⟨0, _⟩ => ⟨S1x1x512x128, .f32⟩
  | .local _ .vmem, ⟨1, _⟩ => ⟨S1x1x512x128, .f32⟩
  | .local _ .vmem, ⟨2, _⟩ => ⟨S1x1x64x128, .f32⟩
  | .local _ .vmem, ⟨3, _⟩ => ⟨S1x1x64x128, .f32⟩
  | .local _ .vmem, ⟨4, _⟩ => ⟨S1x1x8x1x64, .i32⟩
  | .local _ .vmem, ⟨5, _⟩ => ⟨S1x1x8x1x64, .i32⟩
  | .local _ .vmem, ⟨6, _⟩ => ⟨S1x1x1x1x64, .i32⟩
  | .local _ .vmem, ⟨7, _⟩ => ⟨S1x1x1x1x64, .i32⟩
  | .local _ .vmem, ⟨8, _⟩ => ⟨S1x1x512x1, .i32⟩
  | .local _ .vmem, ⟨9, _⟩ => ⟨S1x1x512x1, .i32⟩
  | .local _ .vmem, ⟨10, _⟩ => ⟨S1x1x8x1x64, .i32⟩
  | .local _ .vmem, ⟨11, _⟩ => ⟨S1x1x8x1x64, .i32⟩
  | .local _ .vmem, ⟨12, _⟩ => ⟨S1x1x1x1x64, .i32⟩
  | .local _ .vmem, ⟨13, _⟩ => ⟨S1x1x1x1x64, .i32⟩
  | .local _ .vmem, ⟨14, _⟩ => ⟨S1x1x512x1, .i32⟩
  | .local _ .vmem, ⟨15, _⟩ => ⟨S1x1x512x1, .i32⟩
  | .local _ .vmem, ⟨16, _⟩ => ⟨S1x1x8x1x64, .i32⟩
  | .local _ .vmem, ⟨17, _⟩ => ⟨S1x1x8x1x64, .i32⟩
  | .local _ .vmem, ⟨18, _⟩ => ⟨S1x1x1x1x64, .i32⟩
  | .local _ .vmem, ⟨19, _⟩ => ⟨S1x1x1x1x64, .i32⟩
  | .local _ .vmem, ⟨20, _⟩ => ⟨S1x1x512x1, .i32⟩
  | .local _ .vmem, ⟨21, _⟩ => ⟨S1x1x512x1, .i32⟩
  | .local _ .vmem, ⟨22, _⟩ => ⟨S1x1x512x128, .f32⟩
  | .local _ .vmem, ⟨23, _⟩ => ⟨S1x1x512x128, .f32⟩
  | _, _ => ⟨S32x4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![32, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c64_i32 : BitVec 32 := 64#32
  let c0_i32 : BitVec 32 := 0#32
  let v2 : BitVec 1 := Scalar.cmpi .eq c64_i32 c0_i32
  let c1_i32_0 : BitVec 32 := 1#32
  let v3 : BitVec 32 := Scalar.select v2 c1_i32_0 c64_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![arg0.toNat, arg1.toNat, v11.toNat, c0_i32_4.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c64_i32 : BitVec 32 := 64#32
  let c0_i32 : BitVec 32 := 0#32
  let v2 : BitVec 1 := Scalar.cmpi .eq c64_i32 c0_i32
  let c1_i32_0 : BitVec 32 := 1#32
  let v3 : BitVec 32 := Scalar.select v2 c1_i32_0 c64_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, arg1.toNat, v11.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c64_i32 : BitVec 32 := 64#32
  let c0_i32 : BitVec 32 := 0#32
  let v2 : BitVec 1 := Scalar.cmpi .eq c64_i32 c0_i32
  let c1_i32_0 : BitVec 32 := 1#32
  let v3 : BitVec 32 := Scalar.select v2 c1_i32_0 c64_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, arg1.toNat, v11.toNat, c0_i32_4.toNat, c0_i32_5.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c64_i32 : BitVec 32 := 64#32
  let c0_i32 : BitVec 32 := 0#32
  let v2 : BitVec 1 := Scalar.cmpi .eq c64_i32 c0_i32
  let c1_i32_0 : BitVec 32 := 1#32
  let v3 : BitVec 32 := Scalar.select v2 c1_i32_0 c64_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, arg1.toNat, v11.toNat, c0_i32_4.toNat, c0_i32_5.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8x1x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x1x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x8x1x64 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x1x64 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x8x1x64 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x1x64 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x512x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== AttendReferenceIdeal.lean ====
abbrev S32x4x4096x128 : Shape := ⟨4, ![32, 4, 4096, 128]⟩
abbrev S32x4x4096 : Shape := ⟨3, ![32, 4, 4096]⟩
abbrev S32x4x4096x1 : Shape := ⟨4, ![32, 4, 4096, 1]⟩
abbrev S32x4x4096x64 : Shape := ⟨4, ![32, 4, 4096, 64]⟩
abbrev S32x4x64x64x64 : Shape := ⟨5, ![32, 4, 64, 64, 64]⟩
abbrev S32x4x64x64 : Shape := ⟨4, ![32, 4, 64, 64]⟩
abbrev S32x4x1x64x64 : Shape := ⟨5, ![32, 4, 1, 64, 64]⟩
abbrev S32x4x63x64x64 : Shape := ⟨5, ![32, 4, 63, 64, 64]⟩
abbrev S32x4x64x128x64 : Shape := ⟨5, ![32, 4, 64, 128, 64]⟩
abbrev S_ : Shape := ⟨0, ![]⟩
abbrev S32x4x64x128 : Shape := ⟨4, ![32, 4, 64, 128]⟩
abbrev S32x4x64x128x1 : Shape := ⟨5, ![32, 4, 64, 128, 1]⟩
abbrev S32x4x64x64x128 : Shape := ⟨5, ![32, 4, 64, 64, 128]⟩
abbrev S32x4x64x64x1 : Shape := ⟨5, ![32, 4, 64, 64, 1]⟩
abbrev S32x4x1x64 : Shape := ⟨4, ![32, 4, 1, 64]⟩
abbrev S32x4x63x64 : Shape := ⟨4, ![32, 4, 63, 64]⟩
abbrev S32x4x64x1x128 : Shape := ⟨5, ![32, 4, 64, 1, 128]⟩
abbrev S32x1x4096 : Shape := ⟨3, ![32, 1, 4096]⟩
abbrev S32x4096 : Shape := ⟨2, ![32, 4096]⟩
abbrev S32x1x64x128 : Shape := ⟨4, ![32, 1, 64, 128]⟩
abbrev S32x64x128 : Shape := ⟨3, ![32, 64, 128]⟩
abbrev S32x4x64x1x128x1 : Shape := ⟨6, ![32, 4, 64, 1, 128, 1]⟩
abbrev S32x4x64x64x1x128 : Shape := ⟨6, ![32, 4, 64, 64, 1, 128]⟩
abbrev S32x4x64x64x128x128 : Shape := ⟨6, ![32, 4, 64, 64, 128, 128]⟩
abbrev S32x4x64x64x63 : Shape := ⟨5, ![32, 4, 64, 64, 63]⟩

abbrev nBuf : Space → Nat
  | .hbm => 329
  | .vmem => 0
  | .smem => 0
  | _ => 0

abbrev hbmTy0_0 (i : Nat) : BufTy := match i % 128 with
  | 0 => ⟨S32x4x4096x128, .f32⟩
  | 1 => ⟨S32x4x4096, .i32⟩
  | 2 => ⟨S32x4x4096x1, .i32⟩
  | 3 => ⟨S32x4x4096, .i32⟩
  | 4 => ⟨S32x4x4096x64, .f32⟩
  | 5 => ⟨S32x4x64x64x64, .f32⟩
  | 6 => ⟨S32x4x4096x64, .f32⟩
  | 7 => ⟨S32x4x64x64x64, .f32⟩
  | 8 => ⟨S32x4x64x64, .i32⟩
  | 9 => ⟨S32x4x4096, .i32⟩
  | 10 => ⟨S32x4x64x64, .i32⟩
  | 11 => ⟨S32x4x1x64x64, .f32⟩
  | 12 => ⟨S32x4x63x64x64, .f32⟩
  | 13 => ⟨S32x4x64x64x64, .f32⟩
  | 14 => ⟨S32x4x64x128x64, .f32⟩
  | 15 => ⟨S32x4x64x128x64, .f32⟩
  | 16 => ⟨S_, .f32⟩
  | 17 => ⟨S32x4x64x128, .f32⟩
  | 18 => ⟨S32x4x64x128x1, .f32⟩
  | 19 => ⟨S32x4x64x128x1, .f32⟩
  | 20 => ⟨S_, .f32⟩
  | 21 => ⟨S32x4x64x128x1, .f32⟩
  | 22 => ⟨S32x4x64x128x1, .f32⟩
  | 23 => ⟨S32x4x64x128x64, .f32⟩
  | 24 => ⟨S32x4x64x128x64, .f32⟩
  | 25 => ⟨S32x4x64x64x128, .f32⟩
  | 26 => ⟨S_, .f32⟩
  | 27 => ⟨S32x4x64x64x128, .f32⟩
  | 28 => ⟨S32x4x64x64x128, .f32⟩
  | 29 => ⟨S32x4x64x64x1, .i32⟩
  | 30 => ⟨S32x4x1x64, .i32⟩
  | 31 => ⟨S32x4x63x64, .i32⟩
  | 32 => ⟨S32x4x64x64, .i32⟩
  | 33 => ⟨S32x4x64x128, .i32⟩
  | 34 => ⟨S32x4x64x1x128, .i32⟩
  | 35 => ⟨S32x4x64x64x128, .i32⟩
  | 36 => ⟨S32x4x64x64x128, .i32⟩
  | 37 => ⟨S32x4x64x64x128, .i1⟩
  | 38 => ⟨S_, .f32⟩
  | 39 => ⟨S_, .f32⟩
  | 40 => ⟨S32x4x64x64x128, .f32⟩
  | 41 => ⟨S32x4x64x64x128, .f32⟩
  | 42 => ⟨S32x4x64x64x1, .i32⟩
  | 43 => ⟨S32x4x1x64, .i32⟩
  | 44 => ⟨S32x4x63x64, .i32⟩
  | 45 => ⟨S32x4x64x64, .i32⟩
  | 46 => ⟨S32x4x64x128, .i32⟩
  | 47 => ⟨S32x4x64x1x128, .i32⟩
  | 48 => ⟨S32x4x64x64x128, .i32⟩
  | 49 => ⟨S32x4x64x64x128, .i32⟩
  | 50 => ⟨S32x4x64x64x128, .i1⟩
  | 51 => ⟨S_, .f32⟩
  | 52 => ⟨S_, .f32⟩
  | 53 => ⟨S32x4x64x64x128, .f32⟩
  | 54 => ⟨S32x4x64x64x128, .f32⟩
  | 55 => ⟨S32x4x64x64x1, .i32⟩
  | 56 => ⟨S32x4x1x64, .i32⟩
  | 57 => ⟨S32x4x63x64, .i32⟩
  | 58 => ⟨S32x4x64x64, .i32⟩
  | 59 => ⟨S32x4x64x128, .i32⟩
  | 60 => ⟨S32x4x64x1x128, .i32⟩
  | 61 => ⟨S32x4x64x64x128, .i32⟩
  | 62 => ⟨S32x4x64x64x128, .i32⟩
  | 63 => ⟨S32x4x64x64x128, .i1⟩
  | 64 => ⟨S_, .f32⟩
  | 65 => ⟨S_, .f32⟩
  | 66 => ⟨S32x4x64x64x128, .f32⟩
  | 67 => ⟨S32x4x64x64x128, .f32⟩
  | 68 => ⟨S32x4x4096, .i32⟩
  | 69 => ⟨S32x4x4096, .i32⟩
  | 70 => ⟨S32x4x4096, .i32⟩
  | 71 => ⟨S32x1x4096, .i32⟩
  | 72 => ⟨S32x4096, .i32⟩
  | 73 => ⟨S_, .i32⟩
  | 74 => ⟨S32x4x4096, .i32⟩
  | 75 => ⟨S32x4x4096, .i1⟩
  | 76 => ⟨S_, .i32⟩
  | 77 => ⟨S32x4x4096, .i32⟩
  | 78 => ⟨S32x4x4096, .i32⟩
  | 79 => ⟨S32x4x4096, .i32⟩
  | 80 => ⟨S32x4x4096x1, .i32⟩
  | 81 => ⟨S32x4x4096, .i32⟩
  | 82 => ⟨S_, .i32⟩
  | 83 => ⟨S_, .i32⟩
  | 84 => ⟨S32x4x4096, .i32⟩
  | 85 => ⟨S32x4x4096, .i32⟩
  | 86 => ⟨S32x4x4096, .i32⟩
  | 87 => ⟨S_, .i32⟩
  | 88 => ⟨S32x4x4096, .i32⟩
  | 89 => ⟨S32x4x4096, .i1⟩
  | 90 => ⟨S32x4x4096, .i32⟩
  | 91 => ⟨S32x4x4096, .i32⟩
  | 92 => ⟨S_, .i32⟩
  | 93 => ⟨S32x4x4096, .i32⟩
  | 94 => ⟨S32x4x4096, .i1⟩
  | 95 => ⟨S32x4x4096, .i1⟩
  | 96 => ⟨S_, .i32⟩
  | 97 => ⟨S32x4x4096, .i32⟩
  | 98 => ⟨S32x4x4096, .i32⟩
  | 99 => ⟨S32x4x4096, .i32⟩
  | 100 => ⟨S32x4x1x64, .i32⟩
  | 101 => ⟨S32x4x63x64, .i32⟩
  | 102 => ⟨S32x4x64x64, .i32⟩
  | 103 => ⟨S32x4x64x128, .i32⟩
  | 104 => ⟨S32x1x64x128, .i32⟩
  | 105 => ⟨S32x64x128, .i32⟩
  | 106 => ⟨S_, .i32⟩
  | 107 => ⟨S32x4x4096, .i32⟩
  | 108 => ⟨S32x4x4096, .i1⟩
  | 109 => ⟨S_, .i32⟩
  | 110 => ⟨S32x4x4096, .i32⟩
  | 111 => ⟨S32x4x4096, .i32⟩
  | 112 => ⟨S32x4x4096, .i32⟩
  | 113 => ⟨S32x4x4096x1, .i32⟩
  | 114 => ⟨S32x4x4096x128, .i32⟩
  | 115 => ⟨S32x4x64x64x128, .i32⟩
  | 116 => ⟨S32x4x1x64, .i32⟩
  | 117 => ⟨S32x4x63x64, .i32⟩
  | 118 => ⟨S32x4x64x64, .i32⟩
  | 119 => ⟨S32x4x64x128, .i32⟩
  | 120 => ⟨S32x4x64x1x128x1, .i32⟩
  | 121 => ⟨S32x4x64x64x1x128, .i32⟩
  | 122 => ⟨S32x4x64x64x128x128, .i32⟩
  | 123 => ⟨S32x4x64x64x128x128, .i32⟩
  | 124 => ⟨S32x4x64x64x128x128, .i1⟩
  | 125 => ⟨S32x4x64x64x128x128, .i32⟩
  | 126 => ⟨S_, .i32⟩
  | 127 => ⟨S32x4x64x64x128, .i32⟩
  | _ => ⟨S32x4x4096x128, .f32⟩

abbrev hbmTy0_1 (i : Nat) : BufTy := match i % 128 with
  | 0 => ⟨S_, .i32⟩
  | 1 => ⟨S32x4x64x64x128, .i32⟩
  | 2 => ⟨S32x4x64x64x128, .i32⟩
  | 3 => ⟨S32x1x4096, .i32⟩
  | 4 => ⟨S32x4096, .i32⟩
  | 5 => ⟨S_, .i32⟩
  | 6 => ⟨S32x4x4096, .i32⟩
  | 7 => ⟨S32x4x4096, .i1⟩
  | 8 => ⟨S_, .i32⟩
  | 9 => ⟨S32x4x4096, .i32⟩
  | 10 => ⟨S32x4x4096, .i32⟩
  | 11 => ⟨S32x4x4096, .i32⟩
  | 12 => ⟨S32x4x4096x1, .i32⟩
  | 13 => ⟨S32x4x4096, .i32⟩
  | 14 => ⟨S_, .i32⟩
  | 15 => ⟨S_, .i32⟩
  | 16 => ⟨S32x4x4096, .i32⟩
  | 17 => ⟨S32x4x4096, .i32⟩
  | 18 => ⟨S32x4x4096, .i32⟩
  | 19 => ⟨S_, .i32⟩
  | 20 => ⟨S32x4x4096, .i32⟩
  | 21 => ⟨S32x4x4096, .i1⟩
  | 22 => ⟨S32x4x4096, .i32⟩
  | 23 => ⟨S32x4x4096, .i32⟩
  | 24 => ⟨S_, .i32⟩
  | 25 => ⟨S32x4x4096, .i32⟩
  | 26 => ⟨S32x4x4096, .i1⟩
  | 27 => ⟨S32x4x4096, .i1⟩
  | 28 => ⟨S_, .i32⟩
  | 29 => ⟨S32x4x4096, .i32⟩
  | 30 => ⟨S32x4x4096, .i32⟩
  | 31 => ⟨S32x4x4096, .i32⟩
  | 32 => ⟨S32x4x1x64, .i32⟩
  | 33 => ⟨S32x4x63x64, .i32⟩
  | 34 => ⟨S32x4x64x64, .i32⟩
  | 35 => ⟨S32x4x64x128, .i32⟩
  | 36 => ⟨S32x1x64x128, .i32⟩
  | 37 => ⟨S32x64x128, .i32⟩
  | 38 => ⟨S_, .i32⟩
  | 39 => ⟨S32x4x4096, .i32⟩
  | 40 => ⟨S32x4x4096, .i1⟩
  | 41 => ⟨S_, .i32⟩
  | 42 => ⟨S32x4x4096, .i32⟩
  | 43 => ⟨S32x4x4096, .i32⟩
  | 44 => ⟨S32x4x4096, .i32⟩
  | 45 => ⟨S32x4x4096x1, .i32⟩
  | 46 => ⟨S32x4x4096x128, .i32⟩
  | 47 => ⟨S32x4x64x64x128, .i32⟩
  | 48 => ⟨S32x4x1x64, .i32⟩
  | 49 => ⟨S32x4x63x64, .i32⟩
  | 50 => ⟨S32x4x64x64, .i32⟩
  | 51 => ⟨S32x4x64x128, .i32⟩
  | 52 => ⟨S32x4x64x1x128x1, .i32⟩
  | 53 => ⟨S32x4x64x64x1x128, .i32⟩
  | 54 => ⟨S32x4x64x64x128x128, .i32⟩
  | 55 => ⟨S32x4x64x64x128x128, .i32⟩
  | 56 => ⟨S32x4x64x64x128x128, .i1⟩
  | 57 => ⟨S32x4x64x64x128x128, .i32⟩
  | 58 => ⟨S_, .i32⟩
  | 59 => ⟨S32x4x64x64x128, .i32⟩
  | 60 => ⟨S32x4x64x64x128, .i32⟩
  | 61 => ⟨S32x1x4096, .i32⟩
  | 62 => ⟨S32x4096, .i32⟩
  | 63 => ⟨S_, .i32⟩
  | 64 => ⟨S32x4x4096, .i32⟩
  | 65 => ⟨S32x4x4096, .i1⟩
  | 66 => ⟨S_, .i32⟩
  | 67 => ⟨S32x4x4096, .i32⟩
  | 68 => ⟨S32x4x4096, .i32⟩
  | 69 => ⟨S32x4x4096, .i32⟩
  | 70 => ⟨S32x4x4096x1, .i32⟩
  | 71 => ⟨S32x4x4096, .i32⟩
  | 72 => ⟨S_, .i32⟩
  | 73 => ⟨S_, .i32⟩
  | 74 => ⟨S32x4x4096, .i32⟩
  | 75 => ⟨S32x4x4096, .i32⟩
  | 76 => ⟨S32x4x4096, .i32⟩
  | 77 => ⟨S_, .i32⟩
  | 78 => ⟨S32x4x4096, .i32⟩
  | 79 => ⟨S32x4x4096, .i1⟩
  | 80 => ⟨S32x4x4096, .i32⟩
  | 81 => ⟨S32x4x4096, .i32⟩
  | 82 => ⟨S_, .i32⟩
  | 83 => ⟨S32x4x4096, .i32⟩
  | 84 => ⟨S32x4x4096, .i1⟩
  | 85 => ⟨S32x4x4096, .i1⟩
  | 86 => ⟨S_, .i32⟩
  | 87 => ⟨S32x4x4096, .i32⟩
  | 88 => ⟨S32x4x4096, .i32⟩
  | 89 => ⟨S32x4x4096, .i32⟩
  | 90 => ⟨S32x4x1x64, .i32⟩
  | 91 => ⟨S32x4x63x64, .i32⟩
  | 92 => ⟨S32x4x64x64, .i32⟩
  | 93 => ⟨S32x4x64x128, .i32⟩
  | 94 => ⟨S32x1x64x128, .i32⟩
  | 95 => ⟨S32x64x128, .i32⟩
  | 96 => ⟨S_, .i32⟩
  | 97 => ⟨S32x4x4096, .i32⟩
  | 98 => ⟨S32x4x4096, .i1⟩
  | 99 => ⟨S_, .i32⟩
  | 100 => ⟨S32x4x4096, .i32⟩
  | 101 => ⟨S32x4x4096, .i32⟩
  | 102 => ⟨S32x4x4096, .i32⟩
  | 103 => ⟨S32x4x4096x1, .i32⟩
  | 104 => ⟨S32x4x4096x128, .i32⟩
  | 105 => ⟨S32x4x64x64x128, .i32⟩
  | 106 => ⟨S32x4x1x64, .i32⟩
  | 107 => ⟨S32x4x63x64, .i32⟩
  | 108 => ⟨S32x4x64x64, .i32⟩
  | 109 => ⟨S32x4x64x128, .i32⟩
  | 110 => ⟨S32x4x64x1x128x1, .i32⟩
  | 111 => ⟨S32x4x64x64x1x128, .i32⟩
  | 112 => ⟨S32x4x64x64x128x128, .i32⟩
  | 113 => ⟨S32x4x64x64x128x128, .i32⟩
  | 114 => ⟨S32x4x64x64x128x128, .i1⟩
  | 115 => ⟨S32x4x64x64x128x128, .i32⟩
  | 116 => ⟨S_, .i32⟩
  | 117 => ⟨S32x4x64x64x128, .i32⟩
  | 118 => ⟨S32x4x64x64x128, .i32⟩
  | 119 => ⟨S32x1x4096, .i32⟩
  | 120 => ⟨S32x4096, .i32⟩
  | 121 => ⟨S_, .i32⟩
  | 122 => ⟨S32x4x4096, .i32⟩
  | 123 => ⟨S32x4x4096, .i1⟩
  | 124 => ⟨S_, .i32⟩
  | 125 => ⟨S32x4x4096, .i32⟩
  | 126 => ⟨S32x4x4096, .i32⟩
  | 127 => ⟨S32x4x4096, .i32⟩
  | _ => ⟨S32x4x4096x128, .f32⟩

abbrev hbmTy0_2 (i : Nat) : BufTy := match i % 128 with
  | 0 => ⟨S32x4x4096x1, .i32⟩
  | 1 => ⟨S32x4x4096, .i32⟩
  | 2 => ⟨S_, .i32⟩
  | 3 => ⟨S_, .i32⟩
  | 4 => ⟨S32x4x4096, .i32⟩
  | 5 => ⟨S32x4x4096, .i32⟩
  | 6 => ⟨S32x4x4096, .i32⟩
  | 7 => ⟨S_, .i32⟩
  | 8 => ⟨S32x4x4096, .i32⟩
  | 9 => ⟨S32x4x4096, .i1⟩
  | 10 => ⟨S32x4x4096, .i32⟩
  | 11 => ⟨S32x4x4096, .i32⟩
  | 12 => ⟨S_, .i32⟩
  | 13 => ⟨S32x4x4096, .i32⟩
  | 14 => ⟨S32x4x4096, .i1⟩
  | 15 => ⟨S32x4x4096, .i1⟩
  | 16 => ⟨S_, .i32⟩
  | 17 => ⟨S32x4x4096, .i32⟩
  | 18 => ⟨S32x4x4096, .i32⟩
  | 19 => ⟨S32x4x4096, .i32⟩
  | 20 => ⟨S32x4x1x64, .i32⟩
  | 21 => ⟨S32x4x63x64, .i32⟩
  | 22 => ⟨S32x4x64x64, .i32⟩
  | 23 => ⟨S32x4x64x128, .i32⟩
  | 24 => ⟨S32x1x64x128, .i32⟩
  | 25 => ⟨S32x64x128, .i32⟩
  | 26 => ⟨S_, .i32⟩
  | 27 => ⟨S32x4x4096, .i32⟩
  | 28 => ⟨S32x4x4096, .i1⟩
  | 29 => ⟨S_, .i32⟩
  | 30 => ⟨S32x4x4096, .i32⟩
  | 31 => ⟨S32x4x4096, .i32⟩
  | 32 => ⟨S32x4x4096, .i32⟩
  | 33 => ⟨S32x4x4096x1, .i32⟩
  | 34 => ⟨S32x4x4096x128, .i32⟩
  | 35 => ⟨S32x4x64x64x128, .i32⟩
  | 36 => ⟨S32x4x1x64, .i32⟩
  | 37 => ⟨S32x4x63x64, .i32⟩
  | 38 => ⟨S32x4x64x64, .i32⟩
  | 39 => ⟨S32x4x64x128, .i32⟩
  | 40 => ⟨S32x4x64x1x128x1, .i32⟩
  | 41 => ⟨S32x4x64x64x1x128, .i32⟩
  | 42 => ⟨S32x4x64x64x128x128, .i32⟩
  | 43 => ⟨S32x4x64x64x128x128, .i32⟩
  | 44 => ⟨S32x4x64x64x128x128, .i1⟩
  | 45 => ⟨S32x4x64x64x128x128, .i32⟩
  | 46 => ⟨S_, .i32⟩
  | 47 => ⟨S32x4x64x64x128, .i32⟩
  | 48 => ⟨S32x4x64x64x128, .i32⟩
  | 49 => ⟨S_, .f32⟩
  | 50 => ⟨S32x4x64x64, .f32⟩
  | 51 => ⟨S32x4x64x64x1, .f32⟩
  | 52 => ⟨S32x4x64x64x128, .f32⟩
  | 53 => ⟨S32x4x64x64x128, .f32⟩
  | 54 => ⟨S32x4x64x64x128, .f32⟩
  | 55 => ⟨S_, .f32⟩
  | 56 => ⟨S32x4x64x64, .f32⟩
  | 57 => ⟨S32x4x64x64x1, .f32⟩
  | 58 => ⟨S32x4x64x64x1, .f32⟩
  | 59 => ⟨S32x4x64x64x1, .f32⟩
  | 60 => ⟨S32x4x64x64x128, .f32⟩
  | 61 => ⟨S32x4x64x64x128, .f32⟩
  | 62 => ⟨S32x4x64x64x128, .f32⟩
  | 63 => ⟨S32x4x64x64x128, .f32⟩
  | 64 => ⟨S32x4x1x64x64, .f32⟩
  | 65 => ⟨S32x4x63x64x64, .f32⟩
  | 66 => ⟨S32x4x64x64x64, .f32⟩
  | 67 => ⟨S32x4x64x128x64, .f32⟩
  | 68 => ⟨S32x4x64x64x64, .f32⟩
  | 69 => ⟨S_, .f32⟩
  | 70 => ⟨S32x4x64x64x63, .f32⟩
  | 71 => ⟨S32x4x64x64x128, .f32⟩
  | 72 => ⟨S32x4x4096x128, .f32⟩
  | _ => ⟨S32x4x4096x128, .f32⟩

abbrev hbmTy (i : Nat) : BufTy := match i / 128 with
  | 0 => hbmTy0_0 i
  | 1 => hbmTy0_1 i
  | 2 => hbmTy0_2 i
  | _ => ⟨S32x4x4096x128, .f32⟩

abbrev bufTy : (tb : Table) → Fin (tcTables nBuf tb) → BufTy
  | .hbm, ⟨i, _⟩ => hbmTy i
  | _, _ => ⟨S32x4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_call2_v0 : Ref sig .tc := ⟨.hbm, 65, rfl⟩
abbrev main_call2_v1 : Ref sig .tc := ⟨.hbm, 66, rfl⟩
abbrev main_v51 : Ref sig .tc := ⟨.hbm, 67, rfl⟩
abbrev main_call3_v0 : Ref sig .tc := ⟨.hbm, 68, rfl⟩
abbrev main_call3_v1_0 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c : Ref sig .tc := ⟨.hbm, 73, rfl⟩
abbrev main_v55 : Ref sig .tc := ⟨.hbm, 74, rfl⟩
abbrev main_v56 : Ref sig .tc := ⟨.hbm, 75, rfl⟩
abbrev main_c_5 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_6 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_c : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_c_0 : Ref sig .tc := ⟨.hbm, 96, rfl⟩
abbrev main_call4_v12 : Ref sig .tc := ⟨.hbm, 97, rfl⟩
abbrev main_call4_v13 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_7 : Ref sig .tc := ⟨.hbm, 106, rfl⟩
abbrev main_v69 : Ref sig .tc := ⟨.hbm, 107, rfl⟩
abbrev main_v70 : Ref sig .tc := ⟨.hbm, 108, rfl⟩
abbrev main_c_8 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_9 : Ref sig .tc := ⟨.hbm, 126, rfl⟩
abbrev main_v87 : Ref sig .tc := ⟨.hbm, 127, rfl⟩
abbrev main_c_10 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_11 : Ref sig .tc := ⟨.hbm, 133, rfl⟩
abbrev main_v92 : Ref sig .tc := ⟨.hbm, 134, rfl⟩
abbrev main_v93 : Ref sig .tc := ⟨.hbm, 135, rfl⟩
abbrev main_c_12 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_13 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_v7 : Ref sig .tc := ⟨.hbm, 150, rfl⟩
abbrev main_call5_v8 : Ref sig .tc := ⟨.hbm, 151, rfl⟩
abbrev main_call5_c : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_0 : Ref sig .tc := ⟨.hbm, 156, rfl⟩
abbrev main_call5_v12 : Ref sig .tc := ⟨.hbm, 157, rfl⟩
abbrev main_call5_v13 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_c_14 : Ref sig .tc := ⟨.hbm, 166, rfl⟩
abbrev main_v106 : Ref sig .tc := ⟨.hbm, 167, rfl⟩
abbrev main_v107 : Ref sig .tc := ⟨.hbm, 168, rfl⟩
abbrev main_c_15 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_c_16 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_c_17 : Ref sig .tc := ⟨.hbm, 191, rfl⟩
abbrev main_v128 : Ref sig .tc := ⟨.hbm, 192, rfl⟩
abbrev main_v129 : Ref sig .tc := ⟨.hbm, 193, rfl⟩
abbrev main_c_18 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_c_19 : Ref sig .tc := ⟨.hbm, 200, rfl⟩
abbrev main_call6_v0 : Ref sig .tc := ⟨.hbm, 201, rfl⟩
abbrev main_call6_v1 : Ref sig .tc := ⟨.hbm, 202, rfl⟩
abbrev main_call6_v2 : Ref sig .tc := ⟨.hbm, 203, rfl⟩
abbrev main_call6_v3 : Ref sig .tc := ⟨.hbm, 204, rfl⟩
abbrev main_call6_v4 : Ref sig .tc := ⟨.hbm, 205, rfl⟩
abbrev main_call6_v5 : Ref sig .tc := ⟨.hbm, 206, rfl⟩
abbrev main_call6_v6 : Ref sig .tc := ⟨.hbm, 207, rfl⟩
abbrev main_call6_v7 : Ref sig .tc := ⟨.hbm, 208, rfl⟩
abbrev main_call6_v8 : Ref sig .tc := ⟨.hbm, 209, rfl⟩
abbrev main_call6_c : Ref sig .tc := ⟨.hbm, 210, rfl⟩
abbrev main_call6_v9 : Ref sig .tc := ⟨.hbm, 211, rfl⟩
abbrev main_call6_v10 : Ref sig .tc := ⟨.hbm, 212, rfl⟩
abbrev main_call6_v11 : Ref sig .tc := ⟨.hbm, 213, rfl⟩
abbrev main_call6_c_0 : Ref sig .tc := ⟨.hbm, 214, rfl⟩
abbrev main_call6_v12 : Ref sig .tc := ⟨.hbm, 215, rfl⟩
abbrev main_call6_v13 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_c_20 : Ref sig .tc := ⟨.hbm, 224, rfl⟩
abbrev main_v142 : Ref sig .tc := ⟨.hbm, 225, rfl⟩
abbrev main_v143 : Ref sig .tc := ⟨.hbm, 226, rfl⟩
abbrev main_c_21 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_c_22 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_c_23 : Ref sig .tc := ⟨.hbm, 249, rfl⟩
abbrev main_v164 : Ref sig .tc := ⟨.hbm, 250, rfl⟩
abbrev main_v165 : Ref sig .tc := ⟨.hbm, 251, rfl⟩
abbrev main_c_24 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_c_25 : Ref sig .tc := ⟨.hbm, 258, rfl⟩
abbrev main_call7_v0 : Ref sig .tc := ⟨.hbm, 259, rfl⟩
abbrev main_call7_v1 : Ref sig .tc := ⟨.hbm, 260, rfl⟩
abbrev main_call7_v2 : Ref sig .tc := ⟨.hbm, 261, rfl⟩
abbrev main_call7_v3 : Ref sig .tc := ⟨.hbm, 262, rfl⟩
abbrev main_call7_v4 : Ref sig .tc := ⟨.hbm, 263, rfl⟩
abbrev main_call7_v5 : Ref sig .tc := ⟨.hbm, 264, rfl⟩
abbrev main_call7_v6 : Ref sig .tc := ⟨.hbm, 265, rfl⟩
abbrev main_call7_v7 : Ref sig .tc := ⟨.hbm, 266, rfl⟩
abbrev main_call7_v8 : Ref sig .tc := ⟨.hbm, 267, rfl⟩
abbrev main_call7_c : Ref sig .tc := ⟨.hbm, 268, rfl⟩
abbrev main_call7_v9 : Ref sig .tc := ⟨.hbm, 269, rfl⟩
abbrev main_call7_v10 : Ref sig .tc := ⟨.hbm, 270, rfl⟩
abbrev main_call7_v11 : Ref sig .tc := ⟨.hbm, 271, rfl⟩
abbrev main_call7_c_0 : Ref sig .tc := ⟨.hbm, 272, rfl⟩
abbrev main_call7_v12 : Ref sig .tc := ⟨.hbm, 273, rfl⟩
abbrev main_call7_v13 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_c_26 : Ref sig .tc := ⟨.hbm, 282, rfl⟩
abbrev main_v178 : Ref sig .tc := ⟨.hbm, 283, rfl⟩
abbrev main_v179 : Ref sig .tc := ⟨.hbm, 284, rfl⟩
abbrev main_c_27 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_c_28 : Ref sig .tc := ⟨.hbm, 302, rfl⟩
abbrev main_v196 : Ref sig .tc := ⟨.hbm, 303, rfl⟩
abbrev main_v197 : Ref sig .tc := ⟨.hbm, 304, rfl⟩
abbrev main_cst_29 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_cst_30 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_cst_31 : Ref sig .tc := ⟨.hbm, 325, rfl⟩
abbrev main_v216 : Ref sig .tc := ⟨.hbm, 326, rfl⟩
abbrev main_v217 : Ref sig .tc := ⟨.hbm, 327, rfl⟩
abbrev main_v218 : Ref sig .tc := ⟨.hbm, 328, rfl⟩

abbrev nD : Nat := 1
abbrev τ : Topo := Topo.v7x

variable {F : FTy → Type} [FloatOps F]
-- ==== Proof.RestoreBody.lean ====
/-
  The restoring gather's body on one tile, as one program for one chunk run for the thirty-two chunks in turn.
-/
module

public import proofs.«01_k».proof.Proof.Gen.KernelIdeal

@[expose] public section

noncomputable section

namespace Cert.KernelIdeal.Restore

open Cert.KernelIdeal Cert.KernelIdeal.Gen
open Idealize.ShloMosaic
open Idealize.SL Idealize.SL.Sem

variable {F : FTy → Type} [FloatOps F]

/-- The batch a tile works on, as the body computes it: twice the tile's number plus the SparseCore's. -/
abbrev batch (i : grid0.Coords) : ℕ :=
  (Scalar.addi (Scalar.muli (BitVec.ofNat 32 (i 1).val) 2#32) (BitVec.ofNat 32 (i 0).val)).toNat

theorem batch_eq : ∀ i : grid0.Coords, batch i = 2 * (i 1).val + (i 0).val := by decide +kernel

/-- Where chunk `k` (round `k / 8`, piece `k % 8`) starts in the index list, and where in the output. -/
abbrev idxOff (i : grid0.Coords) (k : ℕ) : Fin 4 → ℕ := ![batch i, k / 8, 4 * (k % 8), 0]
abbrev outOff (i : grid0.Coords) (k : ℕ) : Fin 4 → ℕ := ![batch i, k / 8, 512 * (k % 8), 0]

theorem batch_lt (i : grid0.Coords) : batch i < 32 := by
  rw [batch_eq]; have h1 : (i 1).val < 16 := (i 1).isLt; have h0 : (i 0).val < 2 := (i 0).isLt; omega

theorem idxOff_inb (i : grid0.Coords) (k : Fin 32) : ∀ a, (idxOff i k.val) a + S1x1x4x128.size a ≤ S32x4x32x128.size a := by
  have hb := batch_lt i; have hk := k.isLt
  intro a
  match a with
  | 0 => show batch i + 1 ≤ 32; omega
  | 1 => show k.val / 8 + 1 ≤ 4; omega
  | 2 => show 4 * (k.val % 8) + 4 ≤ 32; omega
  | 3 => show 0 + 128 ≤ 128; omega

theorem outOff_inb (i : grid0.Coords) (k : Fin 32) : ∀ a, (outOff i k.val) a + S1x1x512x128.size a ≤ S32x4x4096x128.size a := by
  have hb := batch_lt i; have hk := k.isLt
  intro a
  match a with
  | 0 => show batch i + 1 ≤ 32; omega
  | 1 => show k.val / 8 + 1 ≤ 4; omega
  | 2 => show 512 * (k.val % 8) + 512 ≤ 4096; omega
  | 3 => show 0 + 128 ≤ 128; omega

theorem bufOff_inb (j : Fin 4) : ∀ a, (![128 * j.val, 0] : Fin 2 → ℕ) a + S128x128.size a ≤ S512x128.size a := by
  have := j.isLt
  intro a
  match a with
  | 0 => show 128 * j.val + 128 ≤ 512; omega
  | 1 => show 0 + 128 ≤ 128; omega

theorem listOff_inb (j : Fin 4) : ∀ a, (![j.val, 0] : Fin 2 → ℕ) a + S1x128.size a ≤ S4x128.size a := by
  have := j.isLt
  intro a
  match a with
  | 0 => show j.val + 1 ≤ 4; omega
  | 1 => show 0 + 128 ≤ 128; omega

section
variable (i : grid0.Coords) (arg2 : Memref sig .scVector .hbm S524288x128 .f32) (arg3 : Memref sig .scVector .hbm S32x4x32x128 .i32)
  (arg4 : Memref sig .scVector .hbm S32x4x4096x128 .f32) (arg5 : Memref sig .scVector .vmem S4x128 .i32) (arg6 : Memref sig .scVector .vmem S512x128 .f32)

abbrev ThrKind (i : grid0.Coords) : Proc τ := .scVector ((i 0).castLE hcore0) ((i 1).castLE hsub0)

/-- Chunk `k`'s rows of the index list, and of the output; the whole table; piece `j` of the row buffer and of the fetched list. -/
abbrev idxView (k : Fin 32) : Memref sig .scVector .hbm S4x128 .i32 :=
  (arg3.slice (Rect.unit (s := S32x4x32x128) (idxOff i k.val) S1x1x4x128.size (idxOff_inb i k)) (fun _ => rfl)).squeeze S4x128 squeezes_S1x1x4x128_S4x128
abbrev outView (k : Fin 32) : Memref sig .scVector .hbm S512x128 .f32 :=
  (arg4.slice (Rect.unit (s := S32x4x4096x128) (outOff i k.val) S1x1x512x128.size (outOff_inb i k)) (fun _ => rfl)).squeeze S512x128 squeezes_S1x1x512x128_S512x128
abbrev tabView : Memref sig .scVector .hbm S524288x128 .f32 :=
  arg2.slice (Rect.unit (s := S524288x128) ![0, 0] S524288x128.size inb_S524288x128_S524288x128_0_0) (fun _ => rfl)
abbrev bufView (j : Fin 4) : Memref sig .scVector .vmem S128x128 .f32 :=
  arg6.slice (Rect.unit (s := S512x128) ![128 * j.val, 0] S128x128.size (bufOff_inb j)) (fun _ => rfl)
abbrev listView (j : Fin 4) : Memref sig .scVector .vmem S128 .i32 :=
  (arg5.slice (Rect.unit (s := S4x128) ![j.val, 0] S1x128.size (listOff_inb j)) (fun _ => rfl)).squeeze S128 squeezes_S1x128_S128

/-- Piece `j` of a chunk: the gather of 128 rows and its wait. -/
def piece (sem : DmaSems sig S_) (j : Fin 4) : Prog (TpuEff nD τ sig (Elt F) Λ₀ (ThrKind i)) PUnit := do
  SparseCore.enqueueIndirectGather rfl (tabView arg2) (bufView arg6 j) gathers_S524288x128_S128x128 (listView arg5 j) rfl sem.sem
    (View.wordExact_bits rfl) rfl (Or.inl rfl)
  SparseCore.waitIndirectGather sem.sem (tabView arg2) (bufView arg6 j) (View.wordExact_bits rfl) (View.wordExact_bits rfl)

variable (harg5 : arg5.IsWhole) (harg6 : arg6.IsWhole)

/-- One chunk: the index rows fetched, 512 rows of the table gathered in four pieces, and written out. -/
def chunk (sem semI semO : DmaSems sig S_) (k : Fin 32) : Prog (TpuEff nD τ sig (Elt F) Λ₀ (ThrKind i)) PUnit := do
  Prog.lift (.enqueueDma (idxView i arg3 k) (.here arg5) (.dma semI.sem) ((View.wordExact_bits rfl).reshape _ _) harg5.wordExact ⟨Or.inl rfl, trivial⟩)
  Prog.lift (.waitDma2 semI.sem (idxView i arg3 k) arg5 ((View.wordExact_bits rfl).reshape _ _) harg5.wordExact)
  piece i arg2 arg5 arg6 sem 0
  piece i arg2 arg5 arg6 sem 1
  piece i arg2 arg5 arg6 sem 2
  piece i arg2 arg5 arg6 sem 3
  Prog.lift (.enqueueDma arg6 (.here (outView i arg4 k)) (.dma semO.sem) harg6.wordExact ((View.wordExact_bits rfl).reshape _ _) ⟨Or.inl rfl, trivial⟩)
  Prog.lift (.waitDma2 semO.sem arg6 (outView i arg4 k) harg6.wordExact ((View.wordExact_bits rfl).reshape _ _))

/-- The chunks of a list, in order. -/
def chunks (sem : DmaSems sig S_) (sems : ℕ → DmaSems sig S_) : List (Fin 32) → Prog (TpuEff nD τ sig (Elt F) Λ₀ (ThrKind i)) PUnit
  | [] => pure ⟨⟩
  | k :: ks => do
    chunk i arg2 arg3 arg4 arg5 arg6 harg5 harg6 sem (sems (2 * k.val)) (sems (2 * k.val + 1)) k
    chunks sem sems ks

set_option maxRecDepth 100000 in
set_option maxHeartbeats 0 in
theorem body_eq_chunks (harg2 : arg2.IsWhole) (harg3 : arg3.IsWhole) (harg4 : arg4.IsWhole) (sem : DmaSems sig S_) (sems : ℕ → DmaSems sig S_) :
    cc0__sc_restore_body (F := F) i arg2 harg2 arg3 harg3 arg4 harg4 arg5 harg5 arg6 harg6 sem (sems 0) (sems 1) (sems 2) (sems 3) (sems 4) (sems 5) (sems 6) (sems 7) (sems 8) (sems 9) (sems 10) (sems 11) (sems 12) (sems 13) (sems 14) (sems 15) (sems 16) (sems 17) (sems 18) (sems 19) (sems 20) (sems 21) (sems 22) (sems 23) (sems 24) (sems 25) (sems 26) (sems 27) (sems 28) (sems 29) (sems 30) (sems 31) (sems 32) (sems 33) (sems 34) (sems 35) (sems 36) (sems 37) (sems 38) (sems 39) (sems 40) (sems 41) (sems 42) (sems 43) (sems 44) (sems 45) (sems 46) (sems 47) (sems 48) (sems 49) (sems 50) (sems 51) (sems 52) (sems 53) (sems 54) (sems 55) (sems 56) (sems 57) (sems 58) (sems 59) (sems 60) (sems 61) (sems 62) (sems 63)
      = chunks i arg2 arg3 arg4 arg5 arg6 harg5 harg6 sem sems (List.finRange 32) := rfl

end

end Cert.KernelIdeal.Restore

end
-- ==== Proof.RestoreGeom.lean ====
/-
  The restoring gather's data: which elements each of its views names, what it is to leave in its output, and what one
  piece and one write-out do to the buffers they write.
-/
module

public import proofs.«01_k».proof.Proof.RestoreBody
public import Idealize.ShloMosaic.Lib.SparseCore.Stream
public import Idealize.ShloMosaic.Lib.ValueIdxCore
public import Idealize.ShloMosaic.Lib.ValueLayout
public import Idealize.ShloMosaic.Lib.Writes

@[expose] public section

noncomputable section

namespace Cert.KernelIdeal.Restore

open Cert.KernelIdeal Cert.KernelIdeal.Gen
open Idealize.ShloMosaic Idealize.ShloMosaic.ValueIdx

variable {F : FTy → Type}

abbrev tabM : Memref sig .scVector .hbm S524288x128 .f32 := Memref.whole main_v0_scv
abbrev idxM : Memref sig .scVector .hbm S32x4x32x128 .i32 := Memref.whole main_v1_scv
abbrev outM : Memref sig .scVector .hbm S32x4x4096x128 .f32 := Memref.whole main_v2_scv
abbrev listM : Memref sig .scVector .vmem S4x128 .i32 := Memref.whole cc0_scratch0
abbrev bufM : Memref sig .scVector .vmem S512x128 .f32 := Memref.whole cc0_scratch1

/-! ## The elements a view names -/

theorem emb_idxView (i : grid0.Coords) (k : Fin 32) (a : Fin 4) (b : Fin 128) :
    (idxView i idxM k).view.emb (ix2 a b)
      = ix4 (⟨batch i, batch_lt i⟩ : Fin 32) (⟨k.val / 8, by omega⟩ : Fin 4) (⟨4 * (k.val % 8) + a.val, by omega⟩ : Fin 32) b := by
  show (Rect.unit (s := S32x4x32x128) (idxOff i k.val) S1x1x4x128.size (idxOff_inb i k)).emb (Shape.reshapeEquiv _ (ix2 a b)) = _
  rw [reshapeEquiv_ix2_11ab]
  funext d
  match d with
  | 0 => exact Fin.ext (show batch i + 1 * 0 = batch i from rfl)
  | 1 => exact Fin.ext (show k.val / 8 + 1 * 0 = k.val / 8 by omega)
  | 2 => exact Fin.ext (show 4 * (k.val % 8) + 1 * a.val = 4 * (k.val % 8) + a.val by omega)
  | 3 => exact Fin.ext (show 0 + 1 * b.val = b.val by omega)

theorem emb_outView (i : grid0.Coords) (k : Fin 32) (a : Fin 512) (b : Fin 128) :
    (outView i outM k).view.emb (ix2 a b)
      = ix4 (⟨batch i, batch_lt i⟩ : Fin 32) (⟨k.val / 8, by omega⟩ : Fin 4) (⟨512 * (k.val % 8) + a.val, by omega⟩ : Fin 4096) b := by
  show (Rect.unit (s := S32x4x4096x128) (outOff i k.val) S1x1x512x128.size (outOff_inb i k)).emb (Shape.reshapeEquiv _ (ix2 a b)) = _
  rw [reshapeEquiv_ix2_11ab]
  funext d
  match d with
  | 0 => exact Fin.ext (show batch i + 1 * 0 = batch i from rfl)
  | 1 => exact Fin.ext (show k.val / 8 + 1 * 0 = k.val / 8 by omega)
  | 2 => exact Fin.ext (show 512 * (k.val % 8) + 1 * a.val = 512 * (k.val % 8) + a.val by omega)
  | 3 => exact Fin.ext (show 0 + 1 * b.val = b.val by omega)

theorem emb_bufView (j : Fin 4) (a b : Fin 128) :
    (bufView bufM j).view.emb (ix2 a b) = ix2 (⟨128 * j.val + a.val, by omega⟩ : Fin 512) b := by
  show (Rect.unit (s := S512x128) ![128 * j.val, 0] S128x128.size (bufOff_inb j)).emb (ix2 a b) = _
  funext d
  match d with
  | 0 => exact Fin.ext (show 128 * j.val + 1 * a.val = 128 * j.val + a.val by omega)
  | 1 => exact Fin.ext (show 0 + 1 * b.val = b.val by omega)

theorem reshapeEquiv_list (h : (⟨1, ![128]⟩ : Shape).numel = (⟨2, ![1, 128]⟩ : Shape).numel) (a : Fin 128) :
    Shape.reshapeEquiv h (ix1 a) = ix2 (⟨0, Nat.one_pos⟩ : Fin 1) a :=
  Shape.reshapeEquiv_eq_of_rowMajor h (by
    rw [Shape.rowMajor_val_two, Shape.rowMajor_val_one]
    show 0 * 128 + a.val = a.val
    omega)

theorem emb_listView (j : Fin 4) (a : Fin 128) : (listView listM j).view.emb (ix1 a) = ix2 j a := by
  show (Rect.unit (s := S4x128) ![j.val, 0] S1x128.size (listOff_inb j)).emb (Shape.reshapeEquiv _ (ix1 a)) = _
  rw [reshapeEquiv_list]
  funext d
  match d with
  | 0 => exact Fin.ext (show j.val + 1 * 0 = j.val by omega)
  | 1 => exact Fin.ext (show 0 + 1 * a.val = a.val by omega)

theorem emb_tabView (a : Fin 524288) (b : Fin 128) : (tabView tabM).view.emb (ix2 a b) = ix2 a b := by
  show (Rect.unit (s := S524288x128) ![0, 0] S524288x128.size inb_S524288x128_S524288x128_0_0).emb (ix2 a b) = _
  funext d
  match d with
  | 0 => exact Fin.ext (show 0 + 1 * a.val = a.val by omega)
  | 1 => exact Fin.ext (show 0 + 1 * b.val = b.val by omega)

/-! ## What the gather is to leave -/

/-- Row `p` of round `r` of batch `b` of the output is the table's row that the index list names at position `p`. -/
def gathered (tab : S524288x128.Idx → Elt F .f32) (idx : S32x4x32x128.Idx → Elt F .i32) (h : ∀ x, (idx x).toNat < 524288) :
    S32x4x4096x128.Idx → Elt F .f32 := fun x =>
  tab (ix2 (⟨(idx (ix4 (x 0 : Fin 32) (x 1 : Fin 4) (⟨(x 2).val / 128, by have h2 : (x 2).val < 4096 := (x 2).isLt; omega⟩ : Fin 32)
    (⟨(x 2).val % 128, Nat.mod_lt _ (by decide)⟩ : Fin 128))).toNat, h _⟩ : Fin 524288) (x 3 : Fin 128))

/-- What a chunk's row buffer is to hold, from the fetched list. -/
def rowsOf (tab : S524288x128.Idx → Elt F .f32) (l : S4x128.Idx → Elt F .i32) (h : ∀ x, (l x).toNat < 524288) :
    S512x128.Idx → Elt F .f32 := fun x =>
  tab (ix2 (⟨(l (ix2 (⟨(x 0).val / 128, by have h0 : (x 0).val < 512 := (x 0).isLt; omega⟩ : Fin 4)
    (⟨(x 0).val % 128, Nat.mod_lt _ (by decide)⟩ : Fin 128))).toNat, h _⟩ : Fin 524288) (x 1 : Fin 128))

/-- The row buffer after its first `n` pieces. -/
def upto (n : ℕ) (tab : S524288x128.Idx → Elt F .f32) (l : S4x128.Idx → Elt F .i32) (h : ∀ x, (l x).toNat < 524288)
    (f : S512x128.Idx → Elt F .f32) : S512x128.Idx → Elt F .f32 := fun x => if (x 0).val < 128 * n then rowsOf tab l h x else f x

theorem upto_zero (tab : S524288x128.Idx → Elt F .f32) (l : S4x128.Idx → Elt F .i32) (h : ∀ x, (l x).toNat < 524288)
    (f : S512x128.Idx → Elt F .f32) : upto 0 tab l h f = f := funext fun x => if_neg (by omega)
theorem upto_four (tab : S524288x128.Idx → Elt F .f32) (l : S4x128.Idx → Elt F .i32) (h : ∀ x, (l x).toNat < 524288)
    (f : S512x128.Idx → Elt F .f32) : upto 4 tab l h f = rowsOf tab l h :=
  funext fun x => if_pos (by have h0 : (x 0).val < 512 := (x 0).isLt; omega)

theorem read_listView (j : Fin 4) (l : S4x128.Idx → Elt F .i32) (a : Fin 128) : (listView listM j).view.read (Elt F) l (ix1 a) = l (ix2 j a) := by
  rw [View.read_apply, emb_listView]; exact cast_eq _ _

theorem list_inb (j : Fin 4) (l : S4x128.Idx → Elt F .i32) (h : ∀ x, (l x).toNat < 524288) :
    ∀ x, ((listView listM j).view.read (Elt F) l x).toNat < S524288x128.size gathers_S524288x128_S128x128.axis := by
  intro x
  obtain ⟨a, rfl⟩ : ∃ a, x = ix1 a := ⟨x 0, eq_ix1 x⟩
  rw [read_listView]; exact h _

/-- What piece `j` writes, at its own element. -/
theorem payload_apply (j : Fin 4) (tab : S524288x128.Idx → Elt F .f32) (l : S4x128.Idx → Elt F .i32) (h : ∀ x, (l x).toNat < 524288)
    (a b : Fin 128) :
    SparseCore.gatherPayload gathers_S524288x128_S128x128 ((tabView tabM).view.read (Elt F) tab)
        (SparseCore.rows ((listView listM j).view.read (Elt F) l) rfl (list_inb j l h)) (ix2 a b)
      = rowsOf tab l h (ix2 (⟨128 * j.val + a.val, by omega⟩ : Fin 512) b) := by
  have hrow : (SparseCore.rows ((listView listM j).view.read (Elt F) l) rfl (list_inb j l h) a : Fin 524288) = ⟨(l (ix2 j a)).toNat, h _⟩ := by
    apply Fin.ext
    unfold SparseCore.rows
    show ((listView listM j).view.read (Elt F) l (S128.rowMajor.symm _)).toNat = _
    have e : S128.rowMajor.symm (Fin.cast (show 128 = S128.numel from rfl) a) = ix1 a := by
      rw [Equiv.symm_apply_eq]; apply Fin.ext; rw [Shape.rowMajor_val_one]; rfl
    exact congrArg BitVec.toNat ((congrArg _ e).trans (read_listView j l a))
  have hidx : (gathers_S524288x128_S128x128.idx (SparseCore.rows ((listView listM j).view.read (Elt F) l) rfl (list_inb j l h)) (ix2 a b))
      = ix2 (⟨(l (ix2 j a)).toNat, h _⟩ : Fin 524288) b := by
    funext d
    match d with
    | 0 => exact (Shape.Gathers.idx_axis gathers_S524288x128_S128x128 _ (ix2 a b)).trans hrow
    | 1 => exact Fin.ext (Shape.Gathers.idx_of_ne gathers_S524288x128_S128x128 _ (ix2 a b) 1 (by decide))
  unfold SparseCore.gatherPayload
  rw [hidx, View.read_apply, emb_tabView]
  refine (cast_eq _ _).trans ?_
  unfold rowsOf
  have e0 : (⟨(128 * j.val + a.val) / 128, by omega⟩ : Fin 4) = j := Fin.ext (by show (128 * j.val + a.val) / 128 = j.val; omega)
  have e1 : (⟨(128 * j.val + a.val) % 128, Nat.mod_lt _ (by decide)⟩ : Fin 128) = a := Fin.ext (by show (128 * j.val + a.val) % 128 = a.val; omega)
  show tab (ix2 (⟨(l (ix2 j a)).toNat, _⟩ : Fin 524288) b) = tab (ix2 (⟨(l (ix2 (⟨(128 * j.val + a.val) / 128, _⟩ : Fin 4) (⟨(128 * j.val + a.val) % 128, _⟩ : Fin 128))).toNat, _⟩ : Fin 524288) b)
  simp only [e0, e1]

/-- A row buffer done up to piece `j`, with piece `j` written, is done up to piece `j + 1`. -/
theorem write_piece (j : Fin 4) (tab : S524288x128.Idx → Elt F .f32) (l : S4x128.Idx → Elt F .i32) (h : ∀ x, (l x).toNat < 524288)
    (f : S512x128.Idx → Elt F .f32) :
    (bufView bufM j).view.write (Elt F) (upto j.val tab l h f)
        (SparseCore.gatherPayload gathers_S524288x128_S128x128 ((tabView tabM).view.read (Elt F) tab)
          (SparseCore.rows ((listView listM j).view.read (Elt F) l) rfl (list_inb j l h))) Finset.univ
      = upto (j.val + 1) tab l h f := by
  funext x
  by_cases hx : x ∈ (bufView bufM j).view.set
  · obtain ⟨y, -, rfl⟩ := Finset.mem_map.mp hx
    obtain ⟨a, b, rfl⟩ : ∃ a b, y = ix2 a b := ⟨y 0, y 1, eq_ix2 y⟩
    rw [View.write_emb_of_mem (v := (bufView bufM j).view) _ _ (Finset.mem_univ _), payload_apply j tab l h, emb_bufView]
    refine (cast_eq _ _).trans (if_pos ?_).symm
    show 128 * j.val + a.val < 128 * (j.val + 1); omega
  · rw [View.write_of_not_mem (v := (bufView bufM j).view) _ _ _ (fun hx' => hx hx')]
    unfold upto
    obtain ⟨c, b, rfl⟩ : ∃ c b, x = ix2 c b := ⟨x 0, x 1, eq_ix2 x⟩
    by_cases h1 : c.val < 128 * j.val
    · rw [if_pos (show ((ix2 c b : S512x128.Idx) 0).val < 128 * j.val from h1), if_pos (show ((ix2 c b : S512x128.Idx) 0).val < 128 * (j.val + 1) by show c.val < _; omega)]
    · by_cases h2 : c.val < 128 * (j.val + 1)
      · refine absurd ?_ hx
        have := View.emb_mem_set (bufView bufM j).view (ix2 (⟨c.val - 128 * j.val, by omega⟩ : Fin 128) b)
        rw [emb_bufView] at this
        have e : (⟨128 * j.val + (c.val - 128 * j.val), by omega⟩ : Fin 512) = c := Fin.ext (by show 128 * j.val + (c.val - 128 * j.val) = c.val; omega)
        simpa only [e] using this
      · rw [if_neg (show ¬ ((ix2 c b : S512x128.Idx) 0).val < 128 * j.val from h1), if_neg (show ¬ ((ix2 c b : S512x128.Idx) 0).val < 128 * (j.val + 1) from h2)]

theorem read_idxView (i : grid0.Coords) (k : Fin 32) (I : S32x4x32x128.Idx → Elt F .i32) (a : Fin 4) (b : Fin 128) :
    (idxView i idxM k).view.read (Elt F) I (ix2 a b)
      = I (ix4 (⟨batch i, batch_lt i⟩ : Fin 32) (⟨k.val / 8, by omega⟩ : Fin 4) (⟨4 * (k.val % 8) + a.val, by omega⟩ : Fin 32) b) := by
  rw [View.read_apply, emb_idxView]; exact cast_eq _ _

theorem fetched_inb (i : grid0.Coords) (k : Fin 32) (I : S32x4x32x128.Idx → Elt F .i32) (h : ∀ x, (I x).toNat < 524288) :
    ∀ x, ((idxView i idxM k).view.read (Elt F) I x).toNat < 524288 := by
  intro x
  obtain ⟨a, b, rfl⟩ : ∃ a b, x = ix2 a b := ⟨x 0, x 1, eq_ix2 x⟩
  rw [read_idxView]; exact h _

/-- One write of a view's whole rectangle is a write of the view, on the view's own elements. -/
theorem writes_whole_apply {κ : Kind} {sp : Space} {s : Shape} {e : EltTy} (v : View sig κ sp s e) (f : v.ty.Contents (Elt F)) (w : s.Idx → Elt F e)
    {x : v.ty.Idx} (hx : x ∈ v.set) : v.writes (Elt F) f [⟨Rect.whole s, w⟩] x = v.write (Elt F) f w Finset.univ x := by
  obtain ⟨y, -, rfl⟩ := Finset.mem_map.mp hx
  rw [View.writes_singleton, View.write_emb_of_mem (v := v) _ _ (Finset.mem_univ y)]
  have e1 : (v.slice (Rect.whole s)).emb y = v.emb y := congrArg v.emb (Rect.emb_whole_apply s y)
  rw [← e1, View.write_emb_of_mem (v := v.slice (Rect.whole s)) _ _ (Finset.mem_univ _)]

/-- On chunk `k`'s rows of the output, the write-out of the gathered row buffer leaves what the gather is to leave. -/
theorem write_out (i : grid0.Coords) (k : Fin 32) (tab : S524288x128.Idx → Elt F .f32) (I : S32x4x32x128.Idx → Elt F .i32)
    (h : ∀ x, (I x).toNat < 524288) (f : S32x4x4096x128.Idx → Elt F .f32) :
    ∀ x ∈ (outView i outM k).view.set,
      (outView i outM k).view.write (Elt F) f (rowsOf tab ((idxView i idxM k).view.read (Elt F) I) (fetched_inb i k I h)) Finset.univ x
        = gathered tab I h x := by
  intro x hx
  obtain ⟨y, -, rfl⟩ := Finset.mem_map.mp hx
  obtain ⟨a, b, rfl⟩ : ∃ a b, y = ix2 a b := ⟨y 0, y 1, eq_ix2 y⟩
  rw [View.write_emb_of_mem (v := (outView i outM k).view) _ _ (Finset.mem_univ _), emb_outView]
  refine (cast_eq _ _).trans ?_
  unfold rowsOf gathered
  have e := read_idxView i k I (⟨a.val / 128, by omega⟩ : Fin 4) (⟨a.val % 128, Nat.mod_lt _ (by decide)⟩ : Fin 128)
  have e2 : (⟨4 * (k.val % 8) + a.val / 128, by omega⟩ : Fin 32) = ⟨(512 * (k.val % 8) + a.val) / 128, by omega⟩ := Fin.ext (by show 4 * (k.val % 8) + a.val / 128 = (512 * (k.val % 8) + a.val) / 128; omega)
  have e3 : (⟨a.val % 128, Nat.mod_lt _ (by decide)⟩ : Fin 128) = ⟨(512 * (k.val % 8) + a.val) % 128, Nat.mod_lt _ (by decide)⟩ := Fin.ext (by show a.val % 128 = (512 * (k.val % 8) + a.val) % 128; omega)
  refine congrArg tab (funext fun d => ?_)
  match d with
  | 0 =>
    refine Fin.ext ?_
    show ((idxView i idxM k).view.read (Elt F) I (ix2 (⟨a.val / 128, _⟩ : Fin 4) (⟨a.val % 128, _⟩ : Fin 128))).toNat = _
    rw [e]
    simp only [e2, e3]
  | 1 => rfl

end Cert.KernelIdeal.Restore

end
-- ==== Proof.RestoreTile.lean ====
/-
  The restoring gather on one tile: one piece, one chunk, the thirty-two chunks.
-/
module

public import proofs.«01_k».proof.Defs
public import proofs.«01_k».proof.Proof.RestoreGeom
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Restore

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds, the pipeline's rounds, the transfers' counters -/

abbrev UH : Type := URounds (GSem nD τ sig) ℕ
abbrev UU : Type := UH × (UR sig nD τ × Counters)

local notation "𝕄" => MT nD τ sig (HIx 1) (Elt F) ℕ UU ℕ

abbrev 𝒱₀ : Variants := Variants.none

abbrev thrV (d : Dev nD) (i : grid0.Coords) : Thread nD τ := (d, ThrKind i)

/-- What a tile owes, its recorded waits being those it came with and its own transfers'. -/
def Owed (thr : Thread nD τ) (O : CellTallies nD τ sig (HIx 1)) (W : Waits sig (HIx 1)) : sProp 𝕄 :=
  iprop(∃ W', ⌜∀ p ∈ W', p ∈ W ∨ p.2 = none⌝ ∗ owes thr O W')

theorem insert_none {W W' : Waits sig (HIx 1)} (h : ∀ p ∈ W', p ∈ W ∨ p.2 = none) {s : SemLoc sig} :
    ∀ p ∈ insert (s, (default : HIx 1)) W', p ∈ W ∨ p.2 = none := fun p hp => by
  rcases Finset.mem_insert.mp hp with hp | hp
  · exact .inr (hp ▸ rfl)
  · exact h p hp

theorem owed_intro {thr : Thread nD τ} {O : CellTallies nD τ sig (HIx 1)} {W W' : Waits sig (HIx 1)} (h : ∀ p ∈ W', p ∈ W ∨ p.2 = none) :
    (owes thr O W' : sProp 𝕄) ⊢ Owed thr O W := by
  unfold Owed
  iintro HO
  iexists W'; isplitr
  · ipureintro; exact h
  · iexact HO

variable [FloatOps F]

section Tile

variable (d : Dev nD) (i : grid0.Coords)

set_option maxHeartbeats 4000000 in
/-- Piece `j`: the row buffer, done up to piece `j`, is done up to piece `j + 1`. -/
theorem wp_piece (q : PosShare TreeShare) (tab : S524288x128.Idx → Elt F .f32) (l : S4x128.Idx → Elt F .i32)
    (h : ∀ x, (l x).toNat < 524288) (f : S512x128.Idx → Elt F .f32) (sem : DmaSems sig S_) (j : Fin 4)
    (O : CellTallies nD τ sig (HIx 1)) (W : Waits sig (HIx 1)) (Φ : PUnit → sProp 𝕄) :
    iprop(Transfers.MayWaits (thrV d i) (default : HIx 1) O
        ∗ (tabM.view.loc (thrV d i) ↦{q} tab) ∗ (listM.view.loc (thrV d i) ↦{fullShare} l)
        ∗ (bufM.view.loc (thrV d i) ↦{fullShare} upto j.val tab l h f) ∗ semVal (thrV d i, SemLoc.dma sem.sem) 0 ∗ Owed (thrV d i) O W
        ∗ (iprop((tabM.view.loc (thrV d i) ↦{q} tab) ∗ (listM.view.loc (thrV d i) ↦{fullShare} l)
            ∗ (bufM.view.loc (thrV d i) ↦{fullShare} upto (j.val + 1) tab l h f) ∗ semVal (thrV d i, SemLoc.dma sem.sem) 0 ∗ Owed (thrV d i) O W) -∗ Φ ⟨⟩))
      ⊢ wp frame (wpE (defs₀ (F := F)) 𝒱₀ (thrV d i) none) Set.univ (piece i tabM listM bufM sem j) Φ := by
  unfold piece Owed
  iintro ⟨#Hmw, Ht, Hl, Hb, Hv, ⟨%W', %hW', HO⟩, Hk⟩
  ihave Hts := (pointsTo_split_subset (q := q) (f := tab) (S := Finset.univ) (Finset.subset_univ (tabView tabM).view.set)).1 $$ Ht
  icases Hts with ⟨Hts, Htr⟩
  ihave Hls := (pointsTo_split_subset (q := fullShare) (f := l) (S := Finset.univ) (Finset.subset_univ (listView listM j).view.set)).1 $$ Hl
  icases Hls with ⟨Hls, Hlr⟩
  ihave Hbs := (pointsTo_split_subset (q := fullShare) (f := upto j.val tab l h f) (S := Finset.univ) (Finset.subset_univ (bufView bufM j).view.set)).1 $$ Hb
  icases Hbs with ⟨Hbs, Hbr⟩
  have hN : ∀ h : S524288x128.Gathers 0 S128x128, ∑ x, ((bufView bufM j).slice (S128x128.rowRect h.axis' x) (S128x128.stride_rowRect h.axis' x)).view.dmaCredit
      = (bufView bufM j).view.dmaCredit := by fin_cases j <;> decide +kernel
  iapply (SparseCore.wp_indirectGatherLocal countersEmb 𝒱₀ (thrV d i) none (hg := gathers_S524288x128_S128x128) (default : HIx 1)
      (bufView bufM j).view.dmaCredit (hN _) (by decide) (list_inb j l h)) $$ [Hts Hbs Hls Hv]
  · isplitl [Hts]; · iexact Hts
    isplitl [Hbs]; · iexact Hbs
    isplitl [Hls]; · iexact Hls
    iexact Hv
  iintro Hfl
  iapply (Transfers.wp_waitLocalO countersEmb 𝒱₀ (thrV d i) none (default : HIx 1) (rfl : (bufView bufM j).view.dmaCredit = _)) $$ [Hfl HO]
  · isplitl [Hfl]; · iexact Hfl
    isplitl [HO]; · iexact HO
    iapply (Transfers.MayWaits.elim (SemLoc.dma sem.sem)) $$ Hmw
  rw [write_piece]
  iintro ⟨⟨Hbs, Hts, Hls⟩, Hv, HO⟩
  sl_step
  iapply Hk
  isplitl [Hts Htr]
  · iapply (pointsTo_split_subset (q := q) (f := tab) (S := Finset.univ) (Finset.subset_univ (tabView tabM).view.set)).2
    isplitl [Hts] <;> iassumption
  isplitl [Hls Hlr]
  · iapply (pointsTo_split_subset (q := fullShare) (f := l) (S := Finset.univ) (Finset.subset_univ (listView listM j).view.set)).2
    isplitl [Hls] <;> iassumption
  isplitl [Hbs Hbr]
  · have e : (bufM.view.loc (thrV d i) ↦[Finset.univ \ (bufView bufM j).view.set]{fullShare} upto j.val tab l h f : sProp 𝕄)
        = bufM.view.loc (thrV d i) ↦[Finset.univ \ (bufView bufM j).view.set]{fullShare} upto (j.val + 1) tab l h f :=
      pointsTo_congr fun x hx => by
        rw [← write_piece j tab l h f]
        exact (View.write_of_not_mem (v := (bufView bufM j).view) _ _ _ (Finset.mem_sdiff.mp hx).2).symm
    ihave Hbr' := (Entails.of_eq e) $$ Hbr
    iapply (pointsTo_split_subset (q := fullShare) (f := upto (j.val + 1) tab l h f) (S := Finset.univ) (Finset.subset_univ (bufView bufM j).view.set)).2
    isplitl [Hbs] <;> iassumption
  isplitl [Hv]; · iexact Hv
  iexists _; isplitr
  swap; · iexact HO
  ipureintro; intro p hp
  rcases Finset.mem_insert.mp hp with hp | hp
  · exact .inr (hp ▸ rfl)
  · exact hW' p hp

set_option maxHeartbeats 4000000 in
/-- Chunk `k`: the tile's rows of the output at chunk `k` end holding what the gather is to leave there. -/
theorem wp_chunk (q : PosShare TreeShare) (tab : S524288x128.Idx → Elt F .f32) (I : S32x4x32x128.Idx → Elt F .i32)
    (h : ∀ x, (I x).toNat < 524288) (fo : S32x4x4096x128.Idx → Elt F .f32) (sem semI semO : DmaSems sig S_) (k : Fin 32)
    (O : CellTallies nD τ sig (HIx 1)) (W : Waits sig (HIx 1)) (Φ : PUnit → sProp 𝕄) :
    iprop(Transfers.MayWaits (thrV d i) (default : HIx 1) O
        ∗ (tabM.view.loc (thrV d i) ↦{q} tab) ∗ (idxM.view.loc (thrV d i) ↦{q} I)
        ∗ ((outView i outM k).view.loc (thrV d i) ↦[(outView i outM k).view.set]{fullShare} fo)
        ∗ (∃ l, listM.view.loc (thrV d i) ↦{fullShare} l) ∗ (∃ f, bufM.view.loc (thrV d i) ↦{fullShare} f)
        ∗ semVal (thrV d i, SemLoc.dma sem.sem) 0 ∗ semVal (thrV d i, SemLoc.dma semI.sem) 0 ∗ semVal (thrV d i, SemLoc.dma semO.sem) 0
        ∗ Owed (thrV d i) O W
        ∗ (iprop((tabM.view.loc (thrV d i) ↦{q} tab) ∗ (idxM.view.loc (thrV d i) ↦{q} I)
            ∗ ((outView i outM k).view.loc (thrV d i) ↦[(outView i outM k).view.set]{fullShare} gathered tab I h)
            ∗ (∃ l, listM.view.loc (thrV d i) ↦{fullShare} l) ∗ (∃ f, bufM.view.loc (thrV d i) ↦{fullShare} f)
            ∗ semVal (thrV d i, SemLoc.dma sem.sem) 0 ∗ semVal (thrV d i, SemLoc.dma semI.sem) 0 ∗ semVal (thrV d i, SemLoc.dma semO.sem) 0
            ∗ Owed (thrV d i) O W) -∗ Φ ⟨⟩))
      ⊢ wp frame (wpE (defs₀ (F := F)) 𝒱₀ (thrV d i) none) Set.univ
          (chunk i tabM idxM outM listM bufM (Memref.isWhole_whole _) (Memref.isWhole_whole _) sem semI semO k) Φ := by
  unfold chunk Owed

  iintro ⟨#Hmw, Ht, HI, Ho, ⟨%l0, Hl⟩, ⟨%f0, Hb⟩, Hv, HvI, HvO, ⟨%W', %hW', HO⟩, Hk⟩
  sl_exec
  have hl : View.write (Elt F) listM.view l0 (wp_chunk.sl.dma0 i I k) Finset.univ = (idxView i idxM k).view.read (Elt F) I :=
    (View.write_whole_univ _ _ _).trans rfl
  rw [hl]
  have h' := fetched_inb i k I h
  rw [← upto_zero tab ((idxView i idxM k).view.read (Elt F) I) h' f0]
  ihave HO := (owed_intro (W := W) (insert_none (fun p hp => hW' p hp))) $$ HO
  iapply (wp_piece d i q tab ((idxView i idxM k).view.read (Elt F) I) h' f0 sem 0 O W)
  isplitr; · iexact Hmw
  isplitl [Ht]; · iexact Ht
  isplitl [Hl]; · iexact Hl
  isplitl [Hb]; · iexact Hb
  isplitl [Hv]; · iexact Hv
  isplitl [HO]; · iexact HO
  iintro ⟨Ht, Hl, Hb, Hv, HO⟩
  beta_reduce
  rw [wp_bind]
  iapply (wp_piece d i q tab ((idxView i idxM k).view.read (Elt F) I) h' f0 sem 1 O W)
  isplitr; · iexact Hmw
  isplitl [Ht]; · iexact Ht
  isplitl [Hl]; · iexact Hl
  isplitl [Hb]; · iexact Hb
  isplitl [Hv]; · iexact Hv
  isplitl [HO]; · iexact HO
  iintro ⟨Ht, Hl, Hb, Hv, HO⟩
  beta_reduce
  rw [wp_bind]
  iapply (wp_piece d i q tab ((idxView i idxM k).view.read (Elt F) I) h' f0 sem 2 O W)
  isplitr; · iexact Hmw
  isplitl [Ht]; · iexact Ht
  isplitl [Hl]; · iexact Hl
  isplitl [Hb]; · iexact Hb
  isplitl [Hv]; · iexact Hv
  isplitl [HO]; · iexact HO
  iintro ⟨Ht, Hl, Hb, Hv, HO⟩
  beta_reduce
  rw [wp_bind]
  iapply (wp_piece d i q tab ((idxView i idxM k).view.read (Elt F) I) h' f0 sem 3 O W)
  isplitr; · iexact Hmw
  isplitl [Ht]; · iexact Ht
  isplitl [Hl]; · iexact Hl
  isplitl [Hb]; · iexact Hb
  isplitl [Hv]; · iexact Hv
  isplitl [HO]; · iexact HO
  iintro ⟨Ht, Hl, Hb, Hv, HO⟩
  rw [show (3 : Fin 4).val + 1 = 4 from rfl, upto_four]
  unfold Owed
  icases HO with ⟨%W2, %hW2, HO⟩
  sl_exec
  have hw : ∀ x ∈ (outView i outM k).view.set,
      (outView i outM k).view.writes (Elt F) fo [⟨Rect.whole S512x128, wp_chunk.sl.dma0_1 i tab I k h'⟩] x = gathered tab I h x := fun x hx =>
    (writes_whole_apply _ _ _ hx).trans (write_out i k tab I h fo x hx)
  ihave Ho := (Entails.of_eq (pointsTo_congr hw)) $$ Ho
  sl_step
  iapply Hk
  isplitl [Ht]; · iexact Ht
  isplitl [HI]; · iexact HI
  isplitl [Ho]; · iexact Ho
  isplitl [Hl]; · iexists _; iexact Hl
  isplitl [Hb]; · iexists _; iexact Hb
  isplitl [Hv]; · iexact Hv
  isplitl [HvI]; · iexact HvI
  isplitl [HvO]; · iexact HvO
  iexists _; isplitr
  swap; · iexact HO
  ipureintro; exact insert_none hW2

/-- A chunk's two cells, of its index fetch and of its write-out, at zero. -/
def cells (sems : ℕ → DmaSems sig S_) (k : Fin 32) : sProp 𝕄 :=
  iprop(semVal (thrV d i, SemLoc.dma (sems (2 * k.val)).sem) 0 ∗ semVal (thrV d i, SemLoc.dma (sems (2 * k.val + 1)).sem) 0)

/-- Chunk `k`'s rows of the output. -/
abbrev outAt (k : Fin 32) (f : S32x4x4096x128.Idx → Elt F .f32) : sProp 𝕄 :=
  (outView i outM k).view.loc (thrV d i) ↦[(outView i outM k).view.set]{fullShare} f

/-- The chunks of a list, in order. -/
theorem wp_chunks (q : PosShare TreeShare) (tab : S524288x128.Idx → Elt F .f32) (I : S32x4x32x128.Idx → Elt F .i32)
    (h : ∀ x, (I x).toNat < 524288) (fo : S32x4x4096x128.Idx → Elt F .f32) (sem : DmaSems sig S_) (sems : ℕ → DmaSems sig S_)
    (O : CellTallies nD τ sig (HIx 1)) (W : Waits sig (HIx 1)) :
    ∀ (ks : List (Fin 32)), ks.Nodup → ∀ (Φ : PUnit → sProp 𝕄),
    iprop(Transfers.MayWaits (thrV d i) (default : HIx 1) O
        ∗ (tabM.view.loc (thrV d i) ↦{q} tab) ∗ (idxM.view.loc (thrV d i) ↦{q} I)
        ∗ (bigSep ks.toFinset fun k => outAt d i k fo)
        ∗ (∃ l, listM.view.loc (thrV d i) ↦{fullShare} l) ∗ (∃ f, bufM.view.loc (thrV d i) ↦{fullShare} f)
        ∗ semVal (thrV d i, SemLoc.dma sem.sem) 0 ∗ (bigSep ks.toFinset fun k => cells d i sems k)
        ∗ Owed (thrV d i) O W
        ∗ (iprop((tabM.view.loc (thrV d i) ↦{q} tab) ∗ (idxM.view.loc (thrV d i) ↦{q} I)
            ∗ (bigSep ks.toFinset fun k => outAt d i k (gathered tab I h))
            ∗ (∃ l, listM.view.loc (thrV d i) ↦{fullShare} l) ∗ (∃ f, bufM.view.loc (thrV d i) ↦{fullShare} f)
            ∗ semVal (thrV d i, SemLoc.dma sem.sem) 0 ∗ (bigSep ks.toFinset fun k => cells d i sems k)
            ∗ Owed (thrV d i) O W) -∗ Φ ⟨⟩))
      ⊢ wp frame (wpE (defs₀ (F := F)) 𝒱₀ (thrV d i) none) Set.univ
          (chunks i tabM idxM outM listM bufM (Memref.isWhole_whole _) (Memref.isWhole_whole _) sem sems ks) Φ
  | [], _, Φ => by
    iintro ⟨-, Ht, HI, Ho, Hl, Hb, Hv, Hc, HO, Hk⟩
    unfold chunks
    sl_step
    iapply Hk
    isplitl [Ht]; · iexact Ht
    isplitl [HI]; · iexact HI
    isplitl [Ho]; · iexact Ho
    isplitl [Hl]; · iexact Hl
    isplitl [Hb]; · iexact Hb
    isplitl [Hv]; · iexact Hv
    isplitl [Hc]; · iexact Hc
    iexact HO
  | k :: ks, hnd, Φ => by
    have hk : k ∉ ks.toFinset := fun hk => (List.nodup_cons.mp hnd).1 (List.mem_toFinset.mp hk)
    rw [List.toFinset_cons, SparseCore.bigSep_insert' hk, SparseCore.bigSep_insert' hk, SparseCore.bigSep_insert' hk]
    unfold chunks
    rw [wp_bind]
    iintro ⟨#Hmw, Ht, HI, ⟨Ho, Hos⟩, Hl, Hb, Hv, ⟨Hc, Hcs⟩, HO, Hk⟩
    unfold cells
    icases Hc with ⟨HcI, HcO⟩
    iapply (wp_chunk d i q tab I h fo sem (sems (2 * k.val)) (sems (2 * k.val + 1)) k O W)
    isplitr; · iexact Hmw
    isplitl [Ht]; · iexact Ht
    isplitl [HI]; · iexact HI
    isplitl [Ho]; · iexact Ho
    isplitl [Hl]; · iexact Hl
    isplitl [Hb]; · iexact Hb
    isplitl [Hv]; · iexact Hv
    isplitl [HcI]; · iexact HcI
    isplitl [HcO]; · iexact HcO
    isplitl [HO]; · iexact HO
    iintro ⟨Ht, HI, Ho, Hl, Hb, Hv, HcI, HcO, HO⟩
    iapply (wp_chunks q tab I h fo sem sems O W ks (List.nodup_cons.mp hnd).2 Φ)
    isplitr; · iexact Hmw
    isplitl [Ht]; · iexact Ht
    isplitl [HI]; · iexact HI
    isplitl [Hos]; · iexact Hos
    isplitl [Hl]; · iexact Hl
    isplitl [Hb]; · iexact Hb
    isplitl [Hv]; · iexact Hv
    isplitl [Hcs]; · unfold cells; iexact Hcs
    isplitl [HO]; · iexact HO
    iintro ⟨Ht, HI, Hos, Hl, Hb, Hv, Hcs, HO⟩
    iapply Hk
    isplitl [Ht]; · iexact Ht
    isplitl [HI]; · iexact HI
    isplitl [Ho Hos]
    · isplitl [Ho]; · iexact Ho
      iexact Hos
    isplitl [Hl]; · iexact Hl
    isplitl [Hb]; · iexact Hb
    isplitl [Hv]; · iexact Hv
    isplitl [HcI HcO Hcs]
    · isplitl [HcI HcO]
      · isplitl [HcI]; · iexact HcI
        iexact HcO
      · unfold cells; iexact Hcs
    iexact HO

end Tile

end Cert.KernelIdeal.Restore

end
-- ==== Proof.RestoreLaunch.lean ====
/-
  The restoring gather as the launch sees it: one tile's task from what its launch hands it to what it hands back, and
  the table, the index list and the output dealt out to the thirty-two tiles and collected again.
-/
module

public import proofs.«01_k».proof.Proof.RestoreTile

@[expose] public section

noncomputable section

namespace Cert.KernelIdeal.Restore

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The buffers of the call -/

abbrev tabLoc (d : Dev nD) : Loc nD τ sig := (SparseCore.T d).loc main_v0
abbrev idxLoc (d : Dev nD) : Loc nD τ sig := (SparseCore.T d).loc main_v1
abbrev outLoc (d : Dev nD) : Loc nD τ sig := (SparseCore.T d).loc main_v2

/-- The tile's number among the thirty-two: its batch. -/
abbrev tileNo (i : grid0.Coords) : Fin 32 := ⟨batch i, batch_lt i⟩

/-- A tile's read share of an array all tiles read. -/
abbrev shr (i : grid0.Coords) : PosShare TreeShare := pieceOf fullShare 32 (by decide) (tileNo i)

/-- The output's elements of batch `b` in chunk `k`. -/
def chunkSet (b k : Fin 32) : Finset S32x4x4096x128.Idx :=
  Finset.univ.filter fun x => (x 0).val = b.val ∧ (x 1).val = k.val / 8 ∧ (x 2).val / 512 = k.val % 8

theorem mem_chunkSet {b k : Fin 32} {x : S32x4x4096x128.Idx} :
    x ∈ chunkSet b k ↔ (x 0).val = b.val ∧ (x 1).val = k.val / 8 ∧ (x 2).val / 512 = k.val % 8 := by
  simp [chunkSet]

theorem set_outView (i : grid0.Coords) (k : Fin 32) : (outView i outM k).view.set = chunkSet (tileNo i) k := by
  ext x
  rw [mem_chunkSet]
  constructor
  · intro hx
    obtain ⟨y, -, rfl⟩ := Finset.mem_map.mp hx
    obtain ⟨a, b, rfl⟩ : ∃ (a : Fin 512) (b : Fin 128), y = ix2 a b := ⟨y 0, y 1, eq_ix2 y⟩
    rw [emb_outView]
    exact ⟨rfl, rfl, show (512 * (k.val % 8) + a.val) / 512 = k.val % 8 by omega⟩
  · rintro ⟨h0, h1, h2⟩
    have h3 : (x 2).val < 4096 := (x 2).isLt
    refine Finset.mem_map.mpr ⟨ix2 (⟨(x 2).val % 512, Nat.mod_lt _ (by decide)⟩ : Fin 512) (x 3 : Fin 128), Finset.mem_univ _, ?_⟩
    refine (emb_outView i k _ _).trans ?_
    funext a
    match a with
    | 0 => exact Fin.ext h0.symm
    | 1 => exact Fin.ext h1.symm
    | 2 => exact Fin.ext (show 512 * (k.val % 8) + (x 2).val % 512 = (x 2).val by omega)
    | 3 => rfl

theorem chunkSet_disjoint : ∀ p ∈ (Finset.univ : Finset (Fin 32 × Fin 32)), ∀ p' ∈ (Finset.univ : Finset (Fin 32 × Fin 32)), p ≠ p' →
    Disjoint (chunkSet p.1 p.2) (chunkSet p'.1 p'.2) := by
  intro p _ p' _ hne
  rw [Finset.disjoint_left]
  intro x hx hx'
  rw [mem_chunkSet] at hx hx'
  exact hne (Prod.ext (Fin.ext (by omega)) (Fin.ext (by omega)))

theorem chunkSet_cover : (Finset.univ : Finset (Fin 32 × Fin 32)).biUnion (fun p => chunkSet p.1 p.2) = Finset.univ := by
  ext x
  have h0 : (x 0).val < 32 := (x 0).isLt
  have h1 : (x 1).val < 4 := (x 1).isLt
  have h2 : (x 2).val < 4096 := (x 2).isLt
  simp only [Finset.mem_biUnion, Finset.mem_univ, true_and, iff_true]
  refine ⟨(⟨(x 0).val, h0⟩, ⟨8 * (x 1).val + (x 2).val / 512, by omega⟩), mem_chunkSet.mpr ⟨rfl, ?_, ?_⟩⟩
  · show (x 1).val = (8 * (x 1).val + (x 2).val / 512) / 8; omega
  · show (x 2).val / 512 = (8 * (x 1).val + (x 2).val / 512) % 8; omega

/-! ## A tile's cells and buffers -/

/-- The cells the chunks use, in their order: chunk `k`'s index fetch and its write-out. -/
def sems (n : ℕ) : DmaSems sig S_ :=
  SemArray.consecutive (n % 64 + 1) S_ (show n % 64 + 1 + 1 ≤ 69 by have := Nat.mod_lt n (show 0 < 64 by decide); omega)

section Own

variable (d : Dev nD) (i : grid0.Coords)

theorem sems_scoped : ∀ n : Fin 64, (SemLoc.dma (sems n.val).sem : SemLoc sig).isScoped .scVector = true := by decide
theorem sems_val : ∀ n : Fin 64, ((sems n.val).sem : Fin 69).val = n.val + 1 := by decide

/-- The chunks' cells. -/
def cellEmb : Fin 64 ↪ GSem nD τ sig where
  toFun n := (thrV d i, SemLoc.dma (sems n.val).sem)
  inj' n n' h := by
    have h' : (sems n.val).sem = (sems n'.val).sem := SemLoc.dma.inj (Prod.mk.inj h).2
    have e := sems_val n; have e' := sems_val n'
    rw [h'] at e
    exact Fin.ext (by omega)

abbrev gatherCell : GSem nD τ sig := (thrV d i, SemLoc.dma cc0_scratch2.sem)

theorem ownSems0_tile :
    (ownSems0 (thrV d i) : sProp 𝕄)
      = iprop(semVal (gatherCell d i) 0 ∗ (bigSep Finset.univ fun k : Fin 32 => cells d i sems k)
          ∗ bigSep ((ownCells (thrV d i)).erase (gatherCell d i) \ Finset.univ.map (cellEmb d i)) fun g => semVal g 0) := by
  unfold SparseCore.Cfg.ownSems0
  rw [SparseCore.bigSep_erase' ((mem_ownCells (g := gatherCell d i)).mpr ⟨rfl, by
      show (SemLoc.dma cc0_scratch2.sem : SemLoc sig).isScoped .scVector = true; decide⟩)]
  have hsub : Finset.univ.map (cellEmb d i) ⊆ (ownCells (thrV d i)).erase (gatherCell d i) := by
    intro g hg
    obtain ⟨n, -, rfl⟩ := Finset.mem_map.mp hg
    refine Finset.mem_erase.mpr ⟨fun h => ?_, mem_ownCells.mpr ⟨rfl, sems_scoped n⟩⟩
    have h' : (sems n.val).sem = cc0_scratch2.sem := SemLoc.dma.inj (Prod.mk.inj h).2
    have e := sems_val n
    rw [h'] at e
    exact absurd e (by show (0 : ℕ) ≠ n.val + 1; omega)
  have e : (bigSep (Finset.univ.map (cellEmb d i)) fun g => (semVal g 0 : sProp 𝕄)) = bigSep Finset.univ fun k : Fin 32 => cells d i sems k := by
    rw [bigSep_map, bigSep_univ_equiv (finProdFinEquiv (m := 32) (n := 2)), bigSep_univ_prod]
    refine bigSep_congr fun k _ => ?_
    rw [bigSep_fin_two]
    unfold cells
    show iprop(semVal (thrV d i, SemLoc.dma (sems (0 + 2 * k.val)).sem) 0 ∗ semVal (thrV d i, SemLoc.dma (sems (1 + 2 * k.val)).sem) 0) = _
    rw [Nat.zero_add, Nat.add_comm 1]
  rw [bigSep_sdiff_split hsub, e]
  rfl

/-- The two scratch buffers are among the tile's own: they are them, at some contents, and the rest. -/
theorem ownBufs_tile :
    (ownBufs (thrV d i) : sProp 𝕄)
      = iprop((∃ l, listM.view.loc (thrV d i) ↦{fullShare} l) ∗ (∃ f, bufM.view.loc (thrV d i) ↦{fullShare} f)
          ∗ bigSep (((ownRefs (τ := τ) (ThrKind i)).erase ((ThrKind i).devRef cc0_scratch0)).erase ((ThrKind i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := ThrKind i)
    (b := (ThrKind i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := ThrKind i) (b := (ThrKind i).devRef cc0_scratch1) rfl⟩)]

end Own

/-! ## What a tile is handed, and hands back -/

section Tile

variable (d : Dev nD)

/-- A tile's read shares of the table and of the index list, and its rows of the output, holding `f`. -/
def tileHas (tab : S524288x128.Idx → Elt F .f32) (I : S32x4x32x128.Idx → Elt F .i32) (f : S32x4x4096x128.Idx → Elt F .f32)
    (i : grid0.Coords) : sProp 𝕄 :=
  iprop((tabLoc d ↦{shr i} tab) ∗ (idxLoc d ↦{shr i} I) ∗ bigSep Finset.univ fun k : Fin 32 => outLoc d ↦[chunkSet (tileNo i) k]{fullShare} f)

instance tileHas_storable (tab : S524288x128.Idx → Elt F .f32) (I : S32x4x32x128.Idx → Elt F .i32) (f : S32x4x4096x128.Idx → Elt F .f32)
    (i : grid0.Coords) : BI.Storable (upEmb : UEmb _ 𝕄) (tileHas d tab I f i) := by unfold tileHas; infer_instance

variable [FloatOps F]

theorem outAt_eq (i : grid0.Coords) (f : S32x4x4096x128.Idx → Elt F .f32) :
    (bigSep Finset.univ fun k : Fin 32 => outLoc d ↦[chunkSet (tileNo i) k]{fullShare} f : sProp 𝕄)
      = bigSep (List.finRange 32).toFinset fun k => outAt d i k f := by
  rw [List.toFinset_finRange]
  refine bigSep_congr fun k _ => ?_
  unfold outAt
  rw [set_outView]

set_option maxHeartbeats 4000000 in
/-- The task on a tile: its rows of the output end holding the gathered rows. -/
theorem tile_body (i : grid0.Coords) (hF : (K (F := F)).Facts) (tab : S524288x128.Idx → Elt F .f32) (I : S32x4x32x128.Idx → Elt F .i32)
    (h : ∀ x, (I x).toNat < 524288) (fo : S32x4x4096x128.Idx → Elt F .f32)
    (O : CellTallies nD τ sig (HIx 1)) (W : Waits sig (HIx 1)) (hO : ∀ g, O g none = 0) :
    iprop(levAts (K (F := F)).L (K (F := F)).lev ∗ emp ∗ tileHas d tab I fo i
        ∗ scopedBufs (thrV d i) ∗ scopedSems0 (thrV d i) ∗ owes (thrV d i) O W)
      ⊢ wp frame (wpE (defs₀ (F := F)) 𝒱₀ (thrV d i) none) Set.univ
          (chunks i tabM idxM outM listM bufM (Memref.isWhole_whole _) (Memref.isWhole_whole _) cc0_scratch2 sems (List.finRange 32))
          fun _ => iprop(tileHas d tab I (gathered tab I h) i
            ∗ scopedBufs (thrV d i) ∗ scopedSems0 (thrV d i)
            ∗ ∃ W', ⌜∀ p ∈ W', p ∈ W ∨ p.2 = none⌝ ∗ owes (thrV d i) O W') := by
  rw [(K (F := F)).scopedBufs_V hF d ((i 0).castLE hcore0) ((i 1).castLE hsub0),
    SparseCore.Cfg.scopedSems0_V (Val := Elt F) d ((i 0).castLE hcore0) ((i 1).castLE hsub0)]
  rw [show SparseCore.V d ((i 0).castLE hcore0) ((i 1).castLE hsub0) = thrV d i from rfl, ownSems0_tile, ownBufs_tile]
  unfold tileHas
  rw [outAt_eq, outAt_eq]
  iintro ⟨#Hlv, -, ⟨Ht, HI, Ho⟩, ⟨Hl, Hb, Hbufs⟩, ⟨Hv, Hc, Hsems⟩, HO⟩
  ihave Hmw := (show levAts (K (F := F)).L (K (F := F)).lev ⊢ Transfers.MayWaits (thrV d i) (default : HIx 1) O from
    (K (F := F)).mayWaits_none (thr := thrV d i) hO) $$ Hlv
  ihave HO := (owed_intro (W := W) (fun p hp => .inl hp)) $$ HO
  iapply (wp_chunks d i (shr i) tab I h fo cc0_scratch2 sems O W (List.finRange 32) (List.nodup_finRange 32))
  isplitl [Hmw]; · iexact Hmw
  isplitl [Ht]; · iexact Ht
  isplitl [HI]; · iexact HI
  isplitl [Ho]; · iexact Ho
  isplitl [Hl]; · iexact Hl
  isplitl [Hb]; · iexact Hb
  isplitl [Hv]; · iexact Hv
  isplitl [Hc]; · rw [List.toFinset_finRange]; iexact Hc
  isplitl [HO]; · iexact HO
  rw [List.toFinset_finRange]
  iintro ⟨Ht, HI, Ho, Hl, Hb, Hv, Hc, HO⟩
  isplitl [Ht HI Ho]
  · isplitl [Ht]; · iexact Ht
    isplitl [HI]; · iexact HI
    iexact Ho
  isplitl [Hl Hb Hbufs]
  · isplitl [Hl]; · iexact Hl
    isplitl [Hb]; · iexact Hb
    iexact Hbufs
  isplitl [Hv Hc Hsems]
  · isplitl [Hv]; · iexact Hv
    isplitl [Hc]; · iexact Hc
    iexact Hsems
  unfold Owed; iexact HO

end Tile

/-! ## The handshakes' record, the tiles' obligation, and the dealing out -/

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

section Launch

variable (tab : Dev nD → S524288x128.Idx → Elt F .f32) (I : Dev nD → S32x4x32x128.Idx → Elt F .i32)
variable (h : ∀ d x, (I d x).toNat < 524288) (fo : Dev nD → S32x4x4096x128.Idx → Elt F .f32)

/-- The call hands each SparseCore what its tiles need, and each tile its own; back come the rows gathered. -/
def P : (K (F := F)).Pay (nD := nD) (Val := Elt F) (Name := ℕ) (U := UU) where
  st := fun q d c => match q with
    | 0 => bigSep Finset.univ fun s : Fin 16 => tileHas d (tab d) (I d) (fo d) (coordsV (Fin.cast nCore_zero c) s)
  dn := fun q d c => match q with
    | 0 => bigSep Finset.univ fun s : Fin 16 => tileHas d (tab d) (I d) (gathered (tab d) (I d) (h d)) (coordsV (Fin.cast nCore_zero c) s)
  go := fun q d c s => match q with
    | 0 => tileHas d (tab d) (I d) (fo d) (coordsV (Fin.cast nCore_zero c) (Fin.cast nSub_zero s))
  td := fun q d c s => match q with
    | 0 => tileHas d (tab d) (I d) (gathered (tab d) (I d) (h d)) (coordsV (Fin.cast nCore_zero c) (Fin.cast nSub_zero s))
  x := fun _ _ => iprop(emp)

theorem tiles_storable (d : Dev nD) (c : Fin 2) (t : S524288x128.Idx → Elt F .f32) (J : S32x4x32x128.Idx → Elt F .i32)
    (f : S32x4x4096x128.Idx → Elt F .f32) :
    BI.Storable (upEmb : UEmb _ 𝕄) (bigSep Finset.univ fun s : Fin 16 => tileHas d t J f (coordsV c s)) := by
  have := fun s : Fin 16 => tileHas_storable d t J f (coordsV c s)
  exact BI.Storable.bigSep _ _ _

instance P_storable : (P tab I h fo).IsStorable where
  st q d c := match q with
    | 0 => tiles_storable d (Fin.cast nCore_zero c) (tab d) (I d) (fo d)
  dn q d c := match q with
    | 0 => tiles_storable d (Fin.cast nCore_zero c) (tab d) (I d) (gathered (tab d) (I d) (h d))
  go q d c s := match q with
    | 0 => tileHas_storable d (tab d) (I d) (fo d) (coordsV (Fin.cast nCore_zero c) (Fin.cast nSub_zero s))
  td q d c s := match q with
    | 0 => tileHas_storable d (tab d) (I d) (gathered (tab d) (I d) (h d)) (coordsV (Fin.cast nCore_zero c) (Fin.cast nSub_zero s))

theorem vecSplit : (K (F := F)).VecSplit' (P tab I h fo) 0 := by
  intro d c
  show (bigSep Finset.univ fun s : Fin 16 => tileHas d (tab d) (I d) (fo d) (coordsV (Fin.cast nCore_zero c) s))
    ⊢ |={Set.univ}=> iprop(
      (bigSep Finset.univ fun s : Fin ((K (F := F)).nSub 0) =>
        tileHas d (tab d) (I d) (fo d) (coordsV (Fin.cast nCore_zero c) (Fin.cast nSub_zero s)))
      ∗ ((bigSep Finset.univ fun s : Fin ((K (F := F)).nSub 0) =>
          tileHas d (tab d) (I d) (gathered (tab d) (I d) (h d)) (coordsV (Fin.cast nCore_zero c) (Fin.cast nSub_zero s)))
          -∗ bigSep Finset.univ fun s : Fin 16 => tileHas d (tab d) (I d) (gathered (tab d) (I d) (h d)) (coordsV (Fin.cast nCore_zero c) s)))
  iintro H; imodintro
  isplitl [H]; · iexact H
  iintro H; iexact H

/-- All three arrays held whole are every tile's part at once. -/
theorem tiles_eq (d : Dev nD) (t : S524288x128.Idx → Elt F .f32) (J : S32x4x32x128.Idx → Elt F .i32) (f : S32x4x4096x128.Idx → Elt F .f32) :
    (bigSep Finset.univ fun c : Fin 2 => bigSep Finset.univ fun s : Fin 16 => tileHas d t J f (coordsV c s) : sProp 𝕄)
      = iprop((tabLoc d ↦{fullShare} t) ∗ (idxLoc d ↦{fullShare} J) ∗ outLoc d ↦{fullShare} f) := by
  let Φ : Fin 32 → sProp 𝕄 := fun b => iprop((tabLoc d ↦{pieceOf fullShare 32 (by decide) b} t) ∗ (idxLoc d ↦{pieceOf fullShare 32 (by decide) b} J)
    ∗ bigSep Finset.univ fun k : Fin 32 => outLoc d ↦[chunkSet b k]{fullShare} f)
  have e1 : (bigSep Finset.univ fun c : Fin 2 => bigSep Finset.univ fun s : Fin 16 => tileHas d t J f (coordsV c s) : sProp 𝕄)
      = bigSep Finset.univ Φ := by
    rw [bigSep_univ_comm, bigSep_univ_equiv (finProdFinEquiv (m := 16) (n := 2)), bigSep_univ_prod]
    refine bigSep_congr fun s _ => bigSep_congr fun c _ => ?_
    have hb : tileNo (coordsV c s) = finProdFinEquiv (m := 16) (n := 2) (s, c) := Fin.ext (by
      show batch (coordsV c s) = c.val + 2 * s.val
      rw [batch_eq]; exact Nat.add_comm _ _)
    show Φ (tileNo (coordsV c s)) = _
    rw [hb]
  rw [e1]
  simp only [Φ]
  rw [bigSep_sep', bigSep_sep', ← pointsTo_piecesOf, ← pointsTo_piecesOf]
  congr 2
  rw [← bigSep_univ_prod (fun p : Fin 32 × Fin 32 => (outLoc d ↦[chunkSet p.1 p.2]{fullShare} f : sProp 𝕄)),
    ← pointsTo_biUnion Finset.univ (ℓ := outLoc d) (fun p : Fin 32 × Fin 32 => chunkSet p.1 p.2) chunkSet_disjoint, chunkSet_cover]

theorem st_eq (d : Dev nD) : (bigSep Finset.univ fun c : Fin ((K (F := F)).nCore 0) => (P tab I h fo).st 0 d c)
    = iprop((tabLoc d ↦{fullShare} tab d) ∗ (idxLoc d ↦{fullShare} I d) ∗ outLoc d ↦{fullShare} fo d) :=
  tiles_eq d (tab d) (I d) (fo d)
theorem dn_eq (d : Dev nD) : (bigSep Finset.univ fun c : Fin ((K (F := F)).nCore 0) => (P tab I h fo).dn 0 d c)
    = iprop((tabLoc d ↦{fullShare} tab d) ∗ (idxLoc d ↦{fullShare} I d) ∗ outLoc d ↦{fullShare} gathered (tab d) (I d) (h d)) :=
  tiles_eq d (tab d) (I d) (gathered (tab d) (I d) (h d))

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

set_option maxRecDepth 16384 in
theorem defs₀_vector (c : Fin τ.nSC) (s : Fin τ.nSub) :
    defs₀ (F := F) (.scVector c s) 0 ()
      = SparseCore.onTile hcore0 hsub0 (fun c s => chunks (coordsV c s) tabM idxM outM listM bufM (Memref.isWhole_whole _) (Memref.isWhole_whole _)
          cc0_scratch2 sems (List.finRange 32)) ⟨⟩ c s := by
  simp only [← fun i => body_eq_chunks (F := F) i tabM idxM outM listM bufM (Memref.isWhole_whole _) (Memref.isWhole_whole _) (Memref.isWhole_whole _) (Memref.isWhole_whole _) (Memref.isWhole_whole _)]
  rfl

set_option maxRecDepth 200000 in
theorem tileObl (hF : (K (F := F)).Facts) : (K (F := F)).TileObl (D (F := F)) 𝒱 (P tab I h fo) v₀ 0 := by
  intro d c i O W hO _ _
  simp only [show (P tab I h fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tab d) (I d) (h d) (fo d) O W hO).trans (wp_mono frame _ _ fun _ => obl_post)

end Launch

end Cert.KernelIdeal.Restore

end
-- ==== Proof.Combine.lean ====
/-
  The combining kernel on one batch: its body run, and what it leaves in its result's buffer as a function of what its
  operand's buffer holds.
-/
module

public import proofs.«01_k».proof.Proof.RestoreLaunch
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Regions
public import Idealize.ShloMosaic.Lib.Pipeline.Value

@[expose] public section

noncomputable section

namespace Cert.KernelIdeal.Combine

open Cert.KernelIdeal Cert.KernelIdeal.Gen Cert.KernelIdeal.Restore
open Idealize.ShloMosaic Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What the body stores, from the block of restored rows it loads. -/
def blockOut (x : S1x4x4096x128.Idx → Elt F .f32) : S1x4096x64.Idx → Elt F .f32 := k1_pay1 (k1_pay2 x) (k1_pay3 x) (k1_pay4 x)

set_option maxHeartbeats 4000000 in
/-- From its operand's buffer and its result's, the body leaves the first as it was and the second reading `blockOut`. -/
theorem body_run (c : Dev nD) (i : grid1.Coords) (M0 : Memref sig .tc .vmem S1x4x4096x128 .f32) (h0 : M0.IsWhole)
    (M1 : Memref sig .tc .vmem S1x4096x64 .f32) (h1 : M1.IsWhole) (x : S1x4x4096x128.Idx → Elt F .f32)
    (f0 : Buf (Elt F) (M0.view.loc (c : Thread nD τ))) (hf : M0.view.read (Elt F) f0 = x)
    (f1 : Buf (Elt F) (M1.view.loc (c : Thread nD τ))) (E : Set ℕ) (Q : PUnit → sProp 𝕄) :
    iprop((M0.view.loc (c : Thread nD τ) ↦[M0.view.set]{fullShare} f0) ∗ (M1.view.loc (c : Thread nD τ) ↦[M1.view.set]{fullShare} f1)
        ∗ (iprop((M0.view.loc (c : Thread nD τ) ↦[M0.view.set]{fullShare} f0)
            ∗ ∃ g, ⌜M1.view.read (Elt F) g = blockOut x⌝ ∗ (M1.view.loc (c : Thread nD τ) ↦[M1.view.set]{fullShare} g)) -∗ Q ⟨⟩))
      ⊢ wp frame (wpE (defs₀ (F := F)) 𝒱₀ (c : Thread nD τ) none) E (cc1__combine_body i M0 h0 M1 h1) Q := by
  rw [cc1__combine_body_eq_skeleton]; unfold cc1__combine_body_skel
  iintro ⟨H0, H1, Hk⟩
  sl_exec!
  sl_step
  iapply Hk
  isplitl [H0]; · iexact H0
  iexists _; isplitr
  swap; · iexact H1
  ipureintro
  rw [View.read_writes_junk_eq_canon]
  unfold body_run.sl.H1_1
  rw [View.canon_unit_zero (by funext a; fin_cases a <;> rfl)]
  unfold body_run.sl.r body_run.sl.r_1 body_run.sl.r_2 blockOut
  simp only [View.readAt_eq_ld]
  rw [View.ld_unit_zero (by funext a; fin_cases a <;> rfl), hf]

end Cert.KernelIdeal.Combine

end
-- ==== Proof.CombineRegion.lean ====
/-
  The combining call as one region of @main: thirty-two points, one per batch, entered with the restored rows in
  `main_v2` and left with `main_v3` holding, batch by batch, what the body computes from that batch's rows.
-/
module

public import proofs.«01_k».proof.Proof.Combine

@[expose] public section

noncomputable section

namespace Cert.KernelIdeal.Combine

open Cert.KernelIdeal Cert.KernelIdeal.Gen Cert.KernelIdeal.Restore
open Idealize.ShloMosaic Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The rows of batch `b`, as the block the body works on. -/
def batchOf (X : S32x4x4096x128.Idx → Elt F .f32) (b : Fin 32) : S1x4x4096x128.Idx → Elt F .f32 :=
  fun y => X (ix4 b (y 1) (y 2) (y 3))

/-- The whole result: batch by batch what the body computes from that batch's rows. -/
def combined (X : S32x4x4096x128.Idx → Elt F .f32) : S32x4096x64.Idx → Elt F .f32 :=
  fun j => blockOut (batchOf X (j 0)) (ix3 (0 : Fin 1) (j 1 : Fin 4096) (j 2 : Fin 64))

variable (X : (c : Dev nD) → Buf (Elt F) ((c : Thread nD τ).loc main_v2)) (Y0 : (c : Dev nD) → Buf (Elt F) ((c : Thread nD τ).loc main_v3))

/-- The block of rows the fetch of point `t` stages. -/
abbrev stg (c : Dev nD) (t : Fin cfg1.N) : S1x4x4096x128.Idx → Elt F .f32 :=
  ((cfg1.win 0).blk t).view.read (Elt F) (X c)

/-- The pairs of waits the TensorCore may have recorded by the time of the region. -/
abbrev recd (c : Dev nD) : Set (SemLoc sig × HIx 1) :=
  {p | (K (F := F)).lev (SparseCore.T (τ := τ) c, p.1) p.2 ≤ 8 * SparseCore.Cfg.Blocks.fst (Q := 1) (N := 1) 1}

/-- The region's proof data. -/
def dat (c : Dev nD) : Dat τ (Elt F) (HIx 1) ℕ UU ℕ cfg1 c where
  A w := match w with
    | ⟨0, _⟩ => X c
    | ⟨1, _⟩ => Y0 c
  after w t := match w with
    | ⟨0, _⟩ => stg X c t
    | ⟨1, _⟩ => blockOut (stg X c t)
  Φ _ := BI.emp
  q _ := fullShare
  owed _ := 0
  recorded _ := recd (F := F) c

theorem before_in (c : Dev nD) (t : Fin cfg1.N) (d : (cfg1.win 0).block.Idx → Elt F (cfg1.win 0).elt) :
    (dat X Y0 c).before 0 t d = stg X c t := by
  unfold Dat.before; rw [if_pos (fetch1_0 t)]; rfl

/-- The body at every point meets what the pipeline asks of it. -/
theorem body_obligation (c : Dev nD) : BodyObligation (dat X Y0 c) (defs₀ (F := F)) 𝒱₀ none Set.univ := fun t => by
  rw [bigSep_W1, bigSep_W1]
  rw [show (dat X Y0 c).owesAt none t.succ = (dat X Y0 c).owesAt none t.castSucc from rfl,
    show (dat X Y0 c).Φ t.castSucc = BI.emp from rfl, show (dat X Y0 c).Φ t.succ = BI.emp from rfl]
  unfold owns
  iintro ⟨HΦ, Howes, ⟨%d0, %f0, %hf0, H0⟩, ⟨%d1, %f1, -, H1⟩⟩
  rw [before_in] at hf0
  iapply (body_run c (grid1.coords t) (win1_0.stage (cfg1.slots t 0)) (hstage1_0 ((cfg1.slots t 0).cast nbuf1_0))
    (win1_1.stage (cfg1.slots t 1)) (hstage1_1 ((cfg1.slots t 1).cast nbuf1_1)) (stg X c t) f0 hf0 f1)
  isplitl [H0]; · iexact H0
  isplitl [H1]; · iexact H1
  iintro ⟨H0, %g, %hg, H1⟩
  isplitl [HΦ]; · iexact HΦ
  isplitl [Howes]; · iexact Howes
  isplitl [H0]
  · iexists f0; isplitr; swap; · iexact H0
    ipureintro; exact hf0
  · iexists g; isplitr; swap; · iexact H1
    ipureintro; exact hg

/-! ## The array the region leaves -/

theorem index1_0 : ∀ (t : Fin grid1.N) (a : Fin 4), win1_0.index t a = (![t.val, 0, 0, 0] : Fin 4 → ℕ) a := by decide +kernel
theorem index1_1 : ∀ (t : Fin grid1.N) (a : Fin 3), win1_1.index t a = (![t.val, 0, 0] : Fin 3 → ℕ) a := by decide +kernel

/-- Point `t` stages batch `t`'s rows. -/
theorem stg_eq (c : Dev nD) (t : Fin cfg1.N) : stg X c t = batchOf (X c) (t.cast N_1) := by
  funext y
  refine congrArg (X c) (funext fun a => Fin.ext ?_)
  refine (Window.rect_emb_val win1_0 t y a).trans ?_
  rw [index1_0]
  have h0 : (y 0).val = 0 := Nat.lt_one_iff.mp (y 0).isLt
  fin_cases a
  · show t.val * 1 + (y 0).val = t.val; omega
  · show 0 * 4 + (y 1).val = (y 1).val; omega
  · show 0 * 4096 + (y 2).val = (y 2).val; omega
  · show 0 * 128 + (y 3).val = (y 3).val; omega

/-- What point `t` writes back is block `t` of the whole result. -/
theorem flushed_eq (c : Dev nD) (t : Fin cfg1.N) :
    (dat X Y0 c).flushed 1 t = ((cfg1.win 1).blk t).view.read (Elt F) (combined (X c)) := by
  show (cfg1.win 1).cut (grid1.coords t) (blockOut (stg X c t)) = _
  rw [stg_eq]
  funext y
  have hy : (y 0).val = 0 := Nat.lt_one_iff.mp (y 0).isLt
  have e : (win1_1.rect t).emb y = ix3 (t.cast N_1 : Fin 32) (y 1 : Fin 4096) (y 2 : Fin 64) := funext fun a => Fin.ext <| by
    refine (Window.rect_emb_val win1_1 t y a).trans ?_
    rw [index1_1]
    fin_cases a
    · show t.val * 1 + (y 0).val = t.val; omega
    · show 0 * 4096 + (y 1).val = (y 1).val; omega
    · show 0 * 64 + (y 2).val = (y 2).val; omega
  show blockOut (batchOf (X c) (t.cast N_1)) y = combined (X c) ((win1_1.rect t).emb y)
  rw [e]
  show _ = blockOut (batchOf (X c) (t.cast N_1)) (ix3 (0 : Fin 1) (y 1 : Fin 4096) (y 2 : Fin 64))
  congr 1
  funext a
  fin_cases a
  · exact Fin.ext hy
  · rfl
  · rfl

theorem cover (i : S32x4096x64.Idx) :
    ∃ t : Fin cfg1.N, (cfg1.win 1).flush t = true ∧ i ∈ ((cfg1.win 1).blk t).view.set := by
  refine ⟨(i 0).cast N_1.symm, flush1_1 _, ?_⟩
  show i ∈ ((View.whole main_v3).slice (win1_1.rect ((i 0).cast N_1.symm))).set
  rw [View.set_slice_whole, Rect.mem_set_unit]
  intro a
  show win1_1.index ((i 0).cast N_1.symm) a * win1_1.size a ≤ (i a : ℕ)
    ∧ (i a : ℕ) < win1_1.index ((i 0).cast N_1.symm) a * win1_1.size a + win1_1.xsize (grid1.coords ((i 0).cast N_1.symm)) a
  rw [index1_1]
  have h1 : (i 1).val < 4096 := (i 1).isLt
  have h2 : (i 2).val < 64 := (i 2).isLt
  fin_cases a
  · show (i 0).val * 1 ≤ (i 0).val ∧ (i 0).val < (i 0).val * 1 + 1; omega
  · show 0 * 4096 ≤ (i 1).val ∧ (i 1).val < 0 * 4096 + 4096; omega
  · show 0 * 64 ≤ (i 2).val ∧ (i 2).val < 0 * 64 + 64; omega

/-- The result array after the region. -/
theorem final_eq (c : Dev nD) : (dat X Y0 c).arrAt 1 cfg1.N = combined (X c) :=
  (dat X Y0 c).arrAt_eq_of_cover 1 (combined (X c)) (fun t _ => flushed_eq X Y0 c t) cover

/-! ## The region -/

/-- The two arrays held as the region holds them are the two buffers held whole. -/
theorem arrays_eq (c : Dev nD) (f : (w : Fin cfg1.W) → Buf (Elt F) ((cfg1.win w).arr.view.loc (c : Thread nD τ))) :
    ((dat X Y0 c).arrays f : sProp 𝕄)
      = iprop(((c : Thread nD τ).loc main_v2 ↦{fullShare} f 0) ∗ ((c : Thread nD τ).loc main_v3 ↦{fullShare} f 1)) := by
  have h0 : (dat X Y0 c).share 0 = fullShare := rfl
  have h1 : (dat X Y0 c).share 1 = fullShare := rfl
  unfold Dat.arrays
  rw [bigSep_W1, h0, h1, (arr_whole1 0).set_eq_univ, (arr_whole1 1).set_eq_univ]

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat X Y0 c

/-- What the TensorCore's thread holds of what it owes, around the region. -/
abbrev owesTC (c : Dev nD) : sProp 𝕄 :=
  iprop(∃ W, ⌜(K (F := F)).WBelow (SparseCore.T (τ := τ) c) W (8 * SparseCore.Cfg.Blocks.fst (Q := 1) (N := 1) 1)⌝
    ∗ owes (SparseCore.T (τ := τ) c) (0 : CellTallies nD τ sig (HIx 1)) W)

set_option backward.isDefEq.respectTransparency.types false in
/-- The region from the two arrays it works on. -/
def reg : Pipeline.RegionSeg (pcfgs (F := F)) adm (pdats X Y0) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation X Y0 c).loose
  hwaits := Pipeline.hwaits_of_owed_zero _ _ _ _ (K (F := F)).L (K (F := F)).lev 0 fun _ _ => rfl
  pre c := iprop(((c : Thread nD τ).loc main_v2 ↦{fullShare} X c) ∗ ((c : Thread nD τ).loc main_v3 ↦{fullShare} Y0 c) ∗ owesTC (F := F) c)
  post c := iprop(((c : Thread nD τ).loc main_v2 ↦{fullShare} X c) ∗ ((c : Thread nD τ).loc main_v3 ↦{fullShare} combined (X c)) ∗ owesTC (F := F) c)
  X _ := BI.emp
  Y _ := BI.emp
  Z _ := BI.emp
  hentry c := by
    rw [Pipeline.ownSems0_none]
    iintro ⟨⟨H2, H3, HO⟩, -, -⟩
    imodintro
    isplitl [H2 H3]
    · rw [show ((pdats X Y0 0 c).arrays ((pdats X Y0 0 c).arrAt · 0) : sProp 𝕄) = _ from arrays_eq X Y0 c _]
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats X Y0 0 c).Φ 0 = BI.emp from rfl]
    rw [show (Pipeline.scopedRest (Ix := HIx 1) (Name := ℕ) (U := UU) (Lvl := ℕ) (Val := Elt F) (Pipeline.pin (pcfgs (F := F)) adm 0).spec c : sProp 𝕄) = BI.emp from scopedRest1_eq c]
    iintro ⟨-, -, Hr⟩; iexact Hr
  hout c := by
    rw [Pipeline.ownSems0_none, show (pdats X Y0 0 c).Φ (Fin.last _) = BI.emp from rfl]
    rw [show (Pipeline.scopedRest (Ix := HIx 1) (Name := ℕ) (U := UU) (Lvl := ℕ) (Val := Elt F) (Pipeline.pin (pcfgs (F := F)) adm 0).spec c : sProp 𝕄) = BI.emp from scopedRest1_eq c]
    iintro -
    isplitr; · iempintro
    isplitr <;> iempintro
  hexit c := by
    rw [show ((pdats X Y0 0 c).arrays ((pdats X Y0 0 c).arrAt · cfg1.N) : sProp 𝕄) = _ from arrays_eq X Y0 c _,
      show (pdats X Y0 0 c).arrAt 1 cfg1.N = combined (X c) from final_eq X Y0 c,
      show (pdats X Y0 0 c).arrAt 0 cfg1.N = X c from (dat X Y0 c).arrAt_in 0 rfl _]
    iintro ⟨⟨H2, H3⟩, HO, -, -⟩
    imodintro
    isplitl [H2]; · iexact H2
    isplitl [H3]; · iexact H3
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.KernelIdeal.Combine

end
-- ==== Proof.Mix.lean ====
/-
  What the combining call computes on one batch entry, over the extended reals: for every round the softmax, over the
  sequence, of the round's logsumexp column, and the sum over the four rounds of the round's rows by these weights.
-/
module

public import proofs.«01_k».proof.Proof.CombineRegion
public import Idealize.ShloMosaic.Lib.Pointwise
public import Idealize.ShloMosaic.PureOps.Ideal

@[expose] public section

noncomputable section

namespace Cert.KernelIdeal.Mix

open Cert.KernelIdeal Cert.KernelIdeal.Gen Cert.KernelIdeal.Combine
open Idealize.ShloMosaic

/-- The largest logsumexp of a column. -/
def top (e : Fin 4096 → EReal) : EReal := (Finset.univ : Finset (Fin 4096)).fold max (Ideal.ofBits .f32 0xFF800000#32) e

/-- A column's exponentials, shifted by its largest element. -/
def shifted (e : Fin 4096 → EReal) (l : Fin 4096) : EReal := FloatOps.exp (F := Ideal) (φ := .f32) (e l - top e)

/-- The softmax of a column. -/
def weight (e : Fin 4096 → EReal) (l : Fin 4096) : EReal := Ideal.div (shifted e l) (∑ k, shifted e k)

/-- One round's logsumexp column, as the kernel cuts it, at its largest element. -/
theorem colMax (v : FVec Ideal S4096x1 .f32) (i : S1.Idx) :
    multiReduction .maximumf [1, 2] S1 (shapeCast S1x4096x1 v shapeCasts_S4096x1_S1x4096x1) 0xFF800000#32 reduces_S1x4096x1_S1 (.inl rfl) rfl i
      = top fun l => v (ix2 l 0) := by
  pointwise [top]
  rw [← Finset.map_univ_equiv (Equiv.prodUnique (Fin 4096) (Fin 1)).symm, Finset.fold_map]
  rfl

/-- A column summed as the kernel sums it. -/
theorem colSum (v : FVec Ideal S4096x1 .f32) (i : S1.Idx) :
    multiReduction .add [1, 2] S1 (shapeCast S1x4096x1 v shapeCasts_S4096x1_S1x4096x1) 0x00000000#32 reduces_S1x4096x1_S1 (.inl rfl) rfl i
      = ∑ l : Fin 4096, v (ix2 l 0) := by
  pointwise
  simp

/-- The exponentials of a column, as the kernel takes them. -/
def expCol (v : FVec Ideal S4096x1 .f32) : FVec Ideal S4096x1 .f32 :=
  exp (subf v (broadcast S4096x1 (extractAt ![0, 0, 0] (shapeCast S1x1x1
    (multiReduction .maximumf [1, 2] S1 (shapeCast S1x4096x1 v shapeCasts_S4096x1_S1x4096x1) 0xFF800000#32 reduces_S1x4096x1_S1 (.inl rfl) rfl)
    shapeCasts_S1_S1x1x1) inpos_S1x1x1_p0_0_0)))

theorem expCol_apply (v : FVec Ideal S4096x1 .f32) (l : Fin 4096) : expCol v (ix2 l 0) = shifted (fun k => v (ix2 k 0)) l := by
  unfold expCol
  rw [show (multiReduction .maximumf [1, 2] S1 (shapeCast S1x4096x1 v shapeCasts_S4096x1_S1x4096x1) 0xFF800000#32 reduces_S1x4096x1_S1 (.inl rfl) rfl)
    = fun _ => top fun k => v (ix2 k 0) from funext (colMax v)]
  rfl

/-- One round as the kernel computes it: the softmax of the column `v`, spread over the rows `w`, times the rows. -/
def roundOut (v : FVec Ideal S4096x1 .f32) (w : FVec Ideal S4096x64 .f32) : FVec Ideal S4096x64 .f32 :=
  mulf w (broadcastTo S4096x64 (divf (expCol v) (broadcast S4096x1 (extractAt ![0, 0, 0] (shapeCast S1x1x1
    (multiReduction .add [1, 2] S1 (shapeCast S1x4096x1 (expCol v) shapeCasts_S4096x1_S1x4096x1) 0x00000000#32 reduces_S1x4096x1_S1 (.inl rfl) rfl)
    shapeCasts_S1_S1x1x1) inpos_S1x1x1_p0_0_0))) broadcasts_S4096x1_S4096x64)

theorem roundOut_apply (v : FVec Ideal S4096x1 .f32) (w : FVec Ideal S4096x64 .f32) (l : Fin 4096) (c : Fin 64) :
    roundOut v w (ix2 l c) = w (ix2 l c) * weight (fun l => v (ix2 l 0)) l := by
  unfold roundOut
  rw [show (multiReduction .add [1, 2] S1 (shapeCast S1x4096x1 (expCol v) shapeCasts_S4096x1_S1x4096x1) 0x00000000#32 reduces_S1x4096x1_S1 (.inl rfl) rfl)
    = fun _ => ∑ k, shifted (fun l => v (ix2 l 0)) k from funext fun i => (colSum (expCol v) i).trans (by simp only [expCol_apply])]
  pointwise [weight, expCol_apply]

/-- The four rounds of a block, added in order. -/
theorem blockOut_eq (x : Vec Ideal S1x4x4096x128 .f32) : blockOut x = shapeCast S1x4096x64
    (addf (addf (addf
      (roundOut (shapeCast S4096x1 (extractStridedSlice S1x4096x1 ![0, 0, 64] (shapeCast S4x4096x128 x shapeCasts_S1x4x4096x128_S4x4096x128) slices_S4x4096x128_o0_0_64_S1x4096x1) shapeCasts_S1x4096x1_S4096x1)
        (shapeCast S4096x64 (extractStridedSlice S1x4096x64 ![0, 0, 0] (shapeCast S4x4096x128 x shapeCasts_S1x4x4096x128_S4x4096x128) slices_S4x4096x128_o0_0_0_S1x4096x64) shapeCasts_S1x4096x64_S4096x64))
      (roundOut (shapeCast S4096x1 (extractStridedSlice S1x4096x1 ![1, 0, 64] (shapeCast S4x4096x128 x shapeCasts_S1x4x4096x128_S4x4096x128) slices_S4x4096x128_o1_0_64_S1x4096x1) shapeCasts_S1x4096x1_S4096x1)
        (shapeCast S4096x64 (extractStridedSlice S1x4096x64 ![1, 0, 0] (shapeCast S4x4096x128 x shapeCasts_S1x4x4096x128_S4x4096x128) slices_S4x4096x128_o1_0_0_S1x4096x64) shapeCasts_S1x4096x64_S4096x64)))
      (roundOut (shapeCast S4096x1 (extractStridedSlice S1x4096x1 ![2, 0, 64] (shapeCast S4x4096x128 x shapeCasts_S1x4x4096x128_S4x4096x128) slices_S4x4096x128_o2_0_64_S1x4096x1) shapeCasts_S1x4096x1_S4096x1)
        (shapeCast S4096x64 (extractStridedSlice S1x4096x64 ![2, 0, 0] (shapeCast S4x4096x128 x shapeCasts_S1x4x4096x128_S4x4096x128) slices_S4x4096x128_o2_0_0_S1x4096x64) shapeCasts_S1x4096x64_S4096x64)))
      (roundOut (shapeCast S4096x1 (extractStridedSlice S1x4096x1 ![3, 0, 64] (shapeCast S4x4096x128 x shapeCasts_S1x4x4096x128_S4x4096x128) slices_S4x4096x128_o3_0_64_S1x4096x1) shapeCasts_S1x4096x1_S4096x1)
        (shapeCast S4096x64 (extractStridedSlice S1x4096x64 ![3, 0, 0] (shapeCast S4x4096x128 x shapeCasts_S1x4x4096x128_S4x4096x128) slices_S4x4096x128_o3_0_0_S1x4096x64) shapeCasts_S1x4096x64_S4096x64)))
    shapeCasts_S4096x64_S1x4096x64 := rfl

/-- A block at a position: the sum over the rounds of the round's row there by its weight. -/
theorem blockOut_apply (x : Vec Ideal S1x4x4096x128 .f32) (l : Fin 4096) (c : Fin 64) :
    blockOut x (ix3 0 l c) = ∑ r : Fin 4, x (ix4 0 r l ⟨c.val, by omega⟩) * weight (fun k => x (ix4 0 r k 64)) l := by
  rw [blockOut_eq, Fin.sum_univ_four]
  pointwise [roundOut_apply]

end Cert.KernelIdeal.Mix

end
-- ==== Proof.RefMix.lean ====
/-
  What the reference computes, over the extended reals: the gathered rows, and of them, for every round, the softmax over the
  sequence of the logsumexp column, and the sum over the rounds of the rows by these weights.
-/
module

public import proofs.«01_k».proof.Proof.Gen.ReferenceIdeal.Run
public import proofs.«01_k».proof.Proof.Mix
public import Idealize.ShloMosaic.Lib.Pointwise
public import Idealize.ShloMosaic.PureOps.Ideal

@[expose] public section

noncomputable section

namespace Cert.ReferenceIdeal.RefMix

open Cert.ReferenceIdeal Cert.ReferenceIdeal.Gen Cert.ReferenceIdeal.Value
open Cert.KernelIdeal.Mix (top shifted weight)
open Idealize.ShloMosaic

/-- Rows gathered down the first axis of a table. -/
theorem gather_rows (tab : S524288x128.Idx → EReal) (idx : IVec S32x4x4096x1 32) (b : Fin 32) (r : Fin 4) (l : Fin 4096) (c : Fin 128) :
    Host.gather gather_S524288x128_S32x4x4096x1_S32x4x4096x128_3_0_n_n_0_3_1128 tab idx (ix4 b r l c)
      = tab (ix2 ⟨min (idx (ix4 b r l 0)).toInt.toNat (524288 - 1), by omega⟩ c) := by
  unfold Host.gather
  refine congrArg tab (funext fun a => Fin.ext ?_)
  show GatherDims.start _ _ idx a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ GatherDims.startIndexMap gather_S524288x128_S32x4x4096x1_S32x4x4096x128_3_0_n_n_0_3_1128 from List.mem_singleton.mpr rfl)]
    refine congrArg (fun i => min (idx i).toInt.toNat (524288 - 1)) (funext fun q => Fin.ext ?_)
    match q with
    | ⟨0, _⟩ => rfl
    | ⟨1, _⟩ => rfl
    | ⟨2, _⟩ => rfl
    | ⟨3, _⟩ => rfl
  | ⟨1, h⟩ =>
    have hs : GatherDims.start gather_S524288x128_S32x4x4096x1_S32x4x4096x128_3_0_n_n_0_3_1128 (ix4 b r l c) idx ⟨1, h⟩ = 0 := by
      unfold GatherDims.start
      exact dif_neg fun e => absurd (congrArg Fin.val (List.mem_singleton.mp e)) (by decide : (1 : ℕ) ≠ 0)
    rw [hs, Nat.zero_add]
    unfold GatherDims.offCoord
    rw [dif_pos ((GatherDims.mem_sKept _ _).mpr ⟨fun e => absurd (congrArg Fin.val (List.mem_singleton.mp e)) (by decide : (1 : ℕ) ≠ 0), List.not_mem_nil⟩)]
    rfl

/-- Everything the reference does after the gather. -/
def after (G : FVec Ideal S32x4x4096x128 .f32) : FVec Ideal S32x4096x64 .f32 :=
  let e : FVec Ideal S32x4x4096 .f32 := shapeCast _ (extractStridedSlice S32x4x4096x1 ![0, 0, 0, 64] G slices_S32x4x4096x128_S32x4x4096x1_0_0_0_64) shapeCasts_S32x4x4096x1_S32x4x4096
  let x : FVec Ideal S32x4x4096 .f32 := Host.exp (subf e (broadcastInDim S32x4x4096 ![0, 1, 2] bcast_S32x4x1_S32x4x4096_0_1_2 (broadcastInDim S32x4x1 ![0, 1] bcast_S32x4_S32x4x1_0_1
    (maximumf (broadcastInDim S32x4 ![] bcast_S_S32x4 (constant S_ .f32 0xFF800000#32)) (Host.reduce FloatOps.maximumf e (constant S_ .f32 0xFF800000#32) reducesTo_S32x4x4096_S32x4_d2 h_S_)))))
  Host.reduceAdd (mulf (extractStridedSlice S32x4x4096x64 ![0, 0, 0, 0] G slices_S32x4x4096x128_S32x4x4096x64_0_0_0_0)
    (broadcastInDim S32x4x4096x64 ![0, 1, 2, 3] bcast_S32x4x4096x1_S32x4x4096x64_0_1_2_3 (broadcastInDim S32x4x4096x1 ![0, 1, 2] bcast_S32x4x4096_S32x4x4096x1_0_1_2
      (Host.divf x (broadcastInDim S32x4x4096 ![0, 1, 2] bcast_S32x4x1_S32x4x4096_0_1_2 (broadcastInDim S32x4x1 ![0, 1] bcast_S32x4_S32x4x1_0_1
        (Host.reduceAdd x (constant S_ .f32 0x00000000#32) reducesTo_S32x4x4096_S32x4_d2 h_S_)))))))
    (constant S_ .f32 0x00000000#32) reducesTo_S32x4x4096x64_S32x4096x64_d1 h_S_

theorem after_apply (G : FVec Ideal S32x4x4096x128 .f32) (b : Fin 32) (l : Fin 4096) (c : Fin 64) :
    after G (ix3 b l c) = ∑ r : Fin 4, G (ix4 b r l ⟨c.val, by omega⟩) * weight (fun k => G (ix4 b r k 64)) l := by
  have hm (e : Fin 4096 → EReal) (x : EReal) : max x ((Finset.univ : Finset (Fin 4096)).fold max x e) = (Finset.univ : Finset (Fin 4096)).fold max x e :=
    max_eq_right ((Finset.le_fold_max _).mpr (Or.inl le_rfl))
  pointwise [after, weight, shifted, top, hm]

/-- The rows' indices, as the reference prepares them for its gather: a negative one counts from the end. -/
def wrapped (i : IVec S32x4x4096x1 32) : IVec S32x4x4096x1 32 :=
  let j : IVec S32x4x4096 32 := shapeCast _ i shapeCasts_S32x4x4096x1_S32x4x4096
  broadcastInDim S32x4x4096x1 ![0, 1, 2] bcast_S32x4x4096_S32x4x4096x1_0_1_2
    (select (cmpi .slt j (broadcastInDim S32x4x4096 ![] bcast_S_S32x4x4096 (constantI S_ 32 0#32)))
      (addi j (broadcastInDim S32x4x4096 ![] bcast_S_S32x4x4096 (constantI S_ 32 524288#32))) j)

theorem res_eq (m : (ℓ : Loc nD τ sig) → Buf (Elt Ideal) ℓ) (c : Dev nD) : res_main_v26 m c
    = after (Host.gather gather_S524288x128_S32x4x4096x1_S32x4x4096x128_3_0_n_n_0_3_1128
        (shapeCast _ (m ((c.tc : Thread nD τ).loc main_arg0)) shapeCasts_S32x4x4096x128_S524288x128) (wrapped (m ((c.tc : Thread nD τ).loc main_arg1)))) := rfl

theorem wrapped_apply (i : IVec S32x4x4096x1 32) (b : Fin 32) (r : Fin 4) (l : Fin 4096) (h : (i (ix4 b r l 0)).toNat < 524288) :
    wrapped i (ix4 b r l 0) = i (ix4 b r l 0) := by
  pointwise [wrapped]
  have hn : ¬ (i (ix4 b r l 0)).slt 0#32 := by
    simp only [BitVec.slt_eq_decide, decide_eq_true_eq, BitVec.toInt_eq_toNat_cond, BitVec.toNat_ofNat]
    omega
  simp [Scalar.select, IntOp.cmpi, hn]

end Cert.ReferenceIdeal.RefMix

end
-- ==== Proof.Run.lean ====
/-
  The whole program's run: @main on the TensorCore (two reshapes, the SparseCore call, the combining call), the launch
  of all threads, and what memory holds at the end: the arguments unchanged, the result `kernelOut` of them, every
  semaphore counter at zero.
-/
module

public import proofs.«01_k».proof.Proof.CombineRegion
public import Idealize.ShloMosaic.Lib.SparseCore.Quiescent
public import Idealize.ShloMosaic.Lib.StableHlo.Run

@[expose] public section

noncomputable section

namespace Cert.KernelIdeal.Run

open Cert.KernelIdeal Cert.KernelIdeal.Gen Cert.KernelIdeal.Restore Cert.KernelIdeal.Combine
open Idealize.ShloMosaic Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Every index names a row of the table. -/
def InRange (m : (ℓ : Loc nD τ sig) → Buf (Elt F) ℓ) : Prop :=
  ∀ (d : Dev nD) (j : S32x4x4096x1.Idx), ((m ((SparseCore.T d).loc main_arg1) : S32x4x4096x1.Idx → Elt F .i32) j).toNat < 524288

/-- The rows as one table. -/
abbrev tabOf (A : S32x4x4096x128.Idx → Elt F .f32) : S524288x128.Idx → Elt F .f32 :=
  shapeCast S524288x128 A shapeCasts_S32x4x4096x128_S524288x128
/-- The indices in lists of 128. -/
abbrev idxOf (O : S32x4x4096x1.Idx → Elt F .i32) : S32x4x32x128.Idx → Elt F .i32 :=
  shapeCast S32x4x32x128 O shapeCasts_S32x4x4096x1_S32x4x32x128

variable (m : (ℓ : Loc nD τ sig) → Buf (Elt F) ℓ) (ρ : Dev nD → PrngReg)

abbrev arg0 (d : Dev nD) : S32x4x4096x128.Idx → Elt F .f32 := m ((SparseCore.T d).loc main_arg0)
abbrev arg1 (d : Dev nD) : S32x4x4096x1.Idx → Elt F .i32 := m ((SparseCore.T d).loc main_arg1)
abbrev tab (d : Dev nD) : S524288x128.Idx → Elt F .f32 := tabOf (arg0 m d)
abbrev I (d : Dev nD) : S32x4x32x128.Idx → Elt F .i32 := idxOf (F := F) (arg1 m d)
abbrev fo (d : Dev nD) : S32x4x4096x128.Idx → Elt F .f32 := m (outLoc d)

theorem inRange_I (hm : InRange m) (d : Dev nD) (x : S32x4x32x128.Idx) : (I m d x).toNat < 524288 := hm d _

variable (hm : InRange m)

/-- The rows the SparseCore call leaves. -/
abbrev restored (d : Dev nD) : S32x4x4096x128.Idx → Elt F .f32 := gathered (tab m d) (I m d) (inRange_I m hm d)

/-- What the program computes. -/
abbrev kernelOut (d : Dev nD) : S32x4096x64.Idx → Elt F .f32 := combined (restored m hm d)

/-! ## The launch element -/

abbrev EP : Emb (UR sig nD τ) (MT nD τ sig (HIx 1) (Elt F) ℕ UU ℕ) := (Emb.inl : Emb (UR sig nD τ) (UR sig nD τ × Counters)).trans embR

theorem pinj : Function.Injective (Pipeline.cellOf (nD := nD) (τ := τ) (Pipeline.pin (pcfgs (F := F)) adm)) := cellOf_inj

abbrev PP := P (tab m) (I m) (inRange_I m hm) (fo m)

def u₀ : UU := (initOf (K (F := F)).hsCells (K (F := F)).hsToks,
  (initOf (Pipeline.cells (Pipeline.pin (pcfgs (F := F)) adm) (pinj (F := F))) (Pipeline.launchToks (Pipeline.pin (pcfgs (F := F)) adm) (pinj (F := F))), 1))

/-- What each TensorCore is dealt for the combining call's pipeline. -/
abbrev GG (d : Dev nD) : sProp 𝕄 :=
  iprop((Pipeline.cellsGhost (Pipeline.pin (pcfgs (F := F)) adm) EP 0 d : sProp 𝕄) ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m hm).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) EP (pinj (F := F))) $$ HP with ⟨Hg, Ht⟩
  imodintro
  isplitl [HH]; · iexact HH
  isplitl [Hg Ht]
  · rw [bigSep_sep']
    isplitl [Hg]
    · rw [show (fun c : Dev nD => (bigSep Finset.univ fun p => Pipeline.cellsGhost (Pipeline.pin (pcfgs (F := F)) adm) EP p c : sProp 𝕄))
        = fun c => Pipeline.cellsGhost (Pipeline.pin (pcfgs (F := F)) adm) EP 0 c from funext fun c => bigSep_univ_of_subsingleton (0 : Fin 1)]
      iexact Hg
    · rw [show (fun c : Dev nD => (bigSep Finset.univ fun p => Pipeline.toksInit (Pipeline.pin (pcfgs (F := F)) adm) EP p c : sProp 𝕄))
        = fun c => Pipeline.toksInit (Pipeline.pin (pcfgs (F := F)) adm) EP 0 c from funext fun c => bigSep_univ_of_subsingleton (0 : Fin 1)]
      iexact Ht
  rw [show (bigSep Finset.univ fun thr : Thread nD τ => bigSep Finset.univ fun q : Fin 1 => (PP (F := F) m hm).x q thr) = bigSep Finset.univ fun _ => iprop(emp) from
    bigSep_congr fun _ _ => bigSep_univ_of_subsingleton (0 : Fin 1)]
  rw [show (bigSep Finset.univ fun _ : Thread nD τ => iprop(emp)) = (iprop(emp) : sProp 𝕄) from bigSep_emp_const _]
  iempintro

/-! ## @main on the TensorCore -/

theorem unscopedBufs_eq (d : Dev nD) (W : (b : Ref sig .tc) → Buf (Elt F) ((d : Thread nD τ).loc b)) :
    (unscopedBufs d W : sProp 𝕄) = iprop(((SparseCore.T d).loc main_arg0 ↦{fullShare} W main_arg0) ∗ ((SparseCore.T d).loc main_arg1 ↦{fullShare} W main_arg1)
      ∗ (tabLoc d ↦{fullShare} W main_v0) ∗ (idxLoc d ↦{fullShare} W main_v1) ∗ (outLoc d ↦{fullShare} W main_v2) ∗ (SparseCore.T d).loc main_v3 ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The TensorCore's buffers that last the whole run. -/
def ucRefs : Finset (DevRef τ sig) := (StableHlo.tcRefs τ sig).filter fun b => ¬ b.isScoped

theorem unscopedBufs_held (d : Dev nD) (W : Valuation τ sig (Elt F)) :
    (unscopedBufs d (fun b => W (Proc.devRef .tc b)) : sProp 𝕄) = StableHlo.held (SparseCore.T d) ucRefs W := by
  unfold unscopedBufs StableHlo.held ucRefs StableHlo.tcRefs
  rw [Finset.filter_map, bigSep_map]
  rfl

/-- The two reshapes of @main. -/
abbrev op0 : HloOp τ sig (Elt F) := StableHlo.reshape main_arg0 main_v0 (rfl : (.f32 : EltTy) = .f32) shapeCasts_S32x4x4096x128_S524288x128
abbrev op1 : HloOp τ sig (Elt F) := StableHlo.reshape main_arg1 main_v1 (rfl : (.i32 : EltTy) = .i32) shapeCasts_S32x4x4096x1_S32x4x32x128

/-- Memory of device `d` at launch, and after the reshapes. -/
abbrev W0 (d : Dev nD) : Valuation τ sig (Elt F) := fun b => m (d, b)
abbrev W2 (d : Dev nD) : Valuation τ sig (Elt F) := op1.result (op0.result (W0 m d))

theorem W2_ne1 (d : Dev nD) (r : Ref sig .tc) (h1 : r ≠ main_v1) : W2 m d (Proc.devRef .tc r) = op0.result (W0 m d) (Proc.devRef .tc r) := by
  unfold W2; rw [StableHlo.reshape_result_ne (h := h1)]
theorem W2_ne (d : Dev nD) (r : Ref sig .tc) (h0 : r ≠ main_v0) (h1 : r ≠ main_v1) : W2 m d (Proc.devRef .tc r) = m ((SparseCore.T d).loc r) := by
  rw [W2_ne1 m d r h1, StableHlo.reshape_result_ne (h := h0)]

theorem W2_eq (d : Dev nD) : (unscopedBufs d (fun b => W2 m d (Proc.devRef .tc b)) : sProp 𝕄)
    = iprop(((SparseCore.T d).loc main_arg0 ↦{fullShare} arg0 m d) ∗ ((SparseCore.T d).loc main_arg1 ↦{fullShare} arg1 m d)
      ∗ (tabLoc d ↦{fullShare} tab m d) ∗ (idxLoc d ↦{fullShare} I m d) ∗ (outLoc d ↦{fullShare} fo m d)
      ∗ (SparseCore.T d).loc main_v3 ↦{fullShare} m ((SparseCore.T d).loc main_v3)) := by
  rw [unscopedBufs_eq]
  have e2 : W2 m d (Proc.devRef .tc main_v0) = tab m d := by
    refine (W2_ne1 m d main_v0 (by decide)).trans ?_
    exact StableHlo.reshape_result _ _ _ _ _ _ _
  have e3 : W2 m d (Proc.devRef .tc main_v1) = I m d := by
    refine (StableHlo.reshape_result _ _ _ _ _ _ _).trans ?_
    rw [StableHlo.reshape_result_ne (h := (by decide : main_arg1 ≠ main_v0))]
    rfl
  rw [W2_ne m d main_arg0 (by decide) (by decide), W2_ne m d main_arg1 (by decide) (by decide), e2, e3,
    W2_ne m d main_v2 (by decide) (by decide), W2_ne m d main_v3 (by decide) (by decide)]

/-- What @main ends with. -/
abbrev FIN (d : Dev nD) : sProp 𝕄 :=
  iprop(((SparseCore.T d).loc main_arg0 ↦{fullShare} arg0 m d) ∗ ((SparseCore.T d).loc main_arg1 ↦{fullShare} arg1 m d) ∗ (SparseCore.T d).loc main_v3 ↦{fullShare} kernelOut m hm d)

theorem op0_sub : (op0 (F := F)).bufs ⊆ ucRefs := by
  rw [StableHlo.reshape_bufs]; decide
theorem op1_sub : (op1 (F := F)).bufs ⊆ ucRefs := by
  rw [StableHlo.reshape_bufs]; decide

/-- The combining call, in the signature before the SparseCore calls were added. -/
abbrev callProg : Prog (TpuEff nD τ sig (Elt F) (ΛP (F := F)) .tc) PUnit := .op (.customCall (Pipeline.entry 0) ()) fun _ => .ret ⟨⟩

variable (X : (c : Dev nD) → Buf (Elt F) ((c : Thread nD τ).loc main_v2)) (Y0 : (c : Dev nD) → Buf (Elt F) ((c : Thread nD τ).loc main_v3))

theorem reg_pre (c : Dev nD) : (reg X Y0).pre c = iprop(((c : Thread nD τ).loc main_v2 ↦{fullShare} X c) ∗ ((c : Thread nD τ).loc main_v3 ↦{fullShare} Y0 c) ∗ owesTC (F := F) c) := rfl
theorem reg_post (c : Dev nD) : (reg X Y0).post c
    = iprop(((c : Thread nD τ).loc main_v2 ↦{fullShare} X c) ∗ ((c : Thread nD τ).loc main_v3 ↦{fullShare} combined (X c)) ∗ owesTC (F := F) c) := rfl

theorem wp_region (d : Dev nD) (Q : PUnit → sProp 𝕄) :
    iprop((iprop(boundary (SparseCore.T d) ∗ (reg X Y0).post d) -∗ Q ⟨⟩) ∗ boundary (SparseCore.T d) ∗ (reg X Y0).pre d ∗ levAts (K (F := F)).L (K (F := F)).lev ∗ GG (F := F) d)
      ⊢ wp frame (wpE (D (F := F)) 𝒱 (SparseCore.T d) none) Set.univ (callProg (F := F)) Q := by
  have h := Pipeline.RegionSeg.wp (pcfgs (F := F)) adm (pdats X Y0) none (pinj (F := F)) EP defs₀ 𝒱₀ (K (F := F)).L (K (F := F)).lev
    (reg X Y0) d none (fun u hu => nomatch hu) (fun _ => .ret ⟨⟩) Q
  refine BIBase.Entails.trans ?_ h
  rw [wp_ret]
  iintro ⟨Hk, Hb, Hp, Hl, Hg, Ht⟩
  isplitl [Hk]
  · iintro H; imodintro; iapply Hk; iexact H
  isplitl [Hb]; · iexact Hb
  isplitl [Hp]; · iexact Hp
  isplitl [Hl]; · iexact Hl
  isplitl [Hg] <;> iassumption

/-- The combining call inside @main, from the restored rows. -/
theorem wp_combine (d : Dev nD) (Q : PUnit → sProp 𝕄) :
    iprop((iprop(boundary (SparseCore.T d) ∗ (reg X Y0).post d) -∗ Q ⟨⟩) ∗ boundary (SparseCore.T d) ∗ (reg X Y0).pre d ∗ levAts (K (F := F)).L (K (F := F)).lev ∗ GG (F := F) d)
      ⊢ wp frame (wpE ((K (F := F)).defs (D (F := F))) 𝒱 (SparseCore.T d) none) Set.univ
          (Prog.lift (.customCall (SparseCore.inner (Pipeline.entry 0)) ())) Q :=
  (wp_region X Y0 d Q).trans ((K (F := F)).wp_liftProg (D (F := F)) 𝒱 (SparseCore.T d) Set.univ none (callProg (F := F)) Q)

/-- After its one SparseCore call the TensorCore owes nothing. -/
theorem owes_Otc (d : Dev nD) (W) : (owes (SparseCore.T d) ((K (F := F)).Otc d 1) W : sProp 𝕄) = owes (SparseCore.T d) 0 W := by
  have h : (K (F := F)).Otc d 1 = 0 := by
    unfold SparseCore.Cfg.Otc
    exact Finset.sum_eq_zero fun q _ => if_neg (by have := q.isLt; omega)
  rw [h]

/-- @main on device `d`'s TensorCore. -/
theorem hmain (κ : GSem nD τ sig → ℕ) (d : Dev nD) :
    iprop((K (F := F)).ctx EH (PP m hm) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [show (unscopedBufs d (fun b => m ((SparseCore.T d).loc b)) : sProp 𝕄) = StableHlo.held (SparseCore.T d) ucRefs (W0 m d) from unscopedBufs_held d (W0 m d)]
  unfold main
  beta_reduce
  rw [wp_bind]
  iintro ⟨#Hctx, Hst, ⟨Hb, Hh, Hts, -⟩, HG⟩
  iapply (StableHlo.wp_hlo_within 𝒱 (SparseCore.T d) none Set.univ op0_sub) $$ [Hb Hh]
  · isplitl [Hb] <;> iassumption
  iintro ⟨Hb, Hh⟩
  rw [wp_ret]; imodintro
  beta_reduce; rw [wp_bind]
  iapply (StableHlo.wp_hlo_within 𝒱 (SparseCore.T d) none Set.univ op1_sub) $$ [Hb Hh]
  · isplitl [Hb] <;> iassumption
  iintro ⟨Hb, Hh⟩
  rw [wp_ret]; imodintro
  ihave Hu := (Entails.of_eq ((unscopedBufs_held d (W2 m d)).symm.trans (W2_eq m d))) $$ Hh
  icases Hu with ⟨Ha0, Ha1, Ht, Hi, Ho, Hr⟩
  beta_reduce; rw [wp_bind]
  iapply ((K (F := F)).wp_run (D (F := F)) 𝒱 (EH := EH) (P := PP m hm) κ d 0)
  isplitr; · iexact Hctx
  isplitl [Hst]; · iexact Hst
  isplitl [Ht Hi Ho]
  · rw [st_eq]
    isplitl [Ht]; · iexact Ht
    isplitl [Hi]; · iexact Hi
    iexact Ho
  iintro ⟨Hst, Hdn⟩
  ihave Hdn' := (Entails.of_eq (dn_eq (tab m) (I m) (inRange_I m hm) (fo m) d)) $$ Hdn
  icases Hdn' with ⟨-, -, Ho⟩
  unfold SparseCore.Cfg.tcSt
  icases Hst with ⟨⟨%W, %hW, HO⟩, Hst⟩
  rw [show ((0 : Fin 1) : ℕ) + 1 = 1 from rfl]
  beta_reduce; rw [wp_bind]
  iapply (wp_combine (fun d => restored m hm d) (fun d => m ((SparseCore.T d).loc main_v3)) d)
  isplitr [Hb Ho Hr HO HG]
  · iintro ⟨Hb, Hp⟩
    ihave Hp' := (Entails.of_eq (reg_post _ _ d)) $$ Hp
    icases Hp' with ⟨-, Hr, %W', %hW', HO⟩
    rw [wp_pure]; imodintro
    isplitl [HO Hst]
    · isplitl [HO]
      · iexists W'; isplitr
        · ipureintro; exact hW'
        · iapply (Entails.of_eq (owes_Otc d W').symm) $$ HO
      iexact Hst
    isplitl [Ha0 Ha1 Hr]
    · isplitl [Ha0]; · iexact Ha0
      isplitl [Ha1]; · iexact Ha1
      iexact Hr
    isplitl [Hb] <;> iassumption
  isplitl [Hb]; · iexact Hb
  isplitl [Ho Hr HO]
  · rw [reg_pre]
    isplitl [Ho]; · iexact Ho
    isplitl [Hr]; · iexact Hr
    iexists W; isplitr
    · ipureintro; exact hW
    ihave HO' := (Entails.of_eq (show _ = (owes (SparseCore.T d) 0 W : sProp 𝕄) from owes_Otc d W)) $$ HO
    iexact HO'
  isplitr; · iapply (SparseCore.Cfg.ctx_levAts κ) $$ Hctx
  iexact HG

/-! ## The end of the run -/

def fq (d : Dev nD) (s' : Phys nD τ sig (Elt F)) : Prop :=
  s'.mem.mem ((SparseCore.T d).loc main_arg0) = arg0 m d ∧ s'.mem.mem ((SparseCore.T d).loc main_arg1) = arg1 m d
    ∧ s'.mem.mem ((SparseCore.T d).loc main_v3) = kernelOut m hm d

/-- A buffer held whole is what memory holds there. -/
theorem held_read {ℓ : Loc nD τ sig} {f : Buf (Elt F) ℓ} (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m hm d ∗ SI s') ⊢ (⌜fq m hm d s'⌝ : sProp 𝕄) := by
  iintro ⟨⟨H0, H1, H2⟩, HSI⟩
  ihave H := (held_read s') $$ [HSI H0]
  · isplitl [HSI] <;> iassumption
  icases H with ⟨%h0, HSI⟩
  ihave H := (held_read s') $$ [HSI H1]
  · isplitl [HSI] <;> iassumption
  icases H with ⟨%h1, HSI⟩
  ihave H := (held_read s') $$ [HSI H2]
  · isplitl [HSI] <;> iassumption
  icases H with ⟨%h2, -⟩
  ipureintro; exact ⟨h0, h1, h2⟩

/-- The run: from any launch memory whose indices are in range, every fair execution ends without fault, the arguments
    as they were, the result `kernelOut` of them, every semaphore counter zero. -/
theorem run_main :
    θ_run (Cert.KernelIdeal.defs (F := F)) (Cert.KernelIdeal.threads (F := F)) ⟨m, fun _ => 0, ρ⟩
      fun r => (∀ d : Dev nD, r.2.mem ((SparseCore.T d).loc main_arg0) = arg0 m d ∧ r.2.mem ((SparseCore.T d).loc main_arg1) = arg1 m d
        ∧ r.2.mem ((SparseCore.T d).loc main_v3) = kernelOut m hm d) ∧ r.2.sem = fun _ => 0 :=
  SparseCore.Cfg.θ_run_sc_quiescent (K := K (F := F)) (D := D (F := F)) (𝒱 := 𝒱) (EH := EH) (P := PP m hm) (A := ∅) facts v₀
    (fun q hq => match q with | 0 => nomatch hq)
    (fun q _ => match q with | 0 => tileObl (tab m) (I m) (inRange_I m hm) (fo m) facts)
    (fun q _ => match q with | 0 => SparseCore.Cfg.VecSplit.of_plain (vecSplit (tab m) (I m) (inRange_I m hm) (fo m)))
    m ρ main (fun d => GG (F := F) d) (FIN m hm) (u₀ (F := F)) (sep_elim_left.trans (hu₀ m hm)) (hmain m ρ hm) (fq m hm) (hfin m hm) _ (fun _ h hz => ⟨h, hz⟩)

end Cert.KernelIdeal.Run

end
-- ==== Proof.Equation.lean ====
/-
  The kernel's result is the reference's, over the extended reals, for equal arguments whose indices are in range.
-/
module

public import proofs.«01_k».proof.Proof.RefMix
public import proofs.«01_k».proof.Proof.Run

@[expose] public section

noncomputable section

namespace Cert.Equation

open Cert.KernelIdeal Cert.KernelIdeal.Gen Cert.KernelIdeal.Restore Cert.KernelIdeal.Combine Cert.KernelIdeal.Mix
open Cert.KernelIdeal.Run (tabOf idxOf)
open Cert.ReferenceIdeal.RefMix (after wrapped gather_rows wrapped_apply after_apply)
open Idealize.ShloMosaic

/-- The indices in lists of 128, read at a position of the sequence. -/
theorem idxOf_apply (O : IVec S32x4x4096x1 32) (b : Fin 32) (r : Fin 4) (l : Fin 4096) :
    idxOf (F := Ideal) O (ix4 b r ⟨l.val / 128, by omega⟩ ⟨l.val % 128, by omega⟩) = O (ix4 b r l 0) := by
  pointwise [idxOf]

/-- The gathered rows, as the kernel leaves them and as the reference reads them. -/
theorem rows_eq (A : FVec Ideal S32x4x4096x128 .f32) (O : IVec S32x4x4096x1 32) (h : ∀ x, (idxOf (F := Ideal) O x).toNat < 524288)
    (hO : ∀ j, (O j).toNat < 524288) (b : Fin 32) (r : Fin 4) (l : Fin 4096) (c : Fin 128) :
    gathered (F := Ideal) (tabOf (F := Ideal) A) (idxOf (F := Ideal) O) h (ix4 b r l c)
      = Host.gather Cert.ReferenceIdeal.gather_S524288x128_S32x4x4096x1_S32x4x4096x128_3_0_n_n_0_3_1128 (tabOf (F := Ideal) A : FVec Ideal S524288x128 .f32) (wrapped O) (ix4 b r l c) := by
  refine Eq.trans ?_ (gather_rows (tabOf (F := Ideal) A) (wrapped O) b r l c).symm
  have hw := wrapped_apply O b r l (hO _)
  have e := idxOf_apply O b r l
  have hl := hO (ix4 b r l 0)
  have ht : (O (ix4 b r l 0)).toInt.toNat = (O (ix4 b r l 0)).toNat := by
    rw [BitVec.toInt_eq_toNat_cond]; rw [if_pos (by omega)]; simp
  unfold gathered
  refine congrArg (tabOf (F := Ideal) A) ?_
  funext a
  match a with
  | ⟨0, _⟩ =>
    refine Fin.ext ?_
    show (idxOf (F := Ideal) O _).toNat = min (wrapped O (ix4 b r l 0)).toInt.toNat (524288 - 1)
    rw [hw, ht, Nat.min_eq_left (by omega), ← e]
    rfl
  | ⟨1, _⟩ => rfl

/-- What the kernel computes of its arguments is what the reference computes of them. -/
theorem out_eq (A : FVec Ideal S32x4x4096x128 .f32) (O : IVec S32x4x4096x1 32) (h : ∀ x, (idxOf (F := Ideal) O x).toNat < 524288)
    (hO : ∀ j, (O j).toNat < 524288) :
    combined (gathered (F := Ideal) (tabOf (F := Ideal) A) (idxOf (F := Ideal) O) h)
      = after (Host.gather Cert.ReferenceIdeal.gather_S524288x128_S32x4x4096x1_S32x4x4096x128_3_0_n_n_0_3_1128 (tabOf (F := Ideal) A : FVec Ideal S524288x128 .f32) (wrapped O)) := by
  funext j
  obtain ⟨b, l, c, rfl⟩ : ∃ b l c, j = ix3 b l c := ⟨_, _, _, eq_ix3 j⟩
  rw [after_apply]
  simp only [← rows_eq A O h hO]
  refine (blockOut_apply _ l c).trans ?_
  rfl

end Cert.Equation

end
-- ==== Proof.Range.lean ====
/-
  What the precondition says: every index, read as a natural number, is below 524288, the number of rows.
-/
module

public import proofs.«01_k».proof.Proof.Gen.Pre_in_range
public import Idealize.ShloMosaic.Lib.ReduceAll

@[expose] public section

noncomputable section

namespace Cert.Pre_in_range

open Cert.Pre_in_range Cert.Pre_in_range.Gen Idealize.ShloMosaic

theorem andi_ofBool (p q : Bool) : IntOp.andi (BitVec.ofBool p) (BitVec.ofBool q) = BitVec.ofBool (p && q) := by
  cases p <;> cases q <;> decide

theorem ofBool_one (p : Bool) : (BitVec.ofBool p = 1#1) ↔ p = true := by cases p <;> decide

/-- A word that passes both comparisons is below the bound. -/
theorem word_lt (v : BitVec 32) (e : IntOp.andi (IntOp.cmpi .sge v 0#32) (IntOp.cmpi .slt v 524288#32) = 1#1) : v.toNat < 524288 := by
  simp only [IntOp.cmpi, andi_ofBool, ofBool_one, Bool.and_eq_true, BitVec.sle_eq_decide, BitVec.slt_eq_decide,
    decide_eq_true_eq, BitVec.toInt_eq_toNat_cond, BitVec.toNat_ofNat, Nat.reducePow, Nat.reduceMod] at e
  omega

/-- The precondition bounds every index. -/
theorem lt_of_fn {F : FTy → Type} [FloatOps F] (A : FVec F S32x4x4096x128 .f32) (O : IVec S32x4x4096x1 32)
    (h : fn A O = fun _ => 1#1) (j : S32x4x4096x1.Idx) : (O j).toNat < 524288 := by
  have : Subsingleton S_.Idx := ⟨fun a b => funext fun i => i.elim0⟩
  have e := congrFun h (Shape.Idx.first h_S_)
  unfold fn at e
  have e' := Host.reduce_andi_all _ _ _ _ _ e j
  exact word_lt _ e'

end Cert.Pre_in_range

end
-- ==== Proof.ReorderPlaces.lean ====
/-
  What the precondition on the places says: along each batch and round the positions are a permutation of 0 … 4095, and each
  place is its position plus 4096 times the number of the batch and round. And what an argsort of such positions is: the
  permutation's inverse.
-/
module

public import proofs.«01_k».proof.Proof.Gen.Pre_places
public import Idealize.ShloMosaic.Lib.ReduceAll
public import Idealize.ShloMosaic.Lib.SortFacts
public import Idealize.ShloMosaic.Lib.Pointwise

@[expose] public section

noncomputable section

namespace Cert.Pre_places

open Cert.Pre_places Cert.Pre_places.Gen Idealize.ShloMosaic

/-- The last axis. -/
abbrev ax : Fin S32x4x4096.rank := ⟨2, by decide⟩

theorem along_ix3 (b : Fin 32) (r : Fin 4) (p k : Fin 4096) :
    Shape.Idx.along (s := S32x4x4096) (ix3 b r p) ax k = (ix3 b r k : S32x4x4096.Idx) := by
  unfold Shape.Idx.along
  funext a
  match a with
  | ⟨0, _⟩ => exact Function.update_of_ne (fun e => absurd (congrArg Fin.val e) (show (0 : ℕ) ≠ 2 by decide)) _ _
  | ⟨1, _⟩ => exact Function.update_of_ne (fun e => absurd (congrArg Fin.val e) (show (1 : ℕ) ≠ 2 by decide)) _ _
  | ⟨2, _⟩ => exact Function.update_self _ _ _

/-- Sorting by the inverse of a permutation lists the permutation. -/
theorem sortedFrom_of_perm {n : ℕ} (σ : Equiv.Perm (Fin n)) (p : Fin n) :
    sortedFrom (fun k k' => decide (σ.symm k < σ.symm k')) p = σ p := by
  unfold sortedFrom
  rw [List.get_of_eq (sortPositions_of_perm σ), List.get_eq_getElem, List.getElem_ofFn]
  rfl

/-- Where a sort takes each place's element from is a permutation. -/
theorem exists_equiv {n : ℕ} (B : Fin n → Fin n → Bool) : ∃ σ : Fin n ≃ Fin n, ∀ p, σ p = sortedFrom B p :=
  ⟨Equiv.ofBijective _ ⟨sortedFrom_injective B, sortedFrom_surjective B⟩, fun _ => rfl⟩

/-- A sort along the last axis, at an index. -/
theorem sort_apply (x : IVec S32x4x4096 32) (cmp : BitVec 32 → BitVec 32 → BitVec 1) (b : Fin 32) (r : Fin 4) (p : Fin 4096) :
    Host.sort S32x4x4096 2 cmp x (ix3 b r p)
      = x (ix3 b r (sortedFrom (n := 4096) (fun k k' => cmp (x (ix3 b r k)) (x (ix3 b r k')) == 1#1) p)) := by
  unfold Host.sort
  rw [dif_pos (show (2 : ℕ) < S32x4x4096.rank by decide)]
  have hB : (fun k k' : Fin 4096 => cmp (x (Shape.Idx.along (s := S32x4x4096) (ix3 b r p) ax k)) (x (Shape.Idx.along (s := S32x4x4096) (ix3 b r p) ax k')) == 1#1)
      = fun k k' => cmp (x (ix3 b r k)) (x (ix3 b r k')) == 1#1 := by
    funext k k'
    rw [along_ix3, along_ix3]
  show x (Shape.Idx.along (s := S32x4x4096) (ix3 b r p) ax (sortedFrom (n := 4096) (fun k k' : Fin 4096 =>
    cmp (x (Shape.Idx.along (s := S32x4x4096) (ix3 b r p) ax k)) (x (Shape.Idx.along (s := S32x4x4096) (ix3 b r p) ax k')) == 1#1) p)) = _
  rw [hB, along_ix3]

/-- Words which a sort along the last axis makes 0, 1, 2, … are a permutation of these, along each batch and round. -/
theorem exists_perm (x : IVec S32x4x4096 32) (cmp : BitVec 32 → BitVec 32 → BitVec 1)
    (h : ∀ b r (p : Fin 4096), Host.sort S32x4x4096 2 cmp x (ix3 b r p) = BitVec.ofNat 32 p.val) :
    ∃ π : Fin 32 → Fin 4 → Fin 4096 ≃ Fin 4096, ∀ b r p, (x (ix3 b r p)).toNat = (π b r p).val := by
  have h' : ∀ b r, ∃ σ : Fin 4096 ≃ Fin 4096, ∀ p, x (ix3 b r (σ p)) = BitVec.ofNat 32 p.val := fun b r => by
    obtain ⟨σ, hσ⟩ : ∃ σ : Fin 4096 ≃ Fin 4096, ∀ p, σ p = sortedFrom (n := 4096) (fun k k' => cmp (x (ix3 b r k)) (x (ix3 b r k')) == 1#1) p :=
      exists_equiv _
    refine ⟨σ, fun p => ?_⟩
    rw [hσ]
    exact (sort_apply x cmp b r p).symm.trans (h b r p)
  choose σ hσ using h'
  refine ⟨fun b r => (σ b r).symm, fun b r p => ?_⟩
  have e := hσ b r ((σ b r).symm p)
  rw [Equiv.apply_symm_apply] at e
  rw [e, BitVec.toNat_ofNat]
  exact Nat.mod_eq_of_lt (by have := ((σ b r).symm p).isLt; omega)

/-- The argsort of a permutation's values lists the inverse permutation. -/
theorem argsort_apply (x : IVec S32x4x4096 32) (π : Fin 32 → Fin 4 → Fin 4096 ≃ Fin 4096)
    (h : ∀ b r p, (x (ix3 b r p)).toNat = (π b r p).val) (cmp : BitVec 32 × BitVec 32 → BitVec 32 × BitVec 32 → BitVec 1)
    (hc : ∀ l r, cmp l r = IntOp.cmpi .slt l.1 r.1) (b : Fin 32) (r : Fin 4) (p : Fin 4096) :
    (Host.sort2 S32x4x4096 2 cmp x (iotaInDim S32x4x4096 32 2)).2 (ix3 b r p) = BitVec.ofNat 32 ((π b r).symm p).val := by
  unfold Host.sort2
  rw [dif_pos (show (2 : ℕ) < S32x4x4096.rank by decide)]
  refine (congrArg (iotaInDim S32x4x4096 32 2) (along_ix3 b r p _)).trans ?_
  refine congrArg (fun q : Fin 4096 => BitVec.ofNat 32 q.val) ?_
  have hB : (fun k k' : Fin 4096 => cmp (x (ix3 b r k), iotaInDim S32x4x4096 32 2 (ix3 b r k)) (x (ix3 b r k'), iotaInDim S32x4x4096 32 2 (ix3 b r k')) == 1#1)
      = fun k k' => decide ((π b r).symm.symm k < (π b r).symm.symm k') := by
    funext k k'
    rw [hc]
    have h1 := h b r k
    have h2 := h b r k'
    have l1 := (π b r k).isLt
    have l2 := (π b r k').isLt
    show (BitVec.ofBool ((x (ix3 b r k)).slt (x (ix3 b r k'))) == 1#1) = decide (π b r k < π b r k')
    have e : (x (ix3 b r k)).slt (x (ix3 b r k')) = decide (π b r k < π b r k') := by
      rw [BitVec.slt_eq_decide]
      refine decide_eq_decide.mpr ?_
      rw [BitVec.toInt_eq_toNat_cond, BitVec.toInt_eq_toNat_cond, h1, h2, Fin.lt_def]
      omega
    rw [e]
    cases decide (π b r k < π b r k') <;> decide
  have hs : sortedFrom (fun k k' : Fin 4096 => decide ((π b r).symm.symm k < (π b r).symm.symm k')) p = (π b r).symm p := sortedFrom_of_perm (π b r).symm p
  refine Eq.trans ?_ hs
  rw [← hB]
  refine congrArg (fun B' => sortedFrom (n := 4096) B' p) ?_
  funext k k'
  exact congrArg₂ (fun u v => cmp (x u, iotaInDim S32x4x4096 32 2 u) (x v, iotaInDim S32x4x4096 32 2 v) == 1#1) (along_ix3 b r p k) (along_ix3 b r p k')

/-- 0, 1, 2, … along the last axis, as the precondition compares with it. -/
def counting : IVec S32x4x4096 32 := broadcastInDim S32x4x4096 ![0, 1, 2] bcast_S1x1x4096_S32x4x4096_0_1_2
  (broadcastInDim S1x1x4096 ![2] bcast_S4096_S1x1x4096_2 (iotaInDim S4096 32 0))

/-- 4096 times the number of the batch and round. -/
def base : IVec S32x4x4096 32 := broadcastInDim S32x4x4096 ![0, 1, 2] bcast_S32x4x1_S32x4x4096_0_1_2
  (muli (broadcastInDim S32x4x1 ![] bcast_S_S32x4x1 (constantI S_ 32 4096#32)) (shapeCast S32x4x1 (iotaInDim S128 32 0) shapeCasts_S128_S32x4x1))

theorem counting_apply (b : Fin 32) (r : Fin 4) (p : Fin 4096) : counting (ix3 b r p) = BitVec.ofNat 32 p.val := by
  pointwise [counting]

theorem base_apply (b : Fin 32) (r : Fin 4) (p : Fin 4096) : base (ix3 b r p) = 4096#32 * BitVec.ofNat 32 (4 * b.val + r.val) := by
  pointwise [base]
  exact congrArg (fun n => 4096#32 * BitVec.ofNat 32 n) (by omega)

theorem andi_one (u v : BitVec 1) (h : IntOp.andi u v = 1#1) : u = 1#1 ∧ v = 1#1 := by
  revert u v; decide

theorem cmpi_eq_one (u v : BitVec 32) (h : IntOp.cmpi .eq u v = 1#1) : u = v := by
  have h' : BitVec.ofBool (u == v) = 1#1 := h
  by_contra e
  rw [beq_eq_false_iff_ne.mpr e] at h'
  exact absurd h' (by decide)

/-- The precondition, read: some permutations which the positions and the places spell. -/
theorem of_fn {F : FTy → Type} [FloatOps F] (q v : FVec F S32x4096x64 .f32) (o g : IVec S32x4x4096x1 32) (s : IVec S32x4096x1 32)
    (h : fn q v o g s = fun _ => 1#1) :
    ∃ π : Fin 32 → Fin 4 → Fin 4096 ≃ Fin 4096,
      (∀ b r p, (shapeCast S32x4x4096 o shapeCasts_S32x4x4096x1_S32x4x4096 (ix3 b r p)).toNat = (π b r p).val)
      ∧ ∀ b r p, (shapeCast S32x4x4096 g shapeCasts_S32x4x4096x1_S32x4x4096 (ix3 b r p)).toNat = (4 * b.val + r.val) * 4096 + (π b r p).val := by
  have : Subsingleton S_.Idx := ⟨fun a b => funext fun i => i.elim0⟩
  have e := congrFun h (Shape.Idx.first h_S_)
  unfold fn fn_sort at e
  have key : ∀ j : S32x4x4096.Idx, Host.sort S32x4x4096 2 comparator_i32_d2 (shapeCast S32x4x4096 o shapeCasts_S32x4x4096x1_S32x4x4096) j = counting j
      ∧ shapeCast S32x4x4096 g shapeCasts_S32x4x4096x1_S32x4x4096 j
        = shapeCast S32x4x4096 o shapeCasts_S32x4x4096x1_S32x4x4096 j + base j := fun j => by
    have e' := andi_one _ _ (Host.reduce_andi_all _ _ _ _ _ e j)
    exact ⟨cmpi_eq_one _ _ e'.1, cmpi_eq_one _ _ e'.2⟩
  obtain ⟨π, hπ⟩ := exists_perm (shapeCast S32x4x4096 o shapeCasts_S32x4x4096x1_S32x4x4096) comparator_i32_d2 fun b r p =>
    ((key (ix3 b r p)).1).trans (counting_apply b r p)
  refine ⟨π, hπ, fun b r p => ?_⟩
  rw [(key (ix3 b r p)).2, base_apply, BitVec.toNat_add, BitVec.toNat_mul, hπ, BitVec.toNat_ofNat, BitVec.toNat_ofNat]
  have := (π b r p).isLt
  have := b.isLt
  have := r.isLt
  omega

end Cert.Pre_places

end
-- ==== Proof.ReorderRef.lean ====
/-
  What the reference of the reordering computes, over the extended reals, at an index: the position that an argsort of the
  original indices lists there, and the row and the packed bucket at this position.
-/
module

public import proofs.«01_k».proof.Proof.Gen.ReorderReferenceIdeal.Run
public import proofs.«01_k».proof.Proof.ReorderPlaces

@[expose] public section

noncomputable section

namespace Cert.ReorderReferenceIdeal.Ref

open Cert.ReorderReferenceIdeal Cert.ReorderReferenceIdeal.Gen Cert.ReorderReferenceIdeal.Value
open Idealize.ShloMosaic Idealize.ShloMosaic.TcCoe Idealize.SL.Sem

/-- The hash order: the argsort of the original indices along the sequence. -/
def order (o : IVec S32x4x4096x1 32) : IVec S32x4x4096 32 :=
  (Host.sort2 S32x4x4096 2 comparator_i32_i32_d2 (shapeCast _ o shapeCasts_S32x4x4096x1_S32x4x4096) (iotaInDim S32x4x4096 32 2)).2

/-- The indices, as the reference prepares them for its gathers: a negative one counts from the end. -/
def wrapped (j : IVec S32x4x4096 32) : IVec S32x4x4096x1 32 :=
  broadcastInDim S32x4x4096x1 ![0, 1, 2] bcast_S32x4x4096_S32x4x4096x1_0_1_2
    (select (cmpi .slt j (broadcastInDim S32x4x4096 ![] bcast_S_S32x4x4096 (constantI S_ 32 0#32)))
      (addi j (broadcastInDim S32x4x4096 ![] bcast_S_S32x4x4096 (constantI S_ 32 4096#32))) j)

/-- Rows taken in that order. -/
abbrev rowsAt (x : FVec Ideal S32x4096x64 .f32) (j : IVec S32x4x4096 32) : FVec Ideal S32x4x4096x64 .f32 :=
  Host.gather gather_S32x4096x64_S32x4x4096x1_S32x4x4096x64_3_1_0_0_1_3_1164 x (wrapped j)

/-- The reordered queries and values, side by side. -/
def rows (q v : FVec Ideal S32x4096x64 .f32) (j : IVec S32x4x4096 32) : FVec Ideal S32x4x4096x128 .f32 :=
  concatenate S32x4x4096x128 3 [⟨S32x4x4096x64, rowsAt q j⟩, ⟨S32x4x4096x64, rowsAt v j⟩] concatenates_S32x4x4096x64_S32x4x4096x64_S32x4x4096x128_d3

/-- Words taken in that order. -/
abbrev wordsAt (x : IVec S32x4096 32) (j : IVec S32x4x4096 32) : IVec S32x4x4096 32 :=
  Host.gather gather_S32x4096_S32x4x4096x1_S32x4x4096_n_1_0_0_1_3_11 x (wrapped j)

/-- The reordered packed buckets. -/
def buckets (s : IVec S32x4096x1 32) (j : IVec S32x4x4096 32) : IVec S32x4x4096 32 :=
  wordsAt (shapeCast S32x4096 s shapeCasts_S32x4096x1_S32x4096) j

theorem wrapped_apply (j : IVec S32x4x4096 32) (b : Fin 32) (r : Fin 4) (p n : Fin 4096) (h : j (ix3 b r p) = BitVec.ofNat 32 n.val) :
    wrapped j (ix4 b r p 0) = BitVec.ofNat 32 n.val := by
  rw [← h]
  pointwise [wrapped]
  have hn : ¬ (j (ix3 b r p)).slt 0#32 := by
    rw [h, BitVec.slt_eq_decide, decide_eq_true_eq, BitVec.toInt_eq_toNat_cond, BitVec.toNat_ofNat, Nat.mod_eq_of_lt (by omega)]
    simp only [BitVec.toInt_zero]
    omega
  simp [Scalar.select, IntOp.cmpi, hn]

/-- A word below 4096, read as a start of a slice of one. -/
theorem clamp (w : BitVec 32) (n : Fin 4096) (h : w = BitVec.ofNat 32 n.val) : min w.toInt.toNat (4096 - 1) = n.val := by
  rw [h, BitVec.toInt_eq_toNat_cond, BitVec.toNat_ofNat, Nat.mod_eq_of_lt (by omega), if_pos (by omega), Int.toNat_natCast]
  omega

/-- A gathered row is the table's row of the same batch, at the given position. -/
theorem rowsAt_apply (x : FVec Ideal S32x4096x64 .f32) (j : IVec S32x4x4096 32) (b : Fin 32) (r : Fin 4) (p n : Fin 4096) (c : Fin 64)
    (h : j (ix3 b r p) = BitVec.ofNat 32 n.val) : rowsAt x j (ix4 b r p c) = x (ix3 b n c) := by
  have hw := wrapped_apply j b r p n h
  unfold rowsAt Host.gather
  refine congrArg x (funext fun a => Fin.ext ?_)
  show GatherDims.start _ _ (wrapped j) a + GatherDims.batchCoord _ _ a + GatherDims.offCoord _ _ a = _
  match a with
  | ⟨0, _⟩ =>
    rw [GatherDims.start_batching _ _ _ _ (List.mem_singleton.mpr rfl), Nat.zero_add,
      GatherDims.offCoord_eq_zero _ _ _ (fun e => ((GatherDims.mem_sKept _ _).mp e).2 (List.mem_singleton.mpr rfl)), Nat.add_zero]
    unfold GatherDims.batchCoord
    rw [dif_pos (show (⟨0, by decide⟩ : Fin 3) ∈ GatherDims.operandBatchingDims gather_S32x4096x64_S32x4x4096x1_S32x4x4096x64_3_1_0_0_1_3_1164 from List.mem_singleton.mpr rfl)]
    rfl
  | ⟨1, h1⟩ =>
    rw [GatherDims.batchCoord_eq_zero _ _ _ (fun e => absurd (congrArg Fin.val (List.mem_singleton.mp e)) (by decide : (1 : ℕ) ≠ 0)), Nat.add_zero,
      GatherDims.offCoord_eq_zero _ _ _ (fun e => ((GatherDims.mem_sKept _ _).mp e).1 (List.mem_singleton.mpr rfl)), Nat.add_zero]
    unfold GatherDims.start
    rw [dif_pos (show (⟨1, by decide⟩ : Fin 3) ∈ GatherDims.startIndexMap gather_S32x4096x64_S32x4x4096x1_S32x4x4096x64_3_1_0_0_1_3_1164 from List.mem_singleton.mpr rfl)]
    refine Eq.trans ?_ (clamp _ n hw)
    refine congrArg (fun i => min (wrapped j i).toInt.toNat (4096 - 1)) (funext fun q => Fin.ext ?_)
    match q with
    | ⟨0, _⟩ => rfl
    | ⟨1, _⟩ => rfl
    | ⟨2, _⟩ => rfl
    | ⟨3, _⟩ => rfl
  | ⟨2, h2⟩ =>
    have hs : GatherDims.start gather_S32x4096x64_S32x4x4096x1_S32x4x4096x64_3_1_0_0_1_3_1164 (ix4 b r p c) (wrapped j) ⟨2, h2⟩ = 0 := by
      unfold GatherDims.start
      exact dif_neg fun e => absurd (congrArg Fin.val (List.mem_singleton.mp e)) (by decide : (2 : ℕ) ≠ 1)
    rw [hs, Nat.zero_add,
      GatherDims.batchCoord_eq_zero _ _ _ (fun e => absurd (congrArg Fin.val (List.mem_singleton.mp e)) (by decide : (2 : ℕ) ≠ 0)), Nat.zero_add]
    unfold GatherDims.offCoord
    rw [dif_pos ((GatherDims.mem_sKept _ _).mpr ⟨fun e => absurd (congrArg Fin.val (List.mem_singleton.mp e)) (by decide : (2 : ℕ) ≠ 1),
      fun e => absurd (congrArg Fin.val (List.mem_singleton.mp e)) (by decide : (2 : ℕ) ≠ 0)⟩)]
    rfl

/-- A gathered word is the same batch's, at the given position. -/
theorem wordsAt_apply (x : IVec S32x4096 32) (j : IVec S32x4x4096 32) (b : Fin 32) (r : Fin 4) (p n : Fin 4096)
    (h : j (ix3 b r p) = BitVec.ofNat 32 n.val) : wordsAt x j (ix3 b r p) = x (ix2 b n) := by
  have hw := wrapped_apply j b r p n h
  unfold wordsAt Host.gather
  refine congrArg x (funext fun a => Fin.ext ?_)
  show GatherDims.start _ _ (wrapped j) a + GatherDims.batchCoord _ _ a + GatherDims.offCoord _ _ a = _
  match a with
  | ⟨0, _⟩ =>
    rw [GatherDims.start_batching _ _ _ _ (List.mem_singleton.mpr rfl), Nat.zero_add,
      GatherDims.offCoord_eq_zero _ _ _ (fun e => ((GatherDims.mem_sKept _ _).mp e).2 (List.mem_singleton.mpr rfl)), Nat.add_zero]
    unfold GatherDims.batchCoord
    rw [dif_pos (show (⟨0, by decide⟩ : Fin 2) ∈ GatherDims.operandBatchingDims gather_S32x4096_S32x4x4096x1_S32x4x4096_n_1_0_0_1_3_11 from List.mem_singleton.mpr rfl)]
    rfl
  | ⟨1, h1⟩ =>
    rw [GatherDims.batchCoord_eq_zero _ _ _ (fun e => absurd (congrArg Fin.val (List.mem_singleton.mp e)) (by decide : (1 : ℕ) ≠ 0)), Nat.add_zero,
      GatherDims.offCoord_eq_zero _ _ _ (fun e => ((GatherDims.mem_sKept _ _).mp e).1 (List.mem_singleton.mpr rfl)), Nat.add_zero]
    unfold GatherDims.start
    rw [dif_pos (show (⟨1, by decide⟩ : Fin 2) ∈ GatherDims.startIndexMap gather_S32x4096_S32x4x4096x1_S32x4x4096_n_1_0_0_1_3_11 from List.mem_singleton.mpr rfl)]
    refine Eq.trans ?_ (clamp _ n hw)
    refine congrArg (fun i => min (wrapped j i).toInt.toNat (4096 - 1)) (funext fun q => Fin.ext ?_)
    match q with
    | ⟨0, _⟩ => rfl
    | ⟨1, _⟩ => rfl
    | ⟨2, _⟩ => rfl
    | ⟨3, _⟩ => rfl

/-- A gathered bucket is the same batch's, at the given position. -/
theorem buckets_apply (s : IVec S32x4096x1 32) (j : IVec S32x4x4096 32) (b : Fin 32) (r : Fin 4) (p n : Fin 4096)
    (h : j (ix3 b r p) = BitVec.ofNat 32 n.val) :
    buckets s j (ix3 b r p) = shapeCast S32x4096 s shapeCasts_S32x4096x1_S32x4096 (ix2 b n) :=
  wordsAt_apply _ j b r p n h

/-- The run of the reference, its results under the names above. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = rows (m ((c.tc : Thread nD τ).loc main_arg0)) (m ((c.tc : Thread nD τ).loc main_arg1)) (order (m ((c.tc : Thread nD τ).loc main_arg2)))
      ∧ r.2.mem ((c.tc : Thread nD τ).loc main_v1) = order (m ((c.tc : Thread nD τ).loc main_arg2))
      ∧ r.2.mem ((c.tc : Thread nD τ).loc main_v24) = buckets (m ((c.tc : Thread nD τ).loc main_arg4)) (order (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.ReorderReferenceIdeal.Ref

end
-- ==== Proof.ReorderBody.lean ====
/-
  The reordering scatter's body on one tile, as one program for a round's two index lists run for the four rounds, and
  one program for a chunk's rows run for the eight chunks.
-/
module

public import proofs.«01_k».proof.Proof.Gen.ReorderIdeal

@[expose] public section

noncomputable section

namespace Cert.ReorderIdeal.Place

open Cert.ReorderIdeal Cert.ReorderIdeal.Gen
open Idealize.ShloMosaic
open Idealize.SL Idealize.SL.Sem

variable {F : FTy → Type} [FloatOps F]

/-- The batch a tile works on, as the body computes it: twice the tile's number plus the SparseCore's. -/
abbrev batch (i : grid0.Coords) : ℕ :=
  (Scalar.addi (Scalar.muli (BitVec.ofNat 32 (i 1).val) 2#32) (BitVec.ofNat 32 (i 0).val)).toNat

theorem batch_eq : ∀ i : grid0.Coords, batch i = 2 * (i 1).val + (i 0).val := by decide +kernel

theorem batch_lt (i : grid0.Coords) : batch i < 32 := by
  rw [batch_eq]; have h1 : (i 1).val < 16 := (i 1).isLt; have h0 : (i 0).val < 2 := (i 0).isLt; omega

/-- Where the tile's packed buckets, round `r`'s list of positions, chunk `c`'s rows and their places start. -/
abbrev packOff (i : grid0.Coords) : Fin 2 → ℕ := ![batch i, 0]
abbrev roundOff (i : grid0.Coords) (r : ℕ) : Fin 3 → ℕ := ![batch i, r, 0]
abbrev rowsOff (i : grid0.Coords) (c : ℕ) : Fin 3 → ℕ := ![batch i, 512 * c, 0]
abbrev listOff (i : grid0.Coords) (c r : ℕ) : Fin 4 → ℕ := ![batch i, r, 4 * c, 0]

theorem packOff_inb (i : grid0.Coords) : ∀ a, (packOff i) a + S1x4096.size a ≤ S32x4096.size a := by
  have hb := batch_lt i
  intro a
  match a with
  | 0 => show batch i + 1 ≤ 32; omega
  | 1 => show 0 + 4096 ≤ 4096; omega

theorem roundOff_inb (i : grid0.Coords) (r : Fin 4) : ∀ a, (roundOff i r.val) a + S1x1x4096.size a ≤ S32x4x4096.size a := by
  have hb := batch_lt i; have hr := r.isLt
  intro a
  match a with
  | 0 => show batch i + 1 ≤ 32; omega
  | 1 => show r.val + 1 ≤ 4; omega
  | 2 => show 0 + 4096 ≤ 4096; omega

theorem rowsOff_inb (i : grid0.Coords) (c : Fin 8) : ∀ a, (rowsOff i c.val) a + S1x512x128.size a ≤ S32x4096x128.size a := by
  have hb := batch_lt i; have hc := c.isLt
  intro a
  match a with
  | 0 => show batch i + 1 ≤ 32; omega
  | 1 => show 512 * c.val + 512 ≤ 4096; omega
  | 2 => show 0 + 128 ≤ 128; omega

theorem listOff_inb (i : grid0.Coords) (c : Fin 8) (r : Fin 4) : ∀ a, (listOff i c.val r.val) a + S1x1x4x128.size a ≤ S32x4x32x128.size a := by
  have hb := batch_lt i; have hc := c.isLt; have hr := r.isLt
  intro a
  match a with
  | 0 => show batch i + 1 ≤ 32; omega
  | 1 => show r.val + 1 ≤ 4; omega
  | 2 => show 4 * c.val + 4 ≤ 32; omega
  | 3 => show 0 + 128 ≤ 128; omega

theorem bufOff_inb (j : Fin 4) : ∀ a, (![128 * j.val, 0] : Fin 2 → ℕ) a + S128x128.size a ≤ S512x128.size a := by
  have := j.isLt
  intro a
  match a with
  | 0 => show 128 * j.val + 128 ≤ 512; omega
  | 1 => show 0 + 128 ≤ 128; omega

theorem rowOff_inb (j : Fin 4) : ∀ a, (![j.val, 0] : Fin 2 → ℕ) a + S1x128.size a ≤ S4x128.size a := by
  have := j.isLt
  intro a
  match a with
  | 0 => show j.val + 1 ≤ 4; omega
  | 1 => show 0 + 128 ≤ 128; omega

section
variable (i : grid0.Coords) (arg2 : Memref sig .scVector .hbm S32x4096x128 .f32) (arg3 : Memref sig .scVector .hbm S32x4x4096 .i32)
  (arg4 : Memref sig .scVector .hbm S32x4x32x128 .i32) (arg5 : Memref sig .scVector .hbm S32x4096 .i32) (arg6 : Memref sig .scVector .hbm S524288x128 .f32)
  (arg7 arg8 : Memref sig .scVector .hbm S32x4x4096 .i32)
  (arg9 : Memref sig .scVector .vmem S4096 .i32) (arg10 : Memref sig .scVector .vmem S4x128 .i32) (arg11 : Memref sig .scVector .vmem S512x128 .f32)
  (arg12 arg13 arg14 : Memref sig .scVector .vmem S4096 .i32)

abbrev ThrKind (i : grid0.Coords) : Proc τ := .scVector ((i 0).castLE hcore0) ((i 1).castLE hsub0)

/-- The tile's packed buckets; round `r`'s row of an array of lists; chunk `c`'s rows; their places in round `r`; the whole
    destination; piece `j` of the row buffer and of the fetched places. -/
abbrev packView : Memref sig .scVector .hbm S4096 .i32 :=
  (arg5.slice (Rect.unit (s := S32x4096) (packOff i) S1x4096.size (packOff_inb i)) (fun _ => rfl)).squeeze S4096 squeezes_S1x4096_S4096
abbrev roundView (arg : Memref sig .scVector .hbm S32x4x4096 .i32) (r : Fin 4) : Memref sig .scVector .hbm S4096 .i32 :=
  (arg.slice (Rect.unit (s := S32x4x4096) (roundOff i r.val) S1x1x4096.size (roundOff_inb i r)) (fun _ => rfl)).squeeze S4096 squeezes_S1x1x4096_S4096
abbrev rowsView (c : Fin 8) : Memref sig .scVector .hbm S512x128 .f32 :=
  (arg2.slice (Rect.unit (s := S32x4096x128) (rowsOff i c.val) S1x512x128.size (rowsOff_inb i c)) (fun _ => rfl)).squeeze S512x128 squeezes_S1x512x128_S512x128
abbrev placesView (c : Fin 8) (r : Fin 4) : Memref sig .scVector .hbm S4x128 .i32 :=
  (arg4.slice (Rect.unit (s := S32x4x32x128) (listOff i c.val r.val) S1x1x4x128.size (listOff_inb i c r)) (fun _ => rfl)).squeeze S4x128 squeezes_S1x1x4x128_S4x128
abbrev destView : Memref sig .scVector .hbm S524288x128 .f32 :=
  arg6.slice (Rect.unit (s := S524288x128) ![0, 0] S524288x128.size inb_S524288x128_S524288x128_0_0) (fun _ => rfl)
abbrev bufView (j : Fin 4) : Memref sig .scVector .vmem S128x128 .f32 :=
  arg11.slice (Rect.unit (s := S512x128) ![128 * j.val, 0] S128x128.size (bufOff_inb j)) (fun _ => rfl)
abbrev listView (j : Fin 4) : Memref sig .scVector .vmem S128 .i32 :=
  (arg10.slice (Rect.unit (s := S4x128) ![j.val, 0] S1x128.size (rowOff_inb j)) (fun _ => rfl)).squeeze S128 squeezes_S1x128_S128

/-- The sixteen consecutive positions that trip `t` stores: `16 t`, `16 t + 1`, and so on. -/
abbrev lanes (t : Fin k0_t1_loop.trips) : IVec S16 32 :=
  addi (broadcast S16 (Scalar.muli (Scf.iv (0#32 : BitVec 32) 1#32 t) 16#32)) (iota .scVector S16 32 [0] iota_S16_d0_w32_scVector)

/-- Trip `t` of a round: sixteen positions and sixteen packed buckets stored at the places the list gives them. -/
def trip (t : Fin k0_t1_loop.trips) : Prog (TpuEff nD τ sig (Elt F) Λ₀ (ThrKind i)) PUnit := do
  let w : Vec F S16 .i32 ← Prog.lift (.load arg9 (Rect.unit (s := S4096) (k0_off3 t) S16.size (k0_off3_inb t)).toLoadRect (View.loadsAt_vmem h_S16))
  have hw : k0_chk1 w := (← Prog.lift (TpuEff.assume (k0_chk1 w) (k0_chk1.dec w))).down
  SparseCore.vectorStoreIdx arg12 ![w] (lanes t) (fun _ => 1#1) false (k0_idx1_inb w hw) (View.stores_vmem_bits_univ h_S4096 rfl)
  let p : Vec F S16 .i32 ← Prog.lift (.load arg14 (Rect.unit (s := S4096) (k0_off4 t) S16.size (k0_off4_inb t)).toLoadRect (View.loadsAt_vmem h_S16))
  SparseCore.vectorStoreIdx arg13 ![w] p (fun _ => 1#1) false (k0_idx2_inb w hw) (View.stores_vmem_bits_univ h_S4096 rfl)
  pure ⟨⟩

variable (harg9 : arg9.IsWhole) (harg10 : arg10.IsWhole) (harg11 : arg11.IsWhole) (harg12 : arg12.IsWhole) (harg13 : arg13.IsWhole) (harg14 : arg14.IsWhole)

/-- Round `r`: its list fetched, its two results built in 256 trips, and both written out. -/
def round (semI semQ semB : DmaSems sig S_) (r : Fin 4) : Prog (TpuEff nD τ sig (Elt F) Λ₀ (ThrKind i)) PUnit := do
  Prog.lift (.enqueueDma (roundView i arg3 r) (.here arg9) (.dma semI.sem) ((View.wordExact_bits rfl).reshape _ _) harg9.wordExact ⟨Or.inl rfl, trivial⟩)
  Prog.lift (.waitDma2 semI.sem (roundView i arg3 r) arg9 ((View.wordExact_bits rfl).reshape _ _) harg9.wordExact)
  Scf.Loop.for k0_t1_loop k0_t1_ok ⟨⟩ fun t _ => trip i arg9 arg12 arg13 arg14 t
  Prog.lift (.enqueueDma arg12 (.here (roundView i arg7 r)) (.dma semQ.sem) harg12.wordExact ((View.wordExact_bits rfl).reshape _ _) ⟨Or.inl rfl, trivial⟩)
  Prog.lift (.waitDma2 semQ.sem arg12 (roundView i arg7 r) harg12.wordExact ((View.wordExact_bits rfl).reshape _ _))
  Prog.lift (.enqueueDma arg13 (.here (roundView i arg8 r)) (.dma semB.sem) harg13.wordExact ((View.wordExact_bits rfl).reshape _ _) ⟨Or.inl rfl, trivial⟩)
  Prog.lift (.waitDma2 semB.sem arg13 (roundView i arg8 r) harg13.wordExact ((View.wordExact_bits rfl).reshape _ _))

/-- The rounds of a list, in order. -/
def rounds (sems : ℕ → DmaSems sig S_) : List (Fin 4) → Prog (TpuEff nD τ sig (Elt F) Λ₀ (ThrKind i)) PUnit
  | [] => pure ⟨⟩
  | r :: rs => do
    round i arg3 arg7 arg8 arg9 arg12 arg13 arg14 harg9 harg12 harg13 (sems (1 + 3 * r.val)) (sems (2 + 3 * r.val)) (sems (3 + 3 * r.val)) r
    rounds sems rs

/-- Piece `j` of a chunk in a round: the scatter of 128 rows and its wait. -/
def piece (sem : DmaSems sig S_) (j : Fin 4) : Prog (TpuEff nD τ sig (Elt F) Λ₀ (ThrKind i)) PUnit := do
  SparseCore.enqueueIndirectScatter rfl (bufView arg11 j) (destView arg6) gathers_S524288x128_S128x128 (listView arg10 j) rfl sem.sem rfl (Or.inl rfl)
  SparseCore.waitIndirectScatter sem.sem (bufView arg11 j) (destView arg6) (View.wordExact_bits rfl) (View.wordExact_bits rfl)

/-- A chunk's rows sent to their places in round `r`: the places fetched, the rows scattered in four pieces. -/
def send (sem semI : DmaSems sig S_) (c : Fin 8) (r : Fin 4) : Prog (TpuEff nD τ sig (Elt F) Λ₀ (ThrKind i)) PUnit := do
  Prog.lift (.enqueueDma (placesView i arg4 c r) (.here arg10) (.dma semI.sem) ((View.wordExact_bits rfl).reshape _ _) harg10.wordExact ⟨Or.inl rfl, trivial⟩)
  Prog.lift (.waitDma2 semI.sem (placesView i arg4 c r) arg10 ((View.wordExact_bits rfl).reshape _ _) harg10.wordExact)
  piece i arg6 arg10 arg11 sem 0
  piece i arg6 arg10 arg11 sem 1
  piece i arg6 arg10 arg11 sem 2
  piece i arg6 arg10 arg11 sem 3

/-- The same for the rounds of a list, in order. -/
def sends (sem : DmaSems sig S_) (sems : ℕ → DmaSems sig S_) (c : Fin 8) : List (Fin 4) → Prog (TpuEff nD τ sig (Elt F) Λ₀ (ThrKind i)) PUnit
  | [] => pure ⟨⟩
  | r :: rs => do
    send i arg4 arg6 arg10 arg11 harg10 sem (sems (14 + 5 * c.val + r.val)) c r
    sends sem sems c rs

/-- The chunks of a list, in order: each chunk's rows fetched, and sent to their places in each of the four rounds. -/
def chunks (sem : DmaSems sig S_) (sems : ℕ → DmaSems sig S_) : List (Fin 8) → Prog (TpuEff nD τ sig (Elt F) Λ₀ (ThrKind i)) PUnit
  | [] => pure ⟨⟩
  | c :: cs => do
    Prog.lift (.enqueueDma (rowsView i arg2 c) (.here arg11) (.dma (sems (13 + 5 * c.val)).sem) ((View.wordExact_bits rfl).reshape _ _) harg11.wordExact ⟨Or.inl rfl, trivial⟩)
    Prog.lift (.waitDma2 (sems (13 + 5 * c.val)).sem (rowsView i arg2 c) arg11 ((View.wordExact_bits rfl).reshape _ _) harg11.wordExact)
    sends i arg4 arg6 arg10 arg11 harg10 sem sems c (List.finRange 4)
    chunks sem sems cs

/-- The whole task: the packed buckets fetched, the four rounds, the eight chunks. -/
def task (sem : DmaSems sig S_) (sems : ℕ → DmaSems sig S_) : Prog (TpuEff nD τ sig (Elt F) Λ₀ (ThrKind i)) PUnit := do
  Prog.lift (.enqueueDma (packView i arg5) (.here arg14) (.dma (sems 0).sem) ((View.wordExact_bits rfl).reshape _ _) harg14.wordExact ⟨Or.inl rfl, trivial⟩)
  Prog.lift (.waitDma2 (sems 0).sem (packView i arg5) arg14 ((View.wordExact_bits rfl).reshape _ _) harg14.wordExact)
  rounds i arg3 arg7 arg8 arg9 arg12 arg13 arg14 harg9 harg12 harg13 sems (List.finRange 4)
  chunks i arg2 arg4 arg6 arg10 arg11 harg10 harg11 sem sems (List.finRange 8)

set_option maxRecDepth 100000 in
set_option maxHeartbeats 0 in
theorem body_eq_task (harg2 : arg2.IsWhole) (harg3 : arg3.IsWhole) (harg4 : arg4.IsWhole) (harg5 : arg5.IsWhole) (harg6 : arg6.IsWhole)
    (harg7 : arg7.IsWhole) (harg8 : arg8.IsWhole) (sem : DmaSems sig S_) (sems : ℕ → DmaSems sig S_) :
    cc0__sc_reorder_body (F := F) i arg2 harg2 arg3 harg3 arg4 harg4 arg5 harg5 arg6 harg6 arg7 harg7 arg8 harg8 arg9 harg9 arg10 harg10 arg11 harg11
        arg12 harg12 arg13 harg13 arg14 harg14 sem (sems 0) (sems 1) (sems 2) (sems 3) (sems 4) (sems 5) (sems 6) (sems 7) (sems 8) (sems 9) (sems 10) (sems 11) (sems 12) (sems 13) (sems 14) (sems 15) (sems 16) (sems 17) (sems 18) (sems 19) (sems 20) (sems 21) (sems 22) (sems 23) (sems 24) (sems 25) (sems 26) (sems 27) (sems 28) (sems 29) (sems 30) (sems 31) (sems 32) (sems 33) (sems 34) (sems 35) (sems 36) (sems 37) (sems 38) (sems 39) (sems 40) (sems 41) (sems 42) (sems 43) (sems 44) (sems 45) (sems 46) (sems 47) (sems 48) (sems 49) (sems 50) (sems 51) (sems 52)
      = task i arg2 arg3 arg4 arg5 arg6 arg7 arg8 arg9 arg10 arg11 arg12 arg13 arg14 harg9 harg10 harg11 harg12 harg13 harg14 sem sems := by
  unfold cc0__sc_reorder_body k0_part64 k0_part1 k0_part2 k0_part3 k0_part4 task
  simp only [show List.finRange 4 = [0, 1, 2, 3] from rfl, rounds, round, bind_assoc, pure_bind]
  rfl

end

end Cert.ReorderIdeal.Place

end
-- ==== Proof.ReorderGeom.lean ====
/-
  The reordering scatter's data: which elements each of its views names, what it is to leave in its three outputs, and
  what one trip and one piece do to the buffers they write.
-/
module

public import proofs.«01_k».proof.Proof.ReorderBody
public import Idealize.ShloMosaic.Lib.SparseCore.Stream
public import Idealize.ShloMosaic.Lib.SparseCore.Scatter
public import Idealize.ShloMosaic.Lib.ValueIdxCore
public import Idealize.ShloMosaic.Lib.ValueLayout
public import Idealize.ShloMosaic.Lib.Writes

@[expose] public section

noncomputable section

namespace Cert.ReorderIdeal.Place

open Cert.ReorderIdeal Cert.ReorderIdeal.Gen
open Idealize.ShloMosaic Idealize.ShloMosaic.ValueIdx

variable {F : FTy → Type}

abbrev rowsM : Memref sig .scVector .hbm S32x4096x128 .f32 := Memref.whole main_v2_scv
abbrev posM : Memref sig .scVector .hbm S32x4x4096 .i32 := Memref.whole main_v0_scv
abbrev placeM : Memref sig .scVector .hbm S32x4x32x128 .i32 := Memref.whole main_v3_scv
abbrev packM : Memref sig .scVector .hbm S32x4096 .i32 := Memref.whole main_v1_scv
abbrev destM : Memref sig .scVector .hbm S524288x128 .f32 := Memref.whole main_v4_0_scv
abbrev origM : Memref sig .scVector .hbm S32x4x4096 .i32 := Memref.whole main_v4_1_scv
abbrev bktM : Memref sig .scVector .hbm S32x4x4096 .i32 := Memref.whole main_v4_2_scv
abbrev posV : Memref sig .scVector .vmem S4096 .i32 := Memref.whole cc0_scratch0
abbrev listM : Memref sig .scVector .vmem S4x128 .i32 := Memref.whole cc0_scratch1
abbrev bufM : Memref sig .scVector .vmem S512x128 .f32 := Memref.whole cc0_scratch2
abbrev origV : Memref sig .scVector .vmem S4096 .i32 := Memref.whole cc0_scratch3
abbrev bktV : Memref sig .scVector .vmem S4096 .i32 := Memref.whole cc0_scratch4
abbrev packV : Memref sig .scVector .vmem S4096 .i32 := Memref.whole cc0_scratch5

/-! ## The elements a view names -/

theorem reshapeEquiv_one (n : ℕ) (h : (⟨1, ![n]⟩ : Shape).numel = (⟨2, ![1, n]⟩ : Shape).numel) (a : Fin n) :
    Shape.reshapeEquiv h (ix1 a) = ix2 (⟨0, Nat.one_pos⟩ : Fin 1) a :=
  Shape.reshapeEquiv_eq_of_rowMajor h (by
    rw [Shape.rowMajor_val_two, Shape.rowMajor_val_one]
    show 0 * n + a.val = a.val
    omega)

theorem reshapeEquiv_oneOne (n : ℕ) (h : (⟨1, ![n]⟩ : Shape).numel = (⟨3, ![1, 1, n]⟩ : Shape).numel) (a : Fin n) :
    Shape.reshapeEquiv h (ix1 a) = ix3 (⟨0, Nat.one_pos⟩ : Fin 1) (⟨0, Nat.one_pos⟩ : Fin 1) a :=
  Shape.reshapeEquiv_eq_of_rowMajor h (by
    rw [Shape.rowMajor_val_three, Shape.rowMajor_val_one]
    show (0 * 1 + 0) * n + a.val = a.val
    omega)

theorem reshapeEquiv_oneTwo (m n : ℕ) (h : (⟨2, ![m, n]⟩ : Shape).numel = (⟨3, ![1, m, n]⟩ : Shape).numel) (a : Fin m) (b : Fin n) :
    Shape.reshapeEquiv h (ix2 a b) = ix3 (⟨0, Nat.one_pos⟩ : Fin 1) a b :=
  Shape.reshapeEquiv_eq_of_rowMajor h (by
    rw [Shape.rowMajor_val_three, Shape.rowMajor_val_two]
    show (0 * m + a.val) * n + b.val = a.val * n + b.val
    rw [Nat.zero_mul, Nat.zero_add])

abbrev tileNo (i : grid0.Coords) : Fin 32 := ⟨batch i, batch_lt i⟩

theorem emb_packView (i : grid0.Coords) (p : Fin 4096) : (packView i packM).view.emb (ix1 p) = ix2 (tileNo i) p := by
  show (Rect.unit (s := S32x4096) (packOff i) S1x4096.size (packOff_inb i)).emb (Shape.reshapeEquiv _ (ix1 p)) = _
  rw [reshapeEquiv_one 4096]
  funext d
  match d with
  | 0 => exact Fin.ext (show batch i + 1 * 0 = batch i from rfl)
  | 1 => exact Fin.ext (show 0 + 1 * p.val = p.val by omega)

theorem emb_roundView (i : grid0.Coords) (arg : Memref sig .scVector .hbm S32x4x4096 .i32) (r : Fin 4) (p : Fin 4096) :
    (roundView i arg r).view.emb (ix1 p) = arg.view.emb (ix3 (tileNo i) r p) := by
  show arg.view.emb ((Rect.unit (s := S32x4x4096) (roundOff i r.val) S1x1x4096.size (roundOff_inb i r)).emb (Shape.reshapeEquiv _ (ix1 p))) = _
  rw [reshapeEquiv_oneOne 4096]
  refine congrArg arg.view.emb (funext fun d => ?_)
  match d with
  | 0 => exact Fin.ext (show batch i + 1 * 0 = batch i from rfl)
  | 1 => exact Fin.ext (show r.val + 1 * 0 = r.val from rfl)
  | 2 => exact Fin.ext (show 0 + 1 * p.val = p.val by omega)

theorem emb_rowsView (i : grid0.Coords) (c : Fin 8) (a : Fin 512) (b : Fin 128) :
    (rowsView i rowsM c).view.emb (ix2 a b) = ix3 (tileNo i) (⟨512 * c.val + a.val, by omega⟩ : Fin 4096) b := by
  show (Rect.unit (s := S32x4096x128) (rowsOff i c.val) S1x512x128.size (rowsOff_inb i c)).emb (Shape.reshapeEquiv _ (ix2 a b)) = _
  rw [reshapeEquiv_oneTwo 512 128]
  funext d
  match d with
  | 0 => exact Fin.ext (show batch i + 1 * 0 = batch i from rfl)
  | 1 => exact Fin.ext (show 512 * c.val + 1 * a.val = 512 * c.val + a.val by omega)
  | 2 => exact Fin.ext (show 0 + 1 * b.val = b.val by omega)

theorem emb_placesView (i : grid0.Coords) (c : Fin 8) (r : Fin 4) (a : Fin 4) (b : Fin 128) :
    (placesView i placeM c r).view.emb (ix2 a b) = ix4 (tileNo i) r (⟨4 * c.val + a.val, by omega⟩ : Fin 32) b := by
  show (Rect.unit (s := S32x4x32x128) (listOff i c.val r.val) S1x1x4x128.size (listOff_inb i c r)).emb (Shape.reshapeEquiv _ (ix2 a b)) = _
  rw [reshapeEquiv_ix2_11ab]
  funext d
  match d with
  | 0 => exact Fin.ext (show batch i + 1 * 0 = batch i from rfl)
  | 1 => exact Fin.ext (show r.val + 1 * 0 = r.val from rfl)
  | 2 => exact Fin.ext (show 4 * c.val + 1 * a.val = 4 * c.val + a.val by omega)
  | 3 => exact Fin.ext (show 0 + 1 * b.val = b.val by omega)

theorem emb_bufView (j : Fin 4) (a b : Fin 128) :
    (bufView bufM j).view.emb (ix2 a b) = ix2 (⟨128 * j.val + a.val, by omega⟩ : Fin 512) b := by
  show (Rect.unit (s := S512x128) ![128 * j.val, 0] S128x128.size (bufOff_inb j)).emb (ix2 a b) = _
  funext d
  match d with
  | 0 => exact Fin.ext (show 128 * j.val + 1 * a.val = 128 * j.val + a.val by omega)
  | 1 => exact Fin.ext (show 0 + 1 * b.val = b.val by omega)

theorem emb_listView (j : Fin 4) (a : Fin 128) : (listView listM j).view.emb (ix1 a) = ix2 j a := by
  show (Rect.unit (s := S4x128) ![j.val, 0] S1x128.size (rowOff_inb j)).emb (Shape.reshapeEquiv _ (ix1 a)) = _
  rw [reshapeEquiv_one 128]
  funext d
  match d with
  | 0 => exact Fin.ext (show j.val + 1 * 0 = j.val by omega)
  | 1 => exact Fin.ext (show 0 + 1 * a.val = a.val by omega)

theorem read_packView (i : grid0.Coords) (pk : S32x4096.Idx → Elt F .i32) (p : Fin 4096) :
    (packView i packM).view.read (Elt F) pk (ix1 p) = pk (ix2 (tileNo i) p) := by
  rw [View.read_apply, emb_packView]; exact cast_eq _ _
theorem read_posView (i : grid0.Coords) (r : Fin 4) (oi : S32x4x4096.Idx → Elt F .i32) (p : Fin 4096) :
    (roundView i posM r).view.read (Elt F) oi (ix1 p) = oi (ix3 (tileNo i) r p) := by
  rw [View.read_apply, emb_roundView]; exact cast_eq _ _
theorem read_rowsView (i : grid0.Coords) (c : Fin 8) (qv : S32x4096x128.Idx → Elt F .f32) (a : Fin 512) (b : Fin 128) :
    (rowsView i rowsM c).view.read (Elt F) qv (ix2 a b) = qv (ix3 (tileNo i) (⟨512 * c.val + a.val, by omega⟩ : Fin 4096) b) := by
  rw [View.read_apply, emb_rowsView]; exact cast_eq _ _
theorem read_placesView (i : grid0.Coords) (c : Fin 8) (r : Fin 4) (pl : S32x4x32x128.Idx → Elt F .i32) (a : Fin 4) (b : Fin 128) :
    (placesView i placeM c r).view.read (Elt F) pl (ix2 a b) = pl (ix4 (tileNo i) r (⟨4 * c.val + a.val, by omega⟩ : Fin 32) b) := by
  rw [View.read_apply, emb_placesView]; exact cast_eq _ _
theorem read_listView (j : Fin 4) (l : S4x128.Idx → Elt F .i32) (a : Fin 128) : (listView listM j).view.read (Elt F) l (ix1 a) = l (ix2 j a) := by
  rw [View.read_apply, emb_listView]; exact cast_eq _ _

/-! ## The placements, and what the scatter is to leave -/

/-- The two integer arguments spell a placement `π`: in round `r` of batch `b`, position `p` goes to place `π b r p`, its
    row to that row of the destination's block for `b` and `r`. -/
structure Spells (π : Fin 32 → Fin 4 → Fin 4096 ≃ Fin 4096) (oi : S32x4x4096.Idx → Elt F .i32) (pl : S32x4x32x128.Idx → Elt F .i32) : Prop where
  pos : ∀ b r p, BitVec.toNat (oi (ix3 b r p)) = (π b r p).val
  row : ∀ (b : Fin 32) (r : Fin 4) (a : Fin 32) (l : Fin 128),
    BitVec.toNat (pl (ix4 b r a l)) = (4 * b.val + r.val) * 4096 + (π b r ⟨128 * a.val + l.val, by omega⟩).val

variable (π : Fin 32 → Fin 4 → Fin 4096 ≃ Fin 4096)

/-- Place `s` of round `r` of batch `b` holds the position that went there. -/
def origOf : S32x4x4096.Idx → Elt F .i32 := fun x => BitVec.ofNat 32 ((π (x 0 : Fin 32) (x 1 : Fin 4)).symm (x 2 : Fin 4096)).val

/-- Place `s` of round `r` of batch `b` holds the packed bucket of the position that went there. -/
def bktOf (pk : S32x4096.Idx → Elt F .i32) : S32x4x4096.Idx → Elt F .i32 := fun x =>
  pk (ix2 (x 0 : Fin 32) ((π (x 0 : Fin 32) (x 1 : Fin 4)).symm (x 2 : Fin 4096)))

/-- The batch, round and place of a row of the destination. -/
abbrev rowBatch (n : Fin 524288) : Fin 32 := ⟨n.val / 16384, by omega⟩
abbrev rowRound (n : Fin 524288) : Fin 4 := ⟨n.val / 4096 % 4, Nat.mod_lt _ (by decide)⟩
abbrev rowPlace (n : Fin 524288) : Fin 4096 := ⟨n.val % 4096, Nat.mod_lt _ (by decide)⟩

/-- A row of the destination holds the row of the position that went there. -/
def destOf (qv : S32x4096x128.Idx → Elt F .f32) : S524288x128.Idx → Elt F .f32 := fun x =>
  qv (ix3 (rowBatch (x 0)) ((π (rowBatch (x 0)) (rowRound (x 0))).symm (rowPlace (x 0))) (x 1 : Fin 128))

/-! ## One trip -/

/-- An element's number in a list of 4096. -/
abbrev hd (x : S4096.Idx) : Fin 4096 := x 0

/-- A result of a round after its first `n` trips: the first `16 n` positions' words at their places. -/
def filled (σ : Fin 4096 ≃ Fin 4096) (n : ℕ) (g f : S4096.Idx → Elt F .i32) : S4096.Idx → Elt F .i32 := fun x =>
  if (σ.symm (hd x)).val < 16 * n then g (ix1 (σ.symm (hd x))) else f x

theorem filled_zero (σ : Fin 4096 ≃ Fin 4096) (g f : S4096.Idx → Elt F .i32) : filled σ 0 g f = f := funext fun x => if_neg (by omega)
theorem filled_all (σ : Fin 4096 ≃ Fin 4096) (g f : S4096.Idx → Elt F .i32) :
    filled σ 256 g f = fun x => g (ix1 (σ.symm (hd x))) :=
  funext fun x => if_pos (by have := (σ.symm (hd x)).isLt; omega)

/-- Storing the words of a list of lanes, each the word of the position that goes to its place. -/
theorem foldl_store (σ : Fin 4096 ≃ Fin 4096) (g : S4096.Idx → Elt F .i32) (at_ : Fin 16 → Fin 4096) (L : List (Fin 16))
    (f : S4096.Idx → Elt F .i32) (x : S4096.Idx) :
    L.foldl (fun h k => fun j : S4096.Idx => if hd j = σ (at_ k) then g (ix1 (at_ k)) else h j) f x
      = if ∃ k ∈ L, hd x = σ (at_ k) then g (ix1 (σ.symm (hd x))) else f x := by
  induction L generalizing f with
  | nil => simp
  | cons k L ih =>
    rw [List.foldl_cons, ih]
    by_cases h : ∃ k ∈ L, hd x = σ (at_ k)
    · rw [if_pos h, if_pos (h.imp fun k' hk' => ⟨List.mem_cons_of_mem _ hk'.1, hk'.2⟩)]
    · rw [if_neg h]
      by_cases h0 : hd x = σ (at_ k)
      · rw [if_pos h0, if_pos ⟨k, List.mem_cons_self, h0⟩, h0, Equiv.symm_apply_apply]
      · rw [if_neg h0, if_neg]
        rintro ⟨k', hk', e⟩
        rcases List.mem_cons.mp hk' with rfl | hk'
        · exact h0 e
        · exact h ⟨k', hk', e⟩

theorem storeIdx_filled [FloatOps F] (σ : Fin 4096 ≃ Fin 4096) (g f : S4096.Idx → Elt F .i32) (t : ℕ) (ht : t < 256)
    (w : IVec S16 32) (v : Vec F S16 .i32) (hw : ∀ k : Fin 16, (w (ix1 k)).toNat = (σ ⟨16 * t + k.val, by omega⟩).val)
    (hv : ∀ k : Fin 16, v (ix1 k) = g (ix1 ⟨16 * t + k.val, by omega⟩))
    (h : ∀ a x, ((![w] : Fin 1 → IVec S16 32) a x).toNat < S4096.size a) :
    storeIdx (F := F) (e := .i32) (filled σ t g f) (![w] : Fin 1 → IVec S16 32) v (fun _ => 1#1) false h = filled σ (t + 1) g f := by
  have e : storeIdx (F := F) (e := .i32) (filled σ t g f) (![w] : Fin 1 → IVec S16 32) v (fun _ => 1#1) false h
      = (List.finRange 16).foldl (fun h k => fun j : S4096.Idx =>
          if hd j = σ ⟨16 * t + k.val, by omega⟩ then g (ix1 ⟨16 * t + k.val, by omega⟩) else h j) (filled σ t g f) := by
    unfold storeIdx
    refine congrArg (fun step => (List.finRange 16).foldl step (filled σ t g f)) (funext fun h' => funext fun (k : Fin 16) => ?_)
    have ek : (Shape.ofLane (d := ![16]) k : S16.Idx) = ix1 k := by funext a; rw [Fin.eq_zero a]; rfl
    dsimp only
    rw [if_pos (show (1#1 : BitVec 1) = 1 from rfl)]
    funext j
    rw [if_neg (show ¬ (false = true) by decide)]
    have e1 : (∀ a, (j a).val = (idxAt (s := S4096) (![w] : Fin 1 → IVec S16 32) h (Shape.ofLane (d := ![16]) k) a).val) ↔ hd j = σ ⟨16 * t + k.val, by omega⟩ := by
      have e2 : (idxAt (s := S4096) (![w] : Fin 1 → IVec S16 32) h (Shape.ofLane (d := ![16]) k) 0).val = (σ ⟨16 * t + k.val, by omega⟩).val := by
        show (w (Shape.ofLane (d := ![16]) k)).toNat = _
        rw [ek]; exact hw k
      constructor
      · intro hj; exact Fin.ext ((hj 0).trans e2)
      · intro hj a; rw [Fin.eq_zero a, e2]; exact congrArg Fin.val hj
    by_cases hj : hd j = σ ⟨16 * t + k.val, by omega⟩
    · rw [if_pos (e1.mpr hj), if_pos hj]; exact (congrArg v ek).trans (hv k)
    · rw [if_neg (fun h1 => hj (e1.mp h1)), if_neg hj]
  rw [e]
  funext x
  rw [foldl_store σ g (fun k => ⟨16 * t + k.val, by omega⟩)]
  unfold filled
  by_cases h1 : (σ.symm (hd x)).val < 16 * t
  · rw [if_pos (show (σ.symm (hd x)).val < 16 * (t + 1) by omega), if_pos h1, ite_self]
  · by_cases h2 : (σ.symm (hd x)).val < 16 * (t + 1)
    · rw [if_pos h2, if_pos]
      refine ⟨⟨(σ.symm (hd x)).val - 16 * t, by omega⟩, List.mem_finRange _, ?_⟩
      rw [← Equiv.symm_apply_eq]
      exact Fin.ext (show (σ.symm (hd x)).val = 16 * t + ((σ.symm (hd x)).val - 16 * t) by omega)
    · rw [if_neg h2, if_neg, if_neg h1]
      rintro ⟨k, -, e⟩
      rw [← Equiv.symm_apply_eq] at e
      have := congrArg Fin.val e
      have hk := k.isLt
      exact h2 (by rw [this]; show 16 * t + k.val < 16 * (t + 1); omega)

theorem off3_eq : ∀ t : Fin k0_t1_loop.trips, k0_off3 t 0 = 16 * t.val := by decide +kernel
theorem off4_eq : ∀ t : Fin k0_t1_loop.trips, k0_off4 t 0 = 16 * t.val := by decide +kernel

theorem lanes_eq : ∀ (t : Fin k0_t1_loop.trips) (k : Fin 16), lanes t (ix1 k) = BitVec.ofNat 32 (16 * t.val + k.val) := by decide +kernel

/-- What a trip loads: sixteen consecutive words. -/
theorem readAt_posV (t : Fin k0_t1_loop.trips) (f : S4096.Idx → Elt F .i32) (k : Fin 16) :
    posV.view.readAt (Elt F) (Rect.unit (s := S4096) (k0_off3 t) S16.size (k0_off3_inb t)).toLoadRect f (ix1 k)
      = f (ix1 (⟨16 * t.val + k.val, by have ht : t.val < 256 := t.isLt; omega⟩ : Fin 4096)) := by
  have e := off3_eq t
  show f _ = f _
  refine congrArg f (funext fun a => ?_)
  rw [Fin.eq_zero a]
  exact Fin.ext (show k0_off3 t 0 + 1 * k.val = 16 * t.val + k.val by omega)
theorem readAt_packV (t : Fin k0_t1_loop.trips) (f : S4096.Idx → Elt F .i32) (k : Fin 16) :
    packV.view.readAt (Elt F) (Rect.unit (s := S4096) (k0_off4 t) S16.size (k0_off4_inb t)).toLoadRect f (ix1 k)
      = f (ix1 (⟨16 * t.val + k.val, by have ht : t.val < 256 := t.isLt; omega⟩ : Fin 4096)) := by
  have e := off4_eq t
  show f _ = f _
  refine congrArg f (funext fun a => ?_)
  rw [Fin.eq_zero a]
  exact Fin.ext (show k0_off4 t 0 + 1 * k.val = 16 * t.val + k.val by omega)

/-! ## A round's two write-outs -/

/-- One write of a view's whole rectangle is a write of the view, on the view's own elements. -/
theorem writes_whole_apply {κ : Kind} {sp : Space} {s : Shape} {e : EltTy} (v : View sig κ sp s e) (f : v.ty.Contents (Elt F)) (w : s.Idx → Elt F e)
    {x : v.ty.Idx} (hx : x ∈ v.set) : v.writes (Elt F) f [⟨Rect.whole s, w⟩] x = v.write (Elt F) f w Finset.univ x := by
  obtain ⟨y, -, rfl⟩ := Finset.mem_map.mp hx
  rw [View.writes_singleton, View.write_emb_of_mem (v := v) _ _ (Finset.mem_univ y)]
  have e1 : (v.slice (Rect.whole s)).emb y = v.emb y := congrArg v.emb (Rect.emb_whole_apply s y)
  rw [← e1, View.write_emb_of_mem (v := v.slice (Rect.whole s)) _ _ (Finset.mem_univ _)]

theorem write_orig (i : grid0.Coords) (r : Fin 4) (f : S32x4x4096.Idx → Elt F .i32) :
    ∀ x ∈ (roundView i origM r).view.set,
      (roundView i origM r).view.write (Elt F) f
          (fun x => (BitVec.ofNat 32 ((π (tileNo i) r).symm (hd x)).val : Elt F .i32)) Finset.univ x
        = origOf (F := F) π x := by
  intro x hx
  obtain ⟨y, -, rfl⟩ := Finset.mem_map.mp hx
  obtain ⟨p, rfl⟩ : ∃ p, y = ix1 p := ⟨y 0, eq_ix1 y⟩
  rw [View.write_emb_of_mem (v := (roundView i origM r).view) _ _ (Finset.mem_univ _), emb_roundView]
  exact cast_eq _ _

theorem write_bkt (i : grid0.Coords) (r : Fin 4) (pk : S32x4096.Idx → Elt F .i32) (f : S32x4x4096.Idx → Elt F .i32) :
    ∀ x ∈ (roundView i bktM r).view.set,
      (roundView i bktM r).view.write (Elt F) f
          (fun x => (packView i packM).view.read (Elt F) pk (ix1 ((π (tileNo i) r).symm (hd x)))) Finset.univ x
        = bktOf (F := F) π pk x := by
  intro x hx
  obtain ⟨y, -, rfl⟩ := Finset.mem_map.mp hx
  obtain ⟨p, rfl⟩ : ∃ p, y = ix1 p := ⟨y 0, eq_ix1 y⟩
  rw [View.write_emb_of_mem (v := (roundView i bktM r).view) _ _ (Finset.mem_univ _), emb_roundView, read_packView]
  exact cast_eq _ _

/-! ## One piece of a chunk in a round -/

/-- The row of the destination that position `512 c + 128 j + k` of batch `b` goes to in round `r`. -/
def target (b : Fin 32) (r : Fin 4) (c : Fin 8) (j : Fin 4) (k : Fin 128) : Fin 524288 :=
  ⟨(4 * b.val + r.val) * 4096 + (π b r ⟨512 * c.val + 128 * j.val + k.val, by omega⟩).val, by omega⟩

theorem target_place (b : Fin 32) (r : Fin 4) (c : Fin 8) (j : Fin 4) (k : Fin 128) :
    rowBatch (target π b r c j k) = b ∧ rowRound (target π b r c j k) = r
      ∧ (π b r).symm (rowPlace (target π b r c j k)) = ⟨512 * c.val + 128 * j.val + k.val, by omega⟩ := by
  have hp := (π b r ⟨512 * c.val + 128 * j.val + k.val, by omega⟩).isLt
  have hr := r.isLt
  refine ⟨Fin.ext ?_, Fin.ext ?_, ?_⟩
  · show ((4 * b.val + r.val) * 4096 + _) / 16384 = b.val; omega
  · show ((4 * b.val + r.val) * 4096 + _) / 4096 % 4 = r.val; omega
  · rw [Equiv.symm_apply_eq]
    exact Fin.ext (show ((4 * b.val + r.val) * 4096 + _) % 4096 = _ by omega)

theorem target_injective (b : Fin 32) (r : Fin 4) (c : Fin 8) (j : Fin 4) : Function.Injective (target π b r c j) := by
  intro k k' h
  have e := (target_place π b r c j k).2.2
  rw [h, (target_place π b r c j k').2.2] at e
  have := congrArg Fin.val e
  exact Fin.ext (by simp only at this; omega)

/-- The destination's elements that piece `j` of chunk `c` in round `r` of batch `b` writes. -/
def pieceSet (b : Fin 32) (r : Fin 4) (c : Fin 8) (j : Fin 4) : Finset S524288x128.Idx :=
  Finset.univ.filter fun x => rowBatch (x 0) = b ∧ rowRound (x 0) = r
    ∧ ((π b r).symm (rowPlace (x 0))).val / 512 = c.val ∧ ((π b r).symm (rowPlace (x 0))).val / 128 % 4 = j.val

variable {π}

theorem mem_pieceSet {b : Fin 32} {r : Fin 4} {c : Fin 8} {j : Fin 4} {x : S524288x128.Idx} :
    x ∈ pieceSet π b r c j ↔ rowBatch (x 0) = b ∧ rowRound (x 0) = r
      ∧ ((π b r).symm (rowPlace (x 0))).val / 512 = c.val ∧ ((π b r).symm (rowPlace (x 0))).val / 128 % 4 = j.val := by
  simp [pieceSet]

theorem mem_pieceSet_iff {b : Fin 32} {r : Fin 4} {c : Fin 8} {j : Fin 4} {x : S524288x128.Idx} :
    x ∈ pieceSet π b r c j ↔ ∃ k, (x 0 : Fin 524288) = target π b r c j k := by
  rw [mem_pieceSet]
  constructor
  · rintro ⟨hb, hr, hc, hj⟩
    refine ⟨⟨((π b r).symm (rowPlace (x 0))).val % 128, Nat.mod_lt _ (by decide)⟩, Fin.ext ?_⟩
    have e : (⟨512 * c.val + 128 * j.val + ((π b r).symm (rowPlace (x 0))).val % 128, by omega⟩ : Fin 4096) = (π b r).symm (rowPlace (x 0)) :=
      Fin.ext (by show 512 * c.val + 128 * j.val + _ % 128 = _; omega)
    show (x 0 : Fin 524288).val = (4 * b.val + r.val) * 4096 + (π b r ⟨512 * c.val + 128 * j.val + _ % 128, _⟩).val
    rw [e, Equiv.apply_symm_apply]
    have hb' := congrArg Fin.val hb; have hr' := congrArg Fin.val hr
    simp only at hb' hr'
    show (x 0 : Fin 524288).val = (4 * b.val + r.val) * 4096 + (x 0 : Fin 524288).val % 4096
    omega
  · rintro ⟨k, hk⟩
    obtain ⟨h1, h2, h3⟩ := target_place π b r c j k
    rw [hk]
    refine ⟨h1, h2, ?_, ?_⟩ <;> rw [h3]
    · show (512 * c.val + 128 * j.val + k.val) / 512 = c.val; omega
    · show (512 * c.val + 128 * j.val + k.val) / 128 % 4 = j.val; omega

/-- What a fetched list of places says. -/
def Lists (π : Fin 32 → Fin 4 → Fin 4096 ≃ Fin 4096) (b : Fin 32) (r : Fin 4) (c : Fin 8) (l : S4x128.Idx → Elt F .i32) : Prop :=
  ∀ (j : Fin 4) (k : Fin 128), BitVec.toNat (l (ix2 j k)) = (target π b r c j k).val

theorem lists_fetched (i : grid0.Coords) (r : Fin 4) (c : Fin 8) {oi : S32x4x4096.Idx → Elt F .i32} {pl : S32x4x32x128.Idx → Elt F .i32}
    (h : Spells π oi pl) : Lists π (tileNo i) r c ((placesView i placeM c r).view.read (Elt F) pl) := by
  intro j k
  rw [read_placesView, h.row]
  have e : (⟨128 * (4 * c.val + j.val) + k.val, by omega⟩ : Fin 4096) = ⟨512 * c.val + 128 * j.val + k.val, by omega⟩ := Fin.ext (by
    show 128 * (4 * c.val + j.val) + k.val = 512 * c.val + 128 * j.val + k.val; omega)
  unfold target
  simp only [e]

section Piece

variable {b : Fin 32} {r : Fin 4} {c : Fin 8} {l : S4x128.Idx → Elt F .i32} (hl : Lists π b r c l) (j : Fin 4)
include hl

theorem list_inb : ∀ x, ((listView listM j).view.read (Elt F) l x).toNat < S524288x128.size gathers_S524288x128_S128x128.axis := by
  intro x
  obtain ⟨a, rfl⟩ : ∃ a, x = ix1 a := ⟨x 0, eq_ix1 x⟩
  rw [read_listView, hl j a]; exact (target π b r c j a).isLt

theorem rows_eq : (SparseCore.rows ((listView listM j).view.read (Elt F) l) rfl (list_inb hl j) : Fin 128 → Fin 524288) = target π b r c j := by
  funext k
  apply Fin.ext
  unfold SparseCore.rows
  show ((listView listM j).view.read (Elt F) l (S128.rowMajor.symm _)).toNat = _
  have e : S128.rowMajor.symm (Fin.cast (show 128 = S128.numel from rfl) k) = ix1 k := by
    rw [Equiv.symm_apply_eq]; apply Fin.ext; rw [Shape.rowMajor_val_one]; rfl
  exact (congrArg BitVec.toNat ((congrArg _ e).trans (read_listView j l k))).trans (hl j k)

theorem rows_inj : Function.Injective (SparseCore.rows ((listView listM j).view.read (Elt F) l) rfl (list_inb hl j)) := by
  have e := rows_eq hl j
  intro k k' h
  exact target_injective π b r c j ((congrFun e k).symm.trans (h.trans (congrFun e k')))

end Piece

abbrev axR : Fin S524288x128.rank := gathers_S524288x128_S128x128.axis

/-- The elements of one row of the destination. -/
theorem emb_row (n : Fin 524288) (y : (S524288x128.rowRect axR n).shape.Idx) :
    ((destView destM).view.slice (S524288x128.rowRect axR n)).emb y = ix2 n (y (1 : Fin 2) : Fin 128) := by
  show (Rect.unit (s := S524288x128) ![0, 0] S524288x128.size inb_S524288x128_S524288x128_0_0).emb ((S524288x128.rowRect axR n).emb y) = _
  funext d
  match d with
  | 0 =>
    have h0 : (y (0 : Fin 2)).val < 1 := (y (0 : Fin 2)).isLt
    exact Fin.ext (show 0 + 1 * (n.val + 1 * (y (0 : Fin 2)).val) = n.val by omega)
  | 1 => exact Fin.ext (show 0 + 1 * (0 + 1 * (y (1 : Fin 2)).val) = (y (1 : Fin 2)).val by omega)

/-- The element of a row at a column. -/
def rowAt (n : Fin 524288) (b : Fin 128) : (S524288x128.rowRect axR n).shape.Idx := fun a =>
  ⟨if a = 0 then 0 else b.val, by
    match a with
    | 0 => exact Nat.one_pos
    | 1 => exact b.isLt⟩

theorem mem_row (n : Fin 524288) (x : S524288x128.Idx) :
    x ∈ ((destView destM).view.slice (S524288x128.rowRect axR n)).set ↔ (x 0 : Fin 524288) = n := by
  constructor
  · intro hx
    obtain ⟨y, -, rfl⟩ := Finset.mem_map.mp hx
    exact congrFun (emb_row n y) 0
  · rintro rfl
    exact Finset.mem_map.mpr ⟨rowAt (x 0) (x 1), Finset.mem_univ _, (emb_row (x 0) (rowAt (x 0) (x 1))).trans (eq_ix2 x).symm⟩

theorem read_cast {κ : Kind} {sp : Space} {e : EltTy} {n : ℕ} {f g : Fin n → ℕ} (hs : (⟨n, f⟩ : Shape) = ⟨n, g⟩)
    (m : Memref sig κ sp ⟨n, f⟩ e) (fs : m.view.ty.Contents (Elt F)) (y : (⟨n, f⟩ : Shape).Idx) (y' : (⟨n, g⟩ : Shape).Idx)
    (h : ∀ a, (y' a).val = (y a).val) : (m.cast hs rfl).view.read (Elt F) fs y' = m.view.read (Elt F) fs y := by
  cases hs
  exact congrArg _ (funext fun a => Fin.ext (h a))

section Piece

variable (d : Dev nD) (i : grid0.Coords) {r : Fin 4} {c : Fin 8} {l : S4x128.Idx → Elt F .i32} (hl : Lists π (tileNo i) r c l) (j : Fin 4)

/-- The rows that piece `j`'s list names are its piece of the destination. -/
theorem named_eq : SparseCore.namedRows (d, ThrKind i) (destView destM).view axR
    (SparseCore.rows ((listView listM j).view.read (Elt F) l) rfl (list_inb hl j)) = pieceSet π (tileNo i) r c j := by
  ext x
  rw [SparseCore.namedRows_eq, Finset.mem_biUnion, mem_pieceSet_iff]
  constructor
  · rintro ⟨k, -, hk⟩
    exact ⟨k, ((mem_row _ x).mp hk).trans (congrFun (rows_eq hl j) k)⟩
  · rintro ⟨k, hk⟩
    exact ⟨k, Finset.mem_univ _, (mem_row _ x).mpr (hk.trans (congrFun (rows_eq hl j) k).symm)⟩

/-- What the scatter of piece `j` carries for its row `k`. -/
theorem payload_eq (f : S512x128.Idx → Elt F .f32) (k : Fin 128) (y : (S524288x128.rowShape axR).Idx) (b : Fin 128)
    (hb : (y (1 : Fin 2)).val = b.val) :
    SparseCore.scatterRowPayload (d, ThrKind i) (bufView bufM j) gathers_S524288x128_S128x128 f k y
      = f (ix2 (⟨128 * j.val + k.val, by omega⟩ : Fin 512) b) := by
  have h0 : (y (0 : Fin 2)).val < 1 := (y (0 : Fin 2)).isLt
  refine (read_cast gathers_S524288x128_S128x128.rowShape_eq
    ((bufView bufM j).slice (S128x128.rowRect gathers_S524288x128_S128x128.axis' k) (S128x128.stride_rowRect _ _)) f
    (fun a => ⟨(y a).val, by
      match a with
      | 0 => exact h0
      | 1 => exact (y (1 : Fin 2)).isLt⟩) y (fun _ => rfl)).trans ?_
  rw [View.read_apply]
  refine (cast_eq _ _).trans (congrArg f (funext fun a => ?_))
  match a with
  | 0 => exact Fin.ext (show 128 * j.val + 1 * (k.val + 1 * (y (0 : Fin 2)).val) = 128 * j.val + k.val by omega)
  | 1 => exact Fin.ext (show 0 + 1 * (0 + 1 * (y (1 : Fin 2)).val) = b.val by omega)

/-- A scatter to distinct rows leaves on a row what it carries for it. -/
theorem scatter_row (ρ : Fin 128 → Fin (S524288x128.size axR)) (hρ : Function.Injective ρ)
    (w : Fin 128 → (S524288x128.rowShape axR).Idx → Elt F .f32) (fd : S524288x128.Idx → Elt F .f32) (x : S524288x128.Idx) (k : Fin 128)
    (hk : (x 0 : Fin 524288) = ρ k) :
    SparseCore.scatterBuf (d, ThrKind i) (destView destM).view axR ρ w fd x = w k (rowAt (ρ k) (x 1)) := by
  have hm : x ∈ ((destView destM).view.slice (S524288x128.rowRect axR (ρ k))).set := (mem_row (ρ k) x).mpr hk
  refine (SparseCore.scatterBuf_of_mem (d, ThrKind i) (destView destM).view axR ρ hρ w fd (k := k) (i := x) hm).trans ?_
  have hx : x = ((destView destM).view.slice (S524288x128.rowRect axR (ρ k))).emb (rowAt (ρ k) (x 1)) := by
    rw [← hk]; exact (eq_ix2 x).trans (emb_row (x 0) (rowAt (x 0) (x 1))).symm
  exact (congrArg _ hx).trans ((View.write_emb_of_mem (v := (destView destM).view.slice (S524288x128.rowRect axR (ρ k))) fd (w k)
    (Finset.mem_univ (rowAt (ρ k) (x 1)))).trans (cast_eq _ _))

/-- What piece `j`'s scatter leaves on it. -/
theorem scatter_piece (ρ : Fin 128 → Fin (S524288x128.size axR)) (hρ : ρ = target π (tileNo i) r c j)
    (qv : S32x4096x128.Idx → Elt F .f32) (fd : S524288x128.Idx → Elt F .f32) (x : S524288x128.Idx)
    (hx : x ∈ pieceSet π (tileNo i) r c j) :
    SparseCore.scatterBuf (d, ThrKind i) (destView destM).view axR ρ
        (SparseCore.scatterRowPayload (d, ThrKind i) (bufView bufM j) gathers_S524288x128_S128x128 ((rowsView i rowsM c).view.read (Elt F) qv)) fd x
      = destOf (F := F) π qv x := by
  obtain ⟨k, hk⟩ := mem_pieceSet_iff.mp hx
  refine (scatter_row d i ρ (hρ ▸ target_injective π _ _ _ _) _ fd x k (hk.trans (congrFun hρ k).symm)).trans
    ((payload_eq d i j _ k _ (x 1) rfl).trans ((read_rowsView i c qv _ (x 1)).trans ?_))
  obtain ⟨h1, h2, h3⟩ := target_place π (tileNo i) r c j k
  unfold destOf
  rw [hk, h1, h2, h3]
  refine congrArg qv (congrArg (fun p => ix3 (tileNo i) p (x 1 : Fin 128)) (Fin.ext ?_))
  show 512 * c.val + (128 * j.val + k.val) = 512 * c.val + 128 * j.val + k.val
  omega

end Piece

end Cert.ReorderIdeal.Place

end
-- ==== Proof.ReorderTile.lean ====
/-
  The reordering scatter on one tile: one trip and one round.
-/
module

public import proofs.«01_k».proof.Defs
public import proofs.«01_k».proof.Proof.ReorderGeom
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.ReorderIdeal.Place

open Cert.ReorderIdeal Cert.ReorderIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev 𝒱₀ : Variants := Variants.none

abbrev thrV (d : Dev nD) (i : grid0.Coords) : Thread nD τ := (d, ThrKind i)

/-- What a tile owes, its recorded waits being those it came with and its own transfers'. -/
def Owed (thr : Thread nD τ) (O : CellTallies nD τ sig (HIx 1)) (W : Waits sig (HIx 1)) : sProp 𝕄 :=
  iprop(∃ W', ⌜∀ p ∈ W', p ∈ W ∨ p.2 = none⌝ ∗ owes thr O W')

theorem insert_none {W W' : Waits sig (HIx 1)} (h : ∀ p ∈ W', p ∈ W ∨ p.2 = none) {s : SemLoc sig} :
    ∀ p ∈ insert (s, (default : HIx 1)) W', p ∈ W ∨ p.2 = none := fun p hp => by
  rcases Finset.mem_insert.mp hp with hp | hp
  · exact .inr (hp ▸ rfl)
  · exact h p hp

theorem owed_intro {thr : Thread nD τ} {O : CellTallies nD τ sig (HIx 1)} {W W' : Waits sig (HIx 1)} (h : ∀ p ∈ W', p ∈ W ∨ p.2 = none) :
    (owes thr O W' : sProp 𝕄) ⊢ Owed thr O W := by
  unfold Owed
  iintro HO
  iexists W'; isplitr
  · ipureintro; exact h
  · iexact HO

variable [FloatOps F]

section Tile

variable (d : Dev nD) (i : grid0.Coords)

theorem set_access_whole (b : Ref sig .scVector) : ((Memref.whole b).access (.whole _)).set = Finset.univ := Memref.set_access_whole b

theorem read_access (b : Ref sig .scVector) (f : (Memref.whole b).view.ty.Contents (Elt F)) :
    ((Memref.whole b).access (.whole _)).read (Elt F) f = f :=
  funext fun x => (View.read_apply _ _).trans ((cast_eq _ _).trans (congrArg f (Rect.emb_whole_apply _ x)))

theorem write_access (b : Ref sig .scVector) (f w : (Memref.whole b).view.ty.Contents (Elt F)) :
    ((Memref.whole b).access (.whole _)).write (Elt F) f w Finset.univ = w := by
  funext x
  have hx : x = ((Memref.whole b).access (.whole _)).emb x := (Rect.emb_whole_apply _ x).symm
  exact (congrArg _ hx).trans ((View.write_emb_of_mem (v := (Memref.whole b).access (.whole _)) f w (Finset.mem_univ x)).trans (cast_eq _ _))

/-- A fetched list of positions' places spells the placement `σ`. -/
def Places (σ : Fin 4096 ≃ Fin 4096) (po : S4096.Idx → Elt F .i32) : Prop := ∀ p, BitVec.toNat (po (ix1 p)) = (σ p).val

theorem places_chk {σ : Fin 4096 ≃ Fin 4096} {po : S4096.Idx → Elt F .i32} (h : Places σ po) (t : Fin k0_t1_loop.trips) :
    k0_chk1 (posV.view.readAt (Elt F) (Rect.unit (s := S4096) (k0_off3 t) S16.size (k0_off3_inb t)).toLoadRect po) := by
  have : ∀ (a : Fin 1) x, ((![posV.view.readAt (Elt F) (Rect.unit (s := S4096) (k0_off3 t) S16.size (k0_off3_inb t)).toLoadRect po] : Fin 1 → IVec S16 32) a x).toNat
      < S4096.size a := by
    intro a x
    obtain ⟨k, rfl⟩ : ∃ k, x = ix1 k := ⟨x 0, eq_ix1 x⟩
    rw [Fin.eq_zero a]
    exact lt_of_eq_of_lt ((congrArg BitVec.toNat (readAt_posV t po k)).trans (h _)) (σ _).isLt
  exact ⟨this, this⟩

/-- What a round holds after `n` trips: its list, the packed buckets, and its two results filled so far. -/
def During (σ : Fin 4096 ≃ Fin 4096) (po pk f0 f1 : S4096.Idx → Elt F .i32) (n : ℕ) : sProp 𝕄 :=
  iprop((posV.view.loc (thrV d i) ↦{fullShare} po) ∗ (packV.view.loc (thrV d i) ↦{fullShare} pk)
    ∗ (origV.view.loc (thrV d i) ↦{fullShare} filled σ n (fun x => BitVec.ofNat 32 (hd x).val) f0)
    ∗ (bktV.view.loc (thrV d i) ↦{fullShare} filled σ n pk f1))

set_option maxHeartbeats 4000000 in
/-- One trip. -/
theorem wp_trip (σ : Fin 4096 ≃ Fin 4096) (po pk f0 f1 : S4096.Idx → Elt F .i32) (h : Places σ po) (t : Fin k0_t1_loop.trips) :
    During d i σ po pk f0 f1 t.val
      ⊢ wp frame (wpE (defs₀ (F := F)) 𝒱₀ (thrV d i) none) Set.univ (trip i posV origV bktV packV t)
          fun _ => During d i σ po pk f0 f1 (t.val + 1) := by
  have ht : t.val < 256 := t.isLt
  unfold trip During
  iintro ⟨Hp, Hk, Ho, Hb⟩
  iapply (wp_load 𝒱₀ (thrV d i) none Set.univ (m := posV) (S := Finset.univ) (Finset.subset_univ _)) $$ Hp
  iintro Hp
  iapply (wp_assume 𝒱₀ (thrV d i) none Set.univ (places_chk h t))
  have eo : ∀ f, (origV.view.loc (thrV d i) ↦{fullShare} f : sProp 𝕄)
      = ((origV.access (.whole S4096)).loc (thrV d i) ↦[(origV.access (.whole S4096)).set]{fullShare} f) := fun f => by
    rw [show (origV.access (.whole S4096)).set = Finset.univ from set_access_whole cc0_scratch3]
  have eb : ∀ f, (bktV.view.loc (thrV d i) ↦{fullShare} f : sProp 𝕄)
      = ((bktV.access (.whole S4096)).loc (thrV d i) ↦[(bktV.access (.whole S4096)).set]{fullShare} f) := fun f => by
    rw [show (bktV.access (.whole S4096)).set = Finset.univ from set_access_whole cc0_scratch4]
  ihave Ho := (Entails.of_eq (eo _)) $$ Ho
  iapply (SparseCore.wp_vectorStoreIdx 𝒱₀ (thrV d i) none Set.univ (base := origV)) $$ Ho
  iintro Ho
  iapply (wp_load 𝒱₀ (thrV d i) none Set.univ (m := packV) (S := Finset.univ) (Finset.subset_univ _)) $$ Hk
  iintro Hk
  ihave Hb := (Entails.of_eq (eb _)) $$ Hb
  iapply (SparseCore.wp_vectorStoreIdx 𝒱₀ (thrV d i) none Set.univ (base := bktV)) $$ Hb
  iintro Hb
  sl_step
  have e0 := readAt_posV (F := F) t po
  have e1 := readAt_packV (F := F) t pk
  have h0 := storeIdx_filled (F := F) σ (fun x => BitVec.ofNat 32 (hd x).val) f0 t.val ht _ (lanes t)
    (fun k => (congrArg BitVec.toNat (e0 k)).trans (h _)) (fun k => lanes_eq t k) (places_chk h t).1
  have h1 := storeIdx_filled (F := F) σ pk f1 t.val ht _ _
    (fun k => (congrArg BitVec.toNat (e0 k)).trans (h _)) e1 (places_chk h t).1
  isplitl [Hp]; · iexact Hp
  isplitl [Hk]; · iexact Hk
  isplitl [Ho]
  · rw [eo]
    iapply (Entails.of_eq (congrArg (fun f => ((origV.access (.whole S4096)).loc (thrV d i) ↦[(origV.access (.whole S4096)).set]{fullShare} f : sProp 𝕄))
      ((write_access cc0_scratch3 _ _).trans ((congrArg (fun f => storeIdx (F := F) (e := .i32) f _ _ _ _ _) (read_access cc0_scratch3 _)).trans h0)))) $$ Ho
  · rw [eb]
    iapply (Entails.of_eq (congrArg (fun f => ((bktV.access (.whole S4096)).loc (thrV d i) ↦[(bktV.access (.whole S4096)).set]{fullShare} f : sProp 𝕄))
      ((write_access cc0_scratch4 _ _).trans ((congrArg (fun f => storeIdx (F := F) (e := .i32) f _ _ _ _ _) (read_access cc0_scratch4 _)).trans h1)))) $$ Hb

variable {π : Fin 32 → Fin 4 → Fin 4096 ≃ Fin 4096}

/-- Round `r`'s row of each of the two list outputs. -/
abbrev origAt (r : Fin 4) (f : S32x4x4096.Idx → Elt F .i32) : sProp 𝕄 :=
  (roundView i origM r).view.loc (thrV d i) ↦[(roundView i origM r).view.set]{fullShare} f
abbrev bktAt (r : Fin 4) (f : S32x4x4096.Idx → Elt F .i32) : sProp 𝕄 :=
  (roundView i bktM r).view.loc (thrV d i) ↦[(roundView i bktM r).view.set]{fullShare} f

theorem places_fetched {oi : S32x4x4096.Idx → Elt F .i32} {pl : S32x4x32x128.Idx → Elt F .i32} (h : Spells π oi pl) (r : Fin 4) :
    Places (π (tileNo i) r) ((roundView i posM r).view.read (Elt F) oi) := fun p =>
  (congrArg BitVec.toNat (read_posView i r oi p)).trans (h.pos _ _ _)

/-- A write-out of the positions at their places. -/
theorem writes_orig (r : Fin 4) (f : S32x4x4096.Idx → Elt F .i32) (w : S4096.Idx → Elt F .i32)
    (hw : ∀ p, w (ix1 p) = BitVec.ofNat 32 ((π (tileNo i) r).symm p).val) :
    (origAt d i r ((roundView i origM r).view.writes (Elt F) f [⟨Rect.whole S4096, w⟩]) : sProp 𝕄) = origAt d i r (origOf π) := by
  have e : w = fun x => (BitVec.ofNat 32 ((π (tileNo i) r).symm (hd x)).val : Elt F .i32) := by
    funext x
    obtain ⟨p, rfl⟩ : ∃ p, x = ix1 p := ⟨x 0, eq_ix1 x⟩
    exact hw p
  subst e
  exact pointsTo_congr fun x hx => (writes_whole_apply _ _ _ hx).trans (write_orig π i r f x hx)

/-- A write-out of the packed buckets at their places. -/
theorem writes_bkt (r : Fin 4) (pk : S32x4096.Idx → Elt F .i32) (f : S32x4x4096.Idx → Elt F .i32) (w : S4096.Idx → Elt F .i32)
    (hw : ∀ p, w (ix1 p) = (packView i packM).view.read (Elt F) pk (ix1 ((π (tileNo i) r).symm p))) :
    (bktAt d i r ((roundView i bktM r).view.writes (Elt F) f [⟨Rect.whole S4096, w⟩]) : sProp 𝕄) = bktAt d i r (bktOf π pk) := by
  have e : w = fun x => (packView i packM).view.read (Elt F) pk (ix1 ((π (tileNo i) r).symm (hd x))) := by
    funext x
    obtain ⟨p, rfl⟩ : ∃ p, x = ix1 p := ⟨x 0, eq_ix1 x⟩
    exact hw p
  subst e
  exact pointsTo_congr fun x hx => (writes_whole_apply _ _ _ hx).trans (write_bkt π i r pk f x hx)

set_option maxHeartbeats 4000000 in
/-- Round `r`: its rows of the two list outputs end holding the positions and the packed buckets at their places. -/
theorem wp_round (q : PosShare TreeShare) (oi : S32x4x4096.Idx → Elt F .i32) (pl : S32x4x32x128.Idx → Elt F .i32) (h : Spells π oi pl)
    (pk : S32x4096.Idx → Elt F .i32) (fq fb : S32x4x4096.Idx → Elt F .i32) (semI semQ semB : DmaSems sig S_) (r : Fin 4)
    (O : CellTallies nD τ sig (HIx 1)) (W : Waits sig (HIx 1)) (Φ : PUnit → sProp 𝕄) :
    iprop(Transfers.MayWaits (thrV d i) (default : HIx 1) O
        ∗ (posM.view.loc (thrV d i) ↦{q} oi) ∗ (packV.view.loc (thrV d i) ↦{fullShare} (packView i packM).view.read (Elt F) pk)
        ∗ origAt d i r fq ∗ bktAt d i r fb
        ∗ (∃ l, posV.view.loc (thrV d i) ↦{fullShare} l) ∗ (∃ f, origV.view.loc (thrV d i) ↦{fullShare} f) ∗ (∃ f, bktV.view.loc (thrV d i) ↦{fullShare} f)
        ∗ semVal (thrV d i, SemLoc.dma semI.sem) 0 ∗ semVal (thrV d i, SemLoc.dma semQ.sem) 0 ∗ semVal (thrV d i, SemLoc.dma semB.sem) 0
        ∗ Owed (thrV d i) O W
        ∗ (iprop((posM.view.loc (thrV d i) ↦{q} oi) ∗ (packV.view.loc (thrV d i) ↦{fullShare} (packView i packM).view.read (Elt F) pk)
            ∗ origAt d i r (origOf π) ∗ bktAt d i r (bktOf π pk)
            ∗ (∃ l, posV.view.loc (thrV d i) ↦{fullShare} l) ∗ (∃ f, origV.view.loc (thrV d i) ↦{fullShare} f) ∗ (∃ f, bktV.view.loc (thrV d i) ↦{fullShare} f)
            ∗ semVal (thrV d i, SemLoc.dma semI.sem) 0 ∗ semVal (thrV d i, SemLoc.dma semQ.sem) 0 ∗ semVal (thrV d i, SemLoc.dma semB.sem) 0
            ∗ Owed (thrV d i) O W) -∗ Φ ⟨⟩))
      ⊢ wp frame (wpE (defs₀ (F := F)) 𝒱₀ (thrV d i) none) Set.univ
          (round i posM origM bktM posV origV bktV packV (Memref.isWhole_whole _) (Memref.isWhole_whole _) (Memref.isWhole_whole _) semI semQ semB r) Φ := by
  unfold round Owed
  iintro ⟨#Hmw, Hpm, Hk, Hoa, Hba, ⟨%l0, Hp⟩, ⟨%f0, Ho⟩, ⟨%f1, Hb⟩, HvI, HvQ, HvB, ⟨%W', %hW', HO⟩, Hkk⟩
  sl_exec
  have hl : View.write (Elt F) posV.view l0 (wp_round.sl.dma0 i oi r) Finset.univ = (roundView i posM r).view.read (Elt F) oi :=
    (View.write_whole_univ _ _ _).trans rfl
  rw [hl]
  have hP := places_fetched i h r
  rw [← filled_zero (π (tileNo i) r) (fun x => BitVec.ofNat 32 (hd x).val) f0, ← filled_zero (π (tileNo i) r) ((packView i packM).view.read (Elt F) pk) f1]
  iapply (Scf.wp_for_bind Idealize.ShloMosaic.frame (wpE (defs₀ (F := F)) 𝒱₀ (thrV d i) none) Set.univ _ _ _ k0_t1_ok ⟨⟩ _
    (fun n _ => During d i (π (tileNo i) r) ((roundView i posM r).view.read (Elt F) oi) ((packView i packM).view.read (Elt F) pk) f0 f1 n)
    (fun t _ => wp_trip d i (π (tileNo i) r) _ _ f0 f1 hP t)) $$ [Hp Hk Ho Hb]
  · unfold During
    isplitl [Hp]; · iexact Hp
    isplitl [Hk]; · iexact Hk
    isplitl [Ho] <;> iassumption
  iintro %_u HD
  rw [show Scf.trips k0_t1_loop.lb k0_t1_loop.ub k0_t1_loop.st = 256 by decide +kernel]
  unfold During
  rw [filled_all, filled_all]
  icases HD with ⟨Hp, Hk, Ho, Hb⟩
  sl_exec
  ihave Hoa := (Entails.of_eq (writes_orig d i (π := π) r fq _ (fun p => rfl))) $$ Hoa
  ihave Hba := (Entails.of_eq (writes_bkt d i (π := π) r pk fb _ (fun p => rfl))) $$ Hba
  sl_step
  iapply Hkk
  isplitl [Hpm]; · iexact Hpm
  isplitl [Hk]; · iexact Hk
  isplitl [Hoa]; · iexact Hoa
  isplitl [Hba]; · iexact Hba
  isplitl [Hp]; · iexists _; iexact Hp
  isplitl [Ho]; · iexists _; iexact Ho
  isplitl [Hb]; · iexists _; iexact Hb
  isplitl [HvI]; · iexact HvI
  isplitl [HvQ]; · iexact HvQ
  isplitl [HvB]; · iexact HvB
  iexists _; isplitr
  swap; · iexact HO
  ipureintro; exact insert_none (insert_none (insert_none hW'))

end Tile

end Cert.ReorderIdeal.Place

end
-- ==== Proof.ReorderRounds.lean ====
/-
  The reordering scatter on one tile: the four rounds.
-/
module

public import proofs.«01_k».proof.Defs
public import proofs.«01_k».proof.Proof.ReorderTile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.ReorderIdeal.Place

open Cert.ReorderIdeal Cert.ReorderIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (i : grid0.Coords)

variable {π : Fin 32 → Fin 4 → Fin 4096 ≃ Fin 4096}

/-- A round's three cells at zero. -/
def cellsR (sems : ℕ → DmaSems sig S_) (r : Fin 4) : sProp 𝕄 :=
  iprop(semVal (thrV d i, SemLoc.dma (sems (1 + 3 * r.val)).sem) 0 ∗ semVal (thrV d i, SemLoc.dma (sems (2 + 3 * r.val)).sem) 0
    ∗ semVal (thrV d i, SemLoc.dma (sems (3 + 3 * r.val)).sem) 0)

/-- The rounds of a list, in order. -/
theorem wp_rounds (q : PosShare TreeShare) (oi : S32x4x4096.Idx → Elt F .i32) (pl : S32x4x32x128.Idx → Elt F .i32) (h : Spells π oi pl)
    (pk : S32x4096.Idx → Elt F .i32) (fq fb : S32x4x4096.Idx → Elt F .i32) (sems : ℕ → DmaSems sig S_)
    (O : CellTallies nD τ sig (HIx 1)) (W : Waits sig (HIx 1)) :
    ∀ (rs : List (Fin 4)), rs.Nodup → ∀ (Φ : PUnit → sProp 𝕄),
    iprop(Transfers.MayWaits (thrV d i) (default : HIx 1) O
        ∗ (posM.view.loc (thrV d i) ↦{q} oi) ∗ (packV.view.loc (thrV d i) ↦{fullShare} (packView i packM).view.read (Elt F) pk)
        ∗ (bigSep rs.toFinset fun r => origAt d i r fq) ∗ (bigSep rs.toFinset fun r => bktAt d i r fb)
        ∗ (∃ l, posV.view.loc (thrV d i) ↦{fullShare} l) ∗ (∃ f, origV.view.loc (thrV d i) ↦{fullShare} f) ∗ (∃ f, bktV.view.loc (thrV d i) ↦{fullShare} f)
        ∗ (bigSep rs.toFinset fun r => cellsR d i sems r)
        ∗ Owed (thrV d i) O W
        ∗ (iprop((posM.view.loc (thrV d i) ↦{q} oi) ∗ (packV.view.loc (thrV d i) ↦{fullShare} (packView i packM).view.read (Elt F) pk)
            ∗ (bigSep rs.toFinset fun r => origAt d i r (origOf π)) ∗ (bigSep rs.toFinset fun r => bktAt d i r (bktOf π pk))
            ∗ (∃ l, posV.view.loc (thrV d i) ↦{fullShare} l) ∗ (∃ f, origV.view.loc (thrV d i) ↦{fullShare} f) ∗ (∃ f, bktV.view.loc (thrV d i) ↦{fullShare} f)
            ∗ (bigSep rs.toFinset fun r => cellsR d i sems r)
            ∗ Owed (thrV d i) O W) -∗ Φ ⟨⟩))
      ⊢ wp frame (wpE (defs₀ (F := F)) 𝒱₀ (thrV d i) none) Set.univ
          (rounds i posM origM bktM posV origV bktV packV (Memref.isWhole_whole _) (Memref.isWhole_whole _) (Memref.isWhole_whole _) sems rs) Φ
  | [], _, Φ => by
    simp only [List.toFinset_nil, bigSep_empty]
    iintro ⟨-, Hpm, Hk, Hoa, Hba, Hp, Ho, Hb, Hc, HO, Hkk⟩
    unfold rounds
    sl_step
    iapply Hkk
    isplitl [Hpm]; · iexact Hpm
    isplitl [Hk]; · iexact Hk
    isplitl [Hoa]; · iexact Hoa
    isplitl [Hba]; · iexact Hba
    isplitl [Hp]; · iexact Hp
    isplitl [Ho]; · iexact Ho
    isplitl [Hb]; · iexact Hb
    isplitl [Hc]; · iexact Hc
    iexact HO
  | r :: rs, hnd, Φ => by
    have hk : r ∉ rs.toFinset := fun hk => (List.nodup_cons.mp hnd).1 (List.mem_toFinset.mp hk)
    simp only [List.toFinset_cons, SparseCore.bigSep_insert' hk]
    unfold rounds
    rw [wp_bind]
    iintro ⟨#Hmw, Hpm, Hk, ⟨Hoa, Hoas⟩, ⟨Hba, Hbas⟩, Hp, Ho, Hb, ⟨Hc, Hcs⟩, HO, Hkk⟩
    unfold cellsR
    icases Hc with ⟨HcI, HcQ, HcB⟩
    iapply (wp_round d i q oi pl h pk fq fb (sems (1 + 3 * r.val)) (sems (2 + 3 * r.val)) (sems (3 + 3 * r.val)) r O W)
    isplitr; · iexact Hmw
    isplitl [Hpm]; · iexact Hpm
    isplitl [Hk]; · iexact Hk
    isplitl [Hoa]; · iexact Hoa
    isplitl [Hba]; · iexact Hba
    isplitl [Hp]; · iexact Hp
    isplitl [Ho]; · iexact Ho
    isplitl [Hb]; · iexact Hb
    isplitl [HcI]; · iexact HcI
    isplitl [HcQ]; · iexact HcQ
    isplitl [HcB]; · iexact HcB
    isplitl [HO]; · iexact HO
    iintro ⟨Hpm, Hk, Hoa, Hba, Hp, Ho, Hb, HcI, HcQ, HcB, HO⟩
    iapply (wp_rounds q oi pl h pk fq fb sems O W rs (List.nodup_cons.mp hnd).2 Φ)
    isplitr; · iexact Hmw
    isplitl [Hpm]; · iexact Hpm
    isplitl [Hk]; · iexact Hk
    isplitl [Hoas]; · iexact Hoas
    isplitl [Hbas]; · iexact Hbas
    isplitl [Hp]; · iexact Hp
    isplitl [Ho]; · iexact Ho
    isplitl [Hb]; · iexact Hb
    isplitl [Hcs]; · unfold cellsR; iexact Hcs
    isplitl [HO]; · iexact HO
    iintro ⟨Hpm, Hk, Hoas, Hbas, Hp, Ho, Hb, Hcs, HO⟩
    iapply Hkk
    isplitl [Hpm]; · iexact Hpm
    isplitl [Hk]; · iexact Hk
    isplitl [Hoa Hoas]
    · isplitl [Hoa]; · iexact Hoa
      iexact Hoas
    isplitl [Hba Hbas]
    · isplitl [Hba]; · iexact Hba
      iexact Hbas
    isplitl [Hp]; · iexact Hp
    isplitl [Ho]; · iexact Ho
    isplitl [Hb]; · iexact Hb
    isplitl [HcI HcQ HcB Hcs]
    · isplitl [HcI HcQ HcB]
      · isplitl [HcI]; · iexact HcI
        isplitl [HcQ]; · iexact HcQ
        iexact HcB
      · unfold cellsR; iexact Hcs
    iexact HO

end Tile

end Cert.ReorderIdeal.Place

end
-- ==== Proof.ReorderSend.lean ====
/-
  The reordering scatter on one tile: one piece, one chunk in one round.
-/
module

public import proofs.«01_k».proof.Defs
public import proofs.«01_k».proof.Proof.ReorderTile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.ReorderIdeal.Place

open Cert.ReorderIdeal Cert.ReorderIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (i : grid0.Coords)

variable {π : Fin 32 → Fin 4 → Fin 4096 ≃ Fin 4096}

/-- The destination's elements of piece `j` of chunk `c` in round `r`. -/
abbrev destAt (π : Fin 32 → Fin 4 → Fin 4096 ≃ Fin 4096) (r : Fin 4) (c : Fin 8) (j : Fin 4) (f : S524288x128.Idx → Elt F .f32) : sProp 𝕄 :=
  destM.view.loc (thrV d i) ↦[pieceSet π (tileNo i) r c j]{fullShare} f

set_option maxHeartbeats 4000000 in
/-- Piece `j` of chunk `c` in round `r`: its elements of the destination end holding the rows sent there. -/
theorem wp_piece (qv : S32x4096x128.Idx → Elt F .f32) (r : Fin 4) (c : Fin 8) (l : S4x128.Idx → Elt F .i32)
    (hl : Lists π (tileNo i) r c l) (fd : S524288x128.Idx → Elt F .f32) (sem : DmaSems sig S_) (j : Fin 4)
    (O : CellTallies nD τ sig (HIx 1)) (W : Waits sig (HIx 1)) (Φ : PUnit → sProp 𝕄) :
    iprop(Transfers.MayWaits (thrV d i) (default : HIx 1) O
        ∗ (listM.view.loc (thrV d i) ↦{fullShare} l) ∗ (bufM.view.loc (thrV d i) ↦{fullShare} (rowsView i rowsM c).view.read (Elt F) qv)
        ∗ destAt d i π r c j fd ∗ semVal (thrV d i, SemLoc.dma sem.sem) 0 ∗ Owed (thrV d i) O W
        ∗ (iprop((listM.view.loc (thrV d i) ↦{fullShare} l) ∗ (bufM.view.loc (thrV d i) ↦{fullShare} (rowsView i rowsM c).view.read (Elt F) qv)
            ∗ destAt d i π r c j (destOf π qv) ∗ semVal (thrV d i, SemLoc.dma sem.sem) 0 ∗ Owed (thrV d i) O W) -∗ Φ ⟨⟩))
      ⊢ wp frame (wpE (defs₀ (F := F)) 𝒱₀ (thrV d i) none) Set.univ (piece i destM listM bufM sem j) Φ := by
  unfold piece Owed
  iintro ⟨#Hmw, Hl, Hb, Hd, Hv, ⟨%W', %hW', HO⟩, Hk⟩
  ihave Hls := (pointsTo_split_subset (q := fullShare) (f := l) (S := Finset.univ) (Finset.subset_univ (listView listM j).view.set)).1 $$ Hl
  icases Hls with ⟨Hls, Hlr⟩
  ihave Hbs := (pointsTo_split_subset (q := fullShare) (f := (rowsView i rowsM c).view.read (Elt F) qv) (S := Finset.univ) (Finset.subset_univ (bufView bufM j).view.set)).1 $$ Hb
  icases Hbs with ⟨Hbs, Hbr⟩
  have hN := SparseCore.sum_scatterCredit_eq_srcCredit (c := thrV d i) (bufView bufM j) (destView destM) gathers_S524288x128_S128x128 rfl
    (SparseCore.rows ((listView listM j).view.read (Elt F) l) rfl (list_inb hl j)) (fun _ => rfl) (fun _ => rfl)
  have en := named_eq d i hl j
  have ed : ∀ f, (destAt d i π r c j f : sProp 𝕄)
      = ((destView destM).view.loc (thrV d i) ↦[SparseCore.namedRows (thrV d i) (destView destM).view axR
          (SparseCore.rows ((listView listM j).view.read (Elt F) l) rfl (list_inb hl j))]{fullShare} f) := fun f => by rw [en]
  ihave Hd := (Entails.of_eq (ed _)) $$ Hd
  iapply (SparseCore.wp_indirectScatterLocal countersEmb 𝒱₀ (thrV d i) none (hg := gathers_S524288x128_S128x128) (default : HIx 1)
      (bufView bufM j).view.dmaCredit (by decide) (list_inb hl j) (rows_inj hl j) hN) $$ [Hbs Hd Hls Hv]
  · isplitl [Hbs]; · iexact Hbs
    isplitl [Hd]; · iexact Hd
    isplitl [Hls]; · iexact Hls
    iexact Hv
  iintro Hfl
  iapply (Transfers.wp_waitLocalO countersEmb 𝒱₀ (thrV d i) none (default : HIx 1) (rfl : (bufView bufM j).view.dmaCredit = _)) $$ [Hfl HO]
  · isplitl [Hfl]; · iexact Hfl
    isplitl [HO]; · iexact HO
    iapply (Transfers.MayWaits.elim (SemLoc.dma sem.sem)) $$ Hmw
  iintro ⟨⟨Hd, Hbs, Hls⟩, Hv, HO⟩
  sl_step
  have ef : (destAt d i π r c j _ : sProp 𝕄) = destAt d i π r c j (destOf π qv) :=
    pointsTo_congr (fun x hx => scatter_piece d i j _ (rows_eq hl j) qv fd x hx)
  iapply Hk
  isplitl [Hls Hlr]
  · iapply (pointsTo_split_subset (q := fullShare) (f := l) (S := Finset.univ) (Finset.subset_univ (listView listM j).view.set)).2
    isplitl [Hls] <;> iassumption
  isplitl [Hbs Hbr]
  · iapply (pointsTo_split_subset (q := fullShare) (f := (rowsView i rowsM c).view.read (Elt F) qv) (S := Finset.univ) (Finset.subset_univ (bufView bufM j).view.set)).2
    isplitl [Hbs] <;> iassumption
  isplitl [Hd]
  · rw [← ef, ed]
    iexact Hd
  isplitl [Hv]; · iexact Hv
  iexists _; isplitr
  swap; · iexact HO
  ipureintro; exact insert_none hW'

/-- The destination's elements of chunk `c` in round `r`. -/
def destR (π : Fin 32 → Fin 4 → Fin 4096 ≃ Fin 4096) (r : Fin 4) (c : Fin 8) (f : S524288x128.Idx → Elt F .f32) : sProp 𝕄 :=
  iprop(destAt d i π r c 0 f ∗ destAt d i π r c 1 f ∗ destAt d i π r c 2 f ∗ destAt d i π r c 3 f)

set_option maxHeartbeats 4000000 in
/-- Chunk `c`'s rows sent in round `r`. -/
theorem wp_send (q : PosShare TreeShare) (qv : S32x4096x128.Idx → Elt F .f32) (oi : S32x4x4096.Idx → Elt F .i32) (pl : S32x4x32x128.Idx → Elt F .i32)
    (h : Spells π oi pl) (fd : S524288x128.Idx → Elt F .f32) (sem semI : DmaSems sig S_) (c : Fin 8) (r : Fin 4)
    (O : CellTallies nD τ sig (HIx 1)) (W : Waits sig (HIx 1)) (Φ : PUnit → sProp 𝕄) :
    iprop(Transfers.MayWaits (thrV d i) (default : HIx 1) O
        ∗ (placeM.view.loc (thrV d i) ↦{q} pl)
        ∗ (∃ l, listM.view.loc (thrV d i) ↦{fullShare} l) ∗ (bufM.view.loc (thrV d i) ↦{fullShare} (rowsView i rowsM c).view.read (Elt F) qv)
        ∗ destR d i π r c fd ∗ semVal (thrV d i, SemLoc.dma sem.sem) 0 ∗ semVal (thrV d i, SemLoc.dma semI.sem) 0 ∗ Owed (thrV d i) O W
        ∗ (iprop((placeM.view.loc (thrV d i) ↦{q} pl)
            ∗ (∃ l, listM.view.loc (thrV d i) ↦{fullShare} l) ∗ (bufM.view.loc (thrV d i) ↦{fullShare} (rowsView i rowsM c).view.read (Elt F) qv)
            ∗ destR d i π r c (destOf π qv) ∗ semVal (thrV d i, SemLoc.dma sem.sem) 0 ∗ semVal (thrV d i, SemLoc.dma semI.sem) 0
            ∗ Owed (thrV d i) O W) -∗ Φ ⟨⟩))
      ⊢ wp frame (wpE (defs₀ (F := F)) 𝒱₀ (thrV d i) none) Set.univ
          (send i placeM destM listM bufM (Memref.isWhole_whole _) sem semI c r) Φ := by
  unfold send Owed destR
  iintro ⟨#Hmw, Hpl, ⟨%l0, Hl⟩, Hb, ⟨Hd0, Hd1, Hd2, Hd3⟩, Hv, HvI, ⟨%W', %hW', HO⟩, Hk⟩
  sl_exec
  have hl : View.write (Elt F) listM.view l0 (wp_send.sl.dma0 i pl c r) Finset.univ = (placesView i placeM c r).view.read (Elt F) pl :=
    (View.write_whole_univ _ _ _).trans rfl
  rw [hl]
  have hL := lists_fetched i r c h
  ihave HO := (owed_intro (W := W) (insert_none hW')) $$ HO
  iapply (wp_piece d i qv r c ((placesView i placeM c r).view.read (Elt F) pl) hL fd sem 0 O W)
  isplitr; · iexact Hmw
  isplitl [Hl]; · iexact Hl
  isplitl [Hb]; · iexact Hb
  isplitl [Hd0]; · iexact Hd0
  isplitl [Hv]; · iexact Hv
  isplitl [HO]; · iexact HO
  iintro ⟨Hl, Hb, Hd0, Hv, HO⟩
  beta_reduce
  rw [wp_bind]
  iapply (wp_piece d i qv r c ((placesView i placeM c r).view.read (Elt F) pl) hL fd sem 1 O W)
  isplitr; · iexact Hmw
  isplitl [Hl]; · iexact Hl
  isplitl [Hb]; · iexact Hb
  isplitl [Hd1]; · iexact Hd1
  isplitl [Hv]; · iexact Hv
  isplitl [HO]; · iexact HO
  iintro ⟨Hl, Hb, Hd1, Hv, HO⟩
  beta_reduce
  rw [wp_bind]
  iapply (wp_piece d i qv r c ((placesView i placeM c r).view.read (Elt F) pl) hL fd sem 2 O W)
  isplitr; · iexact Hmw
  isplitl [Hl]; · iexact Hl
  isplitl [Hb]; · iexact Hb
  isplitl [Hd2]; · iexact Hd2
  isplitl [Hv]; · iexact Hv
  isplitl [HO]; · iexact HO
  iintro ⟨Hl, Hb, Hd2, Hv, HO⟩
  beta_reduce
  iapply (wp_piece d i qv r c ((placesView i placeM c r).view.read (Elt F) pl) hL fd sem 3 O W)
  isplitr; · iexact Hmw
  isplitl [Hl]; · iexact Hl
  isplitl [Hb]; · iexact Hb
  isplitl [Hd3]; · iexact Hd3
  isplitl [Hv]; · iexact Hv
  isplitl [HO]; · iexact HO
  iintro ⟨Hl, Hb, Hd3, Hv, HO⟩
  iapply Hk
  isplitl [Hpl]; · iexact Hpl
  isplitl [Hl]; · iexists _; iexact Hl
  isplitl [Hb]; · iexact Hb
  isplitl [Hd0 Hd1 Hd2 Hd3]
  · isplitl [Hd0]; · iexact Hd0
    isplitl [Hd1]; · iexact Hd1
    isplitl [Hd2]; · iexact Hd2
    iexact Hd3
  isplitl [Hv]; · iexact Hv
  isplitl [HvI]; · iexact HvI
  unfold Owed; iexact HO

end Tile

end Cert.ReorderIdeal.Place

end
-- ==== Proof.ReorderSends.lean ====
/-
  The reordering scatter on one tile: one chunk in the four rounds.
-/
module

public import proofs.«01_k».proof.Defs
public import proofs.«01_k».proof.Proof.ReorderSend
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.ReorderIdeal.Place

open Cert.ReorderIdeal Cert.ReorderIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (i : grid0.Coords)

variable {π : Fin 32 → Fin 4 → Fin 4096 ≃ Fin 4096}

/-- The same for the rounds of a list, in order. -/
theorem wp_sends (q : PosShare TreeShare) (qv : S32x4096x128.Idx → Elt F .f32) (oi : S32x4x4096.Idx → Elt F .i32) (pl : S32x4x32x128.Idx → Elt F .i32)
    (h : Spells π oi pl) (fd : S524288x128.Idx → Elt F .f32) (sem : DmaSems sig S_) (sems : ℕ → DmaSems sig S_) (c : Fin 8)
    (O : CellTallies nD τ sig (HIx 1)) (W : Waits sig (HIx 1)) :
    ∀ (rs : List (Fin 4)), rs.Nodup → ∀ (Φ : PUnit → sProp 𝕄),
    iprop(Transfers.MayWaits (thrV d i) (default : HIx 1) O
        ∗ (placeM.view.loc (thrV d i) ↦{q} pl)
        ∗ (∃ l, listM.view.loc (thrV d i) ↦{fullShare} l) ∗ (bufM.view.loc (thrV d i) ↦{fullShare} (rowsView i rowsM c).view.read (Elt F) qv)
        ∗ (bigSep rs.toFinset fun r => destR d i π r c fd) ∗ semVal (thrV d i, SemLoc.dma sem.sem) 0
        ∗ (bigSep rs.toFinset fun r => semVal (thrV d i, SemLoc.dma (sems (14 + 5 * c.val + r.val)).sem) 0) ∗ Owed (thrV d i) O W
        ∗ (iprop((placeM.view.loc (thrV d i) ↦{q} pl)
            ∗ (∃ l, listM.view.loc (thrV d i) ↦{fullShare} l) ∗ (bufM.view.loc (thrV d i) ↦{fullShare} (rowsView i rowsM c).view.read (Elt F) qv)
            ∗ (bigSep rs.toFinset fun r => destR d i π r c (destOf π qv)) ∗ semVal (thrV d i, SemLoc.dma sem.sem) 0
            ∗ (bigSep rs.toFinset fun r => semVal (thrV d i, SemLoc.dma (sems (14 + 5 * c.val + r.val)).sem) 0) ∗ Owed (thrV d i) O W) -∗ Φ ⟨⟩))
      ⊢ wp frame (wpE (defs₀ (F := F)) 𝒱₀ (thrV d i) none) Set.univ
          (sends i placeM destM listM bufM (Memref.isWhole_whole _) sem sems c rs) Φ
  | [], _, Φ => by
    simp only [List.toFinset_nil, bigSep_empty]
    iintro ⟨-, Hpl, Hl, Hb, Hd, Hv, Hc, HO, Hk⟩
    unfold sends
    sl_step
    iapply Hk
    isplitl [Hpl]; · iexact Hpl
    isplitl [Hl]; · iexact Hl
    isplitl [Hb]; · iexact Hb
    isplitl [Hd]; · iexact Hd
    isplitl [Hv]; · iexact Hv
    isplitl [Hc]; · iexact Hc
    iexact HO
  | r :: rs, hnd, Φ => by
    have hk : r ∉ rs.toFinset := fun hk => (List.nodup_cons.mp hnd).1 (List.mem_toFinset.mp hk)
    simp only [List.toFinset_cons, SparseCore.bigSep_insert' hk]
    unfold sends
    rw [wp_bind]
    iintro ⟨#Hmw, Hpl, Hl, Hb, ⟨Hd, Hds⟩, Hv, ⟨Hc, Hcs⟩, HO, Hk⟩
    iapply (wp_send d i q qv oi pl h fd sem (sems (14 + 5 * c.val + r.val)) c r O W)
    isplitr; · iexact Hmw
    isplitl [Hpl]; · iexact Hpl
    isplitl [Hl]; · iexact Hl
    isplitl [Hb]; · iexact Hb
    isplitl [Hd]; · iexact Hd
    isplitl [Hv]; · iexact Hv
    isplitl [Hc]; · iexact Hc
    isplitl [HO]; · iexact HO
    iintro ⟨Hpl, Hl, Hb, Hd, Hv, Hc, HO⟩
    iapply (wp_sends q qv oi pl h fd sem sems c O W rs (List.nodup_cons.mp hnd).2 Φ)
    isplitr; · iexact Hmw
    isplitl [Hpl]; · iexact Hpl
    isplitl [Hl]; · iexact Hl
    isplitl [Hb]; · iexact Hb
    isplitl [Hds]; · iexact Hds
    isplitl [Hv]; · iexact Hv
    isplitl [Hcs]; · iexact Hcs
    isplitl [HO]; · iexact HO
    iintro ⟨Hpl, Hl, Hb, Hds, Hv, Hcs, HO⟩
    iapply Hk
    isplitl [Hpl]; · iexact Hpl
    isplitl [Hl]; · iexact Hl
    isplitl [Hb]; · iexact Hb
    isplitl [Hd Hds]
    · isplitl [Hd]; · iexact Hd
      iexact Hds
    isplitl [Hv]; · iexact Hv
    isplitl [Hc Hcs]
    · isplitl [Hc]; · iexact Hc
      iexact Hcs
    iexact HO

end Tile

end Cert.ReorderIdeal.Place

end
-- ==== Proof.ReorderChunks.lean ====
/-
  The reordering scatter on one tile: the eight chunks.
-/
module

public import proofs.«01_k».proof.Defs
public import proofs.«01_k».proof.Proof.ReorderSends
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.ReorderIdeal.Place

open Cert.ReorderIdeal Cert.ReorderIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (i : grid0.Coords)

variable {π : Fin 32 → Fin 4 → Fin 4096 ≃ Fin 4096}

/-- Chunk `c`'s elements of the destination, of all four rounds. -/
abbrev destC (π : Fin 32 → Fin 4 → Fin 4096 ≃ Fin 4096) (c : Fin 8) (f : S524288x128.Idx → Elt F .f32) : sProp 𝕄 :=
  bigSep (List.finRange 4).toFinset fun r => destR d i π r c f

/-- A chunk's five cells at zero: its rows' fetch, and the four fetches of their places. -/
def cellsC (sems : ℕ → DmaSems sig S_) (c : Fin 8) : sProp 𝕄 :=
  iprop(semVal (thrV d i, SemLoc.dma (sems (13 + 5 * c.val)).sem) 0
    ∗ bigSep (List.finRange 4).toFinset fun r : Fin 4 => semVal (thrV d i, SemLoc.dma (sems (14 + 5 * c.val + r.val)).sem) 0)

set_option maxHeartbeats 4000000 in
/-- The chunks of a list, in order. -/
theorem wp_chunks (q : PosShare TreeShare) (qv : S32x4096x128.Idx → Elt F .f32) (oi : S32x4x4096.Idx → Elt F .i32) (pl : S32x4x32x128.Idx → Elt F .i32)
    (h : Spells π oi pl) (fd : S524288x128.Idx → Elt F .f32) (sem : DmaSems sig S_) (sems : ℕ → DmaSems sig S_)
    (O : CellTallies nD τ sig (HIx 1)) (W : Waits sig (HIx 1)) :
    ∀ (cs : List (Fin 8)), cs.Nodup → ∀ (Φ : PUnit → sProp 𝕄),
    iprop(Transfers.MayWaits (thrV d i) (default : HIx 1) O
        ∗ (rowsM.view.loc (thrV d i) ↦{q} qv) ∗ (placeM.view.loc (thrV d i) ↦{q} pl)
        ∗ (∃ l, listM.view.loc (thrV d i) ↦{fullShare} l) ∗ (∃ f, bufM.view.loc (thrV d i) ↦{fullShare} f)
        ∗ (bigSep cs.toFinset fun c => destC d i π c fd) ∗ semVal (thrV d i, SemLoc.dma sem.sem) 0
        ∗ (bigSep cs.toFinset fun c => cellsC d i sems c) ∗ Owed (thrV d i) O W
        ∗ (iprop((rowsM.view.loc (thrV d i) ↦{q} qv) ∗ (placeM.view.loc (thrV d i) ↦{q} pl)
            ∗ (∃ l, listM.view.loc (thrV d i) ↦{fullShare} l) ∗ (∃ f, bufM.view.loc (thrV d i) ↦{fullShare} f)
            ∗ (bigSep cs.toFinset fun c => destC d i π c (destOf π qv)) ∗ semVal (thrV d i, SemLoc.dma sem.sem) 0
            ∗ (bigSep cs.toFinset fun c => cellsC d i sems c) ∗ Owed (thrV d i) O W) -∗ Φ ⟨⟩))
      ⊢ wp frame (wpE (defs₀ (F := F)) 𝒱₀ (thrV d i) none) Set.univ
          (chunks i rowsM placeM destM listM bufM (Memref.isWhole_whole _) (Memref.isWhole_whole _) sem sems cs) Φ
  | [], _, Φ => by
    simp only [List.toFinset_nil, bigSep_empty]
    iintro ⟨-, Hr, Hpl, Hl, Hb, Hd, Hv, Hc, HO, Hk⟩
    unfold chunks
    sl_step
    iapply Hk
    isplitl [Hr]; · iexact Hr
    isplitl [Hpl]; · iexact Hpl
    isplitl [Hl]; · iexact Hl
    isplitl [Hb]; · iexact Hb
    isplitl [Hd]; · iexact Hd
    isplitl [Hv]; · iexact Hv
    isplitl [Hc]; · iexact Hc
    iexact HO
  | c :: cs, hnd, Φ => by
    have hk : c ∉ cs.toFinset := fun hk => (List.nodup_cons.mp hnd).1 (List.mem_toFinset.mp hk)
    rw [List.toFinset_cons, SparseCore.bigSep_insert' hk, SparseCore.bigSep_insert' hk, SparseCore.bigSep_insert' hk]
    unfold chunks Owed destC
    iintro ⟨#Hmw, Hr, Hpl, Hl, ⟨%f0, Hb⟩, ⟨Hd, Hds⟩, Hv, ⟨Hc, Hcs⟩, ⟨%W', %hW', HO⟩, Hk⟩
    unfold cellsC
    icases Hc with ⟨HcF, HcP⟩
    generalize hrs : List.finRange 4 = rs
    have hn : rs.Nodup := hrs ▸ List.nodup_finRange 4
    generalize hp : sends i placeM destM listM bufM (Memref.isWhole_whole _) sem sems c rs = prog
    sl_exec
    subst hp
    have hb : View.write (Elt F) bufM.view f0 (wp_chunks.sl.dma0 i qv c) Finset.univ = (rowsView i rowsM c).view.read (Elt F) qv :=
      (View.write_whole_univ _ _ _).trans rfl
    rw [hb]
    ihave HO := (owed_intro (W := W) (insert_none hW')) $$ HO
    rw [wp_bind]
    iapply (wp_sends d i q qv oi pl h fd sem sems c O W rs hn)
    isplitr; · iexact Hmw
    isplitl [Hpl]; · iexact Hpl
    isplitl [Hl]; · iexact Hl
    isplitl [Hb]; · iexact Hb
    isplitl [Hd]; · iexact Hd
    isplitl [Hv]; · iexact Hv
    isplitl [HcP]; · iexact HcP
    isplitl [HO]; · iexact HO
    iintro ⟨Hpl, Hl, Hb, Hd, Hv, HcP, HO⟩
    subst hrs
    beta_reduce
    iapply (wp_chunks q qv oi pl h fd sem sems O W cs (List.nodup_cons.mp hnd).2 Φ)
    isplitr; · iexact Hmw
    isplitl [Hr]; · iexact Hr
    isplitl [Hpl]; · iexact Hpl
    isplitl [Hl]; · iexact Hl
    isplitl [Hb]; · iexists _; iexact Hb
    isplitl [Hds]; · iexact Hds
    isplitl [Hv]; · iexact Hv
    isplitl [Hcs]; · unfold cellsC; iexact Hcs
    isplitl [HO]; · iexact HO
    iintro ⟨Hr, Hpl, Hl, Hb, Hds, Hv, Hcs, HO⟩
    iapply Hk
    isplitl [Hr]; · iexact Hr
    isplitl [Hpl]; · iexact Hpl
    isplitl [Hl]; · iexact Hl
    isplitl [Hb]; · iexact Hb
    isplitl [Hd Hds]
    · isplitl [Hd]; · iexact Hd
      iexact Hds
    isplitl [Hv]; · iexact Hv
    isplitl [HcF HcP Hcs]
    · isplitl [HcF HcP]
      · isplitl [HcF]; · iexact HcF
        iexact HcP
      · unfold cellsC; iexact Hcs
    unfold Owed; iexact HO

end Tile

end Cert.ReorderIdeal.Place

end
-- ==== Proof.ReorderTask.lean ====
/-
  The reordering scatter on one tile: the whole task.
-/
module

public import proofs.«01_k».proof.Defs
public import proofs.«01_k».proof.Proof.ReorderRounds
public import proofs.«01_k».proof.Proof.ReorderChunks
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.ReorderIdeal.Place

open Cert.ReorderIdeal Cert.ReorderIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (i : grid0.Coords)

variable {π : Fin 32 → Fin 4 → Fin 4096 ≃ Fin 4096}

set_option maxHeartbeats 4000000 in
/-- The task: every round's indices and buckets written out, every chunk's rows sent to their places. -/
theorem wp_task (q : PosShare TreeShare) (qv : S32x4096x128.Idx → Elt F .f32) (oi : S32x4x4096.Idx → Elt F .i32) (pl : S32x4x32x128.Idx → Elt F .i32)
    (pk : S32x4096.Idx → Elt F .i32) (h : Spells π oi pl) (fd : S524288x128.Idx → Elt F .f32) (fq fb : S32x4x4096.Idx → Elt F .i32)
    (sem : DmaSems sig S_) (sems : ℕ → DmaSems sig S_)
    (O : CellTallies nD τ sig (HIx 1)) (W : Waits sig (HIx 1)) (Φ : PUnit → sProp 𝕄) :
    iprop(Transfers.MayWaits (thrV d i) (default : HIx 1) O
        ∗ (rowsM.view.loc (thrV d i) ↦{q} qv) ∗ (posM.view.loc (thrV d i) ↦{q} oi) ∗ (placeM.view.loc (thrV d i) ↦{q} pl) ∗ (packM.view.loc (thrV d i) ↦{q} pk)
        ∗ (bigSep (List.finRange 8).toFinset fun c => destC d i π c fd)
        ∗ (bigSep (List.finRange 4).toFinset fun r => origAt d i r fq) ∗ (bigSep (List.finRange 4).toFinset fun r => bktAt d i r fb)
        ∗ (∃ l, posV.view.loc (thrV d i) ↦{fullShare} l) ∗ (∃ l, listM.view.loc (thrV d i) ↦{fullShare} l) ∗ (∃ f, bufM.view.loc (thrV d i) ↦{fullShare} f)
        ∗ (∃ f, origV.view.loc (thrV d i) ↦{fullShare} f) ∗ (∃ f, bktV.view.loc (thrV d i) ↦{fullShare} f) ∗ (∃ f, packV.view.loc (thrV d i) ↦{fullShare} f)
        ∗ semVal (thrV d i, SemLoc.dma sem.sem) 0 ∗ semVal (thrV d i, SemLoc.dma (sems 0).sem) 0
        ∗ (bigSep (List.finRange 4).toFinset fun r => cellsR d i sems r) ∗ (bigSep (List.finRange 8).toFinset fun c => cellsC d i sems c)
        ∗ Owed (thrV d i) O W
        ∗ (iprop((rowsM.view.loc (thrV d i) ↦{q} qv) ∗ (posM.view.loc (thrV d i) ↦{q} oi) ∗ (placeM.view.loc (thrV d i) ↦{q} pl) ∗ (packM.view.loc (thrV d i) ↦{q} pk)
            ∗ (bigSep (List.finRange 8).toFinset fun c => destC d i π c (destOf π qv))
            ∗ (bigSep (List.finRange 4).toFinset fun r => origAt d i r (origOf π)) ∗ (bigSep (List.finRange 4).toFinset fun r => bktAt d i r (bktOf π pk))
            ∗ (∃ l, posV.view.loc (thrV d i) ↦{fullShare} l) ∗ (∃ l, listM.view.loc (thrV d i) ↦{fullShare} l) ∗ (∃ f, bufM.view.loc (thrV d i) ↦{fullShare} f)
            ∗ (∃ f, origV.view.loc (thrV d i) ↦{fullShare} f) ∗ (∃ f, bktV.view.loc (thrV d i) ↦{fullShare} f) ∗ (∃ f, packV.view.loc (thrV d i) ↦{fullShare} f)
            ∗ semVal (thrV d i, SemLoc.dma sem.sem) 0 ∗ semVal (thrV d i, SemLoc.dma (sems 0).sem) 0
            ∗ (bigSep (List.finRange 4).toFinset fun r => cellsR d i sems r) ∗ (bigSep (List.finRange 8).toFinset fun c => cellsC d i sems c)
            ∗ Owed (thrV d i) O W) -∗ Φ ⟨⟩))
      ⊢ wp frame (wpE (defs₀ (F := F)) 𝒱₀ (thrV d i) none) Set.univ
          (task i rowsM posM placeM packM destM origM bktM posV listM bufM origV bktV packV (Memref.isWhole_whole _) (Memref.isWhole_whole _)
            (Memref.isWhole_whole _) (Memref.isWhole_whole _) (Memref.isWhole_whole _) (Memref.isWhole_whole _) sem sems) Φ := by
  unfold task Owed
  iintro ⟨#Hmw, Hr, Hpo, Hpl, Hpk, Hd, Hq, Hb, HpoV, Hl, Hbuf, HoV, HbV, ⟨%fp, HpV⟩, Hv, H0, HcR, HcC, ⟨%W', %hW', HO⟩, Hk⟩
  generalize hp : rounds (F := F) i posM origM bktM posV origV bktV packV (Memref.isWhole_whole _) (Memref.isWhole_whole _) (Memref.isWhole_whole _) sems (List.finRange 4) = progR
  generalize hc : chunks (F := F) i rowsM placeM destM listM bufM (Memref.isWhole_whole _) (Memref.isWhole_whole _) sem sems (List.finRange 8) = progC
  sl_exec
  subst hp
  have hpk : View.write (Elt F) packV.view fp (wp_task.sl.dma0 i pk) Finset.univ = (packView i packM).view.read (Elt F) pk :=
    (View.write_whole_univ _ _ _).trans rfl
  rw [hpk]
  ihave HO := (owed_intro (W := W) (insert_none hW')) $$ HO
  rw [wp_bind]
  iapply (wp_rounds d i q oi pl h pk fq fb sems O W (List.finRange 4) (List.nodup_finRange 4))
  isplitr; · iexact Hmw
  isplitl [Hpo]; · iexact Hpo
  isplitl [HpV]; · iexact HpV
  isplitl [Hq]; · iexact Hq
  isplitl [Hb]; · iexact Hb
  isplitl [HpoV]; · iexact HpoV
  isplitl [HoV]; · iexact HoV
  isplitl [HbV]; · iexact HbV
  isplitl [HcR]; · iexact HcR
  isplitl [HO]; · iexact HO
  iintro ⟨Hpo, HpV, Hq, Hb, HpoV, HoV, HbV, HcR, HO⟩
  subst hc
  beta_reduce
  iapply (wp_chunks d i q qv oi pl h fd sem sems O W (List.finRange 8) (List.nodup_finRange 8))
  isplitr; · iexact Hmw
  isplitl [Hr]; · iexact Hr
  isplitl [Hpl]; · iexact Hpl
  isplitl [Hl]; · iexact Hl
  isplitl [Hbuf]; · iexact Hbuf
  isplitl [Hd]; · iexact Hd
  isplitl [Hv]; · iexact Hv
  isplitl [HcC]; · iexact HcC
  isplitl [HO]; · iexact HO
  iintro ⟨Hr, Hpl, Hl, Hbuf, Hd, Hv, HcC, HO⟩
  iapply Hk
  isplitl [Hr]; · iexact Hr
  isplitl [Hpo]; · iexact Hpo
  isplitl [Hpl]; · iexact Hpl
  isplitl [Hpk]; · iexact Hpk
  isplitl [Hd]; · iexact Hd
  isplitl [Hq]; · iexact Hq
  isplitl [Hb]; · iexact Hb
  isplitl [HpoV]; · iexact HpoV
  isplitl [Hl]; · iexact Hl
  isplitl [Hbuf]; · iexact Hbuf
  isplitl [HoV]; · iexact HoV
  isplitl [HbV]; · iexact HbV
  isplitl [HpV]; · iexists _; iexact HpV
  isplitl [Hv]; · iexact Hv
  isplitl [H0]; · iexact H0
  isplitl [HcR]; · iexact HcR
  isplitl [HcC]; · iexact HcC
  unfold Owed; iexact HO

end Tile

end Cert.ReorderIdeal.Place

end
-- ==== Proof.ReorderOwn.lean ====
/-
  The reordering scatter as the launch sees it: one tile's task from what its launch hands it to what it hands back, and
  the rows, the positions, the places, the buckets and the three outputs dealt out to the thirty-two tiles and collected again.
-/
module

public import proofs.«01_k».proof.Proof.ReorderTask

@[expose] public section

noncomputable section

namespace Cert.ReorderIdeal.Place

open Cert.ReorderIdeal Cert.ReorderIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The buffers of the call -/

abbrev rowsLoc (d : Dev nD) : Loc nD τ sig := (SparseCore.T d).loc main_v2
abbrev posLoc (d : Dev nD) : Loc nD τ sig := (SparseCore.T d).loc main_v0
abbrev placeLoc (d : Dev nD) : Loc nD τ sig := (SparseCore.T d).loc main_v3
abbrev packLoc (d : Dev nD) : Loc nD τ sig := (SparseCore.T d).loc main_v1
abbrev destLoc (d : Dev nD) : Loc nD τ sig := (SparseCore.T d).loc main_v4_0
abbrev origLoc (d : Dev nD) : Loc nD τ sig := (SparseCore.T d).loc main_v4_1
abbrev bktLoc (d : Dev nD) : Loc nD τ sig := (SparseCore.T d).loc main_v4_2

/-- A tile's read share of an array all tiles read. -/
abbrev shr (i : grid0.Coords) : PosShare TreeShare := pieceOf fullShare 32 (by decide) (tileNo i)

/-- The elements of a list output in batch `b` and round `r`. -/
def roundSet (b : Fin 32) (r : Fin 4) : Finset S32x4x4096.Idx := Finset.univ.filter fun x => (x 0).val = b.val ∧ (x 1).val = r.val

theorem mem_roundSet {b : Fin 32} {r : Fin 4} {x : S32x4x4096.Idx} : x ∈ roundSet b r ↔ (x 0).val = b.val ∧ (x 1).val = r.val := by
  simp [roundSet]

theorem set_origView (i : grid0.Coords) (r : Fin 4) : (roundView i origM r).view.set = roundSet (tileNo i) r := by
  ext x
  rw [mem_roundSet]
  constructor
  · intro hx
    obtain ⟨y, -, rfl⟩ := Finset.mem_map.mp hx
    obtain ⟨a, rfl⟩ : ∃ a : Fin 4096, y = ix1 a := ⟨y 0, eq_ix1 y⟩
    rw [emb_roundView]
    exact ⟨rfl, rfl⟩
  · rintro ⟨h0, h1⟩
    refine Finset.mem_map.mpr ⟨ix1 (x 2 : Fin 4096), Finset.mem_univ _, ?_⟩
    refine (emb_roundView i origM r _).trans ?_
    funext a
    match a with
    | 0 => exact Fin.ext h0.symm
    | 1 => exact Fin.ext h1.symm
    | 2 => rfl

theorem set_bktView (i : grid0.Coords) (r : Fin 4) : (roundView i bktM r).view.set = roundSet (tileNo i) r := set_origView i r

theorem roundSet_disjoint : ∀ p ∈ (Finset.univ : Finset (Fin 32 × Fin 4)), ∀ p' ∈ (Finset.univ : Finset (Fin 32 × Fin 4)), p ≠ p' →
    Disjoint (roundSet p.1 p.2) (roundSet p'.1 p'.2) := by
  intro p _ p' _ hne
  rw [Finset.disjoint_left]
  intro x hx hx'
  rw [mem_roundSet] at hx hx'
  exact hne (Prod.ext (Fin.ext (by omega)) (Fin.ext (by omega)))

theorem roundSet_cover : (Finset.univ : Finset (Fin 32 × Fin 4)).biUnion (fun p => roundSet p.1 p.2) = Finset.univ := by
  ext x
  simp only [Finset.mem_biUnion, Finset.mem_univ, true_and, iff_true]
  exact ⟨(⟨(x 0).val, (x 0).isLt⟩, ⟨(x 1).val, (x 1).isLt⟩), mem_roundSet.mpr ⟨rfl, rfl⟩⟩

/-- The pieces are apart, and together they are the destination: every row has its batch, its round, and the position that is sent there. -/
theorem pieceSet_disjoint (π : Fin 32 → Fin 4 → Fin 4096 ≃ Fin 4096) :
    ∀ p ∈ (Finset.univ : Finset (Fin 32 × Fin 8 × Fin 4 × Fin 4)), ∀ p' ∈ (Finset.univ : Finset (Fin 32 × Fin 8 × Fin 4 × Fin 4)), p ≠ p' →
      Disjoint (pieceSet π p.1 p.2.2.1 p.2.1 p.2.2.2) (pieceSet π p'.1 p'.2.2.1 p'.2.1 p'.2.2.2) := by
  rintro ⟨b, c, r, j⟩ _ ⟨b', c', r', j'⟩ _ hne
  rw [Finset.disjoint_left]
  intro x hx hx'
  rw [mem_pieceSet] at hx hx'
  obtain ⟨hb, hr, hc, hj⟩ := hx
  obtain ⟨hb', hr', hc', hj'⟩ := hx'
  obtain rfl := hb.symm.trans hb'
  obtain rfl := hr.symm.trans hr'
  obtain rfl := Fin.ext (hc.symm.trans hc')
  obtain rfl := Fin.ext (hj.symm.trans hj')
  exact hne rfl

theorem pieceSet_cover (π : Fin 32 → Fin 4 → Fin 4096 ≃ Fin 4096) :
    (Finset.univ : Finset (Fin 32 × Fin 8 × Fin 4 × Fin 4)).biUnion (fun p => pieceSet π p.1 p.2.2.1 p.2.1 p.2.2.2) = Finset.univ := by
  ext x
  simp only [Finset.mem_biUnion, Finset.mem_univ, true_and, iff_true]
  refine ⟨(rowBatch (x 0), ⟨((π (rowBatch (x 0)) (rowRound (x 0))).symm (rowPlace (x 0))).val / 512, by omega⟩, rowRound (x 0),
    ⟨((π (rowBatch (x 0)) (rowRound (x 0))).symm (rowPlace (x 0))).val / 128 % 4, Nat.mod_lt _ (by decide)⟩), mem_pieceSet.mpr ⟨rfl, rfl, rfl, rfl⟩⟩

/-! ## A tile's cells and buffers -/

/-- The cells the copies use, in their order. -/
def sems (n : ℕ) : DmaSems sig S_ :=
  SemArray.consecutive (n % 53 + 1) S_ (show n % 53 + 1 + 1 ≤ 54 by have := Nat.mod_lt n (show 0 < 53 by decide); omega)

theorem bigSep_fin_three {M : Type} [URA M] (Φ : Fin 3 → sProp M) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem bigSep_fin_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem bigSep_fin_five {M : Type} [URA M] (Φ : Fin 5 → sProp M) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

section Own

variable (d : Dev nD) (i : grid0.Coords)

theorem sems_scoped : ∀ n : Fin 53, (SemLoc.dma (sems n.val).sem : SemLoc sig).isScoped .scVector = true := by decide
theorem sems_val : ∀ n : Fin 53, ((sems n.val).sem : Fin 54).val = n.val + 1 := by decide

abbrev cellAt (n : ℕ) : GSem nD τ sig := (thrV d i, SemLoc.dma (sems n).sem)

theorem cellAt_inj {n n' : ℕ} (hn : n < 53) (hn' : n' < 53) (h : cellAt d i n = cellAt d i n') : n = n' := by
  have h' : (sems n).sem = (sems n').sem := SemLoc.dma.inj (Prod.mk.inj h).2
  have e := sems_val ⟨n, hn⟩; have e' := sems_val ⟨n', hn'⟩
  simp only at e e'
  rw [h'] at e
  omega

/-- The rounds' cells, and the chunks'. -/
def cellsOfRounds : Fin 4 × Fin 3 ↪ GSem nD τ sig where
  toFun p := cellAt d i (1 + p.2.val + 3 * p.1.val)
  inj' p p' h := by
    have h1 := p.1.isLt; have h2 := p.2.isLt; have h1' := p'.1.isLt; have h2' := p'.2.isLt
    have := cellAt_inj d i (by omega) (by omega) h
    exact Prod.ext (Fin.ext (by omega)) (Fin.ext (by omega))
def cellsOfChunks : Fin 8 × Fin 5 ↪ GSem nD τ sig where
  toFun p := cellAt d i (13 + 5 * p.1.val + p.2.val)
  inj' p p' h := by
    have h1 := p.1.isLt; have h2 := p.2.isLt; have h1' := p'.1.isLt; have h2' := p'.2.isLt
    have := cellAt_inj d i (by omega) (by omega) h
    exact Prod.ext (Fin.ext (by omega)) (Fin.ext (by omega))

abbrev scatterCell : GSem nD τ sig := (thrV d i, SemLoc.dma cc0_scratch6.sem)

theorem cellAt_ne {n : ℕ} (hn : n < 53) : cellAt d i n ≠ scatterCell d i := fun h => by
  have h' : (sems n).sem = cc0_scratch6.sem := SemLoc.dma.inj (Prod.mk.inj h).2
  have e := sems_val ⟨n, hn⟩
  simp only at e
  rw [h'] at e
  exact absurd e (by show (0 : ℕ) ≠ n + 1; omega)

theorem cellAt_mem {n : ℕ} (hn : n < 53) : cellAt d i n ∈ ownCells (thrV d i) := mem_ownCells.mpr ⟨rfl, sems_scoped ⟨n, hn⟩⟩

/-- The tile's own cells other than the ones the task uses. -/
abbrev restCells : Finset (GSem nD τ sig) :=
  (((ownCells (thrV d i)).erase (scatterCell d i)).erase (cellAt d i 0) \ Finset.univ.map (cellsOfRounds d i)) \ Finset.univ.map (cellsOfChunks d i)

theorem ownSems0_tile :
    (ownSems0 (thrV d i) : sProp 𝕄)
      = iprop(semVal (scatterCell d i) 0 ∗ semVal (cellAt d i 0) 0
          ∗ (bigSep (List.finRange 4).toFinset fun r => cellsR d i sems r) ∗ (bigSep (List.finRange 8).toFinset fun c => cellsC d i sems c)
          ∗ bigSep (restCells d i) fun g => semVal g 0) := by
  unfold SparseCore.Cfg.ownSems0
  rw [SparseCore.bigSep_erase' ((mem_ownCells (g := scatterCell d i)).mpr ⟨rfl, by
      show (SemLoc.dma cc0_scratch6.sem : SemLoc sig).isScoped .scVector = true; decide⟩),
    SparseCore.bigSep_erase' (Finset.mem_erase.mpr ⟨cellAt_ne d i (by decide : 0 < 53), cellAt_mem d i (by decide : 0 < 53)⟩)]
  have hR : Finset.univ.map (cellsOfRounds d i) ⊆ ((ownCells (thrV d i)).erase (scatterCell d i)).erase (cellAt d i 0) := by
    intro g hg
    obtain ⟨p, -, rfl⟩ := Finset.mem_map.mp hg
    have h1 := p.1.isLt; have h2 := p.2.isLt
    have hn : 1 + p.2.val + 3 * p.1.val < 53 := by omega
    exact Finset.mem_erase.mpr ⟨fun h => by have := cellAt_inj d i hn (by decide : 0 < 53) h; omega,
      Finset.mem_erase.mpr ⟨cellAt_ne d i hn, cellAt_mem d i hn⟩⟩
  have hC : Finset.univ.map (cellsOfChunks d i)
      ⊆ ((ownCells (thrV d i)).erase (scatterCell d i)).erase (cellAt d i 0) \ Finset.univ.map (cellsOfRounds d i) := by
    intro g hg
    obtain ⟨p, -, rfl⟩ := Finset.mem_map.mp hg
    have h1 := p.1.isLt; have h2 := p.2.isLt
    have hn : 13 + 5 * p.1.val + p.2.val < 53 := by omega
    refine Finset.mem_sdiff.mpr ⟨Finset.mem_erase.mpr ⟨fun h => by have := cellAt_inj d i hn (by decide : 0 < 53) h; omega,
      Finset.mem_erase.mpr ⟨cellAt_ne d i hn, cellAt_mem d i hn⟩⟩, fun h => ?_⟩
    obtain ⟨p', -, e⟩ := Finset.mem_map.mp h
    have h1' := p'.1.isLt; have h2' := p'.2.isLt
    have := cellAt_inj d i (by omega : 1 + p'.2.val + 3 * p'.1.val < 53) hn e
    omega
  have eR : (bigSep (Finset.univ.map (cellsOfRounds d i)) fun g => (semVal g 0 : sProp 𝕄)) = bigSep (List.finRange 4).toFinset fun r => cellsR d i sems r := by
    rw [bigSep_map, bigSep_univ_prod, List.toFinset_finRange]
    refine bigSep_congr fun r _ => ?_
    rw [bigSep_fin_three]
    rfl
  have eC : (bigSep (Finset.univ.map (cellsOfChunks d i)) fun g => (semVal g 0 : sProp 𝕄)) = bigSep (List.finRange 8).toFinset fun c => cellsC d i sems c := by
    rw [bigSep_map, bigSep_univ_prod, List.toFinset_finRange]
    refine bigSep_congr fun c _ => ?_
    unfold cellsC
    rw [List.toFinset_finRange, bigSep_fin_five, bigSep_fin_four]
    show iprop(semVal (cellAt d i (13 + 5 * c.val)) 0 ∗ semVal (cellAt d i (13 + 5 * c.val + 1)) 0 ∗ semVal (cellAt d i (13 + 5 * c.val + 2)) 0
      ∗ semVal (cellAt d i (13 + 5 * c.val + 3)) 0 ∗ semVal (cellAt d i (13 + 5 * c.val + 4)) 0)
      = iprop(semVal (cellAt d i (13 + 5 * c.val)) 0 ∗ semVal (cellAt d i (14 + 5 * c.val)) 0 ∗ semVal (cellAt d i (14 + 5 * c.val + 1)) 0
      ∗ semVal (cellAt d i (14 + 5 * c.val + 2)) 0 ∗ semVal (cellAt d i (14 + 5 * c.val + 3)) 0)
    rw [show 13 + 5 * c.val + 1 = 14 + 5 * c.val by omega, show 13 + 5 * c.val + 2 = 14 + 5 * c.val + 1 by omega,
      show 13 + 5 * c.val + 3 = 14 + 5 * c.val + 2 by omega, show 13 + 5 * c.val + 4 = 14 + 5 * c.val + 3 by omega]
  rw [bigSep_sdiff_split hR, bigSep_sdiff_split hC, eR, eC]
  rfl

theorem devRef_ne {b b' : Ref sig .scVector} (h : b ≠ b') : (ThrKind i).devRef b ≠ (ThrKind i).devRef b' := fun e => h (Proc.devRef_injective _ e)

/-- The tile's own buffers other than the six scratch buffers. -/
abbrev restRefs : Finset (DevRef τ sig) :=
  ((((((ownRefs (τ := τ) (ThrKind i)).erase ((ThrKind i).devRef cc0_scratch0)).erase ((ThrKind i).devRef cc0_scratch1)).erase ((ThrKind i).devRef cc0_scratch2)).erase
    ((ThrKind i).devRef cc0_scratch3)).erase ((ThrKind i).devRef cc0_scratch4)).erase ((ThrKind i).devRef cc0_scratch5)

/-- The six scratch buffers are among the tile's own: they are them, at some contents, and the rest. -/
theorem ownBufs_tile :
    (ownBufs (thrV d i) : sProp 𝕄)
      = iprop((∃ l, posV.view.loc (thrV d i) ↦{fullShare} l) ∗ (∃ l, listM.view.loc (thrV d i) ↦{fullShare} l) ∗ (∃ f, bufM.view.loc (thrV d i) ↦{fullShare} f)
          ∗ (∃ f, origV.view.loc (thrV d i) ↦{fullShare} f) ∗ (∃ f, bktV.view.loc (thrV d i) ↦{fullShare} f) ∗ (∃ f, packV.view.loc (thrV d i) ↦{fullShare} f)
          ∗ bigSep (restRefs i) fun b => iprop(∃ f, ((d, b) : Loc nD τ sig) ↦{fullShare} f)) := by
  have m0 := SparseCore.Cfg.mem_ownRefs_of_owner (p := ThrKind i) (b := (ThrKind i).devRef cc0_scratch0) rfl
  have m1 := SparseCore.Cfg.mem_ownRefs_of_owner (p := ThrKind i) (b := (ThrKind i).devRef cc0_scratch1) rfl
  have m2 := SparseCore.Cfg.mem_ownRefs_of_owner (p := ThrKind i) (b := (ThrKind i).devRef cc0_scratch2) rfl
  have m3 := SparseCore.Cfg.mem_ownRefs_of_owner (p := ThrKind i) (b := (ThrKind i).devRef cc0_scratch3) rfl
  have m4 := SparseCore.Cfg.mem_ownRefs_of_owner (p := ThrKind i) (b := (ThrKind i).devRef cc0_scratch4) rfl
  have m5 := SparseCore.Cfg.mem_ownRefs_of_owner (p := ThrKind i) (b := (ThrKind i).devRef cc0_scratch5) rfl
  have ne {b b' : Ref sig .scVector} (h : b ≠ b') := devRef_ne i h
  unfold SparseCore.Cfg.ownBufs
  refine (SparseCore.bigSep_erase' m0).trans ?_
  rw [SparseCore.bigSep_erase' (Finset.mem_erase.mpr ⟨ne (show (cc0_scratch1 : Ref sig .scVector) ≠ cc0_scratch0 by decide), m1⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), m2⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
      Finset.mem_erase.mpr ⟨ne (show (cc0_scratch3 : Ref sig .scVector) ≠ cc0_scratch0 by decide), m3⟩⟩⟩),
    SparseCore.bigSep_erase' (Finset.mem_erase.mpr ⟨ne (show (cc0_scratch4 : Ref sig .scVector) ≠ cc0_scratch3 by decide),
      Finset.mem_erase.mpr ⟨ne (show (cc0_scratch4 : Ref sig .scVector) ≠ cc0_scratch2 by decide),
      Finset.mem_erase.mpr ⟨ne (show (cc0_scratch4 : Ref sig .scVector) ≠ cc0_scratch1 by decide),
      Finset.mem_erase.mpr ⟨ne (show (cc0_scratch4 : Ref sig .scVector) ≠ cc0_scratch0 by decide), m4⟩⟩⟩⟩),
    SparseCore.bigSep_erase' (Finset.mem_erase.mpr ⟨ne (show (cc0_scratch5 : Ref sig .scVector) ≠ cc0_scratch4 by decide),
      Finset.mem_erase.mpr ⟨ne (show (cc0_scratch5 : Ref sig .scVector) ≠ cc0_scratch3 by decide),
      Finset.mem_erase.mpr ⟨ne (show (cc0_scratch5 : Ref sig .scVector) ≠ cc0_scratch2 by decide),
      Finset.mem_erase.mpr ⟨ne (show (cc0_scratch5 : Ref sig .scVector) ≠ cc0_scratch1 by decide),
      Finset.mem_erase.mpr ⟨ne (show (cc0_scratch5 : Ref sig .scVector) ≠ cc0_scratch0 by decide), m5⟩⟩⟩⟩⟩)]

end Own

end Cert.ReorderIdeal.Place

end
-- ==== Proof.ReorderLaunch.lean ====
/-
  The reordering scatter's task as a launch's tile runs it, and the handshakes' record: what each tile is handed and hands
  back, the three outputs ending at the values `destOf`, `origOf` and `bktOf` name.
-/
module

public import proofs.«01_k».proof.Proof.ReorderOwn

@[expose] public section

noncomputable section

namespace Cert.ReorderIdeal.Place

open Cert.ReorderIdeal Cert.ReorderIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a tile is handed, and hands back -/

section Tile

variable (d : Dev nD)

/-- A tile's read shares of the four inputs, and its parts of the three outputs, holding `fd`, `fq` and `fb`. -/
def tileHas (π : Fin 32 → Fin 4 → Fin 4096 ≃ Fin 4096) (qv : S32x4096x128.Idx → Elt F .f32) (oi : S32x4x4096.Idx → Elt F .i32)
    (pl : S32x4x32x128.Idx → Elt F .i32) (pk : S32x4096.Idx → Elt F .i32) (fd : S524288x128.Idx → Elt F .f32) (fq fb : S32x4x4096.Idx → Elt F .i32)
    (i : grid0.Coords) : sProp 𝕄 :=
  iprop((rowsLoc d ↦{shr i} qv) ∗ (posLoc d ↦{shr i} oi) ∗ (placeLoc d ↦{shr i} pl) ∗ (packLoc d ↦{shr i} pk)
    ∗ (bigSep Finset.univ fun c : Fin 8 => bigSep Finset.univ fun r : Fin 4 => bigSep Finset.univ fun j : Fin 4 => destLoc d ↦[pieceSet π (tileNo i) r c j]{fullShare} fd)
    ∗ (bigSep Finset.univ fun r : Fin 4 => origLoc d ↦[roundSet (tileNo i) r]{fullShare} fq)
    ∗ bigSep Finset.univ fun r : Fin 4 => bktLoc d ↦[roundSet (tileNo i) r]{fullShare} fb)

instance tileHas_storable (π : Fin 32 → Fin 4 → Fin 4096 ≃ Fin 4096) (qv : S32x4096x128.Idx → Elt F .f32) (oi : S32x4x4096.Idx → Elt F .i32)
    (pl : S32x4x32x128.Idx → Elt F .i32) (pk : S32x4096.Idx → Elt F .i32) (fd : S524288x128.Idx → Elt F .f32) (fq fb : S32x4x4096.Idx → Elt F .i32)
    (i : grid0.Coords) : BI.Storable (upEmb : UEmb _ 𝕄) (tileHas d π qv oi pl pk fd fq fb i) := by unfold tileHas; infer_instance

variable [FloatOps F]

theorem destC_eq (i : grid0.Coords) (π : Fin 32 → Fin 4 → Fin 4096 ≃ Fin 4096) (f : S524288x128.Idx → Elt F .f32) :
    (bigSep Finset.univ fun c : Fin 8 => bigSep Finset.univ fun r : Fin 4 => bigSep Finset.univ fun j : Fin 4 =>
        destLoc d ↦[pieceSet π (tileNo i) r c j]{fullShare} f : sProp 𝕄)
      = bigSep (List.finRange 8).toFinset fun c => destC d i π c f := by
  rw [List.toFinset_finRange]
  refine bigSep_congr fun c _ => ?_
  unfold destC
  rw [List.toFinset_finRange]
  refine bigSep_congr fun r _ => ?_
  rw [bigSep_fin_four]
  rfl

theorem origAt_eq (i : grid0.Coords) (f : S32x4x4096.Idx → Elt F .i32) :
    (bigSep Finset.univ fun r : Fin 4 => origLoc d ↦[roundSet (tileNo i) r]{fullShare} f : sProp 𝕄)
      = bigSep (List.finRange 4).toFinset fun r => origAt d i r f := by
  rw [List.toFinset_finRange]
  refine bigSep_congr fun r _ => ?_
  unfold origAt
  rw [set_origView]

theorem bktAt_eq (i : grid0.Coords) (f : S32x4x4096.Idx → Elt F .i32) :
    (bigSep Finset.univ fun r : Fin 4 => bktLoc d ↦[roundSet (tileNo i) r]{fullShare} f : sProp 𝕄)
      = bigSep (List.finRange 4).toFinset fun r => bktAt d i r f := by
  rw [List.toFinset_finRange]
  refine bigSep_congr fun r _ => ?_
  unfold bktAt
  rw [set_bktView]

/-- The task of a tile, on the call's arrays and the tile's scratch. -/
abbrev taskAt (i : grid0.Coords) : Prog (TpuEff nD τ sig (Elt F) Λ₀ (ThrKind i)) PUnit :=
  task i rowsM posM placeM packM destM origM bktM posV listM bufM origV bktV packV (Memref.isWhole_whole _) (Memref.isWhole_whole _)
    (Memref.isWhole_whole _) (Memref.isWhole_whole _) (Memref.isWhole_whole _) (Memref.isWhole_whole _) cc0_scratch6 sems

set_option maxHeartbeats 4000000 in
/-- The task on a tile: its parts of the three outputs end holding what the inputs say. -/
theorem tile_body (i : grid0.Coords) (hF : (K (F := F)).Facts) (π : Fin 32 → Fin 4 → Fin 4096 ≃ Fin 4096) (qv : S32x4096x128.Idx → Elt F .f32)
    (oi : S32x4x4096.Idx → Elt F .i32) (pl : S32x4x32x128.Idx → Elt F .i32) (pk : S32x4096.Idx → Elt F .i32) (h : Spells π oi pl)
    (fd : S524288x128.Idx → Elt F .f32) (fq fb : S32x4x4096.Idx → Elt F .i32)
    (O : CellTallies nD τ sig (HIx 1)) (W : Waits sig (HIx 1)) (hO : ∀ g, O g none = 0) :
    iprop(levAts (K (F := F)).L (K (F := F)).lev ∗ emp ∗ tileHas d π qv oi pl pk fd fq fb i
        ∗ scopedBufs (thrV d i) ∗ scopedSems0 (thrV d i) ∗ owes (thrV d i) O W)
      ⊢ wp frame (wpE (defs₀ (F := F)) 𝒱₀ (thrV d i) none) Set.univ (taskAt i)
          fun _ => iprop(tileHas d π qv oi pl pk (destOf π qv) (origOf (F := F) π) (bktOf π pk) i
            ∗ scopedBufs (thrV d i) ∗ scopedSems0 (thrV d i)
            ∗ ∃ W', ⌜∀ p ∈ W', p ∈ W ∨ p.2 = none⌝ ∗ owes (thrV d i) O W') := by
  rw [(K (F := F)).scopedBufs_V hF d ((i 0).castLE hcore0) ((i 1).castLE hsub0),
    SparseCore.Cfg.scopedSems0_V (Val := Elt F) d ((i 0).castLE hcore0) ((i 1).castLE hsub0)]
  rw [show SparseCore.V d ((i 0).castLE hcore0) ((i 1).castLE hsub0) = thrV d i from rfl, ownSems0_tile, ownBufs_tile]
  unfold tileHas
  rw [destC_eq, destC_eq, origAt_eq, origAt_eq, bktAt_eq, bktAt_eq]
  iintro ⟨#Hlv, -, ⟨Hr, Hpo, Hpl, Hpk, Hd, Hq, Hb⟩, ⟨HpoV, Hl, Hbuf, HoV, HbV, HpV, Hbufs⟩, ⟨Hv, H0, HcR, HcC, Hsems⟩, HO⟩
  ihave Hmw := (show levAts (K (F := F)).L (K (F := F)).lev ⊢ Transfers.MayWaits (thrV d i) (default : HIx 1) O from
    (K (F := F)).mayWaits_none (thr := thrV d i) hO) $$ Hlv
  ihave HO := (owed_intro (W := W) (fun p hp => .inl hp)) $$ HO
  iapply (wp_task d i (shr i) qv oi pl pk h fd fq fb cc0_scratch6 sems O W)
  isplitl [Hmw]; · iexact Hmw
  isplitl [Hr]; · iexact Hr
  isplitl [Hpo]; · iexact Hpo
  isplitl [Hpl]; · iexact Hpl
  isplitl [Hpk]; · iexact Hpk
  isplitl [Hd]; · iexact Hd
  isplitl [Hq]; · iexact Hq
  isplitl [Hb]; · iexact Hb
  isplitl [HpoV]; · iexact HpoV
  isplitl [Hl]; · iexact Hl
  isplitl [Hbuf]; · iexact Hbuf
  isplitl [HoV]; · iexact HoV
  isplitl [HbV]; · iexact HbV
  isplitl [HpV]; · iexact HpV
  isplitl [Hv]; · iexact Hv
  isplitl [H0]; · iexact H0
  isplitl [HcR]; · iexact HcR
  isplitl [HcC]; · iexact HcC
  isplitl [HO]; · iexact HO
  iintro ⟨Hr, Hpo, Hpl, Hpk, Hd, Hq, Hb, HpoV, Hl, Hbuf, HoV, HbV, HpV, Hv, H0, HcR, HcC, HO⟩
  isplitl [Hr Hpo Hpl Hpk Hd Hq Hb]
  · isplitl [Hr]; · iexact Hr
    isplitl [Hpo]; · iexact Hpo
    isplitl [Hpl]; · iexact Hpl
    isplitl [Hpk]; · iexact Hpk
    isplitl [Hd]; · iexact Hd
    isplitl [Hq]; · iexact Hq
    iexact Hb
  isplitl [HpoV Hl Hbuf HoV HbV HpV Hbufs]
  · isplitl [HpoV]; · iexact HpoV
    isplitl [Hl]; · iexact Hl
    isplitl [Hbuf]; · iexact Hbuf
    isplitl [HoV]; · iexact HoV
    isplitl [HbV]; · iexact HbV
    isplitl [HpV]; · iexact HpV
    iexact Hbufs
  isplitl [Hv H0 HcR HcC Hsems]
  · isplitl [Hv]; · iexact Hv
    isplitl [H0]; · iexact H0
    isplitl [HcR]; · iexact HcR
    isplitl [HcC]; · iexact HcC
    iexact Hsems
  unfold Owed; iexact HO

end Tile

/-! ## The handshakes' record, the tiles' obligation, and the dealing out -/

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

/-- All seven arrays held whole are every tile's part at once. -/
theorem tiles_eq (d : Dev nD) (π : Fin 32 → Fin 4 → Fin 4096 ≃ Fin 4096) (qv : S32x4096x128.Idx → Elt F .f32) (oi : S32x4x4096.Idx → Elt F .i32)
    (pl : S32x4x32x128.Idx → Elt F .i32) (pk : S32x4096.Idx → Elt F .i32) (fd : S524288x128.Idx → Elt F .f32) (fq fb : S32x4x4096.Idx → Elt F .i32) :
    (bigSep Finset.univ fun c : Fin 2 => bigSep Finset.univ fun s : Fin 16 => tileHas d π qv oi pl pk fd fq fb (coordsV c s) : sProp 𝕄)
      = iprop((rowsLoc d ↦{fullShare} qv) ∗ (posLoc d ↦{fullShare} oi) ∗ (placeLoc d ↦{fullShare} pl) ∗ (packLoc d ↦{fullShare} pk)
        ∗ (destLoc d ↦{fullShare} fd) ∗ (origLoc d ↦{fullShare} fq) ∗ bktLoc d ↦{fullShare} fb) := by
  let Φ : Fin 32 → sProp 𝕄 := fun b => iprop((rowsLoc d ↦{pieceOf fullShare 32 (by decide) b} qv) ∗ (posLoc d ↦{pieceOf fullShare 32 (by decide) b} oi)
    ∗ (placeLoc d ↦{pieceOf fullShare 32 (by decide) b} pl) ∗ (packLoc d ↦{pieceOf fullShare 32 (by decide) b} pk)
    ∗ (bigSep Finset.univ fun c : Fin 8 => bigSep Finset.univ fun r : Fin 4 => bigSep Finset.univ fun j : Fin 4 => destLoc d ↦[pieceSet π b r c j]{fullShare} fd)
    ∗ (bigSep Finset.univ fun r : Fin 4 => origLoc d ↦[roundSet b r]{fullShare} fq)
    ∗ bigSep Finset.univ fun r : Fin 4 => bktLoc d ↦[roundSet b r]{fullShare} fb)
  have e1 : (bigSep Finset.univ fun c : Fin 2 => bigSep Finset.univ fun s : Fin 16 => tileHas d π qv oi pl pk fd fq fb (coordsV c s) : sProp 𝕄)
      = bigSep Finset.univ Φ := by
    rw [bigSep_univ_comm, bigSep_univ_equiv (finProdFinEquiv (m := 16) (n := 2)), bigSep_univ_prod]
    refine bigSep_congr fun s _ => bigSep_congr fun c _ => ?_
    have hb : tileNo (coordsV c s) = finProdFinEquiv (m := 16) (n := 2) (s, c) := Fin.ext (by
      show batch (coordsV c s) = c.val + 2 * s.val
      rw [batch_eq]; exact Nat.add_comm _ _)
    show Φ (tileNo (coordsV c s)) = _
    rw [hb]
  have eD : (bigSep Finset.univ fun b : Fin 32 => bigSep Finset.univ fun c : Fin 8 => bigSep Finset.univ fun r : Fin 4 => bigSep Finset.univ fun j : Fin 4 =>
      destLoc d ↦[pieceSet π b r c j]{fullShare} fd : sProp 𝕄) = (destLoc d ↦{fullShare} fd) := by
    have e : (_ : sProp 𝕄) = _ := (pointsTo_biUnion (q := fullShare) (f := fd) Finset.univ (ℓ := destLoc d)
      (fun p : Fin 32 × Fin 8 × Fin 4 × Fin 4 => pieceSet π p.1 p.2.2.1 p.2.1 p.2.2.2) (pieceSet_disjoint π)).symm
    rw [pieceSet_cover] at e
    rw [← e, bigSep_univ_prod]
    refine bigSep_congr fun b _ => ?_
    rw [bigSep_univ_prod]
    refine bigSep_congr fun c _ => ?_
    rw [bigSep_univ_prod]
  rw [e1]
  simp only [Φ]
  rw [bigSep_sep', bigSep_sep', bigSep_sep', bigSep_sep', bigSep_sep', bigSep_sep', ← pointsTo_piecesOf, ← pointsTo_piecesOf, ← pointsTo_piecesOf, ← pointsTo_piecesOf, eD,
    ← bigSep_univ_prod (fun p : Fin 32 × Fin 4 => (origLoc d ↦[roundSet p.1 p.2]{fullShare} fq : sProp 𝕄)),
    ← bigSep_univ_prod (fun p : Fin 32 × Fin 4 => (bktLoc d ↦[roundSet p.1 p.2]{fullShare} fb : sProp 𝕄)),
    ← pointsTo_biUnion Finset.univ (ℓ := origLoc d) (fun p : Fin 32 × Fin 4 => roundSet p.1 p.2) roundSet_disjoint,
    ← pointsTo_biUnion Finset.univ (ℓ := bktLoc d) (fun p : Fin 32 × Fin 4 => roundSet p.1 p.2) roundSet_disjoint, roundSet_cover]

section Launch

variable (π : Dev nD → Fin 32 → Fin 4 → Fin 4096 ≃ Fin 4096) (qv : Dev nD → S32x4096x128.Idx → Elt F .f32) (oi : Dev nD → S32x4x4096.Idx → Elt F .i32)
variable (pl : Dev nD → S32x4x32x128.Idx → Elt F .i32) (pk : Dev nD → S32x4096.Idx → Elt F .i32)
variable (fd : Dev nD → S524288x128.Idx → Elt F .f32) (fq fb : Dev nD → S32x4x4096.Idx → Elt F .i32)

/-- What a tile starts with, and ends with. -/
def before (d : Dev nD) (i : grid0.Coords) : sProp 𝕄 := tileHas d (π d) (qv d) (oi d) (pl d) (pk d) (fd d) (fq d) (fb d) i
def after (d : Dev nD) (i : grid0.Coords) : sProp 𝕄 :=
  tileHas d (π d) (qv d) (oi d) (pl d) (pk d) (destOf (π d) (qv d)) (origOf (F := F) (π d)) (bktOf (π d) (pk d)) i

/-- The call hands each SparseCore what its tiles need, and each tile its own; back come the outputs filled. -/
def P : (K (F := F)).Pay (nD := nD) (Val := Elt F) (Name := ℕ) (U := UU) where
  st := fun q d c => match q with
    | 0 => bigSep Finset.univ fun s : Fin 16 => before π qv oi pl pk fd fq fb d (coordsV (Fin.cast nCore_zero c) s)
  dn := fun q d c => match q with
    | 0 => bigSep Finset.univ fun s : Fin 16 => after π qv oi pl pk d (coordsV (Fin.cast nCore_zero c) s)
  go := fun q d c s => match q with
    | 0 => before π qv oi pl pk fd fq fb d (coordsV (Fin.cast nCore_zero c) (Fin.cast nSub_zero s))
  td := fun q d c s => match q with
    | 0 => after π qv oi pl pk d (coordsV (Fin.cast nCore_zero c) (Fin.cast nSub_zero s))
  x := fun _ _ => iprop(emp)

theorem before_storable (d : Dev nD) (c : Fin 2) :
    BI.Storable (upEmb : UEmb _ 𝕄) (bigSep Finset.univ fun s : Fin 16 => before π qv oi pl pk fd fq fb d (coordsV c s)) := by
  have (s : Fin 16) : BI.Storable (upEmb : UEmb _ 𝕄) (before π qv oi pl pk fd fq fb d (coordsV c s)) := by unfold before; infer_instance
  exact BI.Storable.bigSep _ _ _
theorem after_storable (d : Dev nD) (c : Fin 2) :
    BI.Storable (upEmb : UEmb _ 𝕄) (bigSep Finset.univ fun s : Fin 16 => after π qv oi pl pk d (coordsV c s)) := by
  have (s : Fin 16) : BI.Storable (upEmb : UEmb _ 𝕄) (after π qv oi pl pk d (coordsV c s)) := by unfold after; infer_instance
  exact BI.Storable.bigSep _ _ _
instance before_storable_tile (d : Dev nD) (i : grid0.Coords) : BI.Storable (upEmb : UEmb _ 𝕄) (before π qv oi pl pk fd fq fb d i) := by unfold before; infer_instance
instance after_storable_tile (d : Dev nD) (i : grid0.Coords) : BI.Storable (upEmb : UEmb _ 𝕄) (after π qv oi pl pk d i) := by unfold after; infer_instance

theorem st_is (d : Dev nD) (c : Fin ((K (F := F)).nCore 0)) : (P π qv oi pl pk fd fq fb).st 0 d c
    = bigSep Finset.univ fun s : Fin 16 => before π qv oi pl pk fd fq fb d (coordsV (Fin.cast nCore_zero c) s) := by unfold P; rfl
theorem dn_is (d : Dev nD) (c : Fin ((K (F := F)).nCore 0)) : (P π qv oi pl pk fd fq fb).dn 0 d c
    = bigSep Finset.univ fun s : Fin 16 => after π qv oi pl pk d (coordsV (Fin.cast nCore_zero c) s) := by unfold P; rfl
theorem go_is (d : Dev nD) (c : Fin ((K (F := F)).nCore 0)) (s : Fin ((K (F := F)).nSub 0)) : (P π qv oi pl pk fd fq fb).go 0 d c s
    = before π qv oi pl pk fd fq fb d (coordsV (Fin.cast nCore_zero c) (Fin.cast nSub_zero s)) := by unfold P; rfl
theorem td_is (d : Dev nD) (c : Fin ((K (F := F)).nCore 0)) (s : Fin ((K (F := F)).nSub 0)) : (P π qv oi pl pk fd fq fb).td 0 d c s
    = after π qv oi pl pk d (coordsV (Fin.cast nCore_zero c) (Fin.cast nSub_zero s)) := by unfold P; rfl

instance P_storable : (P π qv oi pl pk fd fq fb).IsStorable where
  st q d c := match q with
    | 0 => by rw [st_is]; exact before_storable π qv oi pl pk fd fq fb d (Fin.cast nCore_zero c)
  dn q d c := match q with
    | 0 => by rw [dn_is]; exact after_storable π qv oi pl pk d (Fin.cast nCore_zero c)
  go q d c s := match q with
    | 0 => by rw [go_is]; exact before_storable_tile π qv oi pl pk fd fq fb d (coordsV (Fin.cast nCore_zero c) (Fin.cast nSub_zero s))
  td q d c s := match q with
    | 0 => by rw [td_is]; exact after_storable_tile π qv oi pl pk d (coordsV (Fin.cast nCore_zero c) (Fin.cast nSub_zero s))

theorem vecSplit : (K (F := F)).VecSplit' (P π qv oi pl pk fd fq fb) 0 := by
  intro d c
  rw [st_is, dn_is]
  simp only [go_is, td_is]
  iintro H; imodintro
  isplitl [H]; · iexact H
  iintro H; iexact H

theorem st_eq (d : Dev nD) : (bigSep Finset.univ fun c : Fin ((K (F := F)).nCore 0) => (P π qv oi pl pk fd fq fb).st 0 d c)
    = iprop((rowsLoc d ↦{fullShare} qv d) ∗ (posLoc d ↦{fullShare} oi d) ∗ (placeLoc d ↦{fullShare} pl d) ∗ (packLoc d ↦{fullShare} pk d)
        ∗ (destLoc d ↦{fullShare} fd d) ∗ (origLoc d ↦{fullShare} fq d) ∗ bktLoc d ↦{fullShare} fb d) := by
  simp only [st_is]
  unfold before
  exact tiles_eq d (π d) (qv d) (oi d) (pl d) (pk d) (fd d) (fq d) (fb d)
theorem dn_eq (d : Dev nD) : (bigSep Finset.univ fun c : Fin ((K (F := F)).nCore 0) => (P π qv oi pl pk fd fq fb).dn 0 d c)
    = iprop((rowsLoc d ↦{fullShare} qv d) ∗ (posLoc d ↦{fullShare} oi d) ∗ (placeLoc d ↦{fullShare} pl d) ∗ (packLoc d ↦{fullShare} pk d)
        ∗ (destLoc d ↦{fullShare} destOf (π d) (qv d)) ∗ (origLoc d ↦{fullShare} origOf (F := F) (π d)) ∗ bktLoc d ↦{fullShare} bktOf (π d) (pk d)) := by
  simp only [dn_is]
  unfold after
  exact tiles_eq d (π d) (qv d) (oi d) (pl d) (pk d) (destOf (π d) (qv d)) (origOf (F := F) (π d)) (bktOf (π d) (pk d))

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F] (h : ∀ d, Spells (π d) (oi d) (pl d))

set_option maxRecDepth 16384 in
theorem defs₀_vector (c : Fin τ.nSC) (s : Fin τ.nSub) :
    defs₀ (F := F) (.scVector c s) 0 () = SparseCore.onTile hcore0 hsub0 (fun c s => taskAt (coordsV c s)) ⟨⟩ c s := by
  simp only [taskAt, ← fun i => body_eq_task (F := F) i rowsM posM placeM packM destM origM bktM posV listM bufM origV bktV packV (Memref.isWhole_whole _) (Memref.isWhole_whole _)
    (Memref.isWhole_whole _) (Memref.isWhole_whole _) (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _)]
  rfl

include h in
set_option maxRecDepth 200000 in
theorem tileObl (hF : (K (F := F)).Facts) : (K (F := F)).TileObl (D (F := F)) 𝒱 (P π qv oi pl pk fd fq fb) v₀ 0 := by
  intro d c i O W hO _ _
  simp only [show (P π qv oi pl pk fd fq fb).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte, go_is, td_is]
  unfold before after
  exact (tile_body d (coordsV ⟨_, hci.1⟩ ⟨_, hci.2⟩) hF (π d) (qv d) (oi d) (pl d) (pk d) (h d) (fd d) (fq d) (fb d) O W hO).trans (wp_mono frame _ _ fun _ => obl_post)

end Launch

end Cert.ReorderIdeal.Place

end
-- ==== Proof.ReorderRun.lean ====
/-
  The reordering program's run: @main on the TensorCore (three reshapes and a concatenation, the SparseCore call, a
  reshape), the launch of all threads, and what memory holds at the end: the arguments unchanged, the three results the
  rows, positions and buckets in the order the placement says, every semaphore counter at zero.
-/
module

public import proofs.«01_k».proof.Proof.ReorderLaunch
public import Idealize.ShloMosaic.Lib.SparseCore.Quiescent
public import Idealize.ShloMosaic.Lib.StableHlo.Run

@[expose] public section

noncomputable section

namespace Cert.ReorderIdeal.Run

open Cert.ReorderIdeal Cert.ReorderIdeal.Gen Cert.ReorderIdeal.Place
open Idealize.ShloMosaic Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Queries and values side by side; the positions by batch and round; the places in lists of 128; the packed buckets. -/
abbrev rowsOf (q v : S32x4096x64.Idx → Elt F .f32) : S32x4096x128.Idx → Elt F .f32 :=
  concatenate S32x4096x128 2 [⟨S32x4096x64, q⟩, ⟨S32x4096x64, v⟩] concatenates_S32x4096x64_S32x4096x64_S32x4096x128_d2
abbrev posOf (o : S32x4x4096x1.Idx → Elt F .i32) : S32x4x4096.Idx → Elt F .i32 := shapeCast S32x4x4096 o shapeCasts_S32x4x4096x1_S32x4x4096
abbrev placeOf (o : S32x4x4096x1.Idx → Elt F .i32) : S32x4x32x128.Idx → Elt F .i32 := shapeCast S32x4x32x128 o shapeCasts_S32x4x4096x1_S32x4x32x128
abbrev packOf (s : S32x4096x1.Idx → Elt F .i32) : S32x4096.Idx → Elt F .i32 := shapeCast S32x4096 s shapeCasts_S32x4096x1_S32x4096

variable (m : (ℓ : Loc nD τ sig) → Buf (Elt F) ℓ) (ρ : Dev nD → PrngReg)

abbrev arg0 (d : Dev nD) : S32x4096x64.Idx → Elt F .f32 := m ((SparseCore.T d).loc main_arg0)
abbrev arg1 (d : Dev nD) : S32x4096x64.Idx → Elt F .f32 := m ((SparseCore.T d).loc main_arg1)
abbrev arg2 (d : Dev nD) : S32x4x4096x1.Idx → Elt F .i32 := m ((SparseCore.T d).loc main_arg2)
abbrev arg3 (d : Dev nD) : S32x4x4096x1.Idx → Elt F .i32 := m ((SparseCore.T d).loc main_arg3)
abbrev arg4 (d : Dev nD) : S32x4096x1.Idx → Elt F .i32 := m ((SparseCore.T d).loc main_arg4)
abbrev qv (d : Dev nD) : S32x4096x128.Idx → Elt F .f32 := rowsOf (arg0 m d) (arg1 m d)
abbrev oi (d : Dev nD) : S32x4x4096.Idx → Elt F .i32 := posOf (F := F) (arg2 m d)
abbrev pl (d : Dev nD) : S32x4x32x128.Idx → Elt F .i32 := placeOf (F := F) (arg3 m d)
abbrev pk (d : Dev nD) : S32x4096.Idx → Elt F .i32 := packOf (F := F) (arg4 m d)
abbrev fd (d : Dev nD) : S524288x128.Idx → Elt F .f32 := m (destLoc d)
abbrev fo (d : Dev nD) : S32x4x4096.Idx → Elt F .i32 := m (origLoc d)
abbrev fb (d : Dev nD) : S32x4x4096.Idx → Elt F .i32 := m (bktLoc d)

variable (π : Dev nD → Fin 32 → Fin 4 → Fin 4096 ≃ Fin 4096)

/-- The reordered rows, as the program returns them. -/
abbrev rowsOut (d : Dev nD) : S32x4x4096x128.Idx → Elt F .f32 :=
  shapeCast S32x4x4096x128 (destOf (π d) (qv m d)) shapeCasts_S524288x128_S32x4x4096x128
abbrev origOut (d : Dev nD) : S32x4x4096.Idx → Elt F .i32 := origOf (F := F) (π d)
abbrev bktOut (d : Dev nD) : S32x4x4096.Idx → Elt F .i32 := bktOf (π d) (pk m d)

variable (hm : ∀ d, Spells (π d) (oi m d) (pl m d))

/-! ## The launch element -/

abbrev PP := P π (qv m) (oi m) (pl m) (pk m) (fd m) (fo m) (fb m)

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m π).x q thr) := by
  unfold u₀
  iintro Hu
  ihave H := (ownU_pair _ _) $$ Hu
  icases H with ⟨HH, -⟩
  imodintro
  isplitl [HH]; · iexact HH
  rw [show (bigSep Finset.univ fun thr : Thread nD τ => bigSep Finset.univ fun q : Fin 1 => (PP (F := F) m π).x q thr) = bigSep Finset.univ fun _ => iprop(emp) from
    bigSep_congr fun _ _ => bigSep_univ_of_subsingleton (0 : Fin 1)]
  rw [show (bigSep Finset.univ fun _ : Thread nD τ => iprop(emp)) = (iprop(emp) : sProp 𝕄) from bigSep_emp_const _,
    show (bigSep Finset.univ fun _ : Dev nD => iprop(emp)) = (iprop(emp) : sProp 𝕄) from bigSep_emp_const _]
  isplitl <;> iempintro

/-! ## @main on the TensorCore -/

theorem unscopedBufs_eq (d : Dev nD) (W : (b : Ref sig .tc) → Buf (Elt F) ((d : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_arg4 ↦{fullShare} W main_arg4) ∗ (posLoc d ↦{fullShare} W main_v0) ∗ (packLoc d ↦{fullShare} W main_v1)
      ∗ (rowsLoc d ↦{fullShare} W main_v2) ∗ (placeLoc d ↦{fullShare} W main_v3) ∗ (destLoc d ↦{fullShare} W main_v4_0)
      ∗ (origLoc d ↦{fullShare} W main_v4_1) ∗ (bktLoc d ↦{fullShare} W main_v4_2) ∗ (SparseCore.T d).loc main_v5 ↦{fullShare} W main_v5) := by
  unfold unscopedBufs
  rw [show (Finset.univ.filter fun b : Ref sig .tc => ¬ b.isScoped)
      = {main_arg0, main_arg1, main_arg2, main_arg3, main_arg4, main_v0, main_v1, main_v2, main_v3, main_v4_0, main_v4_1, main_v4_2, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The TensorCore's buffers that last the whole run. -/
def ucRefs : Finset (DevRef τ sig) := (StableHlo.tcRefs τ sig).filter fun b => ¬ b.isScoped

theorem unscopedBufs_held (d : Dev nD) (W : Valuation τ sig (Elt F)) :
    (unscopedBufs d (fun b => W (Proc.devRef .tc b)) : sProp 𝕄) = StableHlo.held (SparseCore.T d) ucRefs W := by
  unfold unscopedBufs StableHlo.held ucRefs StableHlo.tcRefs
  rw [Finset.filter_map, bigSep_map]
  rfl

/-- The host operations of @main. -/
abbrev op0 : HloOp τ sig (Elt F) := StableHlo.reshape main_arg2 main_v0 (rfl : (.i32 : EltTy) = .i32) shapeCasts_S32x4x4096x1_S32x4x4096
abbrev op1 : HloOp τ sig (Elt F) := StableHlo.reshape main_arg4 main_v1 (rfl : (.i32 : EltTy) = .i32) shapeCasts_S32x4096x1_S32x4096
abbrev op2 : HloOp τ sig (Elt F) := StableHlo.binary main_arg0 main_arg1 main_v2
  ((fun a b => concatenate S32x4096x128 2 [⟨S32x4096x64, a⟩, ⟨S32x4096x64, b⟩] concatenates_S32x4096x64_S32x4096x64_S32x4096x128_d2) :
    (⟨S32x4096x64, .f32⟩ : BufTy).Contents (Elt F) → (⟨S32x4096x64, .f32⟩ : BufTy).Contents (Elt F) → (⟨S32x4096x128, .f32⟩ : BufTy).Contents (Elt F))
abbrev op3 : HloOp τ sig (Elt F) := StableHlo.reshape main_arg3 main_v3 (rfl : (.i32 : EltTy) = .i32) shapeCasts_S32x4x4096x1_S32x4x32x128
abbrev op4 : HloOp τ sig (Elt F) := StableHlo.reshape main_v4_0 main_v5 (rfl : (.f32 : EltTy) = .f32) shapeCasts_S524288x128_S32x4x4096x128

/-- Memory of device `d` at launch, and after each host operation before the call. -/
abbrev W0 (d : Dev nD) : Valuation τ sig (Elt F) := fun b => m (d, b)
abbrev W1 (d : Dev nD) : Valuation τ sig (Elt F) := op0.result (W0 m d)
abbrev W2 (d : Dev nD) : Valuation τ sig (Elt F) := op1.result (W1 m d)
abbrev W3 (d : Dev nD) : Valuation τ sig (Elt F) := op2.result (W2 m d)
abbrev W4 (d : Dev nD) : Valuation τ sig (Elt F) := op3.result (W3 m d)

theorem W1_ne (d : Dev nD) (r : Ref sig .tc) (h0 : r ≠ main_v0) : W1 m d (Proc.devRef .tc r) = m ((SparseCore.T d).loc r) := by
  unfold W1; rw [StableHlo.reshape_result_ne (h := h0)]
theorem W2_ne (d : Dev nD) (r : Ref sig .tc) (h0 : r ≠ main_v0) (h1 : r ≠ main_v1) : W2 m d (Proc.devRef .tc r) = m ((SparseCore.T d).loc r) := by
  unfold W2; rw [StableHlo.reshape_result_ne (h := h1)]; exact W1_ne m d r h0
theorem W3_ne (d : Dev nD) (r : Ref sig .tc) (h0 : r ≠ main_v0) (h1 : r ≠ main_v1) (h2 : r ≠ main_v2) : W3 m d (Proc.devRef .tc r) = m ((SparseCore.T d).loc r) := by
  unfold W3; rw [StableHlo.binary_result_ne (h := h2)]; exact W2_ne m d r h0 h1
theorem W4_ne (d : Dev nD) (r : Ref sig .tc) (h0 : r ≠ main_v0) (h1 : r ≠ main_v1) (h2 : r ≠ main_v2) (h3 : r ≠ main_v3) :
    W4 m d (Proc.devRef .tc r) = m ((SparseCore.T d).loc r) := by
  unfold W4; rw [StableHlo.reshape_result_ne (h := h3)]; exact W3_ne m d r h0 h1 h2

theorem W4_v0 (d : Dev nD) : W4 m d (Proc.devRef .tc main_v0) = oi m d := by
  unfold W4 W3 W2 W1
  rw [StableHlo.reshape_result_ne (h := (by decide : main_v0 ≠ main_v3)), StableHlo.binary_result_ne (h := (by decide : main_v0 ≠ main_v2)),
    StableHlo.reshape_result_ne (h := (by decide : main_v0 ≠ main_v1))]
  exact StableHlo.reshape_result _ _ _ _ _ _ _
theorem W4_v1 (d : Dev nD) : W4 m d (Proc.devRef .tc main_v1) = pk m d := by
  unfold W4 W3 W2
  rw [StableHlo.reshape_result_ne (h := (by decide : main_v1 ≠ main_v3)), StableHlo.binary_result_ne (h := (by decide : main_v1 ≠ main_v2))]
  refine (StableHlo.reshape_result _ _ _ _ _ _ _).trans ?_
  rw [W1_ne m d main_arg4 (by decide)]; rfl
theorem W4_v2 (d : Dev nD) : W4 m d (Proc.devRef .tc main_v2) = qv m d := by
  unfold W4 W3
  rw [StableHlo.reshape_result_ne (h := (by decide : main_v2 ≠ main_v3))]
  refine (StableHlo.binary_result _ _ _ _ _ _ _ _).trans ?_
  rw [W2_ne m d main_arg0 (by decide) (by decide), W2_ne m d main_arg1 (by decide) (by decide)]
theorem W4_v3 (d : Dev nD) : W4 m d (Proc.devRef .tc main_v3) = pl m d := by
  unfold W4
  refine (StableHlo.reshape_result _ _ _ _ _ _ _).trans ?_
  rw [W3_ne m d main_arg3 (by decide) (by decide) (by decide)]; rfl

theorem W4_eq (d : Dev nD) : (unscopedBufs d (fun b => W4 m d (Proc.devRef .tc b)) : sProp 𝕄)
    = iprop(((SparseCore.T d).loc main_arg0 ↦{fullShare} arg0 m d) ∗ ((SparseCore.T d).loc main_arg1 ↦{fullShare} arg1 m d)
      ∗ ((SparseCore.T d).loc main_arg2 ↦{fullShare} arg2 m d) ∗ ((SparseCore.T d).loc main_arg3 ↦{fullShare} arg3 m d)
      ∗ ((SparseCore.T d).loc main_arg4 ↦{fullShare} arg4 m d) ∗ (posLoc d ↦{fullShare} oi m d) ∗ (packLoc d ↦{fullShare} pk m d)
      ∗ (rowsLoc d ↦{fullShare} qv m d) ∗ (placeLoc d ↦{fullShare} pl m d) ∗ (destLoc d ↦{fullShare} fd m d)
      ∗ (origLoc d ↦{fullShare} fo m d) ∗ (bktLoc d ↦{fullShare} fb m d) ∗ (SparseCore.T d).loc main_v5 ↦{fullShare} m ((SparseCore.T d).loc main_v5)) := by
  rw [unscopedBufs_eq, W4_v0, W4_v1, W4_v2, W4_v3, W4_ne m d main_arg0 (by decide) (by decide) (by decide) (by decide),
    W4_ne m d main_arg1 (by decide) (by decide) (by decide) (by decide), W4_ne m d main_arg2 (by decide) (by decide) (by decide) (by decide),
    W4_ne m d main_arg3 (by decide) (by decide) (by decide) (by decide), W4_ne m d main_arg4 (by decide) (by decide) (by decide) (by decide),
    W4_ne m d main_v4_0 (by decide) (by decide) (by decide) (by decide), W4_ne m d main_v4_1 (by decide) (by decide) (by decide) (by decide),
    W4_ne m d main_v4_2 (by decide) (by decide) (by decide) (by decide), W4_ne m d main_v5 (by decide) (by decide) (by decide) (by decide)]

/-- The two buffers of the last reshape, and what they hold before it. -/
def lastRefs : Finset (DevRef τ sig) := {Proc.devRef .tc main_v4_0, Proc.devRef .tc main_v5}
def W5 (d : Dev nD) (f : S524288x128.Idx → Elt F .f32) : Valuation τ sig (Elt F) := Function.update (W0 m d) (Proc.devRef .tc main_v4_0) f

theorem held_last (d : Dev nD) (W : Valuation τ sig (Elt F)) : (StableHlo.held (SparseCore.T d) lastRefs W : sProp 𝕄)
    = iprop((destLoc d ↦{fullShare} W (Proc.devRef .tc main_v4_0)) ∗ (SparseCore.T d).loc main_v5 ↦{fullShare} W (Proc.devRef .tc main_v5)) := by
  unfold StableHlo.held lastRefs
  rw [SparseCore.bigSep_insert' (by decide), bigSep_singleton]

theorem W5_dest (d : Dev nD) (f : S524288x128.Idx → Elt F .f32) : W5 m d f (Proc.devRef .tc main_v4_0) = f := Function.update_self _ _ _
theorem W5_out (d : Dev nD) (f : S524288x128.Idx → Elt F .f32) : W5 m d f (Proc.devRef .tc main_v5) = m ((SparseCore.T d).loc main_v5) :=
  Function.update_of_ne (by decide) _ _
theorem W6_out (d : Dev nD) (f : S524288x128.Idx → Elt F .f32) : op4.result (W5 m d f) (Proc.devRef .tc main_v5)
    = shapeCast S32x4x4096x128 f shapeCasts_S524288x128_S32x4x4096x128 := by
  refine (StableHlo.reshape_result _ _ _ _ _ _ _).trans ?_
  rw [W5_dest]; rfl

/-- What @main ends with. -/
abbrev FIN (d : Dev nD) : sProp 𝕄 :=
  iprop(((SparseCore.T d).loc main_arg0 ↦{fullShare} arg0 m d) ∗ ((SparseCore.T d).loc main_arg1 ↦{fullShare} arg1 m d)
    ∗ ((SparseCore.T d).loc main_arg2 ↦{fullShare} arg2 m d) ∗ ((SparseCore.T d).loc main_arg3 ↦{fullShare} arg3 m d)
    ∗ ((SparseCore.T d).loc main_arg4 ↦{fullShare} arg4 m d) ∗ ((SparseCore.T d).loc main_v5 ↦{fullShare} rowsOut m π d)
    ∗ (origLoc d ↦{fullShare} origOut (F := F) π d) ∗ bktLoc d ↦{fullShare} bktOut m π d)

theorem op0_sub : (op0 (F := F)).bufs ⊆ ucRefs := by rw [StableHlo.reshape_bufs]; decide
theorem op1_sub : (op1 (F := F)).bufs ⊆ ucRefs := by rw [StableHlo.reshape_bufs]; decide
theorem op2_sub : (op2 (F := F)).bufs ⊆ ucRefs := by rw [StableHlo.binary_bufs]; decide
theorem op3_sub : (op3 (F := F)).bufs ⊆ ucRefs := by rw [StableHlo.reshape_bufs]; decide
theorem op4_sub : (op4 (F := F)).bufs ⊆ lastRefs := by rw [StableHlo.reshape_bufs]; decide

/-- @main on device `d`'s TensorCore. -/
theorem hmain (κ : GSem nD τ sig → ℕ) (d : Dev nD) :
    iprop((K (F := F)).ctx EH (PP m π) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m π d ∗ (K (F := F)).tcEnd d) := by
  unfold SparseCore.Cfg.tcRes SparseCore.Cfg.tcEnd
  rw [show (unscopedBufs d (fun b => m ((SparseCore.T d).loc b)) : sProp 𝕄) = StableHlo.held (SparseCore.T d) ucRefs (W0 m d) from unscopedBufs_held d (W0 m d)]
  unfold main
  beta_reduce
  rw [wp_bind]
  iintro ⟨#Hctx, Hst, ⟨Hb, Hh, Hts, -⟩, -⟩
  iapply (StableHlo.wp_hlo_within 𝒱 (SparseCore.T d) none Set.univ op0_sub) $$ [Hb Hh]
  · isplitl [Hb] <;> iassumption
  iintro ⟨Hb, Hh⟩
  rw [wp_ret]; imodintro
  beta_reduce; rw [wp_bind]
  iapply (StableHlo.wp_hlo_within 𝒱 (SparseCore.T d) none Set.univ op1_sub) $$ [Hb Hh]
  · isplitl [Hb] <;> iassumption
  iintro ⟨Hb, Hh⟩
  rw [wp_ret]; imodintro
  beta_reduce; rw [wp_bind]
  iapply (StableHlo.wp_hlo_within 𝒱 (SparseCore.T d) none Set.univ op2_sub) $$ [Hb Hh]
  · isplitl [Hb] <;> iassumption
  iintro ⟨Hb, Hh⟩
  rw [wp_ret]; imodintro
  beta_reduce; rw [wp_bind]
  iapply (StableHlo.wp_hlo_within 𝒱 (SparseCore.T d) none Set.univ op3_sub) $$ [Hb Hh]
  · isplitl [Hb] <;> iassumption
  iintro ⟨Hb, Hh⟩
  rw [wp_ret]; imodintro
  ihave Hu := (Entails.of_eq ((unscopedBufs_held d (W4 m d)).symm.trans (W4_eq m d))) $$ Hh
  icases Hu with ⟨Ha0, Ha1, Ha2, Ha3, Ha4, Hpo, Hpk, Hro, Hpl, Hde, Hor, Hbk, Hout⟩
  beta_reduce; rw [wp_bind]
  iapply ((K (F := F)).wp_run (D (F := F)) 𝒱 (EH := EH) (P := PP m π) κ d 0)
  isplitr; · iexact Hctx
  isplitl [Hst]; · iexact Hst
  isplitl [Hpo Hpk Hro Hpl Hde Hor Hbk]
  · rw [st_eq]
    isplitl [Hro]; · iexact Hro
    isplitl [Hpo]; · iexact Hpo
    isplitl [Hpl]; · iexact Hpl
    isplitl [Hpk]; · iexact Hpk
    isplitl [Hde]; · iexact Hde
    isplitl [Hor]; · iexact Hor
    iexact Hbk
  iintro ⟨Hst, Hdn⟩
  ihave Hdn' := (Entails.of_eq (dn_eq π (qv m) (oi m) (pl m) (pk m) (fd m) (fo m) (fb m) d)) $$ Hdn
  icases Hdn' with ⟨-, -, -, -, Hde, Hor, Hbk⟩
  beta_reduce; rw [wp_bind]
  have e5 : (StableHlo.held (SparseCore.T d) lastRefs (W5 m d (destOf (π d) (qv m d))) : sProp 𝕄)
      = iprop((destLoc d ↦{fullShare} destOf (π d) (qv m d)) ∗ (SparseCore.T d).loc main_v5 ↦{fullShare} m ((SparseCore.T d).loc main_v5)) := by
    rw [held_last, W5_dest, W5_out]
  ihave Hh := (Entails.of_eq e5.symm) $$ [Hde Hout]
  · isplitl [Hde]; · iexact Hde
    iexact Hout
  iapply (StableHlo.wp_hlo_within 𝒱 (SparseCore.T d) none Set.univ op4_sub) $$ [Hb Hh]
  · isplitl [Hb] <;> iassumption
  iintro ⟨Hb, Hh⟩
  rw [wp_ret]; imodintro
  ihave Hh' := (Entails.of_eq (held_last d (op4.result (W5 m d (destOf (π d) (qv m d)))))) $$ Hh
  icases Hh' with ⟨-, Hout⟩
  ihave Hout := (Entails.of_eq (congrArg (fun f => ((SparseCore.T d).loc main_v5 ↦{fullShare} f : sProp 𝕄)) (W6_out m d (destOf (π d) (qv m d))))) $$ Hout
  rw [wp_pure]; imodintro
  isplitl [Hst]; · iexact Hst
  isplitr [Hb Hts]
  · isplitl [Ha0]; · iexact Ha0
    isplitl [Ha1]; · iexact Ha1
    isplitl [Ha2]; · iexact Ha2
    isplitl [Ha3]; · iexact Ha3
    isplitl [Ha4]; · iexact Ha4
    isplitl [Hout]; · iexact Hout
    isplitl [Hor]; · iexact Hor
    iexact Hbk
  isplitl [Hb] <;> iassumption

/-! ## The end of the run -/

def fq (d : Dev nD) (s' : Phys nD τ sig (Elt F)) : Prop :=
  (s'.mem.mem ((SparseCore.T d).loc main_arg0) = arg0 m d ∧ s'.mem.mem ((SparseCore.T d).loc main_arg1) = arg1 m d
    ∧ s'.mem.mem ((SparseCore.T d).loc main_arg2) = arg2 m d ∧ s'.mem.mem ((SparseCore.T d).loc main_arg3) = arg3 m d
    ∧ s'.mem.mem ((SparseCore.T d).loc main_arg4) = arg4 m d)
  ∧ s'.mem.mem ((SparseCore.T d).loc main_v5) = rowsOut m π d ∧ s'.mem.mem ((SparseCore.T d).loc main_v4_1) = origOut (F := F) π d
    ∧ s'.mem.mem ((SparseCore.T d).loc main_v4_2) = bktOut m π d

/-- A buffer held whole is what memory holds there. -/
theorem held_read {ℓ : Loc nD τ sig} {f : Buf (Elt F) ℓ} (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m π d ∗ SI s') ⊢ (⌜fq m π d s'⌝ : sProp 𝕄) := by
  iintro ⟨⟨H0, H1, H2, H3, H4, H5, H6, H7⟩, HSI⟩
  ihave H := (held_read s') $$ [HSI H0]
  · isplitl [HSI] <;> iassumption
  icases H with ⟨%h0, HSI⟩
  ihave H := (held_read s') $$ [HSI H1]
  · isplitl [HSI] <;> iassumption
  icases H with ⟨%h1, HSI⟩
  ihave H := (held_read s') $$ [HSI H2]
  · isplitl [HSI] <;> iassumption
  icases H with ⟨%h2, HSI⟩
  ihave H := (held_read s') $$ [HSI H3]
  · isplitl [HSI] <;> iassumption
  icases H with ⟨%h3, HSI⟩
  ihave H := (held_read s') $$ [HSI H4]
  · isplitl [HSI] <;> iassumption
  icases H with ⟨%h4, HSI⟩
  ihave H := (held_read s') $$ [HSI H5]
  · isplitl [HSI] <;> iassumption
  icases H with ⟨%h5, HSI⟩
  ihave H := (held_read s') $$ [HSI H6]
  · isplitl [HSI] <;> iassumption
  icases H with ⟨%h6, HSI⟩
  ihave H := (held_read s') $$ [HSI H7]
  · isplitl [HSI] <;> iassumption
  icases H with ⟨%h7, HSI⟩
  ipureintro; exact ⟨⟨h0, h1, h2, h3, h4⟩, h5, h6, h7⟩

include hm in
/-- The run: from any launch memory whose integer arguments spell the placements `π`, every fair execution ends without
    fault, the arguments as they were, the results the rows, positions and buckets in the order of `π`, every semaphore
    counter zero. -/
theorem run_main :
    θ_run (Cert.ReorderIdeal.defs (F := F)) (Cert.ReorderIdeal.threads (F := F)) ⟨m, fun _ => 0, ρ⟩
      fun r => (∀ d : Dev nD,
        (r.2.mem ((SparseCore.T d).loc main_arg0) = arg0 m d ∧ r.2.mem ((SparseCore.T d).loc main_arg1) = arg1 m d
          ∧ r.2.mem ((SparseCore.T d).loc main_arg2) = arg2 m d ∧ r.2.mem ((SparseCore.T d).loc main_arg3) = arg3 m d
          ∧ r.2.mem ((SparseCore.T d).loc main_arg4) = arg4 m d)
        ∧ r.2.mem ((SparseCore.T d).loc main_v5) = rowsOut m π d ∧ r.2.mem ((SparseCore.T d).loc main_v4_1) = origOut (F := F) π d
          ∧ r.2.mem ((SparseCore.T d).loc main_v4_2) = bktOut m π d) ∧ r.2.sem = fun _ => 0 :=
  SparseCore.Cfg.θ_run_sc_quiescent (K := K (F := F)) (D := D (F := F)) (𝒱 := 𝒱) (EH := EH) (P := PP m π) (A := ∅) facts v₀
    (fun q hq => match q with | 0 => nomatch hq)
    (fun q _ => match q with | 0 => tileObl π (qv m) (oi m) (pl m) (pk m) (fd m) (fo m) (fb m) hm facts)
    (fun q _ => match q with | 0 => SparseCore.Cfg.VecSplit.of_plain (vecSplit π (qv m) (oi m) (pl m) (pk m) (fd m) (fo m) (fb m)))
    m ρ main (fun _ => iprop(emp)) (FIN m π) (u₀ (F := F)) (sep_elim_left.trans (hu₀ m π)) (hmain m ρ π) (fq m π) (hfin m π) _ (fun _ h hz => ⟨h, hz⟩)

end Cert.ReorderIdeal.Run

end
-- ==== Proof.ReorderSpells.lean ====
/-
  The precondition on the places gives, for every device, the placements which its integer arguments spell.
-/
module

public import proofs.«01_k».proof.Proof.ReorderRun
public import proofs.«01_k».proof.Proof.ReorderPlaces

@[expose] public section

noncomputable section

namespace Cert.ReorderIdeal.Run

open Cert.ReorderIdeal Cert.ReorderIdeal.Gen Cert.ReorderIdeal.Place
open Idealize.ShloMosaic

variable {F : FTy → Type} [FloatOps F]

/-- The places in lists of 128 are the places along the sequence. -/
theorem placeOf_apply (g : IVec S32x4x4096x1 32) (b : Fin 32) (r : Fin 4) (a : Fin 32) (l : Fin 128) :
    placeOf (F := F) g (ix4 b r a l) = posOf (F := F) g (ix3 b r ⟨128 * a.val + l.val, by omega⟩) := by
  pointwise [placeOf, posOf]
  exact congrArg (fun p => g (ix4 b r p 0)) (Fin.ext (by show a.val * 128 + l.val = 128 * a.val + l.val; omega))

theorem spells_of_pre (q v : FVec F S32x4096x64 .f32) (o g : IVec S32x4x4096x1 32) (s : IVec S32x4096x1 32)
    (h : Cert.Pre_places.fn q v o g s = fun _ => 1#1) :
    ∃ π : Fin 32 → Fin 4 → Fin 4096 ≃ Fin 4096, Spells π (posOf (F := F) o) (placeOf (F := F) g) := by
  obtain ⟨π, h1, h2⟩ := Cert.Pre_places.of_fn q v o g s h
  refine ⟨π, h1, fun b r a l => ?_⟩
  exact (congrArg BitVec.toNat (placeOf_apply (F := F) g b r a l)).trans (h2 b r _)

variable (m : (ℓ : Loc nD τ sig) → Buf (Elt F) ℓ)

/-- So every device's arguments spell some placements. -/
theorem exists_spells (h : ∀ d, Cert.Pre_places.fn (F := F) (arg0 m d) (arg1 m d) (arg2 m d) (arg3 m d) (arg4 m d) = fun _ => 1#1) :
    ∃ π : Dev nD → Fin 32 → Fin 4 → Fin 4096 ≃ Fin 4096, ∀ d, Spells (π d) (oi m d) (pl m d) := by
  choose π hπ using fun d => spells_of_pre (F := F) _ _ _ _ _ (h d)
  exact ⟨π, hπ⟩

end Cert.ReorderIdeal.Run

end
-- ==== Proof.ReorderEquation.lean ====
/-
  The reordering call's three results are the reference's, over the extended reals, for equal arguments whose integers spell
  some placements: the rows side by side, the positions in hash order, and the packed buckets in this order.
-/
module

public import proofs.«01_k».proof.Proof.ReorderRef
public import proofs.«01_k».proof.Proof.ReorderSpells

@[expose] public section

noncomputable section

namespace Cert.ReorderEquation

open Cert.ReorderIdeal Cert.ReorderIdeal.Gen Cert.ReorderIdeal.Place
open Cert.ReorderIdeal.Run (rowsOf posOf placeOf packOf)
open Cert.ReorderReferenceIdeal.Ref (order wrapped rows rowsAt buckets rowsAt_apply buckets_apply)
open Idealize.ShloMosaic

variable (π : Fin 32 → Fin 4 → Fin 4096 ≃ Fin 4096) (o g : IVec S32x4x4096x1 32)
variable (h : Spells π (posOf (F := Ideal) o) (placeOf (F := Ideal) g))

include h in
/-- The reference's order lists the inverse placements. -/
theorem order_apply (b : Fin 32) (r : Fin 4) (p : Fin 4096) : order o (ix3 b r p) = BitVec.ofNat 32 ((π b r).symm p).val :=
  Cert.Pre_places.argsort_apply (posOf (F := Ideal) o) π h.pos Cert.ReorderReferenceIdeal.comparator_i32_i32_d2 (fun _ _ => rfl) b r p

include h in
/-- The positions in hash order. -/
theorem orig_eq : origOf (F := Ideal) π = order o := by
  funext j
  obtain ⟨b, r, p, rfl⟩ : ∃ b r p, j = ix3 b r p := ⟨_, _, _, eq_ix3 j⟩
  exact (order_apply π o g h b r p).symm

include h in
/-- The packed buckets in hash order. -/
theorem bkt_eq (s : IVec S32x4096x1 32) : bktOf (F := Ideal) π (packOf (F := Ideal) s) = buckets s (order o) := by
  funext j
  obtain ⟨b, r, p, rfl⟩ : ∃ b r p, j = ix3 b r p := ⟨_, _, _, eq_ix3 j⟩
  exact (buckets_apply s (order o) b r p ((π b r).symm p) (order_apply π o g h b r p)).symm

/-- Queries and values side by side, at an index. -/
theorem rowsOf_apply (q v : FVec Ideal S32x4096x64 .f32) (b : Fin 32) (p : Fin 4096) (c : Fin 128) :
    rowsOf (F := Ideal) q v (ix3 b p c) = if hc : c.val < 64 then q (ix3 b p ⟨c.val, hc⟩) else v (ix3 b p ⟨c.val - 64, by omega⟩) := by
  pointwise [rowsOf]

theorem rows_apply (q v : FVec Ideal S32x4096x64 .f32) (j : IVec S32x4x4096 32) (b : Fin 32) (r : Fin 4) (p : Fin 4096) (c : Fin 128) :
    rows q v j (ix4 b r p c) = if hc : c.val < 64 then rowsAt q j (ix4 b r p ⟨c.val, hc⟩) else rowsAt v j (ix4 b r p ⟨c.val - 64, by omega⟩) := by
  pointwise [rows]

/-- The reordered rows by batch, round and place. -/
theorem dest_apply (x : S32x4096x128.Idx → Elt Ideal .f32) (b : Fin 32) (r : Fin 4) (p : Fin 4096) (c : Fin 128) :
    shapeCast S32x4x4096x128 (destOf (F := Ideal) π x) shapeCasts_S524288x128_S32x4x4096x128 (ix4 b r p c) = x (ix3 b ((π b r).symm p) c) := by
  pointwise []
  have hb : rowBatch ⟨b.val * 16384 + r.val * 4096 + p.val, by omega⟩ = b := Fin.ext (by show (b.val * 16384 + r.val * 4096 + p.val) / 16384 = b.val; omega)
  have hr : rowRound ⟨b.val * 16384 + r.val * 4096 + p.val, by omega⟩ = r := Fin.ext (by show (b.val * 16384 + r.val * 4096 + p.val) / 4096 % 4 = r.val; omega)
  have hp : rowPlace ⟨b.val * 16384 + r.val * 4096 + p.val, by omega⟩ = p := Fin.ext (by show (b.val * 16384 + r.val * 4096 + p.val) % 4096 = p.val; omega)
  have key : ∀ n : Fin 524288, rowBatch n = b → rowRound n = r → rowPlace n = p →
      destOf (F := Ideal) π x (ix2 n c) = x (ix3 b ((π b r).symm p) c) := by
    rintro n rfl rfl rfl
    rfl
  exact key _ hb hr hp

include h in
/-- The reordered rows, queries and values side by side. -/
theorem rows_eq (q v : FVec Ideal S32x4096x64 .f32) :
    shapeCast S32x4x4096x128 (destOf (F := Ideal) π (rowsOf (F := Ideal) q v)) shapeCasts_S524288x128_S32x4x4096x128 = rows q v (order o) := by
  funext j
  obtain ⟨b, r, p, c, rfl⟩ : ∃ b r p c, j = ix4 b r p c := ⟨_, _, _, _, eq_ix4 j⟩
  refine (dest_apply π _ b r p c).trans ((rowsOf_apply q v b _ c).trans (Eq.trans ?_ (rows_apply q v (order o) b r p c).symm))
  have hi := order_apply π o g h b r p
  split
  · exact (rowsAt_apply q (order o) b r p _ _ hi).symm
  · exact (rowsAt_apply v (order o) b r p _ _ hi).symm

end Cert.ReorderEquation

end
-- ==== Proof.AttendBlock.lean ====
/-
  One bucket of the attention call as a function of whole vectors: the masked scores of its 64 queries against the 128 keys that
  they look at, how often each key is met over the rounds, and the stored rows: the weighted values, the log of the sum of
  exponentials, and zeros. The eight stores of the body are this function at eight places of the staged blocks.
-/
module

public import proofs.«01_k».proof.Proof.Gen.AttendIdeal.Value

@[expose] public section

noncomputable section

namespace Cert.AttendIdeal.Block

open Cert.AttendIdeal Cert.AttendIdeal.Gen Idealize.ShloMosaic Idealize.SL.Sem

variable {F : FTy → Type} [FloatOps F]

/-- The keys, each divided by its length or by 1e-12. -/
def unit (k : FVec F S128x64 .f32) : FVec F S128x64 .f32 :=
  divf k (broadcastTo S128x64
    (maximumf (sqrt (shapeCast S128x1 (multiReduction .add [1] S128 (mulf k k) 0x00000000#32 reduces_S128x64_S128 (.inl rfl) rfl) shapeCasts_S128_S128x1))
      (broadcast S128x1 (Scalar.ofBits .f32 0x2B8CBCCC#32)))
    broadcasts_S128x1_S128x64)

/-- The scores: an eighth of the products with the unit keys, masked where the buckets differ, where the key comes later, and
    where it is the query itself. -/
def scores (q : FVec F S64x64 .f32) (k : FVec F S128x64 .f32) (qi : IVec S64x1 32) (ki : IVec S1x128 32) (sq : IVec S64x1 32)
    (sk : IVec S1x128 32) : FVec F S64x128 .f32 :=
  select (cmpi .eq (broadcastTo S64x128 qi broadcasts_S64x1_S64x128) (broadcastTo S64x128 ki broadcasts_S1x128_S64x128))
    (broadcast S64x128 (Scalar.ofBits .f32 0xC7C35000#32))
    (select (cmpi .slt (broadcastTo S64x128 qi broadcasts_S64x1_S64x128) (broadcastTo S64x128 ki broadcasts_S1x128_S64x128))
      (broadcast S64x128 (Scalar.ofBits .f32 0xCE6E6B28#32))
      (select (cmpi .ne (broadcastTo S64x128 sq broadcasts_S64x1_S64x128) (broadcastTo S64x128 sk broadcasts_S1x128_S64x128))
        (broadcast S64x128 (Scalar.ofBits .f32 0xCE6E6B28#32))
        (mulf (matmul dot_S64x64_S128x64_S64x128_1_1_0_0_n_n none q (unit k) (constant S64x128 .f32 0x00000000#32))
          (broadcast S64x128 (Scalar.ofBits .f32 0x3E000000#32)))))

/-- One where the byte at bit `h` of a query's word is at most one above that of a key's, in steps of 64; zero elsewhere. -/
def near (sb : IVec S64x1 32) (kb : IVec S1x128 32) (h : BitVec 32) : IVec S64x128 32 :=
  select
    (cmpi .sle
      (andi
        (subi (broadcastTo S64x128 (andi (shrsi sb (broadcast S64x1 h)) (broadcast S64x1 255#32)) broadcasts_S64x1_S64x128)
          (broadcastTo S64x128 (andi (shrsi kb (broadcast S1x128 h)) (broadcast S1x128 255#32)) broadcasts_S1x128_S64x128))
        (broadcast S64x128 63#32))
      (broadcast S64x128 1#32))
    (broadcast S64x128 1#32) (broadcast S64x128 0#32)

/-- How many of the four bytes are near. -/
def counts (sb : IVec S64x1 32) (kb : IVec S1x128 32) : IVec S64x128 32 :=
  addi (addi (addi (addi (broadcast S64x128 0#32) (near sb kb 0#32)) (near sb kb 8#32)) (near sb kb 16#32)) (near sb kb 24#32)

/-- The greatest score of each row. -/
def top (s : FVec F S64x128 .f32) : FVec F S64x1 .f32 :=
  shapeCast S64x1 (multiReduction .maximumf [1] S64 s 0xFF800000#32 reduces_S64x128_S64 (.inl rfl) rfl) shapeCasts_S64_S64x1

/-- The exponentials of the scores less the row's greatest. -/
def exps (s : FVec F S64x128 .f32) : FVec F S64x128 .f32 :=
  exp (subf s (broadcastTo S64x128 (top s) broadcasts_S64x1_S64x128))

/-- The sum of each row's exponentials. -/
def total (s : FVec F S64x128 .f32) : FVec F S64x1 .f32 :=
  shapeCast S64x1 (multiReduction .add [1] S64 (exps s) 0x00000000#32 reduces_S64x128_S64 (.inl rfl) rfl) shapeCasts_S64_S64x1

/-- The weighted values. -/
def mixed (s : FVec F S64x128 .f32) (n : IVec S64x128 32) (v : FVec F S128x64 .f32) : FVec F S64x64 .f32 :=
  matmul dot_S64x128_S128x64_S64x64_1_0_0_1_n_n none
    (divf (exps s) (mulf (broadcastTo S64x128 (total s) broadcasts_S64x1_S64x128) (sitofp .f32 n))) v
    (constant S64x64 .f32 0x00000000#32)

/-- The stored rows of a bucket, from its scores, counts and values. -/
def rows (s : FVec F S64x128 .f32) (n : IVec S64x128 32) (v : FVec F S128x64 .f32) : FVec F S1x1x64x128 .f32 :=
  shapeCast S1x1x64x128
    (concatenate S64x128 1 [⟨S64x64, mixed s n v⟩, ⟨S64x1, addf (top s) (log (total s))⟩,
      ⟨S64x63, broadcast S64x63 (Scalar.ofBits .f32 0x00000000#32)⟩] concatenates_S64x64_S64x1_S64x63_S64x128_d1)
    shapeCasts_S64x128_S1x1x64x128

/-- A bucket's rows from its queries, keys and values, and the words of each. -/
def bucket (q : FVec F S64x64 .f32) (k v : FVec F S128x64 .f32) (qi : IVec S64x1 32) (ki : IVec S1x128 32) (sq : IVec S64x1 32)
    (sk : IVec S1x128 32) (sb : IVec S64x1 32) (kb : IVec S1x128 32) : FVec F S1x1x64x128 .f32 :=
  rows (scores q k qi ki sq sk) (counts sb kb) v

/-- Two blocks of 64 rows, one under the other. -/
def stack (a b : FVec F S64x64 .f32) : FVec F S128x64 .f32 :=
  concatenate S128x64 0 [⟨S64x64, a⟩, ⟨S64x64, b⟩] concatenates_S64x64_S64x64_S128x64_d0

/-- Two rows of 64 words, one after the other. -/
def beside (a b : IVec S1x64 32) : IVec S1x128 32 :=
  concatenate S1x128 1 [⟨S1x64, a⟩, ⟨S1x64, b⟩] concatenates_S1x64_S1x64_S1x128_d1

section
variable (x0 : Vec F S1x1x512x128 .f32) (x1 : Vec F S1x1x64x128 .f32) (x2 : Vec F S1x1x8x1x64 .i32) (x3 : Vec F S1x1x1x1x64 .i32)
  (x4 : Vec F S1x1x512x1 .i32) (x5 : Vec F S1x1x8x1x64 .i32) (x6 : Vec F S1x1x1x1x64 .i32) (x7 : Vec F S1x1x512x1 .i32)
  (x8 : Vec F S1x1x8x1x64 .i32) (x9 : Vec F S1x1x1x1x64 .i32) (x10 : Vec F S1x1x512x1 .i32)

theorem inb64 (t : Fin 8) : S512x64.Slices ![64 * t.val, 0] S64x64 := by
  revert t; decide
theorem inb1 (t : Fin 8) : S512x1.Slices ![64 * t.val, 0] S64x1 := by
  revert t; decide
theorem inbr (t : Fin 8) : S8x64.Slices ![t.val, 0] S1x64 := by
  revert t; decide

/-- The 64 rows of bucket `t` of a block. -/
def part (x : FVec F S512x64 .f32) (t : Fin 8) : FVec F S64x64 .f32 := extractStridedSlice S64x64 ![64 * t.val, 0] x (inb64 t)
/-- The words of the queries of bucket `t`. -/
def col (x : Vec F S1x1x512x1 .i32) (t : Fin 8) : IVec S64x1 32 :=
  extractStridedSlice S64x1 ![64 * t.val, 0] (shapeCast S512x1 (View.ld x r0_4) shapeCasts_S1x1x512x1_S512x1) (inb1 t)
/-- The words of bucket `t` as a row. -/
def line (x : Vec F S1x1x8x1x64 .i32) (t : Fin 8) : IVec S1x64 32 :=
  extractStridedSlice S1x64 ![t.val, 0] (shapeCast S8x64 (View.ld x r0_2) shapeCasts_S1x1x8x1x64_S8x64) (inbr t)
/-- The words of the bucket before the block. -/
def halo (x : Vec F S1x1x1x1x64 .i32) : IVec S1x64 32 := shapeCast S1x64 (View.ld x r0_3) shapeCasts_S1x1x1x1x64_S1x64

/-- What the body stores for the first bucket of a block, whose keys begin in the block before. -/
def first : FVec F S1x1x64x128 .f32 :=
  bucket (part (k0_pay4 (View.ld x0 r0_0)) 0)
    (stack (k0_pay5 (View.ld x1 r0_1)) (part (k0_pay4 (View.ld x0 r0_0)) 0))
    (stack (k0_pay7 (View.ld x1 r0_1)) (part (k0_pay6 (View.ld x0 r0_0)) 0))
    (col x4 0) (beside (halo x3) (line x2 0)) (col x7 0) (beside (halo x6) (line x5 0)) (col x10 0) (beside (halo x9) (line x8 0))

/-- What the body stores for bucket `t` of a block, whose keys begin at bucket `p`. -/
def later (p t : Fin 8) : FVec F S1x1x64x128 .f32 :=
  bucket (part (k0_pay4 (View.ld x0 r0_0)) t)
    (stack (part (k0_pay4 (View.ld x0 r0_0)) p) (part (k0_pay4 (View.ld x0 r0_0)) t))
    (stack (part (k0_pay6 (View.ld x0 r0_0)) p) (part (k0_pay6 (View.ld x0 r0_0)) t))
    (col x4 t) (beside (line x2 p) (line x2 t)) (col x7 t) (beside (line x5 p) (line x5 t)) (col x10 t) (beside (line x8 p) (line x8 t))

/-- The staged block after the body: its eight buckets, each by one function. -/
theorem out_eq : out0_11 x0 x1 x2 x3 x4 x5 x6 x7 x8 x9 x10 = View.canon [
    ⟨r0_12, later x0 x2 x4 x5 x7 x8 x10 6 7⟩, ⟨r0_11, later x0 x2 x4 x5 x7 x8 x10 5 6⟩,
    ⟨r0_10, later x0 x2 x4 x5 x7 x8 x10 4 5⟩, ⟨r0_9, later x0 x2 x4 x5 x7 x8 x10 3 4⟩,
    ⟨r0_8, later x0 x2 x4 x5 x7 x8 x10 2 3⟩, ⟨r0_7, later x0 x2 x4 x5 x7 x8 x10 1 2⟩,
    ⟨r0_6, later x0 x2 x4 x5 x7 x8 x10 0 1⟩, ⟨r0_5, first x0 x1 x2 x3 x4 x5 x6 x7 x8 x9 x10⟩] := rfl

end

end Cert.AttendIdeal.Block

end
-- ==== Proof.AttendMix.lean ====
/-
  What the attention call computes for one query, over the extended reals: its masked scores against 128 keys, the log of the sum
  of their exponentials, and the values weighted by the softmax of the scores, each weight divided by the key's count.
-/
module

public import proofs.«01_k».proof.Proof.AttendBlock
public import Idealize.ShloMosaic.Lib.Pointwise
public import Idealize.ShloMosaic.PureOps.Ideal

@[expose] public section

noncomputable section

namespace Cert.AttendIdeal.Mix

open Cert.AttendIdeal Cert.AttendIdeal.Gen Cert.AttendIdeal.Block
open Idealize.ShloMosaic

/-- A key divided by its length, or by 1e-12 where it is shorter. -/
def unitKey (k : Fin 64 → EReal) (d : Fin 64) : EReal :=
  Ideal.div (k d) (max (Ideal.sqrt (∑ e, k e * k e)) (Ideal.ofBits .f32 0x2B8CBCCC#32))

/-- A score before the masks. -/
def dot (q k : Fin 64 → EReal) : EReal := (∑ d, q d * unitKey k d) * Ideal.ofBits .f32 0x3E000000#32

/-- A score: masked where the buckets differ, where the key comes later, and where it is the query itself. -/
def score (q k : Fin 64 → EReal) (qi ki sq sk : BitVec 32) : EReal :=
  Scalar.select (IntOp.cmpi .eq qi ki) (Ideal.ofBits .f32 0xC7C35000#32)
    (Scalar.select (IntOp.cmpi .slt qi ki) (Ideal.ofBits .f32 0xCE6E6B28#32)
      (Scalar.select (IntOp.cmpi .ne sq sk) (Ideal.ofBits .f32 0xCE6E6B28#32) (dot q k)))

/-- One where two words' bytes at bit `h` are near, else zero. -/
def nearAt (x y h : BitVec 32) : BitVec 32 :=
  Scalar.select (IntOp.cmpi .sle (IntOp.andi (IntOp.subi (IntOp.andi (IntOp.shrsi .vector x h) 255#32) (IntOp.andi (IntOp.shrsi .vector y h) 255#32)) 63#32) 1#32) 1#32 0#32

/-- How many of two words' four bytes are near. -/
def countAt (x y : BitVec 32) : BitVec 32 :=
  IntOp.addi (IntOp.addi (IntOp.addi (IntOp.addi 0#32 (nearAt x y 0#32)) (nearAt x y 8#32)) (nearAt x y 16#32)) (nearAt x y 24#32)

/-- The greatest of 128 scores. -/
def most (s : Fin 128 → EReal) : EReal := (Finset.univ : Finset (Fin 128)).fold max (Ideal.ofBits .f32 0xFF800000#32) s
/-- A score's exponential, less the greatest score. -/
def expo (s : Fin 128 → EReal) (j : Fin 128) : EReal := FloatOps.exp (F := Ideal) (φ := .f32) (s j - most s)
/-- The sum of the exponentials. -/
def sum (s : Fin 128 → EReal) : EReal := ∑ j, expo s j
/-- The log of the sum of the scores' exponentials. -/
def lse (s : Fin 128 → EReal) : EReal := most s + FloatOps.log (F := Ideal) (φ := .f32) (sum s)
/-- The weight of a key met `n` times. -/
def weight (s : Fin 128 → EReal) (n : Fin 128 → BitVec 32) (j : Fin 128) : EReal :=
  Ideal.div (expo s j) (sum s * ((n j).toInt : ℝ))

/-- The row stored for a query: 64 weighted values, the log of the sum of exponentials, zeros. -/
def row (s : Fin 128 → EReal) (n : Fin 128 → BitVec 32) (v : Fin 128 → Fin 64 → EReal) (c : Fin 128) : EReal :=
  if h : c.val < 64 then ∑ j, weight s n j * v j ⟨c.val, h⟩ else if c.val = 64 then lse s else 0

theorem unit_apply (k : FVec Ideal S128x64 .f32) (j : Fin 128) (d : Fin 64) : Block.unit k (ix2 j d) = unitKey (fun d => k (ix2 j d)) d := by
  pointwise [Block.unit, unitKey]

theorem scores_apply (q : FVec Ideal S64x64 .f32) (k : FVec Ideal S128x64 .f32) (qi : IVec S64x1 32) (ki : IVec S1x128 32)
    (sq : IVec S64x1 32) (sk : IVec S1x128 32) (i : Fin 64) (j : Fin 128) :
    scores q k qi ki sq sk (ix2 i j)
      = score (fun d => q (ix2 i d)) (fun d => k (ix2 j d)) (qi (ix2 i 0)) (ki (ix2 0 j)) (sq (ix2 i 0)) (sk (ix2 0 j)) := by
  pointwise [scores, score, dot, unit_apply]

theorem counts_apply (sb : IVec S64x1 32) (kb : IVec S1x128 32) (i : Fin 64) (j : Fin 128) :
    counts sb kb (ix2 i j) = countAt (sb (ix2 i 0)) (kb (ix2 0 j)) := by
  pointwise [counts, near, countAt, nearAt]

theorem top_apply (s : FVec Ideal S64x128 .f32) (i : Fin 64) : top s (ix2 i 0) = most fun j => s (ix2 i j) := by
  pointwise [top, most]

theorem exps_apply (s : FVec Ideal S64x128 .f32) (i : Fin 64) (j : Fin 128) : exps s (ix2 i j) = expo (fun j => s (ix2 i j)) j := by
  pointwise [exps, expo, top_apply]

theorem total_apply (s : FVec Ideal S64x128 .f32) (i : Fin 64) : total s (ix2 i 0) = sum fun j => s (ix2 i j) := by
  pointwise [total, sum, exps_apply]

theorem mixed_apply (s : FVec Ideal S64x128 .f32) (n : IVec S64x128 32) (v : FVec Ideal S128x64 .f32) (i c : Fin 64) :
    mixed s n v (ix2 i c) = ∑ j, weight (fun j => s (ix2 i j)) (fun j => n (ix2 i j)) j * v (ix2 j c) := by
  pointwise [mixed, weight, exps_apply, total_apply]
  rfl

theorem rows_apply (s : FVec Ideal S64x128 .f32) (n : IVec S64x128 32) (v : FVec Ideal S128x64 .f32) (i : Fin 64) (c : Fin 128) :
    rows s n v (ix4 0 0 i c) = row (fun j => s (ix2 i j)) (fun j => n (ix2 i j)) (fun j d => v (ix2 j d)) c := by
  pointwise [rows, row, lse, mixed_apply]
  by_cases h : c.val < 64
  · simp only [h, dite_true]
  · simp only [h, dite_false]
    by_cases e : c.val = 64
    · rw [dif_pos (by omega), if_pos e, show (⟨c.val - 64, by omega⟩ : Fin 1) = 0 from Subsingleton.elim _ _, top_apply, total_apply]
    · rw [dif_neg (by omega), if_neg e]

/-- A bucket's row: the row of the query's scores and counts, and of the values. -/
theorem bucket_apply (q : FVec Ideal S64x64 .f32) (k v : FVec Ideal S128x64 .f32) (qi : IVec S64x1 32) (ki : IVec S1x128 32) (sq : IVec S64x1 32)
    (sk : IVec S1x128 32) (sb : IVec S64x1 32) (kb : IVec S1x128 32) (i : Fin 64) (c : Fin 128) :
    bucket q k v qi ki sq sk sb kb (ix4 0 0 i c)
      = row (fun j => score (fun d => q (ix2 i d)) (fun d => k (ix2 j d)) (qi (ix2 i 0)) (ki (ix2 0 j)) (sq (ix2 i 0)) (sk (ix2 0 j)))
          (fun j => countAt (sb (ix2 i 0)) (kb (ix2 0 j))) (fun j d => v (ix2 j d)) c := by
  unfold bucket
  rw [rows_apply]
  simp only [scores_apply, counts_apply]

end Cert.AttendIdeal.Mix

end
-- ==== Proof.AttendArith.lean ====
/-
  The arithmetic in which the attention call and its reference differ: an eighth, and a division by a product against two
  divisions. Then the value that both compute.
-/
module

public import proofs.«01_k».proof.Proof.AttendMix
public import Mathlib.Data.EReal.Inv

@[expose] public section

noncomputable section

namespace Cert.AttendIdeal.Mix

open Idealize.ShloMosaic

/-- Dividing by eight is multiplying by an eighth. -/
theorem div_eight (x : EReal) : Ideal.div x (Ideal.ofBits .f32 0x41000000#32) = x * Ideal.ofBits .f32 0x3E000000#32 := by
  have h8 : Ideal.ofBits .f32 0x41000000#32 = ((8 : ℝ) : EReal) := by
    simp [Ideal.ofBits, Ideal.ieee]
    rw [← EReal.coe_mul]; norm_num
  have h1 : Ideal.ofBits .f32 0x3E000000#32 = ((1 / 8 : ℝ) : EReal) := by
    simp [Ideal.ofBits, Ideal.ieee]
    rw [← EReal.coe_mul]; norm_num
  rw [h8, h1]
  unfold Ideal.div
  rw [if_neg (by norm_num), ← EReal.coe_inv]
  norm_num

/-- Dividing by a product with a count is dividing twice. -/
theorem div_mul (e t n : ℝ) (he : 0 ≤ e) (het : e ≤ t) (hn : 0 ≤ n) :
    Ideal.div (e : EReal) ((t : EReal) * (n : EReal)) = Ideal.div (Ideal.div e t) (n : EReal) := by
  unfold Ideal.div
  by_cases h0 : t = 0
  · have e0 : e = 0 := le_antisymm (h0 ▸ het) he
    subst h0 e0
    simp only [EReal.coe_zero, zero_mul, if_true, lt_irrefl, if_false]
    by_cases hz : n = 0
    · subst hz; simp
    · rw [if_neg (by exact_mod_cast hz), ← EReal.coe_inv, EReal.bot_mul_coe_of_pos (inv_pos.mpr (lt_of_le_of_ne hn (Ne.symm hz)))]
  · have tp : 0 < t := lt_of_le_of_ne (he.trans het) (Ne.symm h0)
    rw [if_neg (show (t : EReal) ≠ 0 by exact_mod_cast h0), ← EReal.coe_inv, ← EReal.coe_mul, ← EReal.coe_mul]
    by_cases hz : n = 0
    · subst hz
      simp only [mul_zero, EReal.coe_zero, if_true]
      congr 1
      rw [EReal.coe_pos, EReal.coe_pos, eq_iff_iff]
      exact ⟨fun h => mul_pos h (inv_pos.mpr tp), fun h => (mul_pos_iff_of_pos_right (inv_pos.mpr tp)).mp h⟩
    · rw [if_neg (show ((t * n : ℝ) : EReal) ≠ 0 by exact_mod_cast mul_ne_zero h0 hz), if_neg (show (n : EReal) ≠ 0 by exact_mod_cast hz),
        ← EReal.coe_inv, ← EReal.coe_inv, ← EReal.coe_mul, ← EReal.coe_mul]
      congr 1
      field_simp

/-- An exponential of a score less the greatest is a real number between zero and one. -/
theorem expo_real (s : Fin 128 → EReal) (j : Fin 128) : ∃ e : ℝ, 0 ≤ e ∧ expo s j = e := by
  have h : s j ≤ most s := (Finset.le_fold_max _).mpr (Or.inr ⟨j, Finset.mem_univ j, le_rfl⟩)
  show ∃ e : ℝ, 0 ≤ e ∧ Ideal.exp (s j - most s) = e
  have ht : s j - most s ≠ ⊤ := by
    intro e
    have := EReal.sub_nonpos.mpr h
    rw [e] at this
    exact absurd this (by simp)
  generalize s j - most s = x at ht
  induction x with
  | bot => exact ⟨0, le_rfl, rfl⟩
  | top => exact absurd rfl ht
  | coe r => exact ⟨Real.exp r, (Real.exp_pos r).le, rfl⟩

/-- The weight, divided in two steps. -/
theorem weight_eq (s : Fin 128 → EReal) (n : Fin 128 → BitVec 32) (j : Fin 128) (hn : 0 ≤ (n j).toInt) :
    weight s n j = Ideal.div (Ideal.div (expo s j) (sum s)) (((n j).toInt : ℝ)) := by
  choose e he hs using expo_real s
  unfold weight sum
  have ht : ∑ i, expo s i = ((∑ i, e i : ℝ) : EReal) := by
    rw [Finset.sum_congr rfl fun i _ => hs i]
    exact (map_sum (⟨⟨Real.toEReal, rfl⟩, EReal.coe_add⟩ : ℝ →+ EReal) e Finset.univ).symm
  rw [ht, hs j]
  exact div_mul _ _ _ (he j) (Finset.single_le_sum (fun i _ => he i) (Finset.mem_univ j)) (by exact_mod_cast hn)

/-- A count is not negative. -/
theorem count_nonneg (x y : BitVec 32) : 0 ≤ (countAt x y).toInt := by
  have h (g : BitVec 32) : nearAt x y g = 0#32 ∨ nearAt x y g = 1#32 := by
    unfold nearAt Scalar.select
    split_ifs
    · exact Or.inr rfl
    · exact Or.inl rfl
  unfold countAt
  rcases h 0#32 with a | a <;> rcases h 8#32 with b | b <;> rcases h 16#32 with c | c <;> rcases h 24#32 with d | d <;> rw [a, b, c, d] <;> decide

/-- The bucket that key `j` of bucket `n` lies in: for the first 64 the one before, the first bucket's being the last. -/
def keyBucket (n : Fin 64) (j : Fin 128) : Fin 64 := if j.val < 64 then ⟨(n.val + 63) % 64, Nat.mod_lt _ (by decide)⟩ else n
/-- Where in its bucket key `j` lies. -/
def keyPlace (j : Fin 128) : Fin 64 := ⟨j.val % 64, Nat.mod_lt _ (by decide)⟩
/-- Row `i` of bucket `n` in the sorted order. -/
def spot (n i : Fin 64) : Fin 4096 := ⟨n.val * 64 + i.val, by omega⟩

/-- What the attention stores for query `i` of bucket `n`, from one round's rows and words in the sorted order. -/
def value (A : Fin 4096 → Fin 128 → EReal) (I S W : Fin 4096 → BitVec 32) (n i : Fin 64) (c : Fin 128) : EReal :=
  row (fun j => score (fun d => A (spot n i) ⟨d.val, by omega⟩) (fun d => A (spot (keyBucket n j) (keyPlace j)) ⟨d.val, by omega⟩)
      (I (spot n i)) (I (spot (keyBucket n j) (keyPlace j))) (S (spot n i)) (S (spot (keyBucket n j) (keyPlace j))))
    (fun j => countAt (W (spot n i)) (W (spot (keyBucket n j) (keyPlace j))))
    (fun j d => A (spot (keyBucket n j) (keyPlace j)) ⟨64 + d.val, by omega⟩) c

end Cert.AttendIdeal.Mix

end
-- ==== Proof.AttendSpot.lean ====
/-
  The rows that a block's body stores, read in the sorted order: each of its eight buckets holds the attention's value for the
  bucket's queries, whatever block the staged rows and words come from.
-/
module

public import proofs.«01_k».proof.Proof.AttendArith

@[expose] public section

noncomputable section

namespace Cert.AttendIdeal.Spot

open Cert.AttendIdeal Cert.AttendIdeal.Gen Cert.AttendIdeal.Block
open Cert.AttendIdeal.Mix (keyBucket keyPlace spot value)
open Idealize.ShloMosaic Idealize.SL.Sem

/-- The bucket before, the first one's being the last. -/
def before (n : Fin 64) : Fin 64 := ⟨(n.val + 63) % 64, Nat.mod_lt _ (by decide)⟩

theorem early (n : Fin 64) (j : Fin 128) (h : j.val < 64) : spot (keyBucket n j) (keyPlace j) = spot (before n) ⟨j.val, h⟩ := by
  have e : keyPlace j = ⟨j.val, h⟩ := Fin.ext (Nat.mod_eq_of_lt h)
  rw [e]; unfold keyBucket before; rw [if_pos h]

theorem late (n : Fin 64) (j : Fin 128) (h : ¬ j.val < 64) : spot (keyBucket n j) (keyPlace j) = spot n ⟨j.val - 64, by omega⟩ := by
  have e : keyPlace j = ⟨j.val - 64, by omega⟩ := Fin.ext (by show j.val % 64 = j.val - 64; omega)
  rw [e]; unfold keyBucket; rw [if_neg h]

/-- Two blocks of rows, one under the other, are the rows of the keys. -/
theorem stack_apply (a b : FVec Ideal S64x64 .f32) (f : Fin 4096 → Fin 64 → EReal) (n : Fin 64)
    (ha : ∀ i d, a (ix2 i d) = f (spot (before n) i) d) (hb : ∀ i d, b (ix2 i d) = f (spot n i) d) (j : Fin 128) (d : Fin 64) :
    stack a b (ix2 j d) = f (spot (keyBucket n j) (keyPlace j)) d := by
  have e : stack a b (ix2 j d) = if h : j.val < 64 then a (ix2 ⟨j.val, h⟩ d) else b (ix2 ⟨j.val - 64, by omega⟩ d) := by
    pointwise [stack]
  rw [e]
  by_cases h : j.val < 64
  · rw [dif_pos h, early n j h, ha]
  · rw [dif_neg h, late n j h, hb]

/-- Two rows of words, one after the other, are the words of the keys. -/
theorem beside_apply (a b : IVec S1x64 32) (f : Fin 4096 → BitVec 32) (n : Fin 64)
    (ha : ∀ i, a (ix2 0 i) = f (spot (before n) i)) (hb : ∀ i, b (ix2 0 i) = f (spot n i)) (j : Fin 128) :
    beside a b (ix2 0 j) = f (spot (keyBucket n j) (keyPlace j)) := by
  have e : beside a b (ix2 0 j) = if h : j.val < 64 then a (ix2 0 ⟨j.val, h⟩) else b (ix2 0 ⟨j.val - 64, by omega⟩) := by
    pointwise [beside]
  rw [e]
  by_cases h : j.val < 64
  · rw [dif_pos h, early n j h, ha]
  · rw [dif_neg h, late n j h, hb]

/-- A bucket whose rows and words are those of the sorted order holds the attention's value. -/
theorem bucket_value (A : Fin 4096 → Fin 128 → EReal) (I S W : Fin 4096 → BitVec 32) (n : Fin 64)
    (q : FVec Ideal S64x64 .f32) (k v : FVec Ideal S128x64 .f32) (qi : IVec S64x1 32) (ki : IVec S1x128 32) (sq : IVec S64x1 32)
    (sk : IVec S1x128 32) (sb : IVec S64x1 32) (kb : IVec S1x128 32)
    (hq : ∀ i d, q (ix2 i d) = A (spot n i) ⟨d.val, by omega⟩)
    (hk : ∀ j d, k (ix2 j d) = A (spot (keyBucket n j) (keyPlace j)) ⟨d.val, by omega⟩)
    (hv : ∀ j d, v (ix2 j d) = A (spot (keyBucket n j) (keyPlace j)) ⟨64 + d.val, by omega⟩)
    (hqi : ∀ i, qi (ix2 i 0) = I (spot n i)) (hki : ∀ j, ki (ix2 0 j) = I (spot (keyBucket n j) (keyPlace j)))
    (hsq : ∀ i, sq (ix2 i 0) = S (spot n i)) (hsk : ∀ j, sk (ix2 0 j) = S (spot (keyBucket n j) (keyPlace j)))
    (hsb : ∀ i, sb (ix2 i 0) = W (spot n i)) (hkb : ∀ j, kb (ix2 0 j) = W (spot (keyBucket n j) (keyPlace j)))
    (i : Fin 64) (c : Fin 128) : bucket q k v qi ki sq sk sb kb (ix4 0 0 i c) = value A I S W n i c := by
  rw [Mix.bucket_apply]
  unfold value
  simp only [hq, hk, hv, hqi, hki, hsq, hsk, hsb, hkb]

section pieces

theorem left_apply (x : Vec Ideal S1x1x512x128 .f32) (t : Fin 8) (i d : Fin 64) :
    part (k0_pay4 (View.ld x r0_0)) t (ix2 i d) = x (ix4 0 0 ⟨64 * t.val + i.val, by omega⟩ ⟨d.val, by omega⟩) := by
  rw [View.ld_unit_zero (by funext a; fin_cases a <;> rfl)]
  pointwise [part, k0_pay4, k0_pay2]

theorem right_apply (x : Vec Ideal S1x1x512x128 .f32) (t : Fin 8) (i d : Fin 64) :
    part (k0_pay6 (View.ld x r0_0)) t (ix2 i d) = x (ix4 0 0 ⟨64 * t.val + i.val, by omega⟩ ⟨64 + d.val, by omega⟩) := by
  rw [View.ld_unit_zero (by funext a; fin_cases a <;> rfl)]
  pointwise [part, k0_pay6, k0_pay2]

theorem leftHalo_apply (x : Vec Ideal S1x1x64x128 .f32) (i d : Fin 64) :
    k0_pay5 (View.ld x r0_1) (ix2 i d) = x (ix4 0 0 i ⟨d.val, by omega⟩) := by
  rw [View.ld_unit_zero (by funext a; fin_cases a <;> rfl)]
  pointwise [k0_pay5, k0_pay3]

theorem rightHalo_apply (x : Vec Ideal S1x1x64x128 .f32) (i d : Fin 64) :
    k0_pay7 (View.ld x r0_1) (ix2 i d) = x (ix4 0 0 i ⟨64 + d.val, by omega⟩) := by
  rw [View.ld_unit_zero (by funext a; fin_cases a <;> rfl)]
  pointwise [k0_pay7, k0_pay3]

theorem col_apply (x : Vec Ideal S1x1x512x1 .i32) (t : Fin 8) (i : Fin 64) :
    col (F := Ideal) x t (ix2 i 0) = x (ix4 0 0 ⟨64 * t.val + i.val, by omega⟩ 0) := by
  unfold col
  rw [View.ld_unit_zero (by funext a; fin_cases a <;> rfl)]
  pointwise []

theorem line_apply (x : Vec Ideal S1x1x8x1x64 .i32) (t : Fin 8) (i : Fin 64) :
    line (F := Ideal) x t (ix2 0 i) = x (ix5 0 0 t 0 i) := by
  unfold line
  rw [View.ld_unit_zero (by funext a; fin_cases a <;> rfl)]
  pointwise []

theorem halo_apply (x : Vec Ideal S1x1x1x1x64 .i32) (i : Fin 64) : halo (F := Ideal) x (ix2 0 i) = x (ix5 0 0 0 0 i) := by
  unfold halo
  rw [View.ld_unit_zero (by funext a; fin_cases a <;> rfl)]
  pointwise []

end pieces

end Cert.AttendIdeal.Spot

end
-- ==== Proof.AttendStage.lean ====
/-
  The block of rows that the body leaves for one point of the grid: the attention's value at its 512 queries, when the staged
  rows and words are those of the sorted order.
-/
module

public import proofs.«01_k».proof.Proof.AttendSpot
public import proofs.«01_k».proof.Proof.Gen.AttendIdeal.Value
public import Idealize.ShloMosaic.Lib.Pipeline.ValueKit.Tiles

@[expose] public section

noncomputable section

namespace Cert.AttendIdeal.Stage

open Cert.AttendIdeal Cert.AttendIdeal.Gen Cert.AttendIdeal.Block Cert.AttendIdeal.Spot
open Cert.AttendIdeal.Mix (keyBucket keyPlace spot value)
open Idealize.ShloMosaic Idealize.SL.Sem

/-- Bucket `t` of the eight of block `u`. -/
def bucketOf (u t : Fin 8) : Fin 64 := ⟨8 * u.val + t.val, by omega⟩

theorem before_next (u p t : Fin 8) (h : p.val + 1 = t.val) : before (bucketOf u t) = bucketOf u p :=
  Fin.ext (by show (8 * u.val + t.val + 63) % 64 = 8 * u.val + p.val; omega)

/-- Row `a` of block `u`. -/
def rowOf (u : Fin 8) (a : Fin 512) : Fin 4096 := ⟨u.val * 512 + a.val, by omega⟩

theorem rowOf_spot (u t : Fin 8) (i : Fin 64) : rowOf u ⟨64 * t.val + i.val, by omega⟩ = spot (bucketOf u t) i :=
  Fin.ext (by show u.val * 512 + (64 * t.val + i.val) = (8 * u.val + t.val) * 64 + i.val; omega)

section
variable (A : Fin 4096 → Fin 128 → EReal) (I S W : Fin 4096 → BitVec 32) (u : Fin 8)
  (x0 : Vec Ideal S1x1x512x128 .f32) (x1 : Vec Ideal S1x1x64x128 .f32) (x2 : Vec Ideal S1x1x8x1x64 .i32) (x3 : Vec Ideal S1x1x1x1x64 .i32)
  (x4 : Vec Ideal S1x1x512x1 .i32) (x5 : Vec Ideal S1x1x8x1x64 .i32) (x6 : Vec Ideal S1x1x1x1x64 .i32) (x7 : Vec Ideal S1x1x512x1 .i32)
  (x8 : Vec Ideal S1x1x8x1x64 .i32) (x9 : Vec Ideal S1x1x1x1x64 .i32) (x10 : Vec Ideal S1x1x512x1 .i32)

/-- What is staged for block `u`: its rows and words, and those of the bucket before it. -/
structure Staged : Prop where
  h0 : ∀ a d, x0 (ix4 0 0 a d) = A (rowOf u a) d
  h1 : ∀ i d, x1 (ix4 0 0 i d) = A (spot (before (bucketOf u 0)) i) d
  h2 : ∀ t i, x2 (ix5 0 0 t 0 i) = I (spot (bucketOf u t) i)
  h3 : ∀ i, x3 (ix5 0 0 0 0 i) = I (spot (before (bucketOf u 0)) i)
  h4 : ∀ a, x4 (ix4 0 0 a 0) = I (rowOf u a)
  h5 : ∀ t i, x5 (ix5 0 0 t 0 i) = S (spot (bucketOf u t) i)
  h6 : ∀ i, x6 (ix5 0 0 0 0 i) = S (spot (before (bucketOf u 0)) i)
  h7 : ∀ a, x7 (ix4 0 0 a 0) = S (rowOf u a)
  h8 : ∀ t i, x8 (ix5 0 0 t 0 i) = W (spot (bucketOf u t) i)
  h9 : ∀ i, x9 (ix5 0 0 0 0 i) = W (spot (before (bucketOf u 0)) i)
  h10 : ∀ a, x10 (ix4 0 0 a 0) = W (rowOf u a)

variable {A I S W u x0 x1 x2 x3 x4 x5 x6 x7 x8 x9 x10} (H : Staged A I S W u x0 x1 x2 x3 x4 x5 x6 x7 x8 x9 x10)
include H

theorem first_apply (i : Fin 64) (c : Fin 128) :
    first x0 x1 x2 x3 x4 x5 x6 x7 x8 x9 x10 (ix4 0 0 i c) = value A I S W (bucketOf u 0) i c := by
  have hl (t : Fin 8) (i d : Fin 64) := (left_apply x0 t i d).trans ((H.h0 _ _).trans (by rw [rowOf_spot]))
  have hr (t : Fin 8) (i d : Fin 64) := (right_apply x0 t i d).trans ((H.h0 _ _).trans (by rw [rowOf_spot]))
  exact bucket_value A I S W (bucketOf u 0) _ _ _ _ _ _ _ _ _ (hl 0)
    (stack_apply _ _ (fun l d => A l ⟨d.val, by omega⟩) _ (fun i d => (leftHalo_apply x1 i d).trans (H.h1 _ _)) (hl 0))
    (stack_apply _ _ (fun l d => A l ⟨64 + d.val, by omega⟩) _ (fun i d => (rightHalo_apply x1 i d).trans (H.h1 _ _)) (hr 0))
    (fun i => (col_apply x4 0 i).trans ((H.h4 _).trans (by rw [rowOf_spot])))
    (beside_apply _ _ I _ (fun i => (halo_apply x3 i).trans (H.h3 i)) (fun i => (line_apply x2 0 i).trans (H.h2 0 i)))
    (fun i => (col_apply x7 0 i).trans ((H.h7 _).trans (by rw [rowOf_spot])))
    (beside_apply _ _ S _ (fun i => (halo_apply x6 i).trans (H.h6 i)) (fun i => (line_apply x5 0 i).trans (H.h5 0 i)))
    (fun i => (col_apply x10 0 i).trans ((H.h10 _).trans (by rw [rowOf_spot])))
    (beside_apply _ _ W _ (fun i => (halo_apply x9 i).trans (H.h9 i)) (fun i => (line_apply x8 0 i).trans (H.h8 0 i))) i c

theorem later_apply (p t : Fin 8) (h : p.val + 1 = t.val) (i : Fin 64) (c : Fin 128) :
    later x0 x2 x4 x5 x7 x8 x10 p t (ix4 0 0 i c) = value A I S W (bucketOf u t) i c := by
  have hl (t : Fin 8) (i d : Fin 64) := (left_apply x0 t i d).trans ((H.h0 _ _).trans (by rw [rowOf_spot]))
  have hr (t : Fin 8) (i d : Fin 64) := (right_apply x0 t i d).trans ((H.h0 _ _).trans (by rw [rowOf_spot]))
  have hb := before_next u p t h
  exact bucket_value A I S W (bucketOf u t) _ _ _ _ _ _ _ _ _ (hl t)
    (stack_apply _ _ (fun l d => A l ⟨d.val, by omega⟩) _ (fun i d => by rw [hb]; exact hl p i d) (hl t))
    (stack_apply _ _ (fun l d => A l ⟨64 + d.val, by omega⟩) _ (fun i d => by rw [hb]; exact hr p i d) (hr t))
    (fun i => (col_apply x4 t i).trans ((H.h4 _).trans (by rw [rowOf_spot])))
    (beside_apply _ _ I _ (fun i => by rw [hb]; exact (line_apply x2 p i).trans (H.h2 p i)) (fun i => (line_apply x2 t i).trans (H.h2 t i)))
    (fun i => (col_apply x7 t i).trans ((H.h7 _).trans (by rw [rowOf_spot])))
    (beside_apply _ _ S _ (fun i => by rw [hb]; exact (line_apply x5 p i).trans (H.h5 p i)) (fun i => (line_apply x5 t i).trans (H.h5 t i)))
    (fun i => (col_apply x10 t i).trans ((H.h10 _).trans (by rw [rowOf_spot])))
    (beside_apply _ _ W _ (fun i => by rw [hb]; exact (line_apply x8 p i).trans (H.h8 p i)) (fun i => (line_apply x8 t i).trans (H.h8 t i))) i c

omit H in
/-- A piece at the place of bucket `k` that holds the bucket's values has the block's value wherever it lies. -/
theorem tile (w : S1x1x64x128.Idx → EReal) (k : Fin 8) (hw : ∀ i c, w (ix4 0 0 i c) = value A I S W (bucketOf u k) i c)
    (off : Fin 4 → ℕ) (ho : off 2 = 64 * k.val ∧ off 3 = 0) (a : Fin 512) (c : Fin 128) :
    View.TileAt (Val := Elt Ideal) (e := .f32) (ix4 0 0 a c : S1x1x512x128.Idx) off S1x1x64x128.size w
      (value A I S W (bucketOf u ⟨a.val / 64, by omega⟩) ⟨a.val % 64, Nat.mod_lt _ (by decide)⟩ c) := by
  intro x hx
  have e2 : a.val = off 2 + (x 2).val := hx 2
  have e3 : c.val = off 3 + (x 3).val := hx 3
  rw [ho.1] at e2
  rw [ho.2] at e3
  have l2 : (x 2).val < 64 := (x 2).isLt
  have hx' : x = (ix4 0 0 ⟨a.val % 64, Nat.mod_lt _ (by decide)⟩ c : S1x1x64x128.Idx) := by
    funext q; apply Fin.ext
    match q with
    | ⟨0, _⟩ => exact Nat.lt_one_iff.mp (x 0).isLt
    | ⟨1, _⟩ => exact Nat.lt_one_iff.mp (x 1).isLt
    | ⟨2, _⟩ => show (x 2).val = a.val % 64; omega
    | ⟨3, _⟩ => show (x 3).val = c.val; omega
  have hk : (⟨a.val / 64, by omega⟩ : Fin 8) = k := Fin.ext (by show a.val / 64 = k.val; omega)
  rw [hk, hx', hw]

/-- What the body leaves: the attention's value at each of the block's queries. -/
theorem out_apply (a : Fin 512) (c : Fin 128) : out0_11 x0 x1 x2 x3 x4 x5 x6 x7 x8 x9 x10 (ix4 0 0 a c)
    = value A I S W (bucketOf u ⟨a.val / 64, by omega⟩) ⟨a.val % 64, Nat.mod_lt _ (by decide)⟩ c := by
  rw [out_eq]
  refine View.canon_eq_of_allAt _ _ _ (View.cover_of_tiled_head _ _ _ (by rfl) _) ?_
  refine View.allAt_cons_unit _ _ _ _ _ (tile _ 7 (later_apply H 6 7 rfl) _ ⟨rfl, rfl⟩ a c) ?_
  refine View.allAt_cons_unit _ _ _ _ _ (tile _ 6 (later_apply H 5 6 rfl) _ ⟨rfl, rfl⟩ a c) ?_
  refine View.allAt_cons_unit _ _ _ _ _ (tile _ 5 (later_apply H 4 5 rfl) _ ⟨rfl, rfl⟩ a c) ?_
  refine View.allAt_cons_unit _ _ _ _ _ (tile _ 4 (later_apply H 3 4 rfl) _ ⟨rfl, rfl⟩ a c) ?_
  refine View.allAt_cons_unit _ _ _ _ _ (tile _ 3 (later_apply H 2 3 rfl) _ ⟨rfl, rfl⟩ a c) ?_
  refine View.allAt_cons_unit _ _ _ _ _ (tile _ 2 (later_apply H 1 2 rfl) _ ⟨rfl, rfl⟩ a c) ?_
  refine View.allAt_cons_unit _ _ _ _ _ (tile _ 1 (later_apply H 0 1 rfl) _ ⟨rfl, rfl⟩ a c) ?_
  refine View.allAt_cons_unit _ _ _ _ _ (tile _ 0 (first_apply H) _ ⟨rfl, rfl⟩ a c) ?_
  exact View.allAt_nil _ _

end

end Cert.AttendIdeal.Stage

end
-- ==== Proof.AttendIndex.lean ====
/-
  Which block of its array each point of the attention call's grid reads or writes: the batch, the round, and the eight buckets
  of the point's own or the one bucket before them.
-/
module

public import proofs.«01_k».proof.Proof.Gen.AttendIdeal.Value

@[expose] public section

noncomputable section

namespace Cert.AttendIdeal.Whole

open Cert.AttendIdeal Cert.AttendIdeal.Gen
open Idealize.ShloMosaic

/-- The point's batch, round and block of eight buckets, then the block's own places. -/
def own (t : ℕ) : Fin 4 → ℕ := ![t / 32, t / 8 % 4, t % 8, 0]
/-- The bucket before the point's eight. -/
def prior (t : ℕ) : Fin 4 → ℕ := ![t / 32, t / 8 % 4, (8 * (t % 8) + 63) % 64, 0]
def own5 (t : ℕ) : Fin 5 → ℕ := ![t / 32, t / 8 % 4, t % 8, 0, 0]
def prior5 (t : ℕ) : Fin 5 → ℕ := ![t / 32, t / 8 % 4, (8 * (t % 8) + 63) % 64, 0, 0]

theorem index_0 : ∀ (t : Fin grid0.N) (a : Fin 4), win0_0.index t a = own t.val a := by decide +kernel
theorem index_1 : ∀ (t : Fin grid0.N) (a : Fin 4), win0_1.index t a = prior t.val a := by decide +kernel
theorem index_2 : ∀ (t : Fin grid0.N) (a : Fin 5), win0_2.index t a = own5 t.val a := by decide +kernel
theorem index_3 : ∀ (t : Fin grid0.N) (a : Fin 5), win0_3.index t a = prior5 t.val a := by decide +kernel
theorem index_4 : ∀ (t : Fin grid0.N) (a : Fin 4), win0_4.index t a = own t.val a := by decide +kernel
theorem index_5 : ∀ (t : Fin grid0.N) (a : Fin 5), win0_5.index t a = own5 t.val a := by decide +kernel
theorem index_6 : ∀ (t : Fin grid0.N) (a : Fin 5), win0_6.index t a = prior5 t.val a := by decide +kernel
theorem index_7 : ∀ (t : Fin grid0.N) (a : Fin 4), win0_7.index t a = own t.val a := by decide +kernel
theorem index_8 : ∀ (t : Fin grid0.N) (a : Fin 5), win0_8.index t a = own5 t.val a := by decide +kernel
theorem index_9 : ∀ (t : Fin grid0.N) (a : Fin 5), win0_9.index t a = prior5 t.val a := by decide +kernel
theorem index_10 : ∀ (t : Fin grid0.N) (a : Fin 4), win0_10.index t a = own t.val a := by decide +kernel
theorem index_11 : ∀ (t : Fin grid0.N) (a : Fin 4), win0_11.index t a = own t.val a := by decide +kernel

end Cert.AttendIdeal.Whole

end
-- ==== Proof.AttendArray.lean ====
/-
  The array that the attention call leaves: at every query of every batch and round the attention's value, from the rows and
  the words that the call was given.
-/
module

public import proofs.«01_k».proof.Proof.AttendStage
public import proofs.«01_k».proof.Proof.AttendIndex

@[expose] public section

noncomputable section

namespace Cert.AttendIdeal.Whole

open Cert.AttendIdeal Cert.AttendIdeal.Gen Cert.AttendIdeal.Stage
open Cert.AttendIdeal.Spot (before)
open Cert.AttendIdeal.Mix (spot value)
open Idealize.ShloMosaic Idealize.ShloMosaic.TcCoe Idealize.ShloMosaic.Tactic Idealize.SL.Sem
open Idealize.ShloMosaic.Pipeline (Window)

/-! ## The point's place in the grid -/

theorem point_lt (t : Fin grid0.N) : t.val < 1024 := lt_of_lt_of_eq t.isLt N_0

def batch (t : Fin grid0.N) : Fin 32 := ⟨t.val / 32, by have := point_lt t; omega⟩
def round (t : Fin grid0.N) : Fin 4 := ⟨t.val / 8 % 4, Nat.mod_lt _ (by decide)⟩
def block (t : Fin grid0.N) : Fin 8 := ⟨t.val % 8, Nat.mod_lt _ (by decide)⟩

/-- A place in the point's own block of 512 rows. -/
theorem own_place {n : ℕ} (t : Fin grid0.N) (e : (⟨4, ![32, 4, 4096, n]⟩ : Shape).Idx) (a : Fin 512) (d : Fin n)
    (h : ∀ k, (e k : ℕ) = own t.val k * (![1, 1, 512, n] : Fin 4 → ℕ) k + (![0, 0, a.val, d.val] : Fin 4 → ℕ) k) :
    e = ix4 (batch t) (round t) (rowOf (block t) a) d := by
  funext k
  apply Fin.ext
  refine (h k).trans ?_
  fin_cases k
  · show t.val / 32 * 1 + 0 = t.val / 32; omega
  · show t.val / 8 % 4 * 1 + 0 = t.val / 8 % 4; omega
  · rfl
  · show 0 * n + d.val = d.val; omega

/-- A place in the bucket before the point's. -/
theorem prior_place {n : ℕ} (t : Fin grid0.N) (e : (⟨4, ![32, 4, 4096, n]⟩ : Shape).Idx) (i : Fin 64) (d : Fin n)
    (h : ∀ k, (e k : ℕ) = prior t.val k * (![1, 1, 64, n] : Fin 4 → ℕ) k + (![0, 0, i.val, d.val] : Fin 4 → ℕ) k) :
    e = ix4 (batch t) (round t) (spot (before (bucketOf (block t) 0)) i) d := by
  funext k
  apply Fin.ext
  refine (h k).trans ?_
  fin_cases k
  · show t.val / 32 * 1 + 0 = t.val / 32; omega
  · show t.val / 8 % 4 * 1 + 0 = t.val / 8 % 4; omega
  · show (8 * (t.val % 8) + 63) % 64 * 64 + i.val = (8 * (t.val % 8) + 0 + 63) % 64 * 64 + i.val; omega
  · show 0 * n + d.val = d.val; omega

/-- A place among the words of the point's own buckets, bucket by bucket. -/
theorem own5_place (t : Fin grid0.N) (e : (⟨5, ![32, 4, 64, 1, 64]⟩ : Shape).Idx) (q : Fin 8) (i : Fin 64)
    (h : ∀ k, (e k : ℕ) = own5 t.val k * (![1, 1, 8, 1, 64] : Fin 5 → ℕ) k + (![0, 0, q.val, 0, i.val] : Fin 5 → ℕ) k) :
    e = ix5 (batch t) (round t) (bucketOf (block t) q) 0 i := by
  funext k
  apply Fin.ext
  refine (h k).trans ?_
  fin_cases k
  · show t.val / 32 * 1 + 0 = t.val / 32; omega
  · show t.val / 8 % 4 * 1 + 0 = t.val / 8 % 4; omega
  · show t.val % 8 * 8 + q.val = 8 * (t.val % 8) + q.val; omega
  · rfl
  · show 0 * 64 + i.val = i.val; omega

theorem prior5_place (t : Fin grid0.N) (e : (⟨5, ![32, 4, 64, 1, 64]⟩ : Shape).Idx) (i : Fin 64)
    (h : ∀ k, (e k : ℕ) = prior5 t.val k * (![1, 1, 1, 1, 64] : Fin 5 → ℕ) k + (![0, 0, 0, 0, i.val] : Fin 5 → ℕ) k) :
    e = ix5 (batch t) (round t) (before (bucketOf (block t) 0)) 0 i := by
  funext k
  apply Fin.ext
  refine (h k).trans ?_
  fin_cases k
  · show t.val / 32 * 1 + 0 = t.val / 32; omega
  · show t.val / 8 % 4 * 1 + 0 = t.val / 8 % 4; omega
  · show (8 * (t.val % 8) + 63) % 64 * 1 + 0 = (8 * (t.val % 8) + 0 + 63) % 64; omega
  · rfl
  · show 0 * 64 + i.val = i.val; omega

/-- An index of four coordinates, by its coordinates' values. -/
theorem val4 {n₀ n₁ n₂ n₃ : ℕ} (a : Fin n₀) (b : Fin n₁) (c : Fin n₂) (d : Fin n₃) (k : Fin 4) :
    ((ix4 a b c d : (⟨4, ![n₀, n₁, n₂, n₃]⟩ : Shape).Idx) k : ℕ) = (![a.val, b.val, c.val, d.val] : Fin 4 → ℕ) k := by
  fin_cases k <;> rfl

theorem val5 {n₀ n₁ n₂ n₃ n₄ : ℕ} (a : Fin n₀) (b : Fin n₁) (c : Fin n₂) (d : Fin n₃) (e : Fin n₄) (k : Fin 5) :
    ((ix5 a b c d e : (⟨5, ![n₀, n₁, n₂, n₃, n₄]⟩ : Shape).Idx) k : ℕ) = (![a.val, b.val, c.val, d.val, e.val] : Fin 5 → ℕ) k := by
  fin_cases k <;> rfl

/-! ## The arrays that the region finds -/

variable (m : (b : Loc nD τ sig) → Buf (Elt Ideal) b) (c : Dev nD)

/-- The rows, queries before values. -/
abbrev A0 : S32x4x4096x128.Idx → EReal := m ((c : Thread nD τ).loc main_arg0)
/-- The positions. -/
abbrev A1 : S32x4x4096.Idx → BitVec 32 := m ((c : Thread nD τ).loc main_arg1)
/-- The hashes. -/
abbrev A2 : S32x4x4096x1.Idx → BitVec 32 := m ((c : Thread nD τ).loc main_arg2)
/-- The packed buckets. -/
abbrev A3 : S32x4x4096.Idx → BitVec 32 := m ((c : Thread nD τ).loc main_arg3)

theorem cast_bucket (x : S32x4x4096.Idx → BitVec 32) (b : Fin 32) (r : Fin 4) (n i : Fin 64) :
    shapeCast S32x4x64x1x64 x shapeCasts_S32x4x4096_S32x4x64x1x64 (ix5 b r n 0 i) = x (ix3 b r (spot n i)) := by
  pointwise []
  exact congrArg x (by congr 1)

theorem cast_bucket1 (x : S32x4x4096x1.Idx → BitVec 32) (b : Fin 32) (r : Fin 4) (n i : Fin 64) :
    shapeCast S32x4x64x1x64 x shapeCasts_S32x4x4096x1_S32x4x64x1x64 (ix5 b r n 0 i) = x (ix4 b r (spot n i) 0) := by
  pointwise []
  exact congrArg x (by congr 1)

theorem cast_column (x : S32x4x4096.Idx → BitVec 32) (b : Fin 32) (r : Fin 4) (l : Fin 4096) :
    shapeCast S32x4x4096x1 x shapeCasts_S32x4x4096_S32x4x4096x1 (ix4 b r l 0) = x (ix3 b r l) := by
  pointwise []

theorem V_v0 : V m c main_v0 = shapeCast S32x4x64x1x64 (A1 m c) shapeCasts_S32x4x4096_S32x4x64x1x64 := by
  unfold_abbrev_sides; after_results; rfl
theorem V_v1 : V m c main_v1 = shapeCast S32x4x64x1x64 (A2 m c) shapeCasts_S32x4x4096x1_S32x4x64x1x64 := by
  unfold_abbrev_sides; after_results; rfl
theorem V_v2 : V m c main_v2 = shapeCast S32x4x64x1x64 (A3 m c) shapeCasts_S32x4x4096_S32x4x64x1x64 := by
  unfold_abbrev_sides; after_results; rfl
theorem V_v3 : V m c main_v3 = shapeCast S32x4x4096x1 (A1 m c) shapeCasts_S32x4x4096_S32x4x4096x1 := by
  unfold_abbrev_sides; after_results; rfl
theorem V_v4 : V m c main_v4 = shapeCast S32x4x4096x1 (A3 m c) shapeCasts_S32x4x4096_S32x4x4096x1 := by
  unfold_abbrev_sides; after_results; rfl

/-! ## What each point stages -/

theorem staged (t : Fin cfg0.N) :
    Staged (fun l d => A0 m c (ix4 (batch t) (round t) l d)) (fun l => A1 m c (ix3 (batch t) (round t) l))
      (fun l => A2 m c (ix4 (batch t) (round t) l 0)) (fun l => A3 m c (ix3 (batch t) (round t) l)) (block t)
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) where
  h0 a d := (congrFun (V_main_arg0 m c) ((win0_0.rect t).emb (ix4 0 0 a d))).trans (congrArg (A0 m c) (own_place t _ a d fun k =>
    (Window.rect_emb_val win0_0 t _ k).trans (by rw [index_0]; exact congrArg (own t.val k * S1x1x512x128.size k + ·) (val4 0 0 a d k))))
  h1 i d := (congrFun (V_main_arg0 m c) ((win0_1.rect t).emb (ix4 0 0 i d))).trans (congrArg (A0 m c) (prior_place t _ i d fun k =>
    (Window.rect_emb_val win0_1 t _ k).trans (by rw [index_1]; exact congrArg (prior t.val k * S1x1x64x128.size k + ·) (val4 0 0 i d k))))
  h2 q i := (congrFun (V_v0 m c) ((win0_2.rect t).emb (ix5 0 0 q 0 i))).trans ((congrArg _ (own5_place t _ q i fun k =>
    (Window.rect_emb_val win0_2 t _ k).trans (by rw [index_2]; exact congrArg (own5 t.val k * S1x1x8x1x64.size k + ·) (val5 0 0 q 0 i k)))).trans
    (cast_bucket (A1 m c) _ _ _ i))
  h3 i := (congrFun (V_v0 m c) ((win0_3.rect t).emb (ix5 0 0 0 0 i))).trans ((congrArg _ (prior5_place t _ i fun k =>
    (Window.rect_emb_val win0_3 t _ k).trans (by rw [index_3]; exact congrArg (prior5 t.val k * S1x1x1x1x64.size k + ·) (val5 0 0 0 0 i k)))).trans
    (cast_bucket (A1 m c) _ _ _ i))
  h4 a := (congrFun (V_v3 m c) ((win0_4.rect t).emb (ix4 0 0 a 0))).trans ((congrArg _ (own_place t _ a 0 fun k =>
    (Window.rect_emb_val win0_4 t _ k).trans (by rw [index_4]; exact congrArg (own t.val k * S1x1x512x1.size k + ·) (val4 0 0 a 0 k)))).trans
    (cast_column (A1 m c) _ _ _))
  h5 q i := (congrFun (V_v1 m c) ((win0_5.rect t).emb (ix5 0 0 q 0 i))).trans ((congrArg _ (own5_place t _ q i fun k =>
    (Window.rect_emb_val win0_5 t _ k).trans (by rw [index_5]; exact congrArg (own5 t.val k * S1x1x8x1x64.size k + ·) (val5 0 0 q 0 i k)))).trans
    (cast_bucket1 (A2 m c) _ _ _ i))
  h6 i := (congrFun (V_v1 m c) ((win0_6.rect t).emb (ix5 0 0 0 0 i))).trans ((congrArg _ (prior5_place t _ i fun k =>
    (Window.rect_emb_val win0_6 t _ k).trans (by rw [index_6]; exact congrArg (prior5 t.val k * S1x1x1x1x64.size k + ·) (val5 0 0 0 0 i k)))).trans
    (cast_bucket1 (A2 m c) _ _ _ i))
  h7 a := (congrFun (V_main_arg2 m c) ((win0_7.rect t).emb (ix4 0 0 a 0))).trans (congrArg (A2 m c) (own_place t _ a 0 fun k =>
    (Window.rect_emb_val win0_7 t _ k).trans (by rw [index_7]; exact congrArg (own t.val k * S1x1x512x1.size k + ·) (val4 0 0 a 0 k))))
  h8 q i := (congrFun (V_v2 m c) ((win0_8.rect t).emb (ix5 0 0 q 0 i))).trans ((congrArg _ (own5_place t _ q i fun k =>
    (Window.rect_emb_val win0_8 t _ k).trans (by rw [index_8]; exact congrArg (own5 t.val k * S1x1x8x1x64.size k + ·) (val5 0 0 q 0 i k)))).trans
    (cast_bucket (A3 m c) _ _ _ i))
  h9 i := (congrFun (V_v2 m c) ((win0_9.rect t).emb (ix5 0 0 0 0 i))).trans ((congrArg _ (prior5_place t _ i fun k =>
    (Window.rect_emb_val win0_9 t _ k).trans (by rw [index_9]; exact congrArg (prior5 t.val k * S1x1x1x1x64.size k + ·) (val5 0 0 0 0 i k)))).trans
    (cast_bucket (A3 m c) _ _ _ i))
  h10 a := (congrFun (V_v4 m c) ((win0_10.rect t).emb (ix4 0 0 a 0))).trans ((congrArg _ (own_place t _ a 0 fun k =>
    (Window.rect_emb_val win0_10 t _ k).trans (by rw [index_10]; exact congrArg (own t.val k * S1x1x512x1.size k + ·) (val4 0 0 a 0 k)))).trans
    (cast_column (A3 m c) _ _ _))

/-! ## The array that the region leaves -/

/-- The attention's value at every query. -/
def attended (A : S32x4x4096x128.Idx → EReal) (I : S32x4x4096.Idx → BitVec 32) (S : S32x4x4096x1.Idx → BitVec 32)
    (W : S32x4x4096.Idx → BitVec 32) (b : Fin 32) (r : Fin 4) (l : Fin 4096) (d : Fin 128) : EReal :=
  value (fun l d => A (ix4 b r l d)) (fun l => I (ix3 b r l)) (fun l => S (ix4 b r l 0)) (fun l => W (ix3 b r l))
    ⟨l.val / 64, by omega⟩ ⟨l.val % 64, Nat.mod_lt _ (by decide)⟩ d

/-- The whole result. -/
def result : S32x4x4096x128.Idx → EReal := fun y => attended (A0 m c) (A1 m c) (A2 m c) (A3 m c) (y 0) (y 1) (y 2) (y 3)

/-- What the body leaves at a place of its block is the whole result at the place where it goes. -/
theorem out_place (t : Fin cfg0.N) (a : Fin 512) (d : Fin 128) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix4 0 0 a d)
      = attended (A0 m c) (A1 m c) (A2 m c) (A3 m c) (batch t) (round t) (rowOf (block t) a) d := by
  rw [out_apply (staged m c t) a d]
  unfold attended
  have e1 : bucketOf (block t) ⟨a.val / 64, by omega⟩ = ⟨(rowOf (block t) a).val / 64, by omega⟩ :=
    Fin.ext (by show 8 * (t.val % 8) + a.val / 64 = (t.val % 8 * 512 + a.val) / 64; omega)
  have e2 : (⟨a.val % 64, Nat.mod_lt _ (by decide)⟩ : Fin 64) = ⟨(rowOf (block t) a).val % 64, Nat.mod_lt _ (by decide)⟩ :=
    Fin.ext (by show a.val % 64 = (t.val % 8 * 512 + a.val) % 64; omega)
  rw [e1, e2]

/-- Where a place of a point's block goes. -/
theorem goes (t : Fin cfg0.N) (a : Fin 512) (d : Fin 128) :
    (win0_11.rect t).emb (ix4 0 0 a d : S1x1x512x128.Idx) = ix4 (batch t) (round t) (rowOf (block t) a) d :=
  own_place t _ a d fun k =>
    (Window.rect_emb_val win0_11 t _ k).trans (by rw [index_11]; exact congrArg (own t.val k * S1x1x512x128.size k + ·) (val4 0 0 a d k))

/-- A place of a block of one batch and one round. -/
theorem place_eq (y : S1x1x512x128.Idx) : y = ix4 0 0 (y 2 : Fin 512) (y 3 : Fin 128) := by
  funext k
  match k with
  | ⟨0, _⟩ => exact Fin.ext (Nat.lt_one_iff.mp (y 0).isLt)
  | ⟨1, _⟩ => exact Fin.ext (Nat.lt_one_iff.mp (y 1).isLt)
  | ⟨2, _⟩ => rfl
  | ⟨3, _⟩ => rfl

/-- A block that agrees with the whole result place by place is what the whole result reads at the block. -/
theorem read_eq (t : Fin cfg0.N) (w : S1x1x512x128.Idx → EReal) (G : S32x4x4096x128.Idx → EReal)
    (h : ∀ a d, w (ix4 0 0 a d) = G (ix4 (batch t) (round t) (rowOf (block t) a) d)) :
    (cfg0.win 11).cut (grid0.coords t) w = ((cfg0.win 11).blk t).view.read (Elt Ideal) G := by
  funext y
  show w y = G ((win0_11.rect t).emb y)
  have e := place_eq y
  exact ((congrArg w e).trans (h _ _)).trans (congrArg G (goes t _ _).symm |>.trans (congrArg (fun z => G ((win0_11.rect t).emb z)) e.symm))

/-- What a point writes back is its block of the whole result. -/
theorem flushed_eq (t : Fin cfg0.N) :
    (dats m 0 c).flushed 11 t = ((cfg0.win 11).blk t).view.read (Elt Ideal) (result m c) :=
  (Value.flushed11 m c t).trans (read_eq t _ (result m c) (out_place m c t))

/-- Every place of the result is in the block of one of the points. -/
theorem cover (i : S32x4x4096x128.Idx) : ∃ t : Fin cfg0.N, (cfg0.win 11).flush t = true ∧ i ∈ ((cfg0.win 11).blk t).view.set := by
  have h0 : (i 0).val < 32 := (i 0).isLt
  have h1 : (i 1).val < 4 := (i 1).isLt
  have h2 : (i 2).val < 4096 := (i 2).isLt
  have h3 : (i 3).val < 128 := (i 3).isLt
  have ht : (i 0).val * 32 + (i 1).val * 8 + (i 2).val / 512 < grid0.N := by rw [N_0]; omega
  refine ⟨⟨_, ht⟩, flush0_11 _, ?_⟩
  show i ∈ ((View.whole main_v5).slice (win0_11.rect ⟨_, ht⟩)).set
  rw [View.set_slice_whole, Rect.mem_set_unit]
  intro k
  show win0_11.index ⟨_, ht⟩ k * win0_11.size k ≤ (i k : ℕ)
    ∧ (i k : ℕ) < win0_11.index ⟨_, ht⟩ k * win0_11.size k + win0_11.xsize (grid0.coords ⟨_, ht⟩) k
  rw [index_11]
  fin_cases k
  · show ((i 0).val * 32 + (i 1).val * 8 + (i 2).val / 512) / 32 * 1 ≤ (i 0).val
      ∧ (i 0).val < ((i 0).val * 32 + (i 1).val * 8 + (i 2).val / 512) / 32 * 1 + 1
    omega
  · show ((i 0).val * 32 + (i 1).val * 8 + (i 2).val / 512) / 8 % 4 * 1 ≤ (i 1).val
      ∧ (i 1).val < ((i 0).val * 32 + (i 1).val * 8 + (i 2).val / 512) / 8 % 4 * 1 + 1
    omega
  · show ((i 0).val * 32 + (i 1).val * 8 + (i 2).val / 512) % 8 * 512 ≤ (i 2).val
      ∧ (i 2).val < ((i 0).val * 32 + (i 1).val * 8 + (i 2).val / 512) % 8 * 512 + 512
    omega
  · show 0 * 128 ≤ (i 3).val ∧ (i 3).val < 0 * 128 + 128
    omega

/-- The result array after the region. -/
theorem final_eq : (dats m 0 c).arrAt 11 cfg0.N = result m c :=
  (dats m 0 c).arrAt_eq_of_cover 11 (result m c) (fun t _ => flushed_eq m c t) cover

end Cert.AttendIdeal.Whole

end
-- ==== Proof.AttendPacks.lean ====
/-
  What the precondition on the packed buckets says: along each batch and round the hash indices are a permutation of 0 … 4095,
  and the word at a place packs, byte by byte, the buckets which the place's original position has in the four rounds.
-/
module

public import proofs.«01_k».proof.Proof.Gen.Pre_packs
public import proofs.«01_k».proof.Proof.ReorderRef

@[expose] public section

noncomputable section

namespace Cert.Pre_packs

open Cert.Pre_packs Cert.Pre_packs.Gen Idealize.ShloMosaic
open Cert.Pre_places (exists_perm argsort_apply andi_one cmpi_eq_one counting counting_apply)
open Cert.ReorderReferenceIdeal.Ref (wordsAt wordsAt_apply)

/-- The argsort along the sequence. -/
def order (o : IVec S32x4x4096 32) : IVec S32x4x4096 32 :=
  (Host.sort2 S32x4x4096 2 comparator_i32_i32_d2 o (iotaInDim S32x4x4096 32 2)).2

/-- Words divided by 64, rounded down. -/
def divided (x : IVec S32x4x4096 32) : IVec S32x4x4096 32 := fn_floor_divide (F := Ideal) x (constantI S_ 32 64#32)

/-- A word's sign. -/
def sign (x : BitVec 32) : BitVec 32 := if x = 0 then 0 else if x.msb then -1 else 1

/-- One word divided by 64, rounded down. -/
def floorDiv (x : BitVec 32) : BitVec 32 :=
  Scalar.select (IntOp.andi (IntOp.cmpi .ne (sign x) (sign 64#32)) (IntOp.cmpi .ne (IntOp.remsi .host x 64#32) 0#32))
    (IntOp.subi (IntOp.divsi .host x 64#32) 1#32) (IntOp.divsi .host x 64#32)

theorem floorDiv_eq (p : Fin 4096) : floorDiv (BitVec.ofNat 32 p.val) = BitVec.ofNat 32 (p.val / 64) := by
  revert p; decide +kernel

theorem divided_apply (x : IVec S32x4x4096 32) (j : S32x4x4096.Idx) (p : Fin 4096) (h : x j = BitVec.ofNat 32 p.val) :
    divided x j = BitVec.ofNat 32 (p.val / 64) := by
  have e : divided x j = floorDiv (x j) := rfl
  rw [e, h, floorDiv_eq]

/-- One round's words. -/
def roundOf (k : Fin 4) (h : S32x4x4096.Slices ![0, k.val, 0] S32x1x4096) (x : IVec S32x4x4096 32) : IVec S32x4096 32 :=
  shapeCast S32x4096 (extractStridedSlice S32x1x4096 ![0, k.val, 0] x h) shapeCasts_S32x1x4096_S32x4096

theorem roundOf_apply (k : Fin 4) (h : S32x4x4096.Slices ![0, k.val, 0] S32x1x4096) (x : IVec S32x4x4096 32) (b : Fin 32) (p : Fin 4096) :
    roundOf k h x (ix2 b p) = x (ix3 b k p) := by
  pointwise [roundOf]

/-- Four bytes, packed in one word. -/
def packed (t : Fin 4 → ℕ) : BitVec 32 := BitVec.ofNat 32 (t 0) + 256#32 * BitVec.ofNat 32 (t 1) + 65536#32 * BitVec.ofNat 32 (t 2) + 16777216#32 * BitVec.ofNat 32 (t 3)

/-- The words that the precondition packs. -/
def packs (I : IVec S32x4x4096 32) : IVec S32x4096 32 :=
  let u := divided (order I)
  addi (addi (addi (roundOf 0 slices_S32x4x4096_S32x1x4096_0_0_0 u)
    (muli (broadcastInDim S32x4096 ![] bcast_S_S32x4096 (constantI S_ 32 256#32)) (roundOf 1 slices_S32x4x4096_S32x1x4096_0_1_0 u)))
    (muli (broadcastInDim S32x4096 ![] bcast_S_S32x4096 (constantI S_ 32 65536#32)) (roundOf 2 slices_S32x4x4096_S32x1x4096_0_2_0 u)))
    (muli (broadcastInDim S32x4096 ![] bcast_S_S32x4096 (constantI S_ 32 16777216#32)) (roundOf 3 slices_S32x4x4096_S32x1x4096_0_3_0 u))

/-- The bucket that position `q` has in round `k`. -/
def bucketOf (π : Fin 32 → Fin 4 → Fin 4096 ≃ Fin 4096) (b : Fin 32) (q : Fin 4096) (k : Fin 4) : ℕ := ((π b k).symm q).val / 64

theorem order_apply (I : IVec S32x4x4096 32) (π : Fin 32 → Fin 4 → Fin 4096 ≃ Fin 4096) (h : ∀ b r p, (I (ix3 b r p)).toNat = (π b r p).val)
    (b : Fin 32) (r : Fin 4) (p : Fin 4096) : order I (ix3 b r p) = BitVec.ofNat 32 ((π b r).symm p).val :=
  argsort_apply I π h _ (fun _ _ => rfl) b r p

theorem packs_apply (I : IVec S32x4x4096 32) (π : Fin 32 → Fin 4 → Fin 4096 ≃ Fin 4096) (h : ∀ b r p, (I (ix3 b r p)).toNat = (π b r p).val)
    (b : Fin 32) (q : Fin 4096) : packs I (ix2 b q) = packed (bucketOf π b q) := by
  have e (k : Fin 4) (hs : S32x4x4096.Slices ![0, k.val, 0] S32x1x4096) :
      roundOf k hs (divided (order I)) (ix2 b q) = BitVec.ofNat 32 (bucketOf π b q k) := by
    rw [roundOf_apply, divided_apply _ _ _ (order_apply I π h b k q)]; rfl
  unfold packed
  rw [← e 0 slices_S32x4x4096_S32x1x4096_0_0_0, ← e 1 slices_S32x4x4096_S32x1x4096_0_1_0, ← e 2 slices_S32x4x4096_S32x1x4096_0_2_0,
    ← e 3 slices_S32x4x4096_S32x1x4096_0_3_0]
  rfl

/-- The precondition, read: some permutations which the hash indices spell, and whose buckets the words pack. -/
theorem of_fn (A : FVec Ideal S32x4x4096x128 .f32) (I : IVec S32x4x4096 32) (S : IVec S32x4x4096x1 32) (W : IVec S32x4x4096 32)
    (h : fn A I S W = fun _ => 1#1) :
    ∃ π : Fin 32 → Fin 4 → Fin 4096 ≃ Fin 4096,
      (∀ b r p, (I (ix3 b r p)).toNat = (π b r p).val) ∧ ∀ b r p, W (ix3 b r p) = packed (bucketOf π b (π b r p)) := by
  have : Subsingleton S_.Idx := ⟨fun a b => funext fun i => i.elim0⟩
  have e : Host.reduce IntOp.andi (andi (cmpi .eq (Host.sort S32x4x4096 2 comparator_i32_d2 I) counting) (cmpi .eq W (wordsAt (packs I) I)))
      (constantI S_ 1 1#1) reducesTo_S32x4x4096_S_d0_1_2 h_S_ (Shape.Idx.first h_S_) = 1#1 := congrFun h (Shape.Idx.first h_S_)
  have key : ∀ j : S32x4x4096.Idx, Host.sort S32x4x4096 2 comparator_i32_d2 I j = counting j ∧ W j = wordsAt (packs I) I j := fun j => by
    have e' := andi_one _ _ (Host.reduce_andi_all _ _ _ _ _ e j)
    exact ⟨cmpi_eq_one _ _ e'.1, cmpi_eq_one _ _ e'.2⟩
  obtain ⟨π, hπ⟩ := exists_perm I comparator_i32_d2 fun b r p => ((key (ix3 b r p)).1).trans (counting_apply b r p)
  refine ⟨π, hπ, fun b r p => ?_⟩
  have hI : I (ix3 b r p) = BitVec.ofNat 32 (π b r p).val := by rw [← hπ, BitVec.ofNat_toNat, BitVec.setWidth_eq]
  rw [(key (ix3 b r p)).2, wordsAt_apply _ _ b r p (π b r p) hI, packs_apply I π hπ]

end Cert.Pre_packs

end
-- ==== Proof.AttendCount.lean ====
/-
  How often the reference of the attention call counts a key among the keys that its query has in all four rounds: for hash
  indices that are permutations, and words that pack the buckets, as often as the two words' bytes are near.
-/
module

public import proofs.«01_k».proof.Proof.Gen.AttendReferenceIdeal.Run
public import proofs.«01_k».proof.Proof.AttendArith
public import proofs.«01_k».proof.Proof.AttendPacks

@[expose] public section

noncomputable section

namespace Cert.AttendReferenceIdeal.Ref

open Cert.AttendReferenceIdeal Cert.AttendReferenceIdeal.Gen Cert.AttendReferenceIdeal.Value
open Cert.AttendIdeal.Mix (nearAt countAt keyBucket keyPlace spot)
open Cert.Pre_packs (order divided divided_apply roundOf roundOf_apply packed bucketOf order_apply)
open Cert.ReorderReferenceIdeal.Ref (wordsAt wordsAt_apply)
open Idealize.ShloMosaic

/-- Words with those of the bucket before put first. -/
def backWords {α : Type} (x : S32x4x64x64.Idx → α) : S32x4x64x128.Idx → α :=
  concatenate S32x4x64x128 3 [⟨S32x4x64x64, concatenate S32x4x64x64 2
    [⟨S32x4x1x64, extractStridedSlice S32x4x1x64 ![0, 0, 63, 0] x slices_S32x4x64x64_S32x4x1x64_0_0_63_0⟩,
      ⟨S32x4x63x64, extractStridedSlice S32x4x63x64 ![0, 0, 0, 0] x slices_S32x4x64x64_S32x4x63x64_0_0_0_0⟩]
    concatenates_S32x4x1x64_S32x4x63x64_S32x4x64x64_d2⟩, ⟨S32x4x64x64, x⟩]
    concatenates_S32x4x64x64_S32x4x64x64_S32x4x64x128_d3

/-- Words, in buckets. -/
def words (x : IVec S32x4x4096 32) : IVec S32x4x64x64 32 := shapeCast _ x shapeCasts_S32x4x4096_S32x4x64x64

/-- A bucket and the place in it that the looking back reads. -/
theorem place_cases (n : Fin 64) (j : Fin 128) {α : Type} (x : Fin 64 → Fin 64 → α) :
    (if h : j.val < 64 then if g : n.val < 1 then x ⟨63 + n.val, by omega⟩ ⟨j.val, h⟩ else x ⟨n.val - 1, by omega⟩ ⟨j.val, h⟩ else x n ⟨j.val - 64, by omega⟩)
      = x (keyBucket n j) (keyPlace j) := by
  unfold keyBucket keyPlace
  by_cases h : j.val < 64
  · rw [dif_pos h, if_pos h]
    by_cases g : n.val < 1
    · rw [dif_pos g]
      congr 1 <;> exact Fin.ext (by simp only []; omega)
    · rw [dif_neg g]
      congr 1 <;> exact Fin.ext (by simp only []; omega)
  · rw [dif_neg h, if_neg h]
    congr 1
    exact Fin.ext (by simp only []; omega)

theorem backWords_apply {α : Type} (x : S32x4x64x64.Idx → α) (b : Fin 32) (r : Fin 4) (n : Fin 64) (j : Fin 128) :
    backWords x (ix4 b r n j) = x (ix4 b r (keyBucket n j) (keyPlace j)) := by
  rw [← place_cases n j fun n i => x (ix4 b r n i)]
  pointwise [backWords]

theorem words_apply (x : IVec S32x4x4096 32) (b : Fin 32) (r : Fin 4) (n i : Fin 64) :
    words x (ix4 b r n i) = x (ix3 b r ⟨n.val * 64 + i.val, by omega⟩) := by
  pointwise [words]

/-- One round's keys, bucket by bucket. -/
def keysOf (k : Fin 4) (h : S32x4x64x128.Slices ![0, k.val, 0, 0] S32x1x64x128) (x : IVec S32x4x64x128 32) : IVec S32x64x128 32 :=
  shapeCast S32x64x128 (extractStridedSlice S32x1x64x128 ![0, k.val, 0, 0] x h) shapeCasts_S32x1x64x128_S32x64x128

theorem keysOf_apply (k : Fin 4) (h : S32x4x64x128.Slices ![0, k.val, 0, 0] S32x1x64x128) (x : IVec S32x4x64x128 32) (b : Fin 32) (n : Fin 64) (j : Fin 128) :
    keysOf k h x (ix3 b n j) = x (ix4 b k n j) := by
  pointwise [keysOf]

/-- Bucket numbers, as the reference prepares them for its gather: a negative one counts from the end. -/
def wrapped (j : IVec S32x4x4096 32) : IVec S32x4x4096x1 32 :=
  broadcastInDim S32x4x4096x1 ![0, 1, 2] bcast_S32x4x4096_S32x4x4096x1_0_1_2
    (select (cmpi .slt j (broadcastInDim S32x4x4096 ![] bcast_S_S32x4x4096 (constantI S_ 32 0#32)))
      (addi j (broadcastInDim S32x4x4096 ![] bcast_S_S32x4x4096 (constantI S_ 32 64#32))) j)

theorem wrapped_apply (j : IVec S32x4x4096 32) (b : Fin 32) (r : Fin 4) (p : Fin 4096) (n : Fin 64) (h : j (ix3 b r p) = BitVec.ofNat 32 n.val) :
    wrapped j (ix4 b r p 0) = BitVec.ofNat 32 n.val := by
  have e : wrapped j (ix4 b r p 0) = Scalar.select (IntOp.cmpi .slt (j (ix3 b r p)) 0#32) (IntOp.addi (j (ix3 b r p)) 64#32) (j (ix3 b r p)) := by
    pointwise [wrapped]
  rw [e, h]
  clear h e
  revert n; decide

theorem clamp (w : BitVec 32) (n : Fin 64) (h : w = BitVec.ofNat 32 n.val) : min w.toInt.toNat (64 - 1) = n.val := by
  rw [h]
  clear h
  revert n; decide

/-- The keys of the bucket that each place names. -/
abbrev keysAt (x : IVec S32x64x128 32) (j : IVec S32x4x4096 32) : IVec S32x4x4096x128 32 :=
  Host.gather gather_S32x64x128_S32x4x4096x1_S32x4x4096x128_3_1_0_0_1_3_11128 x (wrapped j)

theorem keysAt_apply (x : IVec S32x64x128 32) (j : IVec S32x4x4096 32) (b : Fin 32) (r : Fin 4) (p : Fin 4096) (n : Fin 64) (c : Fin 128)
    (h : j (ix3 b r p) = BitVec.ofNat 32 n.val) : keysAt x j (ix4 b r p c) = x (ix3 b n c) := by
  have hw := wrapped_apply j b r p n h
  unfold keysAt Host.gather
  refine congrArg x (funext fun a => Fin.ext ?_)
  show GatherDims.start _ _ (wrapped j) a + GatherDims.batchCoord _ _ a + GatherDims.offCoord _ _ a = _
  have one {u v : Fin 3} (h : u.val ≠ v.val) : u ∉ [v] := fun e => h (congrArg Fin.val (List.mem_singleton.mp e))
  match a with
  | ⟨0, _⟩ =>
    rw [GatherDims.start_batching _ _ _ _ (List.mem_singleton.mpr rfl), Nat.zero_add,
      GatherDims.offCoord_eq_zero _ _ _ (fun e => ((GatherDims.mem_sKept _ _).mp e).2 (List.mem_singleton.mpr rfl)), Nat.add_zero]
    unfold GatherDims.batchCoord
    rw [dif_pos (show (⟨0, by decide⟩ : Fin 3) ∈ GatherDims.operandBatchingDims gather_S32x64x128_S32x4x4096x1_S32x4x4096x128_3_1_0_0_1_3_11128 from List.mem_singleton.mpr rfl)]
    rfl
  | ⟨1, h1⟩ =>
    rw [GatherDims.batchCoord_eq_zero _ _ _ (one (show (1 : ℕ) ≠ 0 by decide)), Nat.add_zero,
      GatherDims.offCoord_eq_zero _ _ _ (fun e => ((GatherDims.mem_sKept _ _).mp e).1 (List.mem_singleton.mpr rfl)), Nat.add_zero]
    unfold GatherDims.start
    rw [dif_pos (show (⟨1, by decide⟩ : Fin 3) ∈ GatherDims.startIndexMap gather_S32x64x128_S32x4x4096x1_S32x4x4096x128_3_1_0_0_1_3_11128 from List.mem_singleton.mpr rfl)]
    refine Eq.trans ?_ (clamp _ n hw)
    refine congrArg (fun i => min (wrapped j i).toInt.toNat (64 - 1)) (funext fun q => Fin.ext ?_)
    match q with
    | ⟨0, _⟩ => rfl
    | ⟨1, _⟩ => rfl
    | ⟨2, _⟩ => rfl
    | ⟨3, _⟩ => rfl
  | ⟨2, h2⟩ =>
    have hs : GatherDims.start gather_S32x64x128_S32x4x4096x1_S32x4x4096x128_3_1_0_0_1_3_11128 (ix4 b r p c) (wrapped j) ⟨2, h2⟩ = 0 := by
      unfold GatherDims.start
      exact dif_neg (one (show (2 : ℕ) ≠ 1 by decide))
    rw [hs, Nat.zero_add, GatherDims.batchCoord_eq_zero _ _ _ (one (show (2 : ℕ) ≠ 0 by decide)), Nat.zero_add]
    unfold GatherDims.offCoord
    rw [dif_pos ((GatherDims.mem_sKept _ _).mpr ⟨one (show (2 : ℕ) ≠ 1 by decide), one (show (2 : ℕ) ≠ 0 by decide)⟩)]
    rfl

/-- One where a query's key `j` is key `c` of another round. -/
def same (x : IVec S32x4x64x128 32) (y : IVec S32x4x4096x128 32) : IVec S32x4x64x64x128x128 32 :=
  extui 32 (cmpi .eq
    (broadcastInDim S32x4x64x64x128x128 ![0, 1, 2, 3, 4, 5] bcast_S32x4x64x1x128x1_S32x4x64x64x128x128_0_1_2_3_4_5 (broadcastInDim S32x4x64x1x128x1 ![0, 1, 2, 4] bcast_S32x4x64x128_S32x4x64x1x128x1_0_1_2_4 x))
    (broadcastInDim S32x4x64x64x128x128 ![0, 1, 2, 3, 4, 5] bcast_S32x4x64x64x1x128_S32x4x64x64x128x128_0_1_2_3_4_5 (broadcastInDim S32x4x64x64x1x128 ![0, 1, 2, 3, 5] bcast_S32x4x64x64x128_S32x4x64x64x1x128_0_1_2_3_5
      (shapeCast _ y shapeCasts_S32x4x4096x128_S32x4x64x64x128)))) natLt_1_32

theorem same_apply (x : IVec S32x4x64x128 32) (y : IVec S32x4x4096x128 32) (b : Fin 32) (r : Fin 4) (n i : Fin 64) (j c : Fin 128) :
    same x y (ix6 b r n i j c) = (IntOp.cmpi .eq (x (ix4 b r n j)) (y (ix4 b r (spot n i) c))).setWidth 32 := by
  pointwise [same]
  rfl

/-- How often each key occurs among the keys that its query has in round `k`. -/
def occurs (k : Fin 4) (h : S32x4x4096.Slices ![0, k.val, 0] S32x1x4096) (h' : S32x4x64x128.Slices ![0, k.val, 0, 0] S32x1x64x128)
    (I : IVec S32x4x4096 32) : IVec S32x4x64x64x128 32 :=
  Host.reduce IntOp.addi (same (backWords (words I)) (keysAt (keysOf k h' (backWords (words I))) (divided (wordsAt (roundOf k h (order I)) I))))
    (constantI S_ 32 0#32) reducesTo_S32x4x64x64x128x128_S32x4x64x64x128_d5 h_S_

/-- How often each key occurs among the keys that its query has in all rounds. -/
def count (I : IVec S32x4x4096 32) : IVec S32x4x64x64x128 32 :=
  addi (addi (addi (addi (broadcastInDim S32x4x64x64x128 ![] bcast_S_S32x4x64x64x128 (constantI S_ 32 0#32))
    (occurs 0 slices_S32x4x4096_S32x1x4096_0_0_0 slices_S32x4x64x128_S32x1x64x128_0_0_0_0 I))
    (occurs 1 slices_S32x4x4096_S32x1x4096_0_1_0 slices_S32x4x64x128_S32x1x64x128_0_1_0_0 I))
    (occurs 2 slices_S32x4x4096_S32x1x4096_0_2_0 slices_S32x4x64x128_S32x1x64x128_0_2_0_0 I))
    (occurs 3 slices_S32x4x4096_S32x1x4096_0_3_0 slices_S32x4x64x128_S32x1x64x128_0_3_0_0 I)

theorem fold_zero (s : Finset (Fin 128)) (f : Fin 128 → BitVec 32) (h : ∀ k ∈ s, f k = 0#32) : s.fold IntOp.addi 0#32 f = 0#32 := by
  induction s using Finset.induction_on with
  | empty => rfl
  | insert a s ha ih =>
    rw [Finset.fold_insert ha, h a (Finset.mem_insert_self _ _), ih fun k hk => h k (Finset.mem_insert_of_mem hk)]
    rfl

/-- A sum of words of which all but one are zero. -/
theorem fold_one (f : Fin 128 → BitVec 32) (a : Fin 128) (h : ∀ k, k ≠ a → f k = 0#32) : Finset.univ.fold IntOp.addi 0#32 f = f a := by
  rw [← Finset.insert_erase (Finset.mem_univ a), Finset.fold_insert (Finset.notMem_erase _ _), fold_zero _ _ fun k hk => h k (Finset.ne_of_mem_erase hk)]
  exact BitVec.add_zero _

/-- Place `p` is one of the keys of bucket `n` once, if its bucket is `n` or the one before, else never. -/
theorem once (n : Fin 64) (p : Fin 4096) :
    Finset.univ.fold IntOp.addi 0#32 (fun c : Fin 128 => if spot (keyBucket n c) (keyPlace c) = p then 1#32 else 0#32)
      = if (n.val + 64 - p.val / 64) % 64 ≤ 1 then 1#32 else 0#32 := by
  have hs (c : Fin 128) : (spot (keyBucket n c) (keyPlace c)).val = (if c.val < 64 then (n.val + 63) % 64 else n.val) * 64 + c.val % 64 := by
    unfold keyBucket
    split <;> rfl
  have hp := p.isLt
  have hn := n.isLt
  by_cases h : (n.val + 64 - p.val / 64) % 64 ≤ 1
  · rw [if_pos h]
    by_cases e : p.val / 64 = n.val
    · rw [fold_one _ ⟨64 + p.val % 64, by omega⟩ fun k hk => if_neg fun ek => hk ?_]
      · refine if_pos (Fin.ext ?_)
        rw [hs, if_neg (by show ¬ 64 + p.val % 64 < 64; omega)]
        show n.val * 64 + (64 + p.val % 64) % 64 = p.val
        omega
      · have ek' := congrArg Fin.val ek
        rw [hs] at ek'
        refine Fin.ext ?_
        show k.val = 64 + p.val % 64
        split at ek' <;> omega
    · rw [fold_one _ ⟨p.val % 64, by omega⟩ fun k hk => if_neg fun ek => hk ?_]
      · refine if_pos (Fin.ext ?_)
        rw [hs, if_pos (by show p.val % 64 < 64; omega)]
        show (n.val + 63) % 64 * 64 + p.val % 64 % 64 = p.val
        omega
      · have ek' := congrArg Fin.val ek
        rw [hs] at ek'
        refine Fin.ext ?_
        show k.val = p.val % 64
        split at ek' <;> omega
  · rw [if_neg h]
    refine fold_zero _ _ fun k _ => if_neg fun ek => h ?_
    have ek' := congrArg Fin.val ek
    rw [hs] at ek'
    split at ek' <;> omega

/-- A sum over the last axis: its terms added. -/
theorem added (v : IVec S32x4x64x64x128x128 32) (b : Fin 32) (r : Fin 4) (n i : Fin 64) (j : Fin 128) :
    Host.reduce IntOp.addi v (constantI S_ 32 0#32) reducesTo_S32x4x64x64x128x128_S32x4x64x64x128_d5 h_S_ (ix5 b r n i j)
      = Finset.univ.fold IntOp.addi 0#32 fun c : Fin 128 => v (ix6 b r n i j c) := by
  rw [Host.reduce_eq_fold, Finset.fold_filter_eq_fold_of_fiber IntOp.addi _ (fun h : Fin 128 => (ix6 b r n i j h : S32x4x64x64x128x128.Idx))
    (fun _ _ e => congrFun e 5) ?_]
  · rfl
  · intro k
    constructor
    · intro e
      refine ⟨k 5, ?_⟩
      funext a; apply Fin.ext
      match a with
      | ⟨0, _⟩ => exact congrArg Fin.val (congrFun e 0).symm
      | ⟨1, _⟩ => exact congrArg Fin.val (congrFun e 1).symm
      | ⟨2, _⟩ => exact congrArg Fin.val (congrFun e 2).symm
      | ⟨3, _⟩ => exact congrArg Fin.val (congrFun e 3).symm
      | ⟨4, _⟩ => exact congrArg Fin.val (congrFun e 4).symm
      | ⟨5, _⟩ => rfl
    · rintro ⟨h, rfl⟩
      funext a; apply Fin.ext
      match a with
      | ⟨0, _⟩ => rfl
      | ⟨1, _⟩ => rfl
      | ⟨2, _⟩ => rfl
      | ⟨3, _⟩ => rfl
      | ⟨4, _⟩ => rfl

/-- The bytes that packed buckets hold. -/
theorem byte_eq (t : Fin 4 → ℕ) (h : ∀ k, t k < 64) (k : Fin 4) :
    IntOp.andi (IntOp.shrsi .vector (packed t) (![0#32, 8#32, 16#32, 24#32] k)) 255#32 = BitVec.ofNat 32 (t k) := by
  have h0 := h 0
  have h1 := h 1
  have h2 := h 2
  have h3 := h 3
  have e : (packed t).toNat = t 0 + 256 * t 1 + 65536 * t 2 + 16777216 * t 3 := by
    unfold packed
    simp only [BitVec.toNat_add, BitVec.toNat_mul, BitVec.toNat_ofNat]
    omega
  have hm : (packed t).msb = false := by
    rw [BitVec.msb_eq_false_iff_two_mul_lt, e]
    omega
  have hk : (![0#32, 8#32, 16#32, 24#32] k).toNat = 8 * k.val := by
    fin_cases k <;> rfl
  unfold IntOp.shrsi
  rw [if_pos (by rw [hk]; omega)]
  refine BitVec.eq_of_toNat_eq ?_
  show (((packed t).sshiftRight' _) &&& 255#32).toNat = _
  rw [BitVec.sshiftRight', BitVec.sshiftRight_eq_of_msb_false hm, hk, BitVec.toNat_and, BitVec.toNat_ushiftRight, e, BitVec.toNat_ofNat, BitVec.toNat_ofNat,
    Nat.shiftRight_eq_div_pow, show 255 % 2 ^ 32 = 2 ^ 8 - 1 from rfl, Nat.and_two_pow_sub_one_eq_mod]
  fin_cases k <;> simp <;> omega

theorem near_iff (a c : Fin 64) : Scalar.select (IntOp.cmpi .sle (IntOp.andi (IntOp.subi (BitVec.ofNat 32 a.val) (BitVec.ofNat 32 c.val)) 63#32) 1#32) 1#32 0#32
    = if (a.val + 64 - c.val) % 64 ≤ 1 then 1#32 else 0#32 := by
  revert a c; decide +kernel

theorem nearAt_packed (s t : Fin 4 → ℕ) (hs : ∀ k, s k < 64) (ht : ∀ k, t k < 64) (k : Fin 4) :
    nearAt (packed s) (packed t) (![0#32, 8#32, 16#32, 24#32] k) = if (s k + 64 - t k) % 64 ≤ 1 then 1#32 else 0#32 := by
  unfold nearAt
  rw [byte_eq s hs, byte_eq t ht]
  exact near_iff ⟨s k, hs k⟩ ⟨t k, ht k⟩

section
variable (I : IVec S32x4x4096 32) (π : Fin 32 → Fin 4 → Fin 4096 ≃ Fin 4096) (hI : ∀ b r p, (I (ix3 b r p)).toNat = (π b r p).val)
include hI

theorem keys_apply (b : Fin 32) (r : Fin 4) (n : Fin 64) (j : Fin 128) :
    backWords (words I) (ix4 b r n j) = BitVec.ofNat 32 (π b r (spot (keyBucket n j) (keyPlace j))).val := by
  rw [backWords_apply, words_apply, ← hI, BitVec.ofNat_toNat, BitVec.setWidth_eq]
  rfl

theorem occurs_apply (k : Fin 4) (h : S32x4x4096.Slices ![0, k.val, 0] S32x1x4096) (h' : S32x4x64x128.Slices ![0, k.val, 0, 0] S32x1x64x128)
    (b : Fin 32) (r : Fin 4) (n i : Fin 64) (j : Fin 128) :
    occurs k h h' I (ix5 b r n i j) = if (bucketOf π b (π b r (spot n i)) k + 64 - bucketOf π b (π b r (spot (keyBucket n j) (keyPlace j))) k) % 64 ≤ 1 then 1#32 else 0#32 := by
  have hq : I (ix3 b r (spot n i)) = BitVec.ofNat 32 (π b r (spot n i)).val := by rw [← hI, BitVec.ofNat_toNat, BitVec.setWidth_eq]
  have hd : divided (wordsAt (roundOf k h (order I)) I) (ix3 b r (spot n i)) = BitVec.ofNat 32 (bucketOf π b (π b r (spot n i)) k) :=
    divided_apply _ _ ((π b k).symm (π b r (spot n i))) (by rw [wordsAt_apply _ _ _ _ _ _ hq, roundOf_apply, order_apply I π hI])
  have hlt : bucketOf π b (π b r (spot n i)) k < 64 := by unfold bucketOf; omega
  unfold occurs
  rw [added]
  refine Eq.trans ?_ (once ⟨bucketOf π b (π b r (spot n i)) k, hlt⟩ ((π b k).symm (π b r (spot (keyBucket n j) (keyPlace j)))))
  refine congrArg (Finset.univ.fold IntOp.addi 0#32) (funext fun c => ?_)
  rw [same_apply, keysAt_apply _ _ b r (spot n i) ⟨_, hlt⟩ c hd, keysOf_apply, keys_apply I π hI, keys_apply I π hI]
  generalize spot (keyBucket _ c) (keyPlace c) = u
  generalize π b r (spot (keyBucket n j) (keyPlace j)) = x
  by_cases e : u = (π b k).symm x
  · rw [if_pos e, e, Equiv.apply_symm_apply]
    simp [IntOp.cmpi]
  · rw [if_neg e]
    have hne : BitVec.ofNat 32 x.val ≠ BitVec.ofNat 32 (π b k u).val := fun he => e <| by
      have := congrArg BitVec.toNat he
      rw [BitVec.toNat_ofNat, BitVec.toNat_ofNat, Nat.mod_eq_of_lt (by omega), Nat.mod_eq_of_lt (by omega)] at this
      rw [Fin.ext this, Equiv.symm_apply_apply]
    have hb : (BitVec.ofNat 32 x.val == BitVec.ofNat 32 (π b k u).val) = false := beq_eq_false_iff_ne.mpr hne
    show (BitVec.ofBool (BitVec.ofNat 32 x.val == BitVec.ofNat 32 (π b k u).val)).setWidth 32 = 0#32
    rw [hb]
    rfl

/-- The count, by the packed buckets. -/
theorem count_apply (W : IVec S32x4x4096 32) (hW : ∀ b r p, W (ix3 b r p) = packed (bucketOf π b (π b r p)))
    (b : Fin 32) (r : Fin 4) (n i : Fin 64) (j : Fin 128) :
    count I (ix5 b r n i j) = countAt (W (ix3 b r (spot n i))) (W (ix3 b r (spot (keyBucket n j) (keyPlace j)))) := by
  have hl (q : Fin 4096) (k : Fin 4) : bucketOf π b q k < 64 := by unfold bucketOf; omega
  have e (k : Fin 4) (h : S32x4x4096.Slices ![0, k.val, 0] S32x1x4096) (h' : S32x4x64x128.Slices ![0, k.val, 0, 0] S32x1x64x128) :
      occurs k h h' I (ix5 b r n i j) = nearAt (W (ix3 b r (spot n i))) (W (ix3 b r (spot (keyBucket n j) (keyPlace j)))) (![0#32, 8#32, 16#32, 24#32] k) := by
    rw [occurs_apply I π hI, hW, hW, nearAt_packed _ _ (hl _) (hl _)]
  show IntOp.addi (IntOp.addi (IntOp.addi (IntOp.addi 0#32 (occurs 0 _ _ I _)) (occurs 1 _ _ I _)) (occurs 2 _ _ I _)) (occurs 3 _ _ I _) = _
  rw [e, e, e, e]
  rfl

end

end Cert.AttendReferenceIdeal.Ref

end
-- ==== Proof.AttendRef.lean ====
/-
  What the reference of the attention call computes, over the extended reals: for every query its scores against the keys of its
  own bucket and of the bucket before it, the first bucket looking back to the last.
-/
module

public import proofs.«01_k».proof.Proof.AttendCount
public import Idealize.ShloMosaic.Lib.Pointwise
public import Idealize.ShloMosaic.PureOps.Ideal

@[expose] public section

noncomputable section

namespace Cert.AttendReferenceIdeal.Ref

open Cert.AttendReferenceIdeal Cert.AttendReferenceIdeal.Gen Cert.AttendReferenceIdeal.Value
open Cert.AttendIdeal.Mix (unitKey dot score countAt most expo sum lse weight row keyBucket keyPlace spot value count_nonneg weight_eq div_eight)
open Idealize.ShloMosaic Idealize.ShloMosaic.TcCoe Idealize.SL.Sem

/-- Rows with those of the bucket before put first. -/
def back {α : Type} (x : S32x4x64x64x64.Idx → α) : S32x4x64x128x64.Idx → α :=
  concatenate S32x4x64x128x64 3 [⟨S32x4x64x64x64, concatenate S32x4x64x64x64 2
    [⟨S32x4x1x64x64, extractStridedSlice S32x4x1x64x64 ![0, 0, 63, 0, 0] x slices_S32x4x64x64x64_S32x4x1x64x64_0_0_63_0_0⟩,
      ⟨S32x4x63x64x64, extractStridedSlice S32x4x63x64x64 ![0, 0, 0, 0, 0] x slices_S32x4x64x64x64_S32x4x63x64x64_0_0_0_0_0⟩]
    concatenates_S32x4x1x64x64_S32x4x63x64x64_S32x4x64x64x64_d2⟩, ⟨S32x4x64x64x64, x⟩]
    concatenates_S32x4x64x64x64_S32x4x64x64x64_S32x4x64x128x64_d3

theorem back_apply {α : Type} (x : S32x4x64x64x64.Idx → α) (b : Fin 32) (r : Fin 4) (n : Fin 64) (j : Fin 128) (d : Fin 64) :
    back x (ix5 b r n j d) = x (ix5 b r (keyBucket n j) (keyPlace j) d) := by
  rw [← place_cases n j fun n i => x (ix5 b r n i d)]
  pointwise [back]

/-- The keys, each divided by its length or by 1e-12. -/
def unit (k : FVec Ideal S32x4x64x128x64 .f32) : FVec Ideal S32x4x64x128x64 .f32 :=
  Host.divf k (broadcastInDim S32x4x64x128x64 ![0, 1, 2, 3, 4] bcast_S32x4x64x128x1_S32x4x64x128x64_0_1_2_3_4
    (maximumf (Host.sqrt (broadcastInDim S32x4x64x128x1 ![0, 1, 2, 3] bcast_S32x4x64x128_S32x4x64x128x1_0_1_2_3
        (Host.reduceAdd (mulf k k) (constant S_ .f32 0x00000000#32) reducesTo_S32x4x64x128x64_S32x4x64x128_d4 h_S_)))
      (broadcastInDim S32x4x64x128x1 ![] bcast_S_S32x4x64x128x1 (constant S_ .f32 0x2B8CBCCC#32))))

/-- A query's word at every one of its keys. -/
def ofQuery (x : IVec S32x4x64x64 32) : IVec S32x4x64x64x128 32 :=
  broadcastInDim S32x4x64x64x128 ![0, 1, 2, 3, 4] bcast_S32x4x64x64x1_S32x4x64x64x128_0_1_2_3_4 (broadcastInDim S32x4x64x64x1 ![0, 1, 2, 3] bcast_S32x4x64x64_S32x4x64x64x1_0_1_2_3 x)
/-- A key's word at every query. -/
def ofKey (x : IVec S32x4x64x64 32) : IVec S32x4x64x64x128 32 :=
  broadcastInDim S32x4x64x64x128 ![0, 1, 2, 3, 4] bcast_S32x4x64x1x128_S32x4x64x64x128_0_1_2_3_4 (broadcastInDim S32x4x64x1x128 ![0, 1, 2, 4] bcast_S32x4x64x128_S32x4x64x1x128_0_1_2_4 (backWords x))

/-- The masked scores. -/
def scores (q : FVec Ideal S32x4x64x64x64 .f32) (qi sq : IVec S32x4x64x64 32) : FVec Ideal S32x4x64x64x128 .f32 :=
  select (cmpi .eq (ofQuery qi) (ofKey qi)) (broadcastInDim S32x4x64x64x128 ![] bcast_S_S32x4x64x64x128 (id (constant S_ .f32 0xC7C35000#32)))
    (select (cmpi .slt (ofQuery qi) (ofKey qi)) (broadcastInDim S32x4x64x64x128 ![] bcast_S_S32x4x64x64x128 (id (constant S_ .f32 0xCE6E6B28#32)))
      (select (cmpi .ne (ofQuery sq) (ofKey sq)) (broadcastInDim S32x4x64x64x128 ![] bcast_S_S32x4x64x64x128 (id (constant S_ .f32 0xCE6E6B28#32)))
        (Host.divf (Host.dotGeneral dot_S32x4x64x64x64_S32x4x64x128x64_S32x4x64x64x128_4_4_3_3_012_012 none q (unit (back q)))
          (broadcastInDim S32x4x64x64x128 ![] bcast_S_S32x4x64x64x128 (constant S_ .f32 0x41000000#32)))))

/-- The greatest score of each query. -/
def top (s : FVec Ideal S32x4x64x64x128 .f32) : FVec Ideal S32x4x64x64x1 .f32 :=
  broadcastInDim S32x4x64x64x1 ![0, 1, 2, 3] bcast_S32x4x64x64_S32x4x64x64x1_0_1_2_3
    (Host.reduce FloatOps.maximumf s (constant S_ .f32 0xFF800000#32) reducesTo_S32x4x64x64x128_S32x4x64x64_d4 h_S_)

/-- The exponentials of the scores less the greatest. -/
def exps (s : FVec Ideal S32x4x64x64x128 .f32) : FVec Ideal S32x4x64x64x128 .f32 :=
  Host.exp (subf s (broadcastInDim S32x4x64x64x128 ![0, 1, 2, 3, 4] bcast_S32x4x64x64x1_S32x4x64x64x128_0_1_2_3_4 (top s)))

/-- The sums of the exponentials. -/
def total (s : FVec Ideal S32x4x64x64x128 .f32) : FVec Ideal S32x4x64x64x1 .f32 :=
  broadcastInDim S32x4x64x64x1 ![0, 1, 2, 3] bcast_S32x4x64x64_S32x4x64x64x1_0_1_2_3
    (Host.reduceAdd (exps s) (constant S_ .f32 0x00000000#32) reducesTo_S32x4x64x64x128_S32x4x64x64_d4 h_S_)

/-- The weighted values. -/
def mixed (s : FVec Ideal S32x4x64x64x128 .f32) (n : IVec S32x4x64x64x128 32) (v : FVec Ideal S32x4x64x64x64 .f32) : FVec Ideal S32x4x64x64x64 .f32 :=
  Host.dotGeneral dot_S32x4x64x64x128_S32x4x64x128x64_S32x4x64x64x64_4_3_3_4_012_012 none
    (Host.divf (Host.divf (exps s) (broadcastInDim S32x4x64x64x128 ![0, 1, 2, 3, 4] bcast_S32x4x64x64x1_S32x4x64x64x128_0_1_2_3_4 (total s)))
      (sitofp .f32 n)) (back v)

/-- The stored rows. -/
def rows (s : FVec Ideal S32x4x64x64x128 .f32) (n : IVec S32x4x64x64x128 32) (v : FVec Ideal S32x4x64x64x64 .f32) : FVec Ideal S32x4x4096x128 .f32 :=
  shapeCast _ (concatenate S32x4x64x64x128 4 [⟨S32x4x64x64x64, mixed s n v⟩, ⟨S32x4x64x64x1, addf (top s) (Host.log (total s))⟩,
    ⟨S32x4x64x64x63, broadcastInDim S32x4x64x64x63 ![] bcast_S_S32x4x64x64x63 (constant S_ .f32 0x00000000#32)⟩]
    concatenates_S32x4x64x64x64_S32x4x64x64x1_S32x4x64x64x63_S32x4x64x64x128_d4) shapeCasts_S32x4x64x64x128_S32x4x4096x128

/-- The queries, in buckets. -/
def queries (A : FVec Ideal S32x4x4096x128 .f32) : FVec Ideal S32x4x64x64x64 .f32 :=
  shapeCast _ (extractStridedSlice S32x4x4096x64 ![0, 0, 0, 0] A slices_S32x4x4096x128_S32x4x4096x64_0_0_0_0) shapeCasts_S32x4x4096x64_S32x4x64x64x64
/-- The values, in buckets. -/
def values (A : FVec Ideal S32x4x4096x128 .f32) : FVec Ideal S32x4x64x64x64 .f32 :=
  shapeCast _ (extractStridedSlice S32x4x4096x64 ![0, 0, 0, 64] A slices_S32x4x4096x128_S32x4x4096x64_0_0_0_64) shapeCasts_S32x4x4096x64_S32x4x64x64x64
theorem unit_apply (k : FVec Ideal S32x4x64x128x64 .f32) (b : Fin 32) (r : Fin 4) (n : Fin 64) (j : Fin 128) (d : Fin 64) :
    unit k (ix5 b r n j d) = unitKey (fun d => k (ix5 b r n j d)) d := by
  pointwise [unit, unitKey]

theorem ofQuery_apply (x : IVec S32x4x64x64 32) (b : Fin 32) (r : Fin 4) (n i : Fin 64) (j : Fin 128) :
    ofQuery x (ix5 b r n i j) = x (ix4 b r n i) := by
  pointwise [ofQuery]

theorem ofKey_apply (x : IVec S32x4x64x64 32) (b : Fin 32) (r : Fin 4) (n i : Fin 64) (j : Fin 128) :
    ofKey x (ix5 b r n i j) = x (ix4 b r (keyBucket n j) (keyPlace j)) := by
  pointwise [ofKey, backWords_apply]

theorem scores_apply (q : FVec Ideal S32x4x64x64x64 .f32) (qi sq : IVec S32x4x64x64 32) (b : Fin 32) (r : Fin 4) (n i : Fin 64) (j : Fin 128) :
    scores q qi sq (ix5 b r n i j) = score (fun d => q (ix5 b r n i d)) (fun d => q (ix5 b r (keyBucket n j) (keyPlace j) d))
      (qi (ix4 b r n i)) (qi (ix4 b r (keyBucket n j) (keyPlace j))) (sq (ix4 b r n i)) (sq (ix4 b r (keyBucket n j) (keyPlace j))) := by
  pointwise [scores, unit_apply, ofQuery_apply, ofKey_apply, back_apply, score, dot]
  rw [div_eight]
  rfl

theorem top_apply (s : FVec Ideal S32x4x64x64x128 .f32) (b : Fin 32) (r : Fin 4) (n i : Fin 64) :
    top s (ix5 b r n i 0) = most (fun j => s (ix5 b r n i j)) := by
  pointwise [top, most]

theorem exps_apply (s : FVec Ideal S32x4x64x64x128 .f32) (b : Fin 32) (r : Fin 4) (n i : Fin 64) (j : Fin 128) :
    exps s (ix5 b r n i j) = expo (fun j => s (ix5 b r n i j)) j := by
  pointwise [exps, top_apply]
  rfl

theorem total_apply (s : FVec Ideal S32x4x64x64x128 .f32) (b : Fin 32) (r : Fin 4) (n i : Fin 64) :
    total s (ix5 b r n i 0) = sum (fun j => s (ix5 b r n i j)) := by
  pointwise [total, exps_apply]
  rfl

theorem after_apply (s : FVec Ideal S32x4x64x64x128 .f32) (b : Fin 32) (r : Fin 4) (n i : Fin 64) :
    addf (top s) (Host.log (total s)) (ix5 b r n i 0) = lse (fun j => s (ix5 b r n i j)) := by
  have h (x y : FVec Ideal S32x4x64x64x1 .f32) (j : S32x4x64x64x1.Idx) : addf x (Host.log y) j = x j + FloatOps.log (F := Ideal) (φ := .f32) (y j) := rfl
  rw [h, top_apply, total_apply, lse]

theorem mixed_apply (s : FVec Ideal S32x4x64x64x128 .f32) (k : IVec S32x4x64x64x128 32) (v : FVec Ideal S32x4x64x64x64 .f32) (b : Fin 32) (r : Fin 4) (n i d : Fin 64) :
    mixed s k v (ix5 b r n i d) = ∑ j : Fin 128, Ideal.div (Ideal.div (expo (fun j => s (ix5 b r n i j)) j)
      (sum fun j => s (ix5 b r n i j))) (((k (ix5 b r n i j)).toInt : ℝ)) * v (ix5 b r (keyBucket n j) (keyPlace j) d) := by
  pointwise [mixed, total_apply, exps_apply, back_apply]
  rfl

theorem rows_apply (s : FVec Ideal S32x4x64x64x128 .f32) (k : IVec S32x4x64x64x128 32) (v : FVec Ideal S32x4x64x64x64 .f32) (b : Fin 32) (r : Fin 4) (l : Fin 4096) (c : Fin 128) :
    rows s k v (ix4 b r l c) = if h : c.val < 64 then mixed s k v (ix5 b r ⟨l.val / 64, by omega⟩ ⟨l.val % 64, by omega⟩ ⟨c.val, h⟩)
      else if c.val = 64 then lse (fun j => s (ix5 b r ⟨l.val / 64, by omega⟩ ⟨l.val % 64, by omega⟩ j)) else 0 := by
  rw [← after_apply]
  unfold rows
  generalize addf (top s) (Host.log (total s)) = g
  generalize mixed s k v = m
  pointwise []
  by_cases h : c.val < 64
  · simp only [h, dite_true]
  · simp only [h, dite_false]
    by_cases e : c.val = 64
    · rw [dif_pos (by omega), if_pos e, show (⟨c.val - 64, by omega⟩ : Fin 1) = 0 from Subsingleton.elim _ _]
    · rw [dif_neg (by omega), if_neg e]

theorem queries_apply (A : FVec Ideal S32x4x4096x128 .f32) (b : Fin 32) (r : Fin 4) (n i d : Fin 64) :
    queries A (ix5 b r n i d) = A (ix4 b r ⟨n.val * 64 + i.val, by omega⟩ ⟨d.val, by omega⟩) := by
  pointwise [queries]

theorem values_apply (A : FVec Ideal S32x4x4096x128 .f32) (b : Fin 32) (r : Fin 4) (n i d : Fin 64) :
    values A (ix5 b r n i d) = A (ix4 b r ⟨n.val * 64 + i.val, by omega⟩ ⟨64 + d.val, by omega⟩) := by
  pointwise [values]

theorem column_apply (x : IVec S32x4x4096x1 32) (b : Fin 32) (r : Fin 4) (l : Fin 4096) :
    shapeCast S32x4x4096 x shapeCasts_S32x4x4096x1_S32x4x4096 (ix3 b r l) = x (ix4 b r l 0) := by
  pointwise []

/-- The run of the reference, its result by these parts. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v218)
        = rows (scores (queries (m ((c.tc : Thread nD τ).loc main_arg0))) (words (m ((c.tc : Thread nD τ).loc main_arg1)))
            (words (shapeCast _ (m ((c.tc : Thread nD τ).loc main_arg2)) shapeCasts_S32x4x4096x1_S32x4x4096)))
          (count (m ((c.tc : Thread nD τ).loc main_arg1))) (values (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

/-- The reference's result, one query at a time, for hash indices that are permutations and words that pack their buckets. -/
theorem result_apply (A : FVec Ideal S32x4x4096x128 .f32) (I : IVec S32x4x4096 32) (S : IVec S32x4x4096x1 32) (W : IVec S32x4x4096 32)
    (π : Fin 32 → Fin 4 → Fin 4096 ≃ Fin 4096) (hI : ∀ b r p, (I (ix3 b r p)).toNat = (π b r p).val)
    (hW : ∀ b r p, W (ix3 b r p) = Cert.Pre_packs.packed (Cert.Pre_packs.bucketOf π b (π b r p))) (b : Fin 32) (r : Fin 4) (n i : Fin 64) (c : Fin 128) :
    rows (scores (queries A) (words I) (words (shapeCast _ S shapeCasts_S32x4x4096x1_S32x4x4096))) (count I) (values A) (ix4 b r (spot n i) c)
      = value (fun l d => A (ix4 b r l d)) (fun l => I (ix3 b r l)) (fun l => S (ix4 b r l 0)) (fun l => W (ix3 b r l)) n i c := by
  rw [rows_apply]
  have hn : (⟨(spot n i).val / 64, by omega⟩ : Fin 64) = n := Fin.ext (by show (n.val * 64 + i.val) / 64 = n.val; omega)
  have hi : (⟨(spot n i).val % 64, by omega⟩ : Fin 64) = i := Fin.ext (by show (n.val * 64 + i.val) % 64 = i.val; omega)
  rw [hn, hi]
  have hw (x : IVec S32x4x4096 32) (p q : Fin 64) : words x (ix4 b r p q) = x (ix3 b r (spot p q)) := words_apply x b r p q
  have hq (p q d : Fin 64) : queries A (ix5 b r p q d) = A (ix4 b r (spot p q) ⟨d.val, by omega⟩) := queries_apply A b r p q d
  have hv (p q d : Fin 64) : values A (ix5 b r p q d) = A (ix4 b r (spot p q) ⟨64 + d.val, by omega⟩) := values_apply A b r p q d
  have hc (l : Fin 4096) : shapeCast S32x4x4096 S shapeCasts_S32x4x4096x1_S32x4x4096 (ix3 b r l) = S (ix4 b r l 0) := column_apply S b r l
  unfold value row
  by_cases h : c.val < 64
  · rw [dif_pos h, dif_pos h, mixed_apply]
    refine Finset.sum_congr rfl fun j _ => ?_
    rw [← weight_eq _ (fun j => count I (ix5 b r n i j)) j (by rw [count_apply I π hI W hW]; exact count_nonneg _ _)]
    simp only [scores_apply, count_apply I π hI W hW, hw, hq, hv, hc]
  · rw [dif_neg h, dif_neg h]
    by_cases e : c.val = 64
    · rw [if_pos e, if_pos e]
      simp only [scores_apply, hw, hq, hc]
    · rw [if_neg e, if_neg e]

end Cert.AttendReferenceIdeal.Ref

end
-- ==== Proof.AttendEquation.lean ====
/-
  The attention call's result is its reference's, over the extended reals, for equal arguments whose hash indices are
  permutations and whose packed words hold the buckets.
-/
module

public import proofs.«01_k».proof.Proof.AttendArray
public import proofs.«01_k».proof.Proof.AttendRef

@[expose] public section

noncomputable section

namespace Cert.AttendEquation

open Cert.AttendIdeal Cert.AttendIdeal.Gen Cert.AttendIdeal.Whole
open Cert.AttendIdeal.Mix (spot)
open Cert.AttendReferenceIdeal.Ref (rows scores queries words count values result_apply)
open Idealize.ShloMosaic Idealize.ShloMosaic.TcCoe Idealize.SL.Sem

/-- The attention's value at every query, written the reference's way. -/
theorem result_eq (A : FVec Ideal S32x4x4096x128 .f32) (I : IVec S32x4x4096 32) (S : IVec S32x4x4096x1 32) (W : IVec S32x4x4096 32)
    (h : Cert.Pre_packs.fn A I S W = fun _ => 1#1) :
    rows (scores (queries A) (words I) (words (shapeCast _ S Cert.AttendReferenceIdeal.Gen.facts.shapeCasts_S32x4x4096x1_S32x4x4096)))
      (count I) (values A) = fun y => attended A I S W (y 0) (y 1) (y 2) (y 3) := by
  obtain ⟨π, hI, hW⟩ := Cert.Pre_packs.of_fn A I S W h
  funext y
  obtain ⟨b, r, l, c, rfl⟩ : ∃ b r l c, y = ix4 b r l c := ⟨_, _, _, _, eq_ix4 y⟩
  obtain ⟨n, i, rfl⟩ : ∃ n i, l = spot n i := ⟨⟨l.val / 64, by omega⟩, ⟨l.val % 64, Nat.mod_lt _ (by decide)⟩,
    Fin.ext (by show l.val = l.val / 64 * 64 + l.val % 64; omega)⟩
  refine (result_apply A I S W π hI hW b r n i c).trans ?_
  have hn : (⟨(spot n i).val / 64, by omega⟩ : Fin 64) = n := Fin.ext (by show (n.val * 64 + i.val) / 64 = n.val; omega)
  have hi : (⟨(spot n i).val % 64, Nat.mod_lt _ (by decide)⟩ : Fin 64) = i := Fin.ext (by show (n.val * 64 + i.val) % 64 = i.val; omega)
  show _ = attended A I S W b r (spot n i) c
  unfold attended
  rw [hn, hi]

end Cert.AttendEquation

end
-- ==== Proof.lean ====
/-
  The claims of this certificate, put together. For the restoring and the combining call: the frames of the kernel and of its
  idealization, both for indices in range, the frame of the reference, and that over the extended reals the kernel and the reference
  compute the same array. For the reordering call the same claims, of three arrays, for arguments that spell some placements. For the
  attention call the frames for all arguments, and the equality, of its one array, for packed words that hold the buckets.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Reorder
public import proofs.«01_k».proof.Proof.Gen.ReorderIdeal
public import proofs.«01_k».proof.Proof.Gen.ReorderReferenceIdeal
public import proofs.«01_k».proof.Proof.Gen.ReorderReferenceIdeal.Run
public import proofs.«01_k».proof.Proof.Gen.Attend
public import proofs.«01_k».proof.Proof.Gen.Attend.Frame
public import proofs.«01_k».proof.Proof.Gen.AttendIdeal
public import proofs.«01_k».proof.Proof.Gen.AttendIdeal.Value
public import proofs.«01_k».proof.Proof.Gen.AttendReferenceIdeal
public import proofs.«01_k».proof.Proof.Gen.AttendReferenceIdeal.Run
public import proofs.«01_k».proof.Proof.Gen.Pre_places
public import proofs.«01_k».proof.Proof.Gen.Pre_packs
public import proofs.«01_k».proof.Proof.Equation
public import proofs.«01_k».proof.Proof.KRun
public import proofs.«01_k».proof.Proof.Range
public import proofs.«01_k».proof.Proof.ReorderEquation
public import proofs.«01_k».proof.Proof.KReorderSpells
public import proofs.«01_k».proof.Proof.AttendEquation
public import Idealize.ShloMosaic.Adequacy
public import Idealize.ShloMosaic.Init

@[expose] public section

noncomputable section

namespace Cert.Proof

open Idealize.ShloMosaic Idealize.SL.Sem

/-- The kernel ends with its arguments unchanged and every semaphore counter at zero. -/
theorem frame_kernel : Cert.quiescent_Kernel := fun m g h =>
  (θ_run Cert.Kernel.defs _ _).mono (fun _ e => ⟨fun c => ⟨(e.1 c).1, (e.1 c).2.1⟩, e.2⟩)
    (Cert.Kernel.Run.run_main (F := Bits) m g fun d => Cert.Pre_in_range.lt_of_fn _ _ (h d))

/-- The idealized kernel likewise. -/
theorem frame_ideal : Cert.quiescent_KernelIdeal := fun m g h =>
  (θ_run Cert.KernelIdeal.defs _ _).mono (fun _ e => ⟨fun c => ⟨(e.1 c).1, (e.1 c).2.1⟩, e.2⟩)
    (Cert.KernelIdeal.Run.run_main (F := Ideal) m g fun d => Cert.Pre_in_range.lt_of_fn _ _ (h d))

/-- Over the extended reals the kernel computes what the reference computes. -/
theorem same : Cert.algebraic_KernelIdeal_ReferenceIdeal := fun m g m' g' h ha => by
  have hm : Cert.KernelIdeal.Run.InRange m := fun d => Cert.Pre_in_range.lt_of_fn _ _ (h d)
  refine ⟨fun c => Cert.KernelIdeal.Run.kernelOut m hm c,
    (θ_run Cert.KernelIdeal.defs _ _).mono (fun _ e c => ⟨(e.1 c).2.2, (e.1 c).1, (e.1 c).2.1⟩) (Cert.KernelIdeal.Run.run_main (F := Ideal) m g hm),
    (θ_run Cert.ReferenceIdeal.defs _ _).mono (fun _ e c => ⟨(e c).1.trans ?_, (e c).2⟩) (Cert.ReferenceIdeal.Value.run m' g')⟩
  rw [Cert.ReferenceIdeal.RefMix.res_eq, (ha c).1, (ha c).2]
  exact (Cert.Equation.out_eq _ _ (Cert.KernelIdeal.Run.inRange_I m hm c) (hm c)).symm

/-- The reference ends with its arguments unchanged; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The reordering call's program ends with its arguments unchanged and every semaphore counter at zero. -/
theorem frame_reorder : Cert.quiescent_Reorder := fun m g h => by
  obtain ⟨π, hπ⟩ := Cert.Reorder.Run.exists_spells (F := Bits) m h
  exact (θ_run Cert.Reorder.defs _ _).mono (fun _ e => ⟨fun c => (e.1 c).1, e.2⟩) (Cert.Reorder.Run.run_main (F := Bits) m g π hπ)

/-- Its idealization likewise. -/
theorem frame_reorder_ideal : Cert.quiescent_ReorderIdeal := fun m g h => by
  obtain ⟨π, hπ⟩ := Cert.ReorderIdeal.Run.exists_spells (F := Ideal) m h
  exact (θ_run Cert.ReorderIdeal.defs _ _).mono (fun _ e => ⟨fun c => (e.1 c).1, e.2⟩) (Cert.ReorderIdeal.Run.run_main (F := Ideal) m g π hπ)

/-- The reordering's reference ends with its arguments unchanged; it declares no semaphore. -/
theorem frame_reorder_reference : Cert.quiescent_ReorderReferenceIdeal := fun m g _ =>
  (θ_run Cert.ReorderReferenceIdeal.defs _ _).mono (fun r h => ⟨fun c => (h c).2.2.2, sem_eq_zero_of_no_sems (by decide) r.2⟩)
    (Cert.ReorderReferenceIdeal.Value.run m g)

/-- Over the extended reals the reordering call computes what its reference computes: the rows, the positions and the packed buckets. -/
theorem same_reorder : Cert.algebraic_ReorderIdeal_ReorderReferenceIdeal := fun m g m' g' h ha => by
  obtain ⟨π, hπ⟩ := Cert.ReorderIdeal.Run.exists_spells (F := Ideal) m h
  refine ⟨fun c => Cert.ReorderIdeal.Run.rowsOut m π c, fun c => Cert.ReorderIdeal.Run.origOut (F := Ideal) π c, fun c => Cert.ReorderIdeal.Run.bktOut m π c,
    (θ_run Cert.ReorderIdeal.defs _ _).mono (fun _ e c => ⟨(e.1 c).2.1, (e.1 c).2.2.1, (e.1 c).2.2.2, (e.1 c).1⟩) (Cert.ReorderIdeal.Run.run_main (F := Ideal) m g π hπ),
    (θ_run Cert.ReorderReferenceIdeal.defs _ _).mono (fun _ e c => ⟨(e c).1.trans ?_, (e c).2.1.trans ?_, (e c).2.2.1.trans ?_, (e c).2.2.2⟩)
      (Cert.ReorderReferenceIdeal.Ref.run_named m' g')⟩
  · rw [(ha c).1, (ha c).2.1, (ha c).2.2.1]
    exact (Cert.ReorderEquation.rows_eq (π c) _ _ (hπ c) _ _).symm
  · rw [(ha c).2.2.1]
    exact (Cert.ReorderEquation.orig_eq (π c) _ _ (hπ c)).symm
  · rw [(ha c).2.2.1, (ha c).2.2.2.2]
    exact (Cert.ReorderEquation.bkt_eq (π c) _ _ (hπ c) _).symm

/-- The attention call's program ends with its arguments unchanged and every semaphore counter at zero. -/
theorem frame_attend : Cert.quiescent_Attend := fun m g _ => Cert.Attend.Gen.frame m g

/-- Its idealization likewise. -/
theorem frame_attend_ideal : Cert.quiescent_AttendIdeal := fun m g _ => Cert.AttendIdeal.Gen.frame m g

/-- The attention's reference ends with its arguments unchanged; it declares no semaphore. -/
theorem frame_attend_reference : Cert.quiescent_AttendReferenceIdeal := fun m g _ =>
  (θ_run Cert.AttendReferenceIdeal.defs _ _).mono (fun r h => ⟨fun c => (h c).2, sem_eq_zero_of_no_sems (by decide) r.2⟩)
    (Cert.AttendReferenceIdeal.Value.run m g)

/-- Over the extended reals the attention call computes what its reference computes, for packed words that hold the buckets. -/
theorem same_attend : Cert.algebraic_AttendIdeal_AttendReferenceIdeal_pre_packs := fun m g m' g' h ha => by
  refine ⟨fun c => Cert.AttendIdeal.Whole.result m c,
    (θ_run Cert.AttendIdeal.defs _ _).mono (fun _ e c => ⟨(e c).1.trans (Cert.AttendIdeal.Whole.final_eq m c), (e c).2⟩)
      (Cert.AttendIdeal.Value.run_blocks m g),
    (θ_run Cert.AttendReferenceIdeal.defs _ _).mono (fun _ e c => ⟨(e c).1.trans ?_, (e c).2⟩) (Cert.AttendReferenceIdeal.Ref.run_named m' g')⟩
  rw [(ha c).1, (ha c).2.1, (ha c).2.2.1]
  exact Cert.AttendEquation.result_eq _ _ _ _ (h c)

theorem claim : Cert.Claim := ⟨Cert.Kernel.Gen.facts, Cert.KernelIdeal.Gen.facts, Cert.ReferenceIdeal.Gen.facts,
  Cert.Reorder.Gen.facts, Cert.ReorderIdeal.Gen.facts, Cert.ReorderReferenceIdeal.Gen.facts,
  Cert.Attend.Gen.facts, Cert.AttendIdeal.Gen.facts, Cert.AttendReferenceIdeal.Gen.facts, Cert.Pre_in_range.Gen.facts, Cert.Pre_places.Gen.facts, Cert.Pre_packs.Gen.facts,
  frame_kernel, frame_ideal, frame_reference, fun m g _ => frame_reference m g trivial,
  frame_reorder, frame_reorder_ideal, frame_reorder_reference, fun m g _ => frame_reorder_reference m g trivial,
  frame_attend, frame_attend_ideal, fun m g _ => frame_attend_ideal m g trivial,
  frame_attend_reference, fun m g _ => frame_attend_reference m g trivial,
  trivial, same, trivial, same_reorder, trivial, same_attend⟩

end Cert.Proof

end
